-- ==== Defs.lean ====
def Pre_GlaF (m : (ℓ : Loc Cert.GlaF.nD Cert.GlaF.τ Cert.GlaF.sig) → Buf (Elt Bits) ℓ) : Prop :=
  True

def Pre_GlaFIdeal (m : (ℓ : Loc Cert.GlaFIdeal.nD Cert.GlaFIdeal.τ Cert.GlaFIdeal.sig) → Buf (Elt Ideal) ℓ) : Prop :=
  True

def Pre_GlaFRefIdeal (m : (ℓ : Loc Cert.GlaFRefIdeal.nD Cert.GlaFRefIdeal.τ Cert.GlaFRefIdeal.sig) → Buf (Elt Ideal) ℓ) : Prop :=
  True

def Pre_GlaB (m : (ℓ : Loc Cert.GlaB.nD Cert.GlaB.τ Cert.GlaB.sig) → Buf (Elt Bits) ℓ) : Prop :=
  True

def Pre_GlaBIdeal (m : (ℓ : Loc Cert.GlaBIdeal.nD Cert.GlaBIdeal.τ Cert.GlaBIdeal.sig) → Buf (Elt Ideal) ℓ) : Prop :=
  True

def Pre_GlaBRefIdeal (m : (ℓ : Loc Cert.GlaBRefIdeal.nD Cert.GlaBRefIdeal.τ Cert.GlaBRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_AOutDx (m : (ℓ : Loc Cert.AOutDx.nD Cert.AOutDx.τ Cert.AOutDx.sig) → Buf (Elt Bits) ℓ) : Prop :=
  True

def Pre_AOutDxIdeal (m : (ℓ : Loc Cert.AOutDxIdeal.nD Cert.AOutDxIdeal.τ Cert.AOutDxIdeal.sig) → Buf (Elt Ideal) ℓ) : Prop :=
  True

def Pre_AOutDxRefIdeal (m : (ℓ : Loc Cert.AOutDxRefIdeal.nD Cert.AOutDxRefIdeal.τ Cert.AOutDxRefIdeal.sig) → Buf (Elt Ideal) ℓ) : Prop :=
  True

def Pre_BOutDx (m : (ℓ : Loc Cert.BOutDx.nD Cert.BOutDx.τ Cert.BOutDx.sig) → Buf (Elt Bits) ℓ) : Prop :=
  True

def Pre_BOutDxIdeal (m : (ℓ : Loc Cert.BOutDxIdeal.nD Cert.BOutDxIdeal.τ Cert.BOutDxIdeal.sig) → Buf (Elt Ideal) ℓ) : Prop :=
  True

def Pre_BOutDxRefIdeal (m : (ℓ : Loc Cert.BOutDxRefIdeal.nD Cert.BOutDxRefIdeal.τ Cert.BOutDxRefIdeal.sig) → Buf (Elt Ideal) ℓ) : Prop :=
  True

def Pre_AInDw (m : (ℓ : Loc Cert.AInDw.nD Cert.AInDw.τ Cert.AInDw.sig) → Buf (Elt Bits) ℓ) : Prop :=
  True

def Pre_AInDwIdeal (m : (ℓ : Loc Cert.AInDwIdeal.nD Cert.AInDwIdeal.τ Cert.AInDwIdeal.sig) → Buf (Elt Ideal) ℓ) : Prop :=
  True

def Pre_AInDwRefIdeal (m : (ℓ : Loc Cert.AInDwRefIdeal.nD Cert.AInDwRefIdeal.τ Cert.AInDwRefIdeal.sig) → Buf (Elt Ideal) ℓ) : Prop :=
  True

def Pre_AInDx (m : (ℓ : Loc Cert.AInDx.nD Cert.AInDx.τ Cert.AInDx.sig) → Buf (Elt Bits) ℓ) : Prop :=
  True

def Pre_AInDxIdeal (m : (ℓ : Loc Cert.AInDxIdeal.nD Cert.AInDxIdeal.τ Cert.AInDxIdeal.sig) → Buf (Elt Ideal) ℓ) : Prop :=
  True

def Pre_AInDxRefIdeal (m : (ℓ : Loc Cert.AInDxRefIdeal.nD Cert.AInDxRefIdeal.τ Cert.AInDxRefIdeal.sig) → Buf (Elt Ideal) ℓ) : Prop :=
  True

def Pre_BInDw (m : (ℓ : Loc Cert.BInDw.nD Cert.BInDw.τ Cert.BInDw.sig) → Buf (Elt Bits) ℓ) : Prop :=
  True

def Pre_BInDwIdeal (m : (ℓ : Loc Cert.BInDwIdeal.nD Cert.BInDwIdeal.τ Cert.BInDwIdeal.sig) → Buf (Elt Ideal) ℓ) : Prop :=
  True

def Pre_BInDwRefIdeal (m : (ℓ : Loc Cert.BInDwRefIdeal.nD Cert.BInDwRefIdeal.τ Cert.BInDwRefIdeal.sig) → Buf (Elt Ideal) ℓ) : Prop :=
  True

def Pre_BInDx (m : (ℓ : Loc Cert.BInDx.nD Cert.BInDx.τ Cert.BInDx.sig) → Buf (Elt Bits) ℓ) : Prop :=
  True

def Pre_BInDxIdeal (m : (ℓ : Loc Cert.BInDxIdeal.nD Cert.BInDxIdeal.τ Cert.BInDxIdeal.sig) → Buf (Elt Ideal) ℓ) : Prop :=
  True

def Pre_BInDxRefIdeal (m : (ℓ : Loc Cert.BInDxRefIdeal.nD Cert.BInDxRefIdeal.τ Cert.BInDxRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInRefIdeal (m : (ℓ : Loc Cert.BInRefIdeal.nD Cert.BInRefIdeal.τ Cert.BInRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_ActB (m : (ℓ : Loc Cert.ActB.nD Cert.ActB.τ Cert.ActB.sig) → Buf (Elt Bits) ℓ) : Prop :=
  True

def Pre_ActBIdeal (m : (ℓ : Loc Cert.ActBIdeal.nD Cert.ActBIdeal.τ Cert.ActBIdeal.sig) → Buf (Elt Ideal) ℓ) : Prop :=
  True

def Pre_ActBIdeal_finite [hPre_finite : Cert.Pre_finite.Facts] (m : (ℓ : Loc Cert.ActBIdeal.nD Cert.ActBIdeal.τ Cert.ActBIdeal.sig) → Buf (Elt Ideal) ℓ) : Prop :=
  ∀ c : Dev Cert.ActBIdeal.nD,
    (Cert.Pre_finite.fn (F := Ideal) (m ((c.tc : Thread Cert.ActBIdeal.nD Cert.ActBIdeal.τ).loc Cert.ActBIdeal.main_arg0)) (m ((c.tc : Thread Cert.ActBIdeal.nD Cert.ActBIdeal.τ).loc Cert.ActBIdeal.main_arg1))).1 = (fun _ => 1#1)
    ∧ (Cert.Pre_finite.fn (F := Ideal) (m ((c.tc : Thread Cert.ActBIdeal.nD Cert.ActBIdeal.τ).loc Cert.ActBIdeal.main_arg0)) (m ((c.tc : Thread Cert.ActBIdeal.nD Cert.ActBIdeal.τ).loc Cert.ActBIdeal.main_arg1))).2 = (fun _ => 1#1)

def Pre_ActBRefIdeal (m : (ℓ : Loc Cert.ActBRefIdeal.nD Cert.ActBRefIdeal.τ Cert.ActBRefIdeal.sig) → Buf (Elt Ideal) ℓ) : Prop :=
  True

def Pre_ActBRefIdeal_finite [hPre_finite : Cert.Pre_finite.Facts] (m : (ℓ : Loc Cert.ActBRefIdeal.nD Cert.ActBRefIdeal.τ Cert.ActBRefIdeal.sig) → Buf (Elt Ideal) ℓ) : Prop :=
  ∀ c : Dev Cert.ActBRefIdeal.nD,
    (Cert.Pre_finite.fn (F := Ideal) (m ((c.tc : Thread Cert.ActBRefIdeal.nD Cert.ActBRefIdeal.τ).loc Cert.ActBRefIdeal.main_arg0)) (m ((c.tc : Thread Cert.ActBRefIdeal.nD Cert.ActBRefIdeal.τ).loc Cert.ActBRefIdeal.main_arg1))).1 = (fun _ => 1#1)
    ∧ (Cert.Pre_finite.fn (F := Ideal) (m ((c.tc : Thread Cert.ActBRefIdeal.nD Cert.ActBRefIdeal.τ).loc Cert.ActBRefIdeal.main_arg0)) (m ((c.tc : Thread Cert.ActBRefIdeal.nD Cert.ActBRefIdeal.τ).loc Cert.ActBRefIdeal.main_arg1))).2 = (fun _ => 1#1)

def quiescent_GlaF [hGlaF : Cert.GlaF.Facts] : Prop :=
  ∀ (m : (ℓ : Loc Cert.GlaF.nD Cert.GlaF.τ Cert.GlaF.sig) → Buf (Elt Bits) ℓ) (g : Dev Cert.GlaF.nD → PrngReg), Pre_GlaF m →
    θ_run (Cert.GlaF.defs (F := Bits)) (onTc (τ := Cert.GlaF.τ) (Cert.GlaF.main (F := Bits))) ⟨m, fun _ => 0, g⟩ (fun r => (∀ c : Dev Cert.GlaF.nD,
      r.2.mem ((c.tc : Thread Cert.GlaF.nD Cert.GlaF.τ).loc Cert.GlaF.main_arg0) = m ((c.tc : Thread Cert.GlaF.nD Cert.GlaF.τ).loc Cert.GlaF.main_arg0)
      ∧ r.2.mem ((c.tc : Thread Cert.GlaF.nD Cert.GlaF.τ).loc Cert.GlaF.main_arg1) = m ((c.tc : Thread Cert.GlaF.nD Cert.GlaF.τ).loc Cert.GlaF.main_arg1))
      ∧ r.2.sem = fun _ => 0)

def quiescent_GlaFIdeal [hGlaFIdeal : Cert.GlaFIdeal.Facts] : Prop :=
  ∀ (m : (ℓ : Loc Cert.GlaFIdeal.nD Cert.GlaFIdeal.τ Cert.GlaFIdeal.sig) → Buf (Elt Ideal) ℓ) (g : Dev Cert.GlaFIdeal.nD → PrngReg), Pre_GlaFIdeal m →
    θ_run (Cert.GlaFIdeal.defs (F := Ideal)) (onTc (τ := Cert.GlaFIdeal.τ) (Cert.GlaFIdeal.main (F := Ideal))) ⟨m, fun _ => 0, g⟩ (fun r => (∀ c : Dev Cert.GlaFIdeal.nD,
      r.2.mem ((c.tc : Thread Cert.GlaFIdeal.nD Cert.GlaFIdeal.τ).loc Cert.GlaFIdeal.main_arg0) = m ((c.tc : Thread Cert.GlaFIdeal.nD Cert.GlaFIdeal.τ).loc Cert.GlaFIdeal.main_arg0)
      ∧ r.2.mem ((c.tc : Thread Cert.GlaFIdeal.nD Cert.GlaFIdeal.τ).loc Cert.GlaFIdeal.main_arg1) = m ((c.tc : Thread Cert.GlaFIdeal.nD Cert.GlaFIdeal.τ).loc Cert.GlaFIdeal.main_arg1))
      ∧ r.2.sem = fun _ => 0)

def quiescent_GlaFRefIdeal [hGlaFRefIdeal : Cert.GlaFRefIdeal.Facts] : Prop :=
  ∀ (m : (ℓ : Loc Cert.GlaFRefIdeal.nD Cert.GlaFRefIdeal.τ Cert.GlaFRefIdeal.sig) → Buf (Elt Ideal) ℓ) (g : Dev Cert.GlaFRefIdeal.nD → PrngReg), Pre_GlaFRefIdeal m →
    θ_run (Cert.GlaFRefIdeal.defs (F := Ideal)) (onTc (τ := Cert.GlaFRefIdeal.τ) (Cert.GlaFRefIdeal.main (F := Ideal))) ⟨m, fun _ => 0, g⟩ (fun r => (∀ c : Dev Cert.GlaFRefIdeal.nD,
      r.2.mem ((c.tc : Thread Cert.GlaFRefIdeal.nD Cert.GlaFRefIdeal.τ).loc Cert.GlaFRefIdeal.main_arg0) = m ((c.tc : Thread Cert.GlaFRefIdeal.nD Cert.GlaFRefIdeal.τ).loc Cert.GlaFRefIdeal.main_arg0)
      ∧ r.2.mem ((c.tc : Thread Cert.GlaFRefIdeal.nD Cert.GlaFRefIdeal.τ).loc Cert.GlaFRefIdeal.main_arg1) = m ((c.tc : Thread Cert.GlaFRefIdeal.nD Cert.GlaFRefIdeal.τ).loc Cert.GlaFRefIdeal.main_arg1))
      ∧ r.2.sem = fun _ => 0)

def quiescent_GlaB [hGlaB : Cert.GlaB.Facts] : Prop :=
  ∀ (m : (ℓ : Loc Cert.GlaB.nD Cert.GlaB.τ Cert.GlaB.sig) → Buf (Elt Bits) ℓ) (g : Dev Cert.GlaB.nD → PrngReg), Pre_GlaB m →
    θ_run (Cert.GlaB.defs (F := Bits)) (onTc (τ := Cert.GlaB.τ) (Cert.GlaB.main (F := Bits))) ⟨m, fun _ => 0, g⟩ (fun r => (∀ c : Dev Cert.GlaB.nD,
      r.2.mem ((c.tc : Thread Cert.GlaB.nD Cert.GlaB.τ).loc Cert.GlaB.main_arg0) = m ((c.tc : Thread Cert.GlaB.nD Cert.GlaB.τ).loc Cert.GlaB.main_arg0)
      ∧ r.2.mem ((c.tc : Thread Cert.GlaB.nD Cert.GlaB.τ).loc Cert.GlaB.main_arg1) = m ((c.tc : Thread Cert.GlaB.nD Cert.GlaB.τ).loc Cert.GlaB.main_arg1)
      ∧ r.2.mem ((c.tc : Thread Cert.GlaB.nD Cert.GlaB.τ).loc Cert.GlaB.main_arg2) = m ((c.tc : Thread Cert.GlaB.nD Cert.GlaB.τ).loc Cert.GlaB.main_arg2)
      ∧ r.2.mem ((c.tc : Thread Cert.GlaB.nD Cert.GlaB.τ).loc Cert.GlaB.main_arg3) = m ((c.tc : Thread Cert.GlaB.nD Cert.GlaB.τ).loc Cert.GlaB.main_arg3))
      ∧ r.2.sem = fun _ => 0)

def quiescent_GlaBIdeal [hGlaBIdeal : Cert.GlaBIdeal.Facts] : Prop :=
  ∀ (m : (ℓ : Loc Cert.GlaBIdeal.nD Cert.GlaBIdeal.τ Cert.GlaBIdeal.sig) → Buf (Elt Ideal) ℓ) (g : Dev Cert.GlaBIdeal.nD → PrngReg), Pre_GlaBIdeal m →
    θ_run (Cert.GlaBIdeal.defs (F := Ideal)) (onTc (τ := Cert.GlaBIdeal.τ) (Cert.GlaBIdeal.main (F := Ideal))) ⟨m, fun _ => 0, g⟩ (fun r => (∀ c : Dev Cert.GlaBIdeal.nD,
      r.2.mem ((c.tc : Thread Cert.GlaBIdeal.nD Cert.GlaBIdeal.τ).loc Cert.GlaBIdeal.main_arg0) = m ((c.tc : Thread Cert.GlaBIdeal.nD Cert.GlaBIdeal.τ).loc Cert.GlaBIdeal.main_arg0)
      ∧ r.2.mem ((c.tc : Thread Cert.GlaBIdeal.nD Cert.GlaBIdeal.τ).loc Cert.GlaBIdeal.main_arg1) = m ((c.tc : Thread Cert.GlaBIdeal.nD Cert.GlaBIdeal.τ).loc Cert.GlaBIdeal.main_arg1)
      ∧ r.2.mem ((c.tc : Thread Cert.GlaBIdeal.nD Cert.GlaBIdeal.τ).loc Cert.GlaBIdeal.main_arg2) = m ((c.tc : Thread Cert.GlaBIdeal.nD Cert.GlaBIdeal.τ).loc Cert.GlaBIdeal.main_arg2)
      ∧ r.2.mem ((c.tc : Thread Cert.GlaBIdeal.nD Cert.GlaBIdeal.τ).loc Cert.GlaBIdeal.main_arg3) = m ((c.tc : Thread Cert.GlaBIdeal.nD Cert.GlaBIdeal.τ).loc Cert.GlaBIdeal.main_arg3))
      ∧ r.2.sem = fun _ => 0)

def quiescent_GlaBRefIdeal [hGlaBRefIdeal : Cert.GlaBRefIdeal.Facts] : Prop :=
  ∀ (m : (ℓ : Loc Cert.GlaBRefIdeal.nD Cert.GlaBRefIdeal.τ Cert.GlaBRefIdeal.sig) → Buf (Elt Ideal) ℓ) (g : Dev Cert.GlaBRefIdeal.nD → PrngReg), Pre_GlaBRefIdeal m →
    θ_run (Cert.GlaBRefIdeal.defs (F := Ideal)) (onTc (τ := Cert.GlaBRefIdeal.τ) (Cert.GlaBRefIdeal.main (F := Ideal))) ⟨m, fun _ => 0, g⟩ (fun r => (∀ c : Dev Cert.GlaBRefIdeal.nD,
      r.2.mem ((c.tc : Thread Cert.GlaBRefIdeal.nD Cert.GlaBRefIdeal.τ).loc Cert.GlaBRefIdeal.main_arg0) = m ((c.tc : Thread Cert.GlaBRefIdeal.nD Cert.GlaBRefIdeal.τ).loc Cert.GlaBRefIdeal.main_arg0)
      ∧ r.2.mem ((c.tc : Thread Cert.GlaBRefIdeal.nD Cert.GlaBRefIdeal.τ).loc Cert.GlaBRefIdeal.main_arg1) = m ((c.tc : Thread Cert.GlaBRefIdeal.nD Cert.GlaBRefIdeal.τ).loc Cert.GlaBRefIdeal.main_arg1)
      ∧ r.2.mem ((c.tc : Thread Cert.GlaBRefIdeal.nD Cert.GlaBRefIdeal.τ).loc Cert.GlaBRefIdeal.main_arg2) = m ((c.tc : Thread Cert.GlaBRefIdeal.nD Cert.GlaBRefIdeal.τ).loc Cert.GlaBRefIdeal.main_arg2)
      ∧ r.2.mem ((c.tc : Thread Cert.GlaBRefIdeal.nD Cert.GlaBRefIdeal.τ).loc Cert.GlaBRefIdeal.main_arg3) = m ((c.tc : Thread Cert.GlaBRefIdeal.nD Cert.GlaBRefIdeal.τ).loc Cert.GlaBRefIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_AOutDx [hAOutDx : Cert.AOutDx.Facts] : Prop :=
  ∀ (m : (ℓ : Loc Cert.AOutDx.nD Cert.AOutDx.τ Cert.AOutDx.sig) → Buf (Elt Bits) ℓ) (g : Dev Cert.AOutDx.nD → PrngReg), Pre_AOutDx m →
    θ_run (Cert.AOutDx.defs (F := Bits)) (onTc (τ := Cert.AOutDx.τ) (Cert.AOutDx.main (F := Bits))) ⟨m, fun _ => 0, g⟩ (fun r => (∀ c : Dev Cert.AOutDx.nD,
      r.2.mem ((c.tc : Thread Cert.AOutDx.nD Cert.AOutDx.τ).loc Cert.AOutDx.main_arg0) = m ((c.tc : Thread Cert.AOutDx.nD Cert.AOutDx.τ).loc Cert.AOutDx.main_arg0)
      ∧ r.2.mem ((c.tc : Thread Cert.AOutDx.nD Cert.AOutDx.τ).loc Cert.AOutDx.main_arg1) = m ((c.tc : Thread Cert.AOutDx.nD Cert.AOutDx.τ).loc Cert.AOutDx.main_arg1))
      ∧ r.2.sem = fun _ => 0)

def quiescent_AOutDxIdeal [hAOutDxIdeal : Cert.AOutDxIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg), Pre_AOutDxIdeal m →
    θ_run (Cert.AOutDxIdeal.defs (F := Ideal)) (onTc (τ := Cert.AOutDxIdeal.τ) (Cert.AOutDxIdeal.main (F := Ideal))) ⟨m, fun _ => 0, g⟩ (fun r => (∀ c : Dev Cert.AOutDxIdeal.nD,
      r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
      ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ r.2.sem = fun _ => 0)

def quiescent_AOutDxRefIdeal [hAOutDxRefIdeal : Cert.AOutDxRefIdeal.Facts] : Prop :=
  ∀ (m : (ℓ : Loc Cert.AOutDxRefIdeal.nD Cert.AOutDxRefIdeal.τ Cert.AOutDxRefIdeal.sig) → Buf (Elt Ideal) ℓ) (g : Dev Cert.AOutDxRefIdeal.nD → PrngReg), Pre_AOutDxRefIdeal m →
    θ_run (Cert.AOutDxRefIdeal.defs (F := Ideal)) (onTc (τ := Cert.AOutDxRefIdeal.τ) (Cert.AOutDxRefIdeal.main (F := Ideal))) ⟨m, fun _ => 0, g⟩ (fun r => (∀ c : Dev Cert.AOutDxRefIdeal.nD,
      r.2.mem ((c.tc : Thread Cert.AOutDxRefIdeal.nD Cert.AOutDxRefIdeal.τ).loc Cert.AOutDxRefIdeal.main_arg0) = m ((c.tc : Thread Cert.AOutDxRefIdeal.nD Cert.AOutDxRefIdeal.τ).loc Cert.AOutDxRefIdeal.main_arg0)
      ∧ r.2.mem ((c.tc : Thread Cert.AOutDxRefIdeal.nD Cert.AOutDxRefIdeal.τ).loc Cert.AOutDxRefIdeal.main_arg1) = m ((c.tc : Thread Cert.AOutDxRefIdeal.nD Cert.AOutDxRefIdeal.τ).loc Cert.AOutDxRefIdeal.main_arg1))
      ∧ r.2.sem = fun _ => 0)

def quiescent_BOutDx [hBOutDx : Cert.BOutDx.Facts] : Prop :=
  ∀ (m : (ℓ : Loc Cert.BOutDx.nD Cert.BOutDx.τ Cert.BOutDx.sig) → Buf (Elt Bits) ℓ) (g : Dev Cert.BOutDx.nD → PrngReg), Pre_BOutDx m →
    θ_run (Cert.BOutDx.defs (F := Bits)) (onTc (τ := Cert.BOutDx.τ) (Cert.BOutDx.main (F := Bits))) ⟨m, fun _ => 0, g⟩ (fun r => (∀ c : Dev Cert.BOutDx.nD,
      r.2.mem ((c.tc : Thread Cert.BOutDx.nD Cert.BOutDx.τ).loc Cert.BOutDx.main_arg0) = m ((c.tc : Thread Cert.BOutDx.nD Cert.BOutDx.τ).loc Cert.BOutDx.main_arg0)
      ∧ r.2.mem ((c.tc : Thread Cert.BOutDx.nD Cert.BOutDx.τ).loc Cert.BOutDx.main_arg1) = m ((c.tc : Thread Cert.BOutDx.nD Cert.BOutDx.τ).loc Cert.BOutDx.main_arg1))
      ∧ r.2.sem = fun _ => 0)

def quiescent_BOutDxIdeal [hBOutDxIdeal : Cert.BOutDxIdeal.Facts] : Prop :=
  ∀ (m : (ℓ : Loc Cert.BOutDxIdeal.nD Cert.BOutDxIdeal.τ Cert.BOutDxIdeal.sig) → Buf (Elt Ideal) ℓ) (g : Dev Cert.BOutDxIdeal.nD → PrngReg), Pre_BOutDxIdeal m →
    θ_run (Cert.BOutDxIdeal.defs (F := Ideal)) (onTc (τ := Cert.BOutDxIdeal.τ) (Cert.BOutDxIdeal.main (F := Ideal))) ⟨m, fun _ => 0, g⟩ (fun r => (∀ c : Dev Cert.BOutDxIdeal.nD,
      r.2.mem ((c.tc : Thread Cert.BOutDxIdeal.nD Cert.BOutDxIdeal.τ).loc Cert.BOutDxIdeal.main_arg0) = m ((c.tc : Thread Cert.BOutDxIdeal.nD Cert.BOutDxIdeal.τ).loc Cert.BOutDxIdeal.main_arg0)
      ∧ r.2.mem ((c.tc : Thread Cert.BOutDxIdeal.nD Cert.BOutDxIdeal.τ).loc Cert.BOutDxIdeal.main_arg1) = m ((c.tc : Thread Cert.BOutDxIdeal.nD Cert.BOutDxIdeal.τ).loc Cert.BOutDxIdeal.main_arg1))
      ∧ r.2.sem = fun _ => 0)

def quiescent_BOutDxRefIdeal [hBOutDxRefIdeal : Cert.BOutDxRefIdeal.Facts] : Prop :=
  ∀ (m : (ℓ : Loc Cert.BOutDxRefIdeal.nD Cert.BOutDxRefIdeal.τ Cert.BOutDxRefIdeal.sig) → Buf (Elt Ideal) ℓ) (g : Dev Cert.BOutDxRefIdeal.nD → PrngReg), Pre_BOutDxRefIdeal m →
    θ_run (Cert.BOutDxRefIdeal.defs (F := Ideal)) (onTc (τ := Cert.BOutDxRefIdeal.τ) (Cert.BOutDxRefIdeal.main (F := Ideal))) ⟨m, fun _ => 0, g⟩ (fun r => (∀ c : Dev Cert.BOutDxRefIdeal.nD,
      r.2.mem ((c.tc : Thread Cert.BOutDxRefIdeal.nD Cert.BOutDxRefIdeal.τ).loc Cert.BOutDxRefIdeal.main_arg0) = m ((c.tc : Thread Cert.BOutDxRefIdeal.nD Cert.BOutDxRefIdeal.τ).loc Cert.BOutDxRefIdeal.main_arg0)
      ∧ r.2.mem ((c.tc : Thread Cert.BOutDxRefIdeal.nD Cert.BOutDxRefIdeal.τ).loc Cert.BOutDxRefIdeal.main_arg1) = m ((c.tc : Thread Cert.BOutDxRefIdeal.nD Cert.BOutDxRefIdeal.τ).loc Cert.BOutDxRefIdeal.main_arg1))
      ∧ r.2.sem = fun _ => 0)

def quiescent_AInDw [hAInDw : Cert.AInDw.Facts] : Prop :=
  ∀ (m : (ℓ : Loc Cert.AInDw.nD Cert.AInDw.τ Cert.AInDw.sig) → Buf (Elt Bits) ℓ) (g : Dev Cert.AInDw.nD → PrngReg), Pre_AInDw m →
    θ_run (Cert.AInDw.defs (F := Bits)) (onTc (τ := Cert.AInDw.τ) (Cert.AInDw.main (F := Bits))) ⟨m, fun _ => 0, g⟩ (fun r => (∀ c : Dev Cert.AInDw.nD,
      r.2.mem ((c.tc : Thread Cert.AInDw.nD Cert.AInDw.τ).loc Cert.AInDw.main_arg0) = m ((c.tc : Thread Cert.AInDw.nD Cert.AInDw.τ).loc Cert.AInDw.main_arg0)
      ∧ r.2.mem ((c.tc : Thread Cert.AInDw.nD Cert.AInDw.τ).loc Cert.AInDw.main_arg1) = m ((c.tc : Thread Cert.AInDw.nD Cert.AInDw.τ).loc Cert.AInDw.main_arg1))
      ∧ r.2.sem = fun _ => 0)

def quiescent_AInDwIdeal [hAInDwIdeal : Cert.AInDwIdeal.Facts] : Prop :=
  ∀ (m : (ℓ : Loc Cert.AInDwIdeal.nD Cert.AInDwIdeal.τ Cert.AInDwIdeal.sig) → Buf (Elt Ideal) ℓ) (g : Dev Cert.AInDwIdeal.nD → PrngReg), Pre_AInDwIdeal m →
    θ_run (Cert.AInDwIdeal.defs (F := Ideal)) (onTc (τ := Cert.AInDwIdeal.τ) (Cert.AInDwIdeal.main (F := Ideal))) ⟨m, fun _ => 0, g⟩ (fun r => (∀ c : Dev Cert.AInDwIdeal.nD,
      r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
      ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1))
      ∧ r.2.sem = fun _ => 0)

def quiescent_AInDwRefIdeal [hAInDwRefIdeal : Cert.AInDwRefIdeal.Facts] : Prop :=
  ∀ (m : (ℓ : Loc Cert.AInDwRefIdeal.nD Cert.AInDwRefIdeal.τ Cert.AInDwRefIdeal.sig) → Buf (Elt Ideal) ℓ) (g : Dev Cert.AInDwRefIdeal.nD → PrngReg), Pre_AInDwRefIdeal m →
    θ_run (Cert.AInDwRefIdeal.defs (F := Ideal)) (onTc (τ := Cert.AInDwRefIdeal.τ) (Cert.AInDwRefIdeal.main (F := Ideal))) ⟨m, fun _ => 0, g⟩ (fun r => (∀ c : Dev Cert.AInDwRefIdeal.nD,
      r.2.mem ((c.tc : Thread Cert.AInDwRefIdeal.nD Cert.AInDwRefIdeal.τ).loc Cert.AInDwRefIdeal.main_arg0) = m ((c.tc : Thread Cert.AInDwRefIdeal.nD Cert.AInDwRefIdeal.τ).loc Cert.AInDwRefIdeal.main_arg0)
      ∧ r.2.mem ((c.tc : Thread Cert.AInDwRefIdeal.nD Cert.AInDwRefIdeal.τ).loc Cert.AInDwRefIdeal.main_arg1) = m ((c.tc : Thread Cert.AInDwRefIdeal.nD Cert.AInDwRefIdeal.τ).loc Cert.AInDwRefIdeal.main_arg1))
      ∧ r.2.sem = fun _ => 0)

def quiescent_AInDx [hAInDx : Cert.AInDx.Facts] : Prop :=
  ∀ (m : (ℓ : Loc Cert.AInDx.nD Cert.AInDx.τ Cert.AInDx.sig) → Buf (Elt Bits) ℓ) (g : Dev Cert.AInDx.nD → PrngReg), Pre_AInDx m →
    θ_run (Cert.AInDx.defs (F := Bits)) (onTc (τ := Cert.AInDx.τ) (Cert.AInDx.main (F := Bits))) ⟨m, fun _ => 0, g⟩ (fun r => (∀ c : Dev Cert.AInDx.nD,
      r.2.mem ((c.tc : Thread Cert.AInDx.nD Cert.AInDx.τ).loc Cert.AInDx.main_arg0) = m ((c.tc : Thread Cert.AInDx.nD Cert.AInDx.τ).loc Cert.AInDx.main_arg0)
      ∧ r.2.mem ((c.tc : Thread Cert.AInDx.nD Cert.AInDx.τ).loc Cert.AInDx.main_arg1) = m ((c.tc : Thread Cert.AInDx.nD Cert.AInDx.τ).loc Cert.AInDx.main_arg1))
      ∧ r.2.sem = fun _ => 0)

def quiescent_AInDxIdeal [hAInDxIdeal : Cert.AInDxIdeal.Facts] : Prop :=
  ∀ (m : (ℓ : Loc Cert.AInDxIdeal.nD Cert.AInDxIdeal.τ Cert.AInDxIdeal.sig) → Buf (Elt Ideal) ℓ) (g : Dev Cert.AInDxIdeal.nD → PrngReg), Pre_AInDxIdeal m →
    θ_run (Cert.AInDxIdeal.defs (F := Ideal)) (onTc (τ := Cert.AInDxIdeal.τ) (Cert.AInDxIdeal.main (F := Ideal))) ⟨m, fun _ => 0, g⟩ (fun r => (∀ c : Dev Cert.AInDxIdeal.nD,
      r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
      ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1))
      ∧ r.2.sem = fun _ => 0)

def quiescent_AInDxRefIdeal [hAInDxRefIdeal : Cert.AInDxRefIdeal.Facts] : Prop :=
  ∀ (m : (ℓ : Loc Cert.AInDxRefIdeal.nD Cert.AInDxRefIdeal.τ Cert.AInDxRefIdeal.sig) → Buf (Elt Ideal) ℓ) (g : Dev Cert.AInDxRefIdeal.nD → PrngReg), Pre_AInDxRefIdeal m →
    θ_run (Cert.AInDxRefIdeal.defs (F := Ideal)) (onTc (τ := Cert.AInDxRefIdeal.τ) (Cert.AInDxRefIdeal.main (F := Ideal))) ⟨m, fun _ => 0, g⟩ (fun r => (∀ c : Dev Cert.AInDxRefIdeal.nD,
      r.2.mem ((c.tc : Thread Cert.AInDxRefIdeal.nD Cert.AInDxRefIdeal.τ).loc Cert.AInDxRefIdeal.main_arg0) = m ((c.tc : Thread Cert.AInDxRefIdeal.nD Cert.AInDxRefIdeal.τ).loc Cert.AInDxRefIdeal.main_arg0)
      ∧ r.2.mem ((c.tc : Thread Cert.AInDxRefIdeal.nD Cert.AInDxRefIdeal.τ).loc Cert.AInDxRefIdeal.main_arg1) = m ((c.tc : Thread Cert.AInDxRefIdeal.nD Cert.AInDxRefIdeal.τ).loc Cert.AInDxRefIdeal.main_arg1))
      ∧ r.2.sem = fun _ => 0)

def quiescent_BInDw [hBInDw : Cert.BInDw.Facts] : Prop :=
  ∀ (m : (ℓ : Loc Cert.BInDw.nD Cert.BInDw.τ Cert.BInDw.sig) → Buf (Elt Bits) ℓ) (g : Dev Cert.BInDw.nD → PrngReg), Pre_BInDw m →
    θ_run (Cert.BInDw.defs (F := Bits)) (onTc (τ := Cert.BInDw.τ) (Cert.BInDw.main (F := Bits))) ⟨m, fun _ => 0, g⟩ (fun r => (∀ c : Dev Cert.BInDw.nD,
      r.2.mem ((c.tc : Thread Cert.BInDw.nD Cert.BInDw.τ).loc Cert.BInDw.main_arg0) = m ((c.tc : Thread Cert.BInDw.nD Cert.BInDw.τ).loc Cert.BInDw.main_arg0)
      ∧ r.2.mem ((c.tc : Thread Cert.BInDw.nD Cert.BInDw.τ).loc Cert.BInDw.main_arg1) = m ((c.tc : Thread Cert.BInDw.nD Cert.BInDw.τ).loc Cert.BInDw.main_arg1))
      ∧ r.2.sem = fun _ => 0)

def quiescent_BInDwIdeal [hBInDwIdeal : Cert.BInDwIdeal.Facts] : Prop :=
  ∀ (m : (ℓ : Loc Cert.BInDwIdeal.nD Cert.BInDwIdeal.τ Cert.BInDwIdeal.sig) → Buf (Elt Ideal) ℓ) (g : Dev Cert.BInDwIdeal.nD → PrngReg), Pre_BInDwIdeal m →
    θ_run (Cert.BInDwIdeal.defs (F := Ideal)) (onTc (τ := Cert.BInDwIdeal.τ) (Cert.BInDwIdeal.main (F := Ideal))) ⟨m, fun _ => 0, g⟩ (fun r => (∀ c : Dev Cert.BInDwIdeal.nD,
      r.2.mem ((c.tc : Thread Cert.BInDwIdeal.nD Cert.BInDwIdeal.τ).loc Cert.BInDwIdeal.main_arg0) = m ((c.tc : Thread Cert.BInDwIdeal.nD Cert.BInDwIdeal.τ).loc Cert.BInDwIdeal.main_arg0)
      ∧ r.2.mem ((c.tc : Thread Cert.BInDwIdeal.nD Cert.BInDwIdeal.τ).loc Cert.BInDwIdeal.main_arg1) = m ((c.tc : Thread Cert.BInDwIdeal.nD Cert.BInDwIdeal.τ).loc Cert.BInDwIdeal.main_arg1))
      ∧ r.2.sem = fun _ => 0)

def quiescent_BInDwRefIdeal [hBInDwRefIdeal : Cert.BInDwRefIdeal.Facts] : Prop :=
  ∀ (m : (ℓ : Loc Cert.BInDwRefIdeal.nD Cert.BInDwRefIdeal.τ Cert.BInDwRefIdeal.sig) → Buf (Elt Ideal) ℓ) (g : Dev Cert.BInDwRefIdeal.nD → PrngReg), Pre_BInDwRefIdeal m →
    θ_run (Cert.BInDwRefIdeal.defs (F := Ideal)) (onTc (τ := Cert.BInDwRefIdeal.τ) (Cert.BInDwRefIdeal.main (F := Ideal))) ⟨m, fun _ => 0, g⟩ (fun r => (∀ c : Dev Cert.BInDwRefIdeal.nD,
      r.2.mem ((c.tc : Thread Cert.BInDwRefIdeal.nD Cert.BInDwRefIdeal.τ).loc Cert.BInDwRefIdeal.main_arg0) = m ((c.tc : Thread Cert.BInDwRefIdeal.nD Cert.BInDwRefIdeal.τ).loc Cert.BInDwRefIdeal.main_arg0)
      ∧ r.2.mem ((c.tc : Thread Cert.BInDwRefIdeal.nD Cert.BInDwRefIdeal.τ).loc Cert.BInDwRefIdeal.main_arg1) = m ((c.tc : Thread Cert.BInDwRefIdeal.nD Cert.BInDwRefIdeal.τ).loc Cert.BInDwRefIdeal.main_arg1))
      ∧ r.2.sem = fun _ => 0)

def quiescent_BInDx [hBInDx : Cert.BInDx.Facts] : Prop :=
  ∀ (m : (ℓ : Loc Cert.BInDx.nD Cert.BInDx.τ Cert.BInDx.sig) → Buf (Elt Bits) ℓ) (g : Dev Cert.BInDx.nD → PrngReg), Pre_BInDx m →
    θ_run (Cert.BInDx.defs (F := Bits)) (onTc (τ := Cert.BInDx.τ) (Cert.BInDx.main (F := Bits))) ⟨m, fun _ => 0, g⟩ (fun r => (∀ c : Dev Cert.BInDx.nD,
      r.2.mem ((c.tc : Thread Cert.BInDx.nD Cert.BInDx.τ).loc Cert.BInDx.main_arg0) = m ((c.tc : Thread Cert.BInDx.nD Cert.BInDx.τ).loc Cert.BInDx.main_arg0)
      ∧ r.2.mem ((c.tc : Thread Cert.BInDx.nD Cert.BInDx.τ).loc Cert.BInDx.main_arg1) = m ((c.tc : Thread Cert.BInDx.nD Cert.BInDx.τ).loc Cert.BInDx.main_arg1))
      ∧ r.2.sem = fun _ => 0)

def quiescent_BInDxIdeal [hBInDxIdeal : Cert.BInDxIdeal.Facts] : Prop :=
  ∀ (m : (ℓ : Loc Cert.BInDxIdeal.nD Cert.BInDxIdeal.τ Cert.BInDxIdeal.sig) → Buf (Elt Ideal) ℓ) (g : Dev Cert.BInDxIdeal.nD → PrngReg), Pre_BInDxIdeal m →
    θ_run (Cert.BInDxIdeal.defs (F := Ideal)) (onTc (τ := Cert.BInDxIdeal.τ) (Cert.BInDxIdeal.main (F := Ideal))) ⟨m, fun _ => 0, g⟩ (fun r => (∀ c : Dev Cert.BInDxIdeal.nD,
      r.2.mem ((c.tc : Thread Cert.BInDxIdeal.nD Cert.BInDxIdeal.τ).loc Cert.BInDxIdeal.main_arg0) = m ((c.tc : Thread Cert.BInDxIdeal.nD Cert.BInDxIdeal.τ).loc Cert.BInDxIdeal.main_arg0)
      ∧ r.2.mem ((c.tc : Thread Cert.BInDxIdeal.nD Cert.BInDxIdeal.τ).loc Cert.BInDxIdeal.main_arg1) = m ((c.tc : Thread Cert.BInDxIdeal.nD Cert.BInDxIdeal.τ).loc Cert.BInDxIdeal.main_arg1))
      ∧ r.2.sem = fun _ => 0)

def quiescent_BInDxRefIdeal [hBInDxRefIdeal : Cert.BInDxRefIdeal.Facts] : Prop :=
  ∀ (m : (ℓ : Loc Cert.BInDxRefIdeal.nD Cert.BInDxRefIdeal.τ Cert.BInDxRefIdeal.sig) → Buf (Elt Ideal) ℓ) (g : Dev Cert.BInDxRefIdeal.nD → PrngReg), Pre_BInDxRefIdeal m →
    θ_run (Cert.BInDxRefIdeal.defs (F := Ideal)) (onTc (τ := Cert.BInDxRefIdeal.τ) (Cert.BInDxRefIdeal.main (F := Ideal))) ⟨m, fun _ => 0, g⟩ (fun r => (∀ c : Dev Cert.BInDxRefIdeal.nD,
      r.2.mem ((c.tc : Thread Cert.BInDxRefIdeal.nD Cert.BInDxRefIdeal.τ).loc Cert.BInDxRefIdeal.main_arg0) = m ((c.tc : Thread Cert.BInDxRefIdeal.nD Cert.BInDxRefIdeal.τ).loc Cert.BInDxRefIdeal.main_arg0)
      ∧ r.2.mem ((c.tc : Thread Cert.BInDxRefIdeal.nD Cert.BInDxRefIdeal.τ).loc Cert.BInDxRefIdeal.main_arg1) = m ((c.tc : Thread Cert.BInDxRefIdeal.nD Cert.BInDxRefIdeal.τ).loc Cert.BInDxRefIdeal.main_arg1))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3))
      ∧ r.2.sem = fun _ => 0)

def quiescent_ActB [hActB : Cert.ActB.Facts] : Prop :=
  ∀ (m : (ℓ : Loc Cert.ActB.nD Cert.ActB.τ Cert.ActB.sig) → Buf (Elt Bits) ℓ) (g : Dev Cert.ActB.nD → PrngReg), Pre_ActB m →
    θ_run (Cert.ActB.defs (F := Bits)) (onTc (τ := Cert.ActB.τ) (Cert.ActB.main (F := Bits))) ⟨m, fun _ => 0, g⟩ (fun r => (∀ c : Dev Cert.ActB.nD,
      r.2.mem ((c.tc : Thread Cert.ActB.nD Cert.ActB.τ).loc Cert.ActB.main_arg0) = m ((c.tc : Thread Cert.ActB.nD Cert.ActB.τ).loc Cert.ActB.main_arg0)
      ∧ r.2.mem ((c.tc : Thread Cert.ActB.nD Cert.ActB.τ).loc Cert.ActB.main_arg1) = m ((c.tc : Thread Cert.ActB.nD Cert.ActB.τ).loc Cert.ActB.main_arg1))
      ∧ r.2.sem = fun _ => 0)

def quiescent_ActBIdeal [hActBIdeal : Cert.ActBIdeal.Facts] : Prop :=
  ∀ (m : (ℓ : Loc Cert.ActBIdeal.nD Cert.ActBIdeal.τ Cert.ActBIdeal.sig) → Buf (Elt Ideal) ℓ) (g : Dev Cert.ActBIdeal.nD → PrngReg), Pre_ActBIdeal m →
    θ_run (Cert.ActBIdeal.defs (F := Ideal)) (onTc (τ := Cert.ActBIdeal.τ) (Cert.ActBIdeal.main (F := Ideal))) ⟨m, fun _ => 0, g⟩ (fun r => (∀ c : Dev Cert.ActBIdeal.nD,
      r.2.mem ((c.tc : Thread Cert.ActBIdeal.nD Cert.ActBIdeal.τ).loc Cert.ActBIdeal.main_arg0) = m ((c.tc : Thread Cert.ActBIdeal.nD Cert.ActBIdeal.τ).loc Cert.ActBIdeal.main_arg0)
      ∧ r.2.mem ((c.tc : Thread Cert.ActBIdeal.nD Cert.ActBIdeal.τ).loc Cert.ActBIdeal.main_arg1) = m ((c.tc : Thread Cert.ActBIdeal.nD Cert.ActBIdeal.τ).loc Cert.ActBIdeal.main_arg1))
      ∧ r.2.sem = fun _ => 0)

def quiescent_ActBIdeal_pre_finite [hActBIdeal : Cert.ActBIdeal.Facts] [hPre_finite : Cert.Pre_finite.Facts] : Prop :=
  ∀ (m : (ℓ : Loc Cert.ActBIdeal.nD Cert.ActBIdeal.τ Cert.ActBIdeal.sig) → Buf (Elt Ideal) ℓ) (g : Dev Cert.ActBIdeal.nD → PrngReg), Pre_ActBIdeal_finite m →
    θ_run (Cert.ActBIdeal.defs (F := Ideal)) (onTc (τ := Cert.ActBIdeal.τ) (Cert.ActBIdeal.main (F := Ideal))) ⟨m, fun _ => 0, g⟩ (fun r => (∀ c : Dev Cert.ActBIdeal.nD,
      r.2.mem ((c.tc : Thread Cert.ActBIdeal.nD Cert.ActBIdeal.τ).loc Cert.ActBIdeal.main_arg0) = m ((c.tc : Thread Cert.ActBIdeal.nD Cert.ActBIdeal.τ).loc Cert.ActBIdeal.main_arg0)
      ∧ r.2.mem ((c.tc : Thread Cert.ActBIdeal.nD Cert.ActBIdeal.τ).loc Cert.ActBIdeal.main_arg1) = m ((c.tc : Thread Cert.ActBIdeal.nD Cert.ActBIdeal.τ).loc Cert.ActBIdeal.main_arg1))
      ∧ r.2.sem = fun _ => 0)

def quiescent_ActBRefIdeal [hActBRefIdeal : Cert.ActBRefIdeal.Facts] : Prop :=
  ∀ (m : (ℓ : Loc Cert.ActBRefIdeal.nD Cert.ActBRefIdeal.τ Cert.ActBRefIdeal.sig) → Buf (Elt Ideal) ℓ) (g : Dev Cert.ActBRefIdeal.nD → PrngReg), Pre_ActBRefIdeal m →
    θ_run (Cert.ActBRefIdeal.defs (F := Ideal)) (onTc (τ := Cert.ActBRefIdeal.τ) (Cert.ActBRefIdeal.main (F := Ideal))) ⟨m, fun _ => 0, g⟩ (fun r => (∀ c : Dev Cert.ActBRefIdeal.nD,
      r.2.mem ((c.tc : Thread Cert.ActBRefIdeal.nD Cert.ActBRefIdeal.τ).loc Cert.ActBRefIdeal.main_arg0) = m ((c.tc : Thread Cert.ActBRefIdeal.nD Cert.ActBRefIdeal.τ).loc Cert.ActBRefIdeal.main_arg0)
      ∧ r.2.mem ((c.tc : Thread Cert.ActBRefIdeal.nD Cert.ActBRefIdeal.τ).loc Cert.ActBRefIdeal.main_arg1) = m ((c.tc : Thread Cert.ActBRefIdeal.nD Cert.ActBRefIdeal.τ).loc Cert.ActBRefIdeal.main_arg1))
      ∧ r.2.sem = fun _ => 0)

def quiescent_ActBRefIdeal_pre_finite [hActBRefIdeal : Cert.ActBRefIdeal.Facts] [hPre_finite : Cert.Pre_finite.Facts] : Prop :=
  ∀ (m : (ℓ : Loc Cert.ActBRefIdeal.nD Cert.ActBRefIdeal.τ Cert.ActBRefIdeal.sig) → Buf (Elt Ideal) ℓ) (g : Dev Cert.ActBRefIdeal.nD → PrngReg), Pre_ActBRefIdeal_finite m →
    θ_run (Cert.ActBRefIdeal.defs (F := Ideal)) (onTc (τ := Cert.ActBRefIdeal.τ) (Cert.ActBRefIdeal.main (F := Ideal))) ⟨m, fun _ => 0, g⟩ (fun r => (∀ c : Dev Cert.ActBRefIdeal.nD,
      r.2.mem ((c.tc : Thread Cert.ActBRefIdeal.nD Cert.ActBRefIdeal.τ).loc Cert.ActBRefIdeal.main_arg0) = m ((c.tc : Thread Cert.ActBRefIdeal.nD Cert.ActBRefIdeal.τ).loc Cert.ActBRefIdeal.main_arg0)
      ∧ r.2.mem ((c.tc : Thread Cert.ActBRefIdeal.nD Cert.ActBRefIdeal.τ).loc Cert.ActBRefIdeal.main_arg1) = m ((c.tc : Thread Cert.ActBRefIdeal.nD Cert.ActBRefIdeal.τ).loc Cert.ActBRefIdeal.main_arg1))
      ∧ r.2.sem = fun _ => 0)

def preserves_GlaF_GlaFIdeal : Prop :=
  True

def algebraic_GlaFIdeal_GlaFRefIdeal [hGlaFIdeal : Cert.GlaFIdeal.Facts] [hGlaFRefIdeal : Cert.GlaFRefIdeal.Facts] : Prop :=
  ∀ (m : (ℓ : Loc Cert.GlaFIdeal.nD Cert.GlaFIdeal.τ Cert.GlaFIdeal.sig) → Buf (Elt Ideal) ℓ) (g : Dev Cert.GlaFIdeal.nD → PrngReg)
    (m' : (ℓ : Loc Cert.GlaFRefIdeal.nD Cert.GlaFRefIdeal.τ Cert.GlaFRefIdeal.sig) → Buf (Elt Ideal) ℓ) (g' : Dev Cert.GlaFRefIdeal.nD → PrngReg), Pre_GlaFIdeal m →
    (∀ c : Dev Cert.GlaFIdeal.nD,
      m' ((c.tc : Thread Cert.GlaFRefIdeal.nD Cert.GlaFRefIdeal.τ).loc Cert.GlaFRefIdeal.main_arg0) = m ((c.tc : Thread Cert.GlaFIdeal.nD Cert.GlaFIdeal.τ).loc Cert.GlaFIdeal.main_arg0)
      ∧ m' ((c.tc : Thread Cert.GlaFRefIdeal.nD Cert.GlaFRefIdeal.τ).loc Cert.GlaFRefIdeal.main_arg1) = m ((c.tc : Thread Cert.GlaFIdeal.nD Cert.GlaFIdeal.τ).loc Cert.GlaFIdeal.main_arg1)) →
    ∃ (v0 : (c : Dev Cert.GlaFIdeal.nD) → Buf (Elt Ideal) ((c.tc : Thread Cert.GlaFIdeal.nD Cert.GlaFIdeal.τ).loc Cert.GlaFIdeal.main_v0_0)) (v1 : (c : Dev Cert.GlaFIdeal.nD) → Buf (Elt Ideal) ((c.tc : Thread Cert.GlaFIdeal.nD Cert.GlaFIdeal.τ).loc Cert.GlaFIdeal.main_v0_1)),
      θ_run (Cert.GlaFIdeal.defs (F := Ideal)) (onTc (τ := Cert.GlaFIdeal.τ) (Cert.GlaFIdeal.main (F := Ideal))) ⟨m, fun _ => 0, g⟩ (fun r => ∀ c : Dev Cert.GlaFIdeal.nD,
          r.2.mem ((c.tc : Thread Cert.GlaFIdeal.nD Cert.GlaFIdeal.τ).loc Cert.GlaFIdeal.main_v0_0) = v0 c
          ∧ r.2.mem ((c.tc : Thread Cert.GlaFIdeal.nD Cert.GlaFIdeal.τ).loc Cert.GlaFIdeal.main_v0_1) = v1 c
          ∧ r.2.mem ((c.tc : Thread Cert.GlaFIdeal.nD Cert.GlaFIdeal.τ).loc Cert.GlaFIdeal.main_arg0) = m ((c.tc : Thread Cert.GlaFIdeal.nD Cert.GlaFIdeal.τ).loc Cert.GlaFIdeal.main_arg0)
          ∧ r.2.mem ((c.tc : Thread Cert.GlaFIdeal.nD Cert.GlaFIdeal.τ).loc Cert.GlaFIdeal.main_arg1) = m ((c.tc : Thread Cert.GlaFIdeal.nD Cert.GlaFIdeal.τ).loc Cert.GlaFIdeal.main_arg1))
      ∧ θ_run (Cert.GlaFRefIdeal.defs (F := Ideal)) (onTc (τ := Cert.GlaFRefIdeal.τ) (Cert.GlaFRefIdeal.main (F := Ideal))) ⟨m', fun _ => 0, g'⟩ (fun r => ∀ c : Dev Cert.GlaFRefIdeal.nD,
          r.2.mem ((c.tc : Thread Cert.GlaFRefIdeal.nD Cert.GlaFRefIdeal.τ).loc Cert.GlaFRefIdeal.main_v17) = v0 c
          ∧ r.2.mem ((c.tc : Thread Cert.GlaFRefIdeal.nD Cert.GlaFRefIdeal.τ).loc Cert.GlaFRefIdeal.main_v18) = v1 c
          ∧ r.2.mem ((c.tc : Thread Cert.GlaFRefIdeal.nD Cert.GlaFRefIdeal.τ).loc Cert.GlaFRefIdeal.main_arg0) = m' ((c.tc : Thread Cert.GlaFRefIdeal.nD Cert.GlaFRefIdeal.τ).loc Cert.GlaFRefIdeal.main_arg0)
          ∧ r.2.mem ((c.tc : Thread Cert.GlaFRefIdeal.nD Cert.GlaFRefIdeal.τ).loc Cert.GlaFRefIdeal.main_arg1) = m' ((c.tc : Thread Cert.GlaFRefIdeal.nD Cert.GlaFRefIdeal.τ).loc Cert.GlaFRefIdeal.main_arg1))

def preserves_GlaB_GlaBIdeal : Prop :=
  True

def algebraic_GlaBIdeal_GlaBRefIdeal [hGlaBIdeal : Cert.GlaBIdeal.Facts] [hGlaBRefIdeal : Cert.GlaBRefIdeal.Facts] : Prop :=
  ∀ (m : (ℓ : Loc Cert.GlaBIdeal.nD Cert.GlaBIdeal.τ Cert.GlaBIdeal.sig) → Buf (Elt Ideal) ℓ) (g : Dev Cert.GlaBIdeal.nD → PrngReg)
    (m' : (ℓ : Loc Cert.GlaBRefIdeal.nD Cert.GlaBRefIdeal.τ Cert.GlaBRefIdeal.sig) → Buf (Elt Ideal) ℓ) (g' : Dev Cert.GlaBRefIdeal.nD → PrngReg), Pre_GlaBIdeal m →
    (∀ c : Dev Cert.GlaBIdeal.nD,
      m' ((c.tc : Thread Cert.GlaBRefIdeal.nD Cert.GlaBRefIdeal.τ).loc Cert.GlaBRefIdeal.main_arg0) = m ((c.tc : Thread Cert.GlaBIdeal.nD Cert.GlaBIdeal.τ).loc Cert.GlaBIdeal.main_arg0)
      ∧ m' ((c.tc : Thread Cert.GlaBRefIdeal.nD Cert.GlaBRefIdeal.τ).loc Cert.GlaBRefIdeal.main_arg1) = m ((c.tc : Thread Cert.GlaBIdeal.nD Cert.GlaBIdeal.τ).loc Cert.GlaBIdeal.main_arg1)
      ∧ m' ((c.tc : Thread Cert.GlaBRefIdeal.nD Cert.GlaBRefIdeal.τ).loc Cert.GlaBRefIdeal.main_arg2) = m ((c.tc : Thread Cert.GlaBIdeal.nD Cert.GlaBIdeal.τ).loc Cert.GlaBIdeal.main_arg2)
      ∧ m' ((c.tc : Thread Cert.GlaBRefIdeal.nD Cert.GlaBRefIdeal.τ).loc Cert.GlaBRefIdeal.main_arg3) = m ((c.tc : Thread Cert.GlaBIdeal.nD Cert.GlaBIdeal.τ).loc Cert.GlaBIdeal.main_arg3)) →
    ∃ (v0 : (c : Dev Cert.GlaBIdeal.nD) → Buf (Elt Ideal) ((c.tc : Thread Cert.GlaBIdeal.nD Cert.GlaBIdeal.τ).loc Cert.GlaBIdeal.main_v0_0)) (v1 : (c : Dev Cert.GlaBIdeal.nD) → Buf (Elt Ideal) ((c.tc : Thread Cert.GlaBIdeal.nD Cert.GlaBIdeal.τ).loc Cert.GlaBIdeal.main_v0_1)) (v2 : (c : Dev Cert.GlaBIdeal.nD) → Buf (Elt Ideal) ((c.tc : Thread Cert.GlaBIdeal.nD Cert.GlaBIdeal.τ).loc Cert.GlaBIdeal.main_v0_2)) (v3 : (c : Dev Cert.GlaBIdeal.nD) → Buf (Elt Ideal) ((c.tc : Thread Cert.GlaBIdeal.nD Cert.GlaBIdeal.τ).loc Cert.GlaBIdeal.main_v0_3)),
      θ_run (Cert.GlaBIdeal.defs (F := Ideal)) (onTc (τ := Cert.GlaBIdeal.τ) (Cert.GlaBIdeal.main (F := Ideal))) ⟨m, fun _ => 0, g⟩ (fun r => ∀ c : Dev Cert.GlaBIdeal.nD,
          r.2.mem ((c.tc : Thread Cert.GlaBIdeal.nD Cert.GlaBIdeal.τ).loc Cert.GlaBIdeal.main_v0_0) = v0 c
          ∧ r.2.mem ((c.tc : Thread Cert.GlaBIdeal.nD Cert.GlaBIdeal.τ).loc Cert.GlaBIdeal.main_v0_1) = v1 c
          ∧ r.2.mem ((c.tc : Thread Cert.GlaBIdeal.nD Cert.GlaBIdeal.τ).loc Cert.GlaBIdeal.main_v0_2) = v2 c
          ∧ r.2.mem ((c.tc : Thread Cert.GlaBIdeal.nD Cert.GlaBIdeal.τ).loc Cert.GlaBIdeal.main_v0_3) = v3 c
          ∧ r.2.mem ((c.tc : Thread Cert.GlaBIdeal.nD Cert.GlaBIdeal.τ).loc Cert.GlaBIdeal.main_arg0) = m ((c.tc : Thread Cert.GlaBIdeal.nD Cert.GlaBIdeal.τ).loc Cert.GlaBIdeal.main_arg0)
          ∧ r.2.mem ((c.tc : Thread Cert.GlaBIdeal.nD Cert.GlaBIdeal.τ).loc Cert.GlaBIdeal.main_arg1) = m ((c.tc : Thread Cert.GlaBIdeal.nD Cert.GlaBIdeal.τ).loc Cert.GlaBIdeal.main_arg1)
          ∧ r.2.mem ((c.tc : Thread Cert.GlaBIdeal.nD Cert.GlaBIdeal.τ).loc Cert.GlaBIdeal.main_arg2) = m ((c.tc : Thread Cert.GlaBIdeal.nD Cert.GlaBIdeal.τ).loc Cert.GlaBIdeal.main_arg2)
          ∧ r.2.mem ((c.tc : Thread Cert.GlaBIdeal.nD Cert.GlaBIdeal.τ).loc Cert.GlaBIdeal.main_arg3) = m ((c.tc : Thread Cert.GlaBIdeal.nD Cert.GlaBIdeal.τ).loc Cert.GlaBIdeal.main_arg3))
      ∧ θ_run (Cert.GlaBRefIdeal.defs (F := Ideal)) (onTc (τ := Cert.GlaBRefIdeal.τ) (Cert.GlaBRefIdeal.main (F := Ideal))) ⟨m', fun _ => 0, g'⟩ (fun r => ∀ c : Dev Cert.GlaBRefIdeal.nD,
          r.2.mem ((c.tc : Thread Cert.GlaBRefIdeal.nD Cert.GlaBRefIdeal.τ).loc Cert.GlaBRefIdeal.main_v22) = v0 c
          ∧ r.2.mem ((c.tc : Thread Cert.GlaBRefIdeal.nD Cert.GlaBRefIdeal.τ).loc Cert.GlaBRefIdeal.main_v24) = v1 c
          ∧ r.2.mem ((c.tc : Thread Cert.GlaBRefIdeal.nD Cert.GlaBRefIdeal.τ).loc Cert.GlaBRefIdeal.main_v26) = v2 c
          ∧ r.2.mem ((c.tc : Thread Cert.GlaBRefIdeal.nD Cert.GlaBRefIdeal.τ).loc Cert.GlaBRefIdeal.main_v28) = v3 c
          ∧ r.2.mem ((c.tc : Thread Cert.GlaBRefIdeal.nD Cert.GlaBRefIdeal.τ).loc Cert.GlaBRefIdeal.main_arg0) = m' ((c.tc : Thread Cert.GlaBRefIdeal.nD Cert.GlaBRefIdeal.τ).loc Cert.GlaBRefIdeal.main_arg0)
          ∧ r.2.mem ((c.tc : Thread Cert.GlaBRefIdeal.nD Cert.GlaBRefIdeal.τ).loc Cert.GlaBRefIdeal.main_arg1) = m' ((c.tc : Thread Cert.GlaBRefIdeal.nD Cert.GlaBRefIdeal.τ).loc Cert.GlaBRefIdeal.main_arg1)
          ∧ r.2.mem ((c.tc : Thread Cert.GlaBRefIdeal.nD Cert.GlaBRefIdeal.τ).loc Cert.GlaBRefIdeal.main_arg2) = m' ((c.tc : Thread Cert.GlaBRefIdeal.nD Cert.GlaBRefIdeal.τ).loc Cert.GlaBRefIdeal.main_arg2)
          ∧ r.2.mem ((c.tc : Thread Cert.GlaBRefIdeal.nD Cert.GlaBRefIdeal.τ).loc Cert.GlaBRefIdeal.main_arg3) = m' ((c.tc : Thread Cert.GlaBRefIdeal.nD Cert.GlaBRefIdeal.τ).loc Cert.GlaBRefIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_AOutDx_AOutDxIdeal : Prop :=
  True

def algebraic_AOutDxIdeal_AOutDxRefIdeal [hAOutDxIdeal : Cert.AOutDxIdeal.Facts] [hAOutDxRefIdeal : Cert.AOutDxRefIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg)
    (m' : (ℓ : Loc Cert.AOutDxRefIdeal.nD Cert.AOutDxRefIdeal.τ Cert.AOutDxRefIdeal.sig) → Buf (Elt Ideal) ℓ) (g' : Dev Cert.AOutDxRefIdeal.nD → PrngReg), Pre_AOutDxIdeal m →
    (∀ c : Dev Cert.AOutDxIdeal.nD,
      m' ((c.tc : Thread Cert.AOutDxRefIdeal.nD Cert.AOutDxRefIdeal.τ).loc Cert.AOutDxRefIdeal.main_arg0) = m ((c.tc : Thread Cert.AOutDxIdeal.nD Cert.AOutDxIdeal.τ).loc Cert.AOutDxIdeal.main_arg0)
      ∧ m' ((c.tc : Thread Cert.AOutDxRefIdeal.nD Cert.AOutDxRefIdeal.τ).loc Cert.AOutDxRefIdeal.main_arg1) = m ((c.tc : Thread Cert.AOutDxIdeal.nD Cert.AOutDxIdeal.τ).loc Cert.AOutDxIdeal.main_arg1)) →
    ∃ (v0 : (c : Dev Cert.AOutDxIdeal.nD) → Buf (Elt Ideal) ((c.tc : Thread Cert.AOutDxIdeal.nD Cert.AOutDxIdeal.τ).loc Cert.AOutDxIdeal.main_v3)),
      θ_run (Cert.AOutDxIdeal.defs (F := Ideal)) (onTc (τ := Cert.AOutDxIdeal.τ) (Cert.AOutDxIdeal.main (F := Ideal))) ⟨m, fun _ => 0, g⟩ (fun r => ∀ c : Dev Cert.AOutDxIdeal.nD,
          r.2.mem ((c.tc : Thread Cert.AOutDxIdeal.nD Cert.AOutDxIdeal.τ).loc Cert.AOutDxIdeal.main_v3) = v0 c
          ∧ r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
          ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ θ_run (Cert.AOutDxRefIdeal.defs (F := Ideal)) (onTc (τ := Cert.AOutDxRefIdeal.τ) (Cert.AOutDxRefIdeal.main (F := Ideal))) ⟨m', fun _ => 0, g'⟩ (fun r => ∀ c : Dev Cert.AOutDxRefIdeal.nD,
          r.2.mem ((c.tc : Thread Cert.AOutDxRefIdeal.nD Cert.AOutDxRefIdeal.τ).loc Cert.AOutDxRefIdeal.main_v3) = v0 c
          ∧ r.2.mem ((c.tc : Thread Cert.AOutDxRefIdeal.nD Cert.AOutDxRefIdeal.τ).loc Cert.AOutDxRefIdeal.main_arg0) = m' ((c.tc : Thread Cert.AOutDxRefIdeal.nD Cert.AOutDxRefIdeal.τ).loc Cert.AOutDxRefIdeal.main_arg0)
          ∧ r.2.mem ((c.tc : Thread Cert.AOutDxRefIdeal.nD Cert.AOutDxRefIdeal.τ).loc Cert.AOutDxRefIdeal.main_arg1) = m' ((c.tc : Thread Cert.AOutDxRefIdeal.nD Cert.AOutDxRefIdeal.τ).loc Cert.AOutDxRefIdeal.main_arg1))

def preserves_BOutDx_BOutDxIdeal : Prop :=
  True

def algebraic_BOutDxIdeal_BOutDxRefIdeal [hBOutDxIdeal : Cert.BOutDxIdeal.Facts] [hBOutDxRefIdeal : Cert.BOutDxRefIdeal.Facts] : Prop :=
  ∀ (m : (ℓ : Loc Cert.BOutDxIdeal.nD Cert.BOutDxIdeal.τ Cert.BOutDxIdeal.sig) → Buf (Elt Ideal) ℓ) (g : Dev Cert.BOutDxIdeal.nD → PrngReg)
    (m' : (ℓ : Loc Cert.BOutDxRefIdeal.nD Cert.BOutDxRefIdeal.τ Cert.BOutDxRefIdeal.sig) → Buf (Elt Ideal) ℓ) (g' : Dev Cert.BOutDxRefIdeal.nD → PrngReg), Pre_BOutDxIdeal m →
    (∀ c : Dev Cert.BOutDxIdeal.nD,
      m' ((c.tc : Thread Cert.BOutDxRefIdeal.nD Cert.BOutDxRefIdeal.τ).loc Cert.BOutDxRefIdeal.main_arg0) = m ((c.tc : Thread Cert.BOutDxIdeal.nD Cert.BOutDxIdeal.τ).loc Cert.BOutDxIdeal.main_arg0)
      ∧ m' ((c.tc : Thread Cert.BOutDxRefIdeal.nD Cert.BOutDxRefIdeal.τ).loc Cert.BOutDxRefIdeal.main_arg1) = m ((c.tc : Thread Cert.BOutDxIdeal.nD Cert.BOutDxIdeal.τ).loc Cert.BOutDxIdeal.main_arg1)) →
    ∃ (v0 : (c : Dev Cert.BOutDxIdeal.nD) → Buf (Elt Ideal) ((c.tc : Thread Cert.BOutDxIdeal.nD Cert.BOutDxIdeal.τ).loc Cert.BOutDxIdeal.main_v3)),
      θ_run (Cert.BOutDxIdeal.defs (F := Ideal)) (onTc (τ := Cert.BOutDxIdeal.τ) (Cert.BOutDxIdeal.main (F := Ideal))) ⟨m, fun _ => 0, g⟩ (fun r => ∀ c : Dev Cert.BOutDxIdeal.nD,
          r.2.mem ((c.tc : Thread Cert.BOutDxIdeal.nD Cert.BOutDxIdeal.τ).loc Cert.BOutDxIdeal.main_v3) = v0 c
          ∧ r.2.mem ((c.tc : Thread Cert.BOutDxIdeal.nD Cert.BOutDxIdeal.τ).loc Cert.BOutDxIdeal.main_arg0) = m ((c.tc : Thread Cert.BOutDxIdeal.nD Cert.BOutDxIdeal.τ).loc Cert.BOutDxIdeal.main_arg0)
          ∧ r.2.mem ((c.tc : Thread Cert.BOutDxIdeal.nD Cert.BOutDxIdeal.τ).loc Cert.BOutDxIdeal.main_arg1) = m ((c.tc : Thread Cert.BOutDxIdeal.nD Cert.BOutDxIdeal.τ).loc Cert.BOutDxIdeal.main_arg1))
      ∧ θ_run (Cert.BOutDxRefIdeal.defs (F := Ideal)) (onTc (τ := Cert.BOutDxRefIdeal.τ) (Cert.BOutDxRefIdeal.main (F := Ideal))) ⟨m', fun _ => 0, g'⟩ (fun r => ∀ c : Dev Cert.BOutDxRefIdeal.nD,
          r.2.mem ((c.tc : Thread Cert.BOutDxRefIdeal.nD Cert.BOutDxRefIdeal.τ).loc Cert.BOutDxRefIdeal.main_v2) = v0 c
          ∧ r.2.mem ((c.tc : Thread Cert.BOutDxRefIdeal.nD Cert.BOutDxRefIdeal.τ).loc Cert.BOutDxRefIdeal.main_arg0) = m' ((c.tc : Thread Cert.BOutDxRefIdeal.nD Cert.BOutDxRefIdeal.τ).loc Cert.BOutDxRefIdeal.main_arg0)
          ∧ r.2.mem ((c.tc : Thread Cert.BOutDxRefIdeal.nD Cert.BOutDxRefIdeal.τ).loc Cert.BOutDxRefIdeal.main_arg1) = m' ((c.tc : Thread Cert.BOutDxRefIdeal.nD Cert.BOutDxRefIdeal.τ).loc Cert.BOutDxRefIdeal.main_arg1))

def preserves_AInDw_AInDwIdeal : Prop :=
  True

def algebraic_AInDwIdeal_AInDwRefIdeal [hAInDwIdeal : Cert.AInDwIdeal.Facts] [hAInDwRefIdeal : Cert.AInDwRefIdeal.Facts] : Prop :=
  ∀ (m : (ℓ : Loc Cert.AInDwIdeal.nD Cert.AInDwIdeal.τ Cert.AInDwIdeal.sig) → Buf (Elt Ideal) ℓ) (g : Dev Cert.AInDwIdeal.nD → PrngReg)
    (m' : (ℓ : Loc Cert.AInDwRefIdeal.nD Cert.AInDwRefIdeal.τ Cert.AInDwRefIdeal.sig) → Buf (Elt Ideal) ℓ) (g' : Dev Cert.AInDwRefIdeal.nD → PrngReg), Pre_AInDwIdeal m →
    (∀ c : Dev Cert.AInDwIdeal.nD,
      m' ((c.tc : Thread Cert.AInDwRefIdeal.nD Cert.AInDwRefIdeal.τ).loc Cert.AInDwRefIdeal.main_arg0) = m ((c.tc : Thread Cert.AInDwIdeal.nD Cert.AInDwIdeal.τ).loc Cert.AInDwIdeal.main_arg0)
      ∧ m' ((c.tc : Thread Cert.AInDwRefIdeal.nD Cert.AInDwRefIdeal.τ).loc Cert.AInDwRefIdeal.main_arg1) = m ((c.tc : Thread Cert.AInDwIdeal.nD Cert.AInDwIdeal.τ).loc Cert.AInDwIdeal.main_arg1)) →
    ∃ (v0 : (c : Dev Cert.AInDwIdeal.nD) → Buf (Elt Ideal) ((c.tc : Thread Cert.AInDwIdeal.nD Cert.AInDwIdeal.τ).loc Cert.AInDwIdeal.main_v1)),
      θ_run (Cert.AInDwIdeal.defs (F := Ideal)) (onTc (τ := Cert.AInDwIdeal.τ) (Cert.AInDwIdeal.main (F := Ideal))) ⟨m, fun _ => 0, g⟩ (fun r => ∀ c : Dev Cert.AInDwIdeal.nD,
          r.2.mem ((c.tc : Thread Cert.AInDwIdeal.nD Cert.AInDwIdeal.τ).loc Cert.AInDwIdeal.main_v1) = v0 c
          ∧ r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
          ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1))
      ∧ θ_run (Cert.AInDwRefIdeal.defs (F := Ideal)) (onTc (τ := Cert.AInDwRefIdeal.τ) (Cert.AInDwRefIdeal.main (F := Ideal))) ⟨m', fun _ => 0, g'⟩ (fun r => ∀ c : Dev Cert.AInDwRefIdeal.nD,
          r.2.mem ((c.tc : Thread Cert.AInDwRefIdeal.nD Cert.AInDwRefIdeal.τ).loc Cert.AInDwRefIdeal.main_v5) = v0 c
          ∧ r.2.mem ((c.tc : Thread Cert.AInDwRefIdeal.nD Cert.AInDwRefIdeal.τ).loc Cert.AInDwRefIdeal.main_arg0) = m' ((c.tc : Thread Cert.AInDwRefIdeal.nD Cert.AInDwRefIdeal.τ).loc Cert.AInDwRefIdeal.main_arg0)
          ∧ r.2.mem ((c.tc : Thread Cert.AInDwRefIdeal.nD Cert.AInDwRefIdeal.τ).loc Cert.AInDwRefIdeal.main_arg1) = m' ((c.tc : Thread Cert.AInDwRefIdeal.nD Cert.AInDwRefIdeal.τ).loc Cert.AInDwRefIdeal.main_arg1))

def preserves_AInDx_AInDxIdeal : Prop :=
  True

def algebraic_AInDxIdeal_AInDxRefIdeal [hAInDxIdeal : Cert.AInDxIdeal.Facts] [hAInDxRefIdeal : Cert.AInDxRefIdeal.Facts] : Prop :=
  ∀ (m : (ℓ : Loc Cert.AInDxIdeal.nD Cert.AInDxIdeal.τ Cert.AInDxIdeal.sig) → Buf (Elt Ideal) ℓ) (g : Dev Cert.AInDxIdeal.nD → PrngReg)
    (m' : (ℓ : Loc Cert.AInDxRefIdeal.nD Cert.AInDxRefIdeal.τ Cert.AInDxRefIdeal.sig) → Buf (Elt Ideal) ℓ) (g' : Dev Cert.AInDxRefIdeal.nD → PrngReg), Pre_AInDxIdeal m →
    (∀ c : Dev Cert.AInDxIdeal.nD,
      m' ((c.tc : Thread Cert.AInDxRefIdeal.nD Cert.AInDxRefIdeal.τ).loc Cert.AInDxRefIdeal.main_arg0) = m ((c.tc : Thread Cert.AInDxIdeal.nD Cert.AInDxIdeal.τ).loc Cert.AInDxIdeal.main_arg0)
      ∧ m' ((c.tc : Thread Cert.AInDxRefIdeal.nD Cert.AInDxRefIdeal.τ).loc Cert.AInDxRefIdeal.main_arg1) = m ((c.tc : Thread Cert.AInDxIdeal.nD Cert.AInDxIdeal.τ).loc Cert.AInDxIdeal.main_arg1)) →
    ∃ (v0 : (c : Dev Cert.AInDxIdeal.nD) → Buf (Elt Ideal) ((c.tc : Thread Cert.AInDxIdeal.nD Cert.AInDxIdeal.τ).loc Cert.AInDxIdeal.main_v2)),
      θ_run (Cert.AInDxIdeal.defs (F := Ideal)) (onTc (τ := Cert.AInDxIdeal.τ) (Cert.AInDxIdeal.main (F := Ideal))) ⟨m, fun _ => 0, g⟩ (fun r => ∀ c : Dev Cert.AInDxIdeal.nD,
          r.2.mem ((c.tc : Thread Cert.AInDxIdeal.nD Cert.AInDxIdeal.τ).loc Cert.AInDxIdeal.main_v2) = v0 c
          ∧ r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
          ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1))
      ∧ θ_run (Cert.AInDxRefIdeal.defs (F := Ideal)) (onTc (τ := Cert.AInDxRefIdeal.τ) (Cert.AInDxRefIdeal.main (F := Ideal))) ⟨m', fun _ => 0, g'⟩ (fun r => ∀ c : Dev Cert.AInDxRefIdeal.nD,
          r.2.mem ((c.tc : Thread Cert.AInDxRefIdeal.nD Cert.AInDxRefIdeal.τ).loc Cert.AInDxRefIdeal.main_v3) = v0 c
          ∧ r.2.mem ((c.tc : Thread Cert.AInDxRefIdeal.nD Cert.AInDxRefIdeal.τ).loc Cert.AInDxRefIdeal.main_arg0) = m' ((c.tc : Thread Cert.AInDxRefIdeal.nD Cert.AInDxRefIdeal.τ).loc Cert.AInDxRefIdeal.main_arg0)
          ∧ r.2.mem ((c.tc : Thread Cert.AInDxRefIdeal.nD Cert.AInDxRefIdeal.τ).loc Cert.AInDxRefIdeal.main_arg1) = m' ((c.tc : Thread Cert.AInDxRefIdeal.nD Cert.AInDxRefIdeal.τ).loc Cert.AInDxRefIdeal.main_arg1))

def preserves_BInDw_BInDwIdeal : Prop :=
  True

def algebraic_BInDwIdeal_BInDwRefIdeal [hBInDwIdeal : Cert.BInDwIdeal.Facts] [hBInDwRefIdeal : Cert.BInDwRefIdeal.Facts] : Prop :=
  ∀ (m : (ℓ : Loc Cert.BInDwIdeal.nD Cert.BInDwIdeal.τ Cert.BInDwIdeal.sig) → Buf (Elt Ideal) ℓ) (g : Dev Cert.BInDwIdeal.nD → PrngReg)
    (m' : (ℓ : Loc Cert.BInDwRefIdeal.nD Cert.BInDwRefIdeal.τ Cert.BInDwRefIdeal.sig) → Buf (Elt Ideal) ℓ) (g' : Dev Cert.BInDwRefIdeal.nD → PrngReg), Pre_BInDwIdeal m →
    (∀ c : Dev Cert.BInDwIdeal.nD,
      m' ((c.tc : Thread Cert.BInDwRefIdeal.nD Cert.BInDwRefIdeal.τ).loc Cert.BInDwRefIdeal.main_arg0) = m ((c.tc : Thread Cert.BInDwIdeal.nD Cert.BInDwIdeal.τ).loc Cert.BInDwIdeal.main_arg0)
      ∧ m' ((c.tc : Thread Cert.BInDwRefIdeal.nD Cert.BInDwRefIdeal.τ).loc Cert.BInDwRefIdeal.main_arg1) = m ((c.tc : Thread Cert.BInDwIdeal.nD Cert.BInDwIdeal.τ).loc Cert.BInDwIdeal.main_arg1)) →
    ∃ (v0 : (c : Dev Cert.BInDwIdeal.nD) → Buf (Elt Ideal) ((c.tc : Thread Cert.BInDwIdeal.nD Cert.BInDwIdeal.τ).loc Cert.BInDwIdeal.main_v0)),
      θ_run (Cert.BInDwIdeal.defs (F := Ideal)) (onTc (τ := Cert.BInDwIdeal.τ) (Cert.BInDwIdeal.main (F := Ideal))) ⟨m, fun _ => 0, g⟩ (fun r => ∀ c : Dev Cert.BInDwIdeal.nD,
          r.2.mem ((c.tc : Thread Cert.BInDwIdeal.nD Cert.BInDwIdeal.τ).loc Cert.BInDwIdeal.main_v0) = v0 c
          ∧ r.2.mem ((c.tc : Thread Cert.BInDwIdeal.nD Cert.BInDwIdeal.τ).loc Cert.BInDwIdeal.main_arg0) = m ((c.tc : Thread Cert.BInDwIdeal.nD Cert.BInDwIdeal.τ).loc Cert.BInDwIdeal.main_arg0)
          ∧ r.2.mem ((c.tc : Thread Cert.BInDwIdeal.nD Cert.BInDwIdeal.τ).loc Cert.BInDwIdeal.main_arg1) = m ((c.tc : Thread Cert.BInDwIdeal.nD Cert.BInDwIdeal.τ).loc Cert.BInDwIdeal.main_arg1))
      ∧ θ_run (Cert.BInDwRefIdeal.defs (F := Ideal)) (onTc (τ := Cert.BInDwRefIdeal.τ) (Cert.BInDwRefIdeal.main (F := Ideal))) ⟨m', fun _ => 0, g'⟩ (fun r => ∀ c : Dev Cert.BInDwRefIdeal.nD,
          r.2.mem ((c.tc : Thread Cert.BInDwRefIdeal.nD Cert.BInDwRefIdeal.τ).loc Cert.BInDwRefIdeal.main_v6) = v0 c
          ∧ r.2.mem ((c.tc : Thread Cert.BInDwRefIdeal.nD Cert.BInDwRefIdeal.τ).loc Cert.BInDwRefIdeal.main_arg0) = m' ((c.tc : Thread Cert.BInDwRefIdeal.nD Cert.BInDwRefIdeal.τ).loc Cert.BInDwRefIdeal.main_arg0)
          ∧ r.2.mem ((c.tc : Thread Cert.BInDwRefIdeal.nD Cert.BInDwRefIdeal.τ).loc Cert.BInDwRefIdeal.main_arg1) = m' ((c.tc : Thread Cert.BInDwRefIdeal.nD Cert.BInDwRefIdeal.τ).loc Cert.BInDwRefIdeal.main_arg1))

def preserves_BInDx_BInDxIdeal : Prop :=
  True

def algebraic_BInDxIdeal_BInDxRefIdeal [hBInDxIdeal : Cert.BInDxIdeal.Facts] [hBInDxRefIdeal : Cert.BInDxRefIdeal.Facts] : Prop :=
  ∀ (m : (ℓ : Loc Cert.BInDxIdeal.nD Cert.BInDxIdeal.τ Cert.BInDxIdeal.sig) → Buf (Elt Ideal) ℓ) (g : Dev Cert.BInDxIdeal.nD → PrngReg)
    (m' : (ℓ : Loc Cert.BInDxRefIdeal.nD Cert.BInDxRefIdeal.τ Cert.BInDxRefIdeal.sig) → Buf (Elt Ideal) ℓ) (g' : Dev Cert.BInDxRefIdeal.nD → PrngReg), Pre_BInDxIdeal m →
    (∀ c : Dev Cert.BInDxIdeal.nD,
      m' ((c.tc : Thread Cert.BInDxRefIdeal.nD Cert.BInDxRefIdeal.τ).loc Cert.BInDxRefIdeal.main_arg0) = m ((c.tc : Thread Cert.BInDxIdeal.nD Cert.BInDxIdeal.τ).loc Cert.BInDxIdeal.main_arg0)
      ∧ m' ((c.tc : Thread Cert.BInDxRefIdeal.nD Cert.BInDxRefIdeal.τ).loc Cert.BInDxRefIdeal.main_arg1) = m ((c.tc : Thread Cert.BInDxIdeal.nD Cert.BInDxIdeal.τ).loc Cert.BInDxIdeal.main_arg1)) →
    ∃ (v0 : (c : Dev Cert.BInDxIdeal.nD) → Buf (Elt Ideal) ((c.tc : Thread Cert.BInDxIdeal.nD Cert.BInDxIdeal.τ).loc Cert.BInDxIdeal.main_v3)),
      θ_run (Cert.BInDxIdeal.defs (F := Ideal)) (onTc (τ := Cert.BInDxIdeal.τ) (Cert.BInDxIdeal.main (F := Ideal))) ⟨m, fun _ => 0, g⟩ (fun r => ∀ c : Dev Cert.BInDxIdeal.nD,
          r.2.mem ((c.tc : Thread Cert.BInDxIdeal.nD Cert.BInDxIdeal.τ).loc Cert.BInDxIdeal.main_v3) = v0 c
          ∧ r.2.mem ((c.tc : Thread Cert.BInDxIdeal.nD Cert.BInDxIdeal.τ).loc Cert.BInDxIdeal.main_arg0) = m ((c.tc : Thread Cert.BInDxIdeal.nD Cert.BInDxIdeal.τ).loc Cert.BInDxIdeal.main_arg0)
          ∧ r.2.mem ((c.tc : Thread Cert.BInDxIdeal.nD Cert.BInDxIdeal.τ).loc Cert.BInDxIdeal.main_arg1) = m ((c.tc : Thread Cert.BInDxIdeal.nD Cert.BInDxIdeal.τ).loc Cert.BInDxIdeal.main_arg1))
      ∧ θ_run (Cert.BInDxRefIdeal.defs (F := Ideal)) (onTc (τ := Cert.BInDxRefIdeal.τ) (Cert.BInDxRefIdeal.main (F := Ideal))) ⟨m', fun _ => 0, g'⟩ (fun r => ∀ c : Dev Cert.BInDxRefIdeal.nD,
          r.2.mem ((c.tc : Thread Cert.BInDxRefIdeal.nD Cert.BInDxRefIdeal.τ).loc Cert.BInDxRefIdeal.main_v4) = v0 c
          ∧ r.2.mem ((c.tc : Thread Cert.BInDxRefIdeal.nD Cert.BInDxRefIdeal.τ).loc Cert.BInDxRefIdeal.main_arg0) = m' ((c.tc : Thread Cert.BInDxRefIdeal.nD Cert.BInDxRefIdeal.τ).loc Cert.BInDxRefIdeal.main_arg0)
          ∧ r.2.mem ((c.tc : Thread Cert.BInDxRefIdeal.nD Cert.BInDxRefIdeal.τ).loc Cert.BInDxRefIdeal.main_arg1) = m' ((c.tc : Thread Cert.BInDxRefIdeal.nD Cert.BInDxRefIdeal.τ).loc Cert.BInDxRefIdeal.main_arg1))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v1)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v1) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v1) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_BIn_BInIdeal : Prop :=
  True

def algebraic_BInIdeal_BInRefIdeal [hBInIdeal : Cert.BInIdeal.Facts] [hBInRefIdeal : Cert.BInRefIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)) →
    ∃ (v0 : (c : Dev Cert.BInIdeal.nD) → Buf (Elt Ideal) ((c.tc : Thread Cert.BInIdeal.nD Cert.BInIdeal.τ).loc Cert.BInIdeal.main_v2)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v2) = v0 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v2) = v0 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v5) = v0 c
          ∧ r.2.mem ((c.tc : Thread Cert.ActRefIdeal.nD Cert.ActRefIdeal.τ).loc Cert.ActRefIdeal.main_v6) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_v15) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)) →
    ∃ (v0 : (c : Dev Cert.NormBIdeal.nD) → Buf (Elt Ideal) ((c.tc : Thread Cert.NormBIdeal.nD Cert.NormBIdeal.τ).loc Cert.NormBIdeal.main_v0_0)) (v1 : (c : Dev Cert.NormBIdeal.nD) → Buf (Elt Ideal) ((c.tc : Thread Cert.NormBIdeal.nD Cert.NormBIdeal.τ).loc Cert.NormBIdeal.main_v0_1)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v0_0) = v0 c
          ∧ r.2.mem ((c.tc : Thread Cert.NormBIdeal.nD Cert.NormBIdeal.τ).loc Cert.NormBIdeal.main_v0_1) = v1 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v37) = v0 c
          ∧ r.2.mem ((c.tc : Thread Cert.NormBRefIdeal.nD Cert.NormBRefIdeal.τ).loc Cert.NormBRefIdeal.main_v39) = v1 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3))

def preserves_ActB_ActBIdeal : Prop :=
  True

def algebraic_ActBIdeal_ActBRefIdeal_pre_finite [hActBIdeal : Cert.ActBIdeal.Facts] [hActBRefIdeal : Cert.ActBRefIdeal.Facts] [hPre_finite : Cert.Pre_finite.Facts] : Prop :=
  ∀ (m : (ℓ : Loc Cert.ActBIdeal.nD Cert.ActBIdeal.τ Cert.ActBIdeal.sig) → Buf (Elt Ideal) ℓ) (g : Dev Cert.ActBIdeal.nD → PrngReg)
    (m' : (ℓ : Loc Cert.ActBRefIdeal.nD Cert.ActBRefIdeal.τ Cert.ActBRefIdeal.sig) → Buf (Elt Ideal) ℓ) (g' : Dev Cert.ActBRefIdeal.nD → PrngReg), Pre_ActBIdeal_finite m →
    (∀ c : Dev Cert.ActBIdeal.nD,
      m' ((c.tc : Thread Cert.ActBRefIdeal.nD Cert.ActBRefIdeal.τ).loc Cert.ActBRefIdeal.main_arg0) = m ((c.tc : Thread Cert.ActBIdeal.nD Cert.ActBIdeal.τ).loc Cert.ActBIdeal.main_arg0)
      ∧ m' ((c.tc : Thread Cert.ActBRefIdeal.nD Cert.ActBRefIdeal.τ).loc Cert.ActBRefIdeal.main_arg1) = m ((c.tc : Thread Cert.ActBIdeal.nD Cert.ActBIdeal.τ).loc Cert.ActBIdeal.main_arg1)) →
    ∃ (v0 : (c : Dev Cert.ActBIdeal.nD) → Buf (Elt Ideal) ((c.tc : Thread Cert.ActBIdeal.nD Cert.ActBIdeal.τ).loc Cert.ActBIdeal.main_v0)),
      θ_run (Cert.ActBIdeal.defs (F := Ideal)) (onTc (τ := Cert.ActBIdeal.τ) (Cert.ActBIdeal.main (F := Ideal))) ⟨m, fun _ => 0, g⟩ (fun r => ∀ c : Dev Cert.ActBIdeal.nD,
          r.2.mem ((c.tc : Thread Cert.ActBIdeal.nD Cert.ActBIdeal.τ).loc Cert.ActBIdeal.main_v0) = v0 c
          ∧ r.2.mem ((c.tc : Thread Cert.ActBIdeal.nD Cert.ActBIdeal.τ).loc Cert.ActBIdeal.main_arg0) = m ((c.tc : Thread Cert.ActBIdeal.nD Cert.ActBIdeal.τ).loc Cert.ActBIdeal.main_arg0)
          ∧ r.2.mem ((c.tc : Thread Cert.ActBIdeal.nD Cert.ActBIdeal.τ).loc Cert.ActBIdeal.main_arg1) = m ((c.tc : Thread Cert.ActBIdeal.nD Cert.ActBIdeal.τ).loc Cert.ActBIdeal.main_arg1))
      ∧ θ_run (Cert.ActBRefIdeal.defs (F := Ideal)) (onTc (τ := Cert.ActBRefIdeal.τ) (Cert.ActBRefIdeal.main (F := Ideal))) ⟨m', fun _ => 0, g'⟩ (fun r => ∀ c : Dev Cert.ActBRefIdeal.nD,
          r.2.mem ((c.tc : Thread Cert.ActBRefIdeal.nD Cert.ActBRefIdeal.τ).loc Cert.ActBRefIdeal.main_v10) = v0 c
          ∧ r.2.mem ((c.tc : Thread Cert.ActBRefIdeal.nD Cert.ActBRefIdeal.τ).loc Cert.ActBRefIdeal.main_arg0) = m' ((c.tc : Thread Cert.ActBRefIdeal.nD Cert.ActBRefIdeal.τ).loc Cert.ActBRefIdeal.main_arg0)
          ∧ r.2.mem ((c.tc : Thread Cert.ActBRefIdeal.nD Cert.ActBRefIdeal.τ).loc Cert.ActBRefIdeal.main_arg1) = m' ((c.tc : Thread Cert.ActBRefIdeal.nD Cert.ActBRefIdeal.τ).loc Cert.ActBRefIdeal.main_arg1))

def Claim : Prop :=
  ∃ (hGlaF : Cert.GlaF.Facts) (hGlaFIdeal : Cert.GlaFIdeal.Facts) (hGlaFRefIdeal : Cert.GlaFRefIdeal.Facts) (hGlaB : Cert.GlaB.Facts) (hGlaBIdeal : Cert.GlaBIdeal.Facts) (hGlaBRefIdeal : Cert.GlaBRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hOutDw : Cert.OutDw.Facts) (hOutDwIdeal : Cert.OutDwIdeal.Facts) (hOutDwRefIdeal : Cert.OutDwRefIdeal.Facts) (hAOutDx : Cert.AOutDx.Facts) (hAOutDxIdeal : Cert.AOutDxIdeal.Facts) (hAOutDxRefIdeal : Cert.AOutDxRefIdeal.Facts) (hBOutDx : Cert.BOutDx.Facts) (hBOutDxIdeal : Cert.BOutDxIdeal.Facts) (hBOutDxRefIdeal : Cert.BOutDxRefIdeal.Facts) (hAInDw : Cert.AInDw.Facts) (hAInDwIdeal : Cert.AInDwIdeal.Facts) (hAInDwRefIdeal : Cert.AInDwRefIdeal.Facts) (hAInDx : Cert.AInDx.Facts) (hAInDxIdeal : Cert.AInDxIdeal.Facts) (hAInDxRefIdeal : Cert.AInDxRefIdeal.Facts) (hBInDw : Cert.BInDw.Facts) (hBInDwIdeal : Cert.BInDwIdeal.Facts) (hBInDwRefIdeal : Cert.BInDwRefIdeal.Facts) (hBInDx : Cert.BInDx.Facts) (hBInDxIdeal : Cert.BInDxIdeal.Facts) (hBInDxRefIdeal : Cert.BInDxRefIdeal.Facts) (hAIn : Cert.AIn.Facts) (hAInIdeal : Cert.AInIdeal.Facts) (hAInRefIdeal : Cert.AInRefIdeal.Facts) (hOut : Cert.Out.Facts) (hOutIdeal : Cert.OutIdeal.Facts) (hOutRefIdeal : Cert.OutRefIdeal.Facts) (hBIn : Cert.BIn.Facts) (hBInIdeal : Cert.BInIdeal.Facts) (hBInRefIdeal : Cert.BInRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hAct : Cert.Act.Facts) (hActIdeal : Cert.ActIdeal.Facts) (hActRefIdeal : Cert.ActRefIdeal.Facts) (hNorm : Cert.Norm.Facts) (hNormIdeal : Cert.NormIdeal.Facts) (hNormRefIdeal : Cert.NormRefIdeal.Facts) (hNormB : Cert.NormB.Facts) (hNormBIdeal : Cert.NormBIdeal.Facts) (hNormBRefIdeal : Cert.NormBRefIdeal.Facts) (hActB : Cert.ActB.Facts) (hActBIdeal : Cert.ActBIdeal.Facts) (hActBRefIdeal : Cert.ActBRefIdeal.Facts) (hPre_finite : Cert.Pre_finite.Facts),
    quiescent_GlaF (hGlaF := hGlaF)
    ∧ quiescent_GlaFIdeal (hGlaFIdeal := hGlaFIdeal)
    ∧ quiescent_GlaFRefIdeal (hGlaFRefIdeal := hGlaFRefIdeal)
    ∧ quiescent_GlaB (hGlaB := hGlaB)
    ∧ quiescent_GlaBIdeal (hGlaBIdeal := hGlaBIdeal)
    ∧ quiescent_GlaBRefIdeal (hGlaBRefIdeal := hGlaBRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_AOutDx (hAOutDx := hAOutDx)
    ∧ quiescent_AOutDxIdeal (hAOutDxIdeal := hAOutDxIdeal)
    ∧ quiescent_AOutDxRefIdeal (hAOutDxRefIdeal := hAOutDxRefIdeal)
    ∧ quiescent_BOutDx (hBOutDx := hBOutDx)
    ∧ quiescent_BOutDxIdeal (hBOutDxIdeal := hBOutDxIdeal)
    ∧ quiescent_BOutDxRefIdeal (hBOutDxRefIdeal := hBOutDxRefIdeal)
    ∧ quiescent_AInDw (hAInDw := hAInDw)
    ∧ quiescent_AInDwIdeal (hAInDwIdeal := hAInDwIdeal)
    ∧ quiescent_AInDwRefIdeal (hAInDwRefIdeal := hAInDwRefIdeal)
    ∧ quiescent_AInDx (hAInDx := hAInDx)
    ∧ quiescent_AInDxIdeal (hAInDxIdeal := hAInDxIdeal)
    ∧ quiescent_AInDxRefIdeal (hAInDxRefIdeal := hAInDxRefIdeal)
    ∧ quiescent_BInDw (hBInDw := hBInDw)
    ∧ quiescent_BInDwIdeal (hBInDwIdeal := hBInDwIdeal)
    ∧ quiescent_BInDwRefIdeal (hBInDwRefIdeal := hBInDwRefIdeal)
    ∧ quiescent_BInDx (hBInDx := hBInDx)
    ∧ quiescent_BInDxIdeal (hBInDxIdeal := hBInDxIdeal)
    ∧ quiescent_BInDxRefIdeal (hBInDxRefIdeal := hBInDxRefIdeal)
    ∧ quiescent_AIn (hAIn := hAIn)
    ∧ quiescent_AInIdeal (hAInIdeal := hAInIdeal)
    ∧ quiescent_AInRefIdeal (hAInRefIdeal := hAInRefIdeal)
    ∧ quiescent_Out (hOut := hOut)
    ∧ quiescent_OutIdeal (hOutIdeal := hOutIdeal)
    ∧ quiescent_OutRefIdeal (hOutRefIdeal := hOutRefIdeal)
    ∧ quiescent_BIn (hBIn := hBIn)
    ∧ quiescent_BInIdeal (hBInIdeal := hBInIdeal)
    ∧ quiescent_BInRefIdeal (hBInRefIdeal := hBInRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Act (hAct := hAct)
    ∧ quiescent_ActIdeal (hActIdeal := hActIdeal)
    ∧ quiescent_ActRefIdeal (hActRefIdeal := hActRefIdeal)
    ∧ quiescent_Norm (hNorm := hNorm)
    ∧ quiescent_NormIdeal (hNormIdeal := hNormIdeal)
    ∧ quiescent_NormRefIdeal (hNormRefIdeal := hNormRefIdeal)
    ∧ quiescent_NormB (hNormB := hNormB)
    ∧ quiescent_NormBIdeal (hNormBIdeal := hNormBIdeal)
    ∧ quiescent_NormBRefIdeal (hNormBRefIdeal := hNormBRefIdeal)
    ∧ quiescent_ActB (hActB := hActB)
    ∧ quiescent_ActBIdeal (hActBIdeal := hActBIdeal)
    ∧ quiescent_ActBIdeal_pre_finite (hActBIdeal := hActBIdeal) (hPre_finite := hPre_finite)
    ∧ quiescent_ActBRefIdeal (hActBRefIdeal := hActBRefIdeal)
    ∧ quiescent_ActBRefIdeal_pre_finite (hActBRefIdeal := hActBRefIdeal) (hPre_finite := hPre_finite)
    ∧ preserves_GlaF_GlaFIdeal
    ∧ algebraic_GlaFIdeal_GlaFRefIdeal (hGlaFIdeal := hGlaFIdeal) (hGlaFRefIdeal := hGlaFRefIdeal)
    ∧ preserves_GlaB_GlaBIdeal
    ∧ algebraic_GlaBIdeal_GlaBRefIdeal (hGlaBIdeal := hGlaBIdeal) (hGlaBRefIdeal := hGlaBRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_OutDw_OutDwIdeal
    ∧ algebraic_OutDwIdeal_OutDwRefIdeal (hOutDwIdeal := hOutDwIdeal) (hOutDwRefIdeal := hOutDwRefIdeal)
    ∧ preserves_AOutDx_AOutDxIdeal
    ∧ algebraic_AOutDxIdeal_AOutDxRefIdeal (hAOutDxIdeal := hAOutDxIdeal) (hAOutDxRefIdeal := hAOutDxRefIdeal)
    ∧ preserves_BOutDx_BOutDxIdeal
    ∧ algebraic_BOutDxIdeal_BOutDxRefIdeal (hBOutDxIdeal := hBOutDxIdeal) (hBOutDxRefIdeal := hBOutDxRefIdeal)
    ∧ preserves_AInDw_AInDwIdeal
    ∧ algebraic_AInDwIdeal_AInDwRefIdeal (hAInDwIdeal := hAInDwIdeal) (hAInDwRefIdeal := hAInDwRefIdeal)
    ∧ preserves_AInDx_AInDxIdeal
    ∧ algebraic_AInDxIdeal_AInDxRefIdeal (hAInDxIdeal := hAInDxIdeal) (hAInDxRefIdeal := hAInDxRefIdeal)
    ∧ preserves_BInDw_BInDwIdeal
    ∧ algebraic_BInDwIdeal_BInDwRefIdeal (hBInDwIdeal := hBInDwIdeal) (hBInDwRefIdeal := hBInDwRefIdeal)
    ∧ preserves_BInDx_BInDxIdeal
    ∧ algebraic_BInDxIdeal_BInDxRefIdeal (hBInDxIdeal := hBInDxIdeal) (hBInDxRefIdeal := hBInDxRefIdeal)
    ∧ preserves_AIn_AInIdeal
    ∧ algebraic_AInIdeal_AInRefIdeal (hAInIdeal := hAInIdeal) (hAInRefIdeal := hAInRefIdeal)
    ∧ preserves_Out_OutIdeal
    ∧ algebraic_OutIdeal_OutRefIdeal (hOutIdeal := hOutIdeal) (hOutRefIdeal := hOutRefIdeal)
    ∧ preserves_BIn_BInIdeal
    ∧ algebraic_BInIdeal_BInRefIdeal (hBInIdeal := hBInIdeal) (hBInRefIdeal := hBInRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Act_ActIdeal
    ∧ algebraic_ActIdeal_ActRefIdeal (hActIdeal := hActIdeal) (hActRefIdeal := hActRefIdeal)
    ∧ preserves_Norm_NormIdeal
    ∧ algebraic_NormIdeal_NormRefIdeal (hNormIdeal := hNormIdeal) (hNormRefIdeal := hNormRefIdeal)
    ∧ preserves_NormB_NormBIdeal
    ∧ algebraic_NormBIdeal_NormBRefIdeal (hNormBIdeal := hNormBIdeal) (hNormBRefIdeal := hNormBRefIdeal)
    ∧ preserves_ActB_ActBIdeal
    ∧ algebraic_ActBIdeal_ActBRefIdeal_pre_finite (hActBIdeal := hActBIdeal) (hActBRefIdeal := hActBRefIdeal) (hPre_finite := hPre_finite)
-- ==== Pre_finite.lean ====
abbrev S16384x5632 : Shape := ⟨2, ![16384, 5632]⟩
abbrev S16384x2816 : Shape := ⟨2, ![16384, 2816]⟩
abbrev S_ : Shape := ⟨0, ![]⟩

class Facts : Prop where
  bitsLt_bf16_f32 : FTy.bits .bf16 < FTy.bits .f32
  bcast_S_S16384x5632 : S_.BroadcastsInDim S16384x5632 (![] : Fin 0 → Fin S16384x5632.rank)
  bcast_S_S16384x2816 : S_.BroadcastsInDim S16384x2816 (![] : Fin 0 → Fin S16384x2816.rank)

variable [Facts]

def fn {F : FTy → Type} [FloatOps F] (main_arg0 : FVec F S16384x5632 .bf16) (main_arg1 : FVec F S16384x2816 .bf16) : IVec S16384x5632 1 × IVec S16384x2816 1 :=
  let main_v0 : FVec F S16384x5632 .f32 := (extf .f32 · bitsLt_bf16_f32) main_arg0
  let main_v1 : FVec F S16384x5632 .f32 := Host.absf main_v0
  let main_cst : FVec F S_ .f32 := constant S_ .f32 0x7F800000#32
  let main_v2 : FVec F S16384x5632 .f32 := broadcastInDim S16384x5632 ![] bcast_S_S16384x5632 main_cst
  let main_v3 : IVec S16384x5632 1 := cmpf .olt main_v1 main_v2
  let main_v4 : FVec F S16384x2816 .f32 := (extf .f32 · bitsLt_bf16_f32) main_arg1
  let main_v5 : FVec F S16384x2816 .f32 := Host.absf main_v4
  let main_cst_0 : FVec F S_ .f32 := constant S_ .f32 0x7F800000#32
  let main_v6 : FVec F S16384x2816 .f32 := broadcastInDim S16384x2816 ![] bcast_S_S16384x2816 main_cst_0
  let main_v7 : IVec S16384x2816 1 := cmpf .olt main_v5 main_v6
  (main_v3, main_v7)
-- ==== GlaF.lean ====
abbrev S16384x3200 : Shape := ⟨2, ![16384, 3200]⟩
abbrev S16384x1024 : Shape := ⟨2, ![16384, 1024]⟩
abbrev S64x64 : Shape := ⟨2, ![64, 64]⟩
abbrev S4x256x256x128 : Shape := ⟨4, ![4, 256, 256, 128]⟩
abbrev S512x1024 : Shape := ⟨2, ![512, 1024]⟩
abbrev S512x512 : Shape := ⟨2, ![512, 512]⟩
abbrev S4x8x256x128 : Shape := ⟨4, ![4, 8, 256, 128]⟩
abbrev S4x256x128 : Shape := ⟨3, ![4, 256, 128]⟩
abbrev S64x512 : Shape := ⟨2, ![64, 512]⟩
abbrev S1x512 : Shape := ⟨2, ![1, 512]⟩
abbrev S64x256 : Shape := ⟨2, ![64, 256]⟩
abbrev S1x256x128 : Shape := ⟨3, ![1, 256, 128]⟩
abbrev S256x128 : Shape := ⟨2, ![256, 128]⟩
abbrev S1x1x256x128 : Shape := ⟨4, ![1, 1, 256, 128]⟩
abbrev S64x128 : Shape := ⟨2, ![64, 128]⟩
abbrev S1x128 : Shape := ⟨2, ![1, 128]⟩

abbrev nBuf : Space → Nat
  | .hbm => 5
  | .vmem => 12
  | .smem => 0
  | _ => 0

abbrev bufTy : (tb : Table) → Fin (tcTables nBuf tb) → BufTy
  | .hbm, ⟨0, _⟩ => ⟨S16384x3200, .f32⟩
  | .hbm, ⟨1, _⟩ => ⟨S16384x1024, .f32⟩
  | .hbm, ⟨2, _⟩ => ⟨S64x64, .f32⟩
  | .hbm, ⟨3, _⟩ => ⟨S16384x1024, .f32⟩
  | .hbm, ⟨4, _⟩ => ⟨S4x256x256x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S64x64, .f32⟩
  | .local _ .vmem, ⟨7, _⟩ => ⟨S512x1024, .f32⟩
  | .local _ .vmem, ⟨8, _⟩ => ⟨S512x1024, .f32⟩
  | .local _ .vmem, ⟨9, _⟩ => ⟨S4x8x256x128, .f32⟩
  | .local _ .vmem, ⟨10, _⟩ => ⟨S4x8x256x128, .f32⟩
  | .local _ .vmem, ⟨11, _⟩ => ⟨S4x256x128, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GlaFRefIdeal.lean ====
abbrev S16384x3200 : Shape := ⟨2, ![16384, 3200]⟩
abbrev S16384x1024 : Shape := ⟨2, ![16384, 1024]⟩
abbrev S_ : Shape := ⟨0, ![]⟩
abbrev S4x128x256 : Shape := ⟨3, ![4, 128, 256]⟩
abbrev S16384x512 : Shape := ⟨2, ![16384, 512]⟩
abbrev S256x64x4x128 : Shape := ⟨4, ![256, 64, 4, 128]⟩
abbrev S256x4x64x128 : Shape := ⟨4, ![256, 4, 64, 128]⟩
abbrev S256x64x4x256 : Shape := ⟨4, ![256, 64, 4, 256]⟩
abbrev S256x4x64x256 : Shape := ⟨4, ![256, 4, 64, 256]⟩
abbrev S256x4x128x256 : Shape := ⟨4, ![256, 4, 128, 256]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S4x1x128 : Shape := ⟨3, ![4, 1, 128]⟩
abbrev S64x64 : Shape := ⟨2, ![64, 64]⟩
abbrev S4x64x64 : Shape := ⟨3, ![4, 64, 64]⟩
abbrev S4x128 : Shape := ⟨2, ![4, 128]⟩
abbrev S4x128x1 : Shape := ⟨3, ![4, 128, 1]⟩
abbrev S1x4x128x256 : Shape := ⟨4, ![1, 4, 128, 256]⟩
abbrev S4x256x256x128 : Shape := ⟨4, ![4, 256, 256, 128]⟩

abbrev nBuf : Space → Nat
  | .hbm => 109
  | .vmem => 0
  | .smem => 0
  | _ => 0

abbrev bufTy : (tb : Table) → Fin (tcTables nBuf tb) → BufTy
  | .hbm, ⟨0, _⟩ => ⟨S16384x3200, .f32⟩
  | .hbm, ⟨1, _⟩ => ⟨S16384x1024, .f32⟩
  | .hbm, ⟨2, _⟩ => ⟨S_, .f32⟩
  | .hbm, ⟨3, _⟩ => ⟨S4x128x256, .f32⟩
  | .hbm, ⟨4, _⟩ => ⟨S16384x512, .f32⟩
  | .hbm, ⟨5, _⟩ => ⟨S256x64x4x128, .f32⟩
  | .hbm, ⟨6, _⟩ => ⟨S256x4x64x128, .f32⟩
  | .hbm, ⟨7, _⟩ => ⟨S16384x512, .f32⟩
  | .hbm, ⟨8, _⟩ => ⟨S256x64x4x128, .f32⟩
  | .hbm, ⟨9, _⟩ => ⟨S256x4x64x128, .f32⟩
  | .hbm, ⟨10, _⟩ => ⟨S16384x1024, .f32⟩
  | .hbm, ⟨11, _⟩ => ⟨S256x64x4x256, .f32⟩
  | .hbm, ⟨12, _⟩ => ⟨S256x4x64x256, .f32⟩
  | .hbm, ⟨13, _⟩ => ⟨S16384x512, .f32⟩
  | .hbm, ⟨14, _⟩ => ⟨S256x64x4x128, .f32⟩
  | .hbm, ⟨15, _⟩ => ⟨S256x4x64x128, .f32⟩
  | .hbm, ⟨16, _⟩ => ⟨S_, .f32⟩
  | .hbm, ⟨17, _⟩ => ⟨S256x4x64x256, .f32⟩
  | .hbm, ⟨18, _⟩ => ⟨S_, .f32⟩
  | .hbm, ⟨19, _⟩ => ⟨S256x4x128x256, .f32⟩
  | .hbm, ⟨20, _⟩ => ⟨S_, .i32⟩
  | .hbm, ⟨21, _⟩ => ⟨S256x4x64x128, .f32⟩
  | .hbm, ⟨22, _⟩ => ⟨S256x4x64x128, .f32⟩
  | .hbm, ⟨23, _⟩ => ⟨S256x4x64x256, .f32⟩
  | .hbm, ⟨24, _⟩ => ⟨S256x4x64x128, .f32⟩
  | .hbm, ⟨25, _⟩ => ⟨S_, .i32⟩
  | .hbm, ⟨26, _⟩ => ⟨S4x128x256, .f32⟩
  | .hbm, ⟨27, _⟩ => ⟨S256x4x64x256, .f32⟩
  | .hbm, ⟨28, _⟩ => ⟨S256x4x128x256, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x4x64x128, .f32⟩
  | .hbm, ⟨35, _⟩ => ⟨S4x64x128, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x4x64x128, .f32⟩
  | .hbm, ⟨40, _⟩ => ⟨S4x64x128, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x4x64x256, .f32⟩
  | .hbm, ⟨45, _⟩ => ⟨S4x64x256, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4x64x128, .f32⟩
  | .hbm, ⟨50, _⟩ => ⟨S4x64x128, .f32⟩
  | .hbm, ⟨51, _⟩ => ⟨S_, .f32⟩
  | .hbm, ⟨52, _⟩ => ⟨S4x64x128, .f32⟩
  | .hbm, ⟨53, _⟩ => ⟨S4x64x128, .f32⟩
  | .hbm, ⟨54, _⟩ => ⟨S_, .f32⟩
  | .hbm, ⟨55, _⟩ => ⟨S_, .f32⟩
  | .hbm, ⟨56, _⟩ => ⟨S4x64x128, .f32⟩
  | .hbm, ⟨57, _⟩ => ⟨S4x1x128, .f32⟩
  | .hbm, ⟨58, _⟩ => ⟨S4x64x128, .f32⟩
  | .hbm, ⟨59, _⟩ => ⟨S4x64x128, .f32⟩
  | .hbm, ⟨60, _⟩ => ⟨S4x64x128, .f32⟩
  | .hbm, ⟨61, _⟩ => ⟨S4x64x128, .f32⟩
  | .hbm, ⟨62, _⟩ => ⟨S4x64x128, .f32⟩
  | .hbm, ⟨63, _⟩ => ⟨S4x64x128, .f32⟩
  | .hbm, ⟨64, _⟩ => ⟨S4x64x128, .f32⟩
  | .hbm, ⟨65, _⟩ => ⟨S4x64x128, .f32⟩
  | .hbm, ⟨66, _⟩ => ⟨S4x64x128, .f32⟩
  | .hbm, ⟨67, _⟩ => ⟨S_, .i1⟩
  | .hbm, ⟨68, _⟩ => ⟨S64x64, .i1⟩
  | .hbm, ⟨69, _⟩ => ⟨S64x64, .i32⟩
  | .hbm, ⟨70, _⟩ => ⟨S_, .i32⟩
  | .hbm, ⟨71, _⟩ => ⟨S64x64, .i32⟩
  | .hbm, ⟨72, _⟩ => ⟨S64x64, .i32⟩
  | .hbm, ⟨73, _⟩ => ⟨S64x64, .i32⟩
  | .hbm, ⟨74, _⟩ => ⟨S64x64, .i1⟩
  | .hbm, ⟨75, _⟩ => ⟨S_, .i1⟩
  | .hbm, ⟨76, _⟩ => ⟨S64x64, .i1⟩
  | .hbm, ⟨77, _⟩ => ⟨S64x64, .i1⟩
  | .hbm, ⟨78, _⟩ => ⟨S4x64x64, .f32⟩
  | .hbm, ⟨79, _⟩ => ⟨S_, .f32⟩
  | .hbm, ⟨80, _⟩ => ⟨S_, .f32⟩
  | .hbm, ⟨81, _⟩ => ⟨S4x64x64, .i1⟩
  | .hbm, ⟨82, _⟩ => ⟨S4x64x64, .f32⟩
  | .hbm, ⟨83, _⟩ => ⟨S4x64x64, .f32⟩
  | .hbm, ⟨84, _⟩ => ⟨S4x64x256, .f32⟩
  | .hbm, ⟨85, _⟩ => ⟨S4x128x256, .f32⟩
  | .hbm, ⟨86, _⟩ => ⟨S4x128, .f32⟩
  | .hbm, ⟨87, _⟩ => ⟨S4x128, .f32⟩
  | .hbm, ⟨88, _⟩ => ⟨S4x64x256, .f32⟩
  | .hbm, ⟨89, _⟩ => ⟨S4x128x1, .f32⟩
  | .hbm, ⟨90, _⟩ => ⟨S4x128x256, .f32⟩
  | .hbm, ⟨91, _⟩ => ⟨S4x128x256, .f32⟩
  | .hbm, ⟨92, _⟩ => ⟨S4x128x256, .f32⟩
  | .hbm, ⟨93, _⟩ => ⟨S4x64x256, .f32⟩
  | .hbm, ⟨94, _⟩ => ⟨S1x4x64x256, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S256x4x64x256, .f32⟩
  | .hbm, ⟨99, _⟩ => ⟨S1x4x128x256, .f32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S256x4x128x256, .f32⟩
  | .hbm, ⟨104, _⟩ => ⟨S_, .i32⟩
  | .hbm, ⟨105, _⟩ => ⟨S_, .i32⟩
  | .hbm, ⟨106, _⟩ => ⟨S256x64x4x256, .f32⟩
  | .hbm, ⟨107, _⟩ => ⟨S16384x1024, .f32⟩
  | .hbm, ⟨108, _⟩ => ⟨S4x256x256x128, .f32⟩
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_c : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_v15_4 : Ref sig .tc := ⟨.hbm, 25, rfl⟩
abbrev main_v15_5 : Ref sig .tc := ⟨.hbm, 26, rfl⟩
abbrev main_v15_6 : Ref sig .tc := ⟨.hbm, 27, rfl⟩
abbrev main_v15_7 : Ref sig .tc := ⟨.hbm, 28, rfl⟩
abbrev main_while0c_c_9 : Ref sig .tc := ⟨.hbm, 29, rfl⟩
abbrev main_while0c_v19 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_v0 : Ref sig .tc := ⟨.hbm, 34, rfl⟩
abbrev main_while0b_v19 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_c_1 : Ref sig .tc := ⟨.hbm, 38, rfl⟩
abbrev main_while0b_call1_v0 : Ref sig .tc := ⟨.hbm, 39, rfl⟩
abbrev main_while0b_v20 : Ref sig .tc := ⟨.hbm, 40, rfl⟩
abbrev main_while0b_call2_c : Ref sig .tc := ⟨.hbm, 41, rfl⟩
abbrev main_while0b_call2_c_0 : Ref sig .tc := ⟨.hbm, 42, rfl⟩
abbrev main_while0b_call2_c_1 : Ref sig .tc := ⟨.hbm, 43, rfl⟩
abbrev main_while0b_call2_v0 : Ref sig .tc := ⟨.hbm, 44, rfl⟩
abbrev main_while0b_v21 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_call3_c_1 : Ref sig .tc := ⟨.hbm, 48, rfl⟩
abbrev main_while0b_call3_v0 : Ref sig .tc := ⟨.hbm, 49, rfl⟩
abbrev main_while0b_v22 : Ref sig .tc := ⟨.hbm, 50, rfl⟩
abbrev main_while0b_cst_9 : Ref sig .tc := ⟨.hbm, 51, rfl⟩
abbrev main_while0b_v23 : Ref sig .tc := ⟨.hbm, 52, rfl⟩
abbrev main_while0b_v24 : Ref sig .tc := ⟨.hbm, 53, rfl⟩
abbrev main_while0b_call4_call0_cst : Ref sig .tc := ⟨.hbm, 54, rfl⟩
abbrev main_while0b_call4_call0_v0 : Ref sig .tc := ⟨.hbm, 55, rfl⟩
abbrev main_while0b_v25 : Ref sig .tc := ⟨.hbm, 56, rfl⟩
abbrev main_while0b_v26 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_v32 : Ref sig .tc := ⟨.hbm, 63, rfl⟩
abbrev main_while0b_v33 : Ref sig .tc := ⟨.hbm, 64, rfl⟩
abbrev main_while0b_v34 : Ref sig .tc := ⟨.hbm, 65, rfl⟩
abbrev main_while0b_v35 : Ref sig .tc := ⟨.hbm, 66, rfl⟩
abbrev main_while0b_c_10 : Ref sig .tc := ⟨.hbm, 67, rfl⟩
abbrev main_while0b_v36 : Ref sig .tc := ⟨.hbm, 68, rfl⟩
abbrev main_while0b_call5_v0 : Ref sig .tc := ⟨.hbm, 69, rfl⟩
abbrev main_while0b_call5_c : Ref sig .tc := ⟨.hbm, 70, rfl⟩
abbrev main_while0b_call5_v1 : Ref sig .tc := ⟨.hbm, 71, rfl⟩
abbrev main_while0b_call5_v2 : Ref sig .tc := ⟨.hbm, 72, rfl⟩
abbrev main_while0b_call5_v3 : Ref sig .tc := ⟨.hbm, 73, rfl⟩
abbrev main_while0b_call5_v4 : Ref sig .tc := ⟨.hbm, 74, rfl⟩
abbrev main_while0b_call5_c_0 : Ref sig .tc := ⟨.hbm, 75, rfl⟩
abbrev main_while0b_call5_v5 : Ref sig .tc := ⟨.hbm, 76, rfl⟩
abbrev main_while0b_v37 : Ref sig .tc := ⟨.hbm, 77, rfl⟩
abbrev main_while0b_v38 : Ref sig .tc := ⟨.hbm, 78, rfl⟩
abbrev main_while0b_cst_11 : Ref sig .tc := ⟨.hbm, 79, rfl⟩
abbrev main_while0b_call6_v0 : Ref sig .tc := ⟨.hbm, 80, rfl⟩
abbrev main_while0b_call6_v1 : Ref sig .tc := ⟨.hbm, 81, rfl⟩
abbrev main_while0b_call6_v2 : Ref sig .tc := ⟨.hbm, 82, rfl⟩
abbrev main_while0b_v39 : Ref sig .tc := ⟨.hbm, 83, rfl⟩
abbrev main_while0b_v40 : Ref sig .tc := ⟨.hbm, 84, rfl⟩
abbrev main_while0b_v41 : Ref sig .tc := ⟨.hbm, 85, rfl⟩
abbrev main_while0b_v42 : Ref sig .tc := ⟨.hbm, 86, rfl⟩
abbrev main_while0b_v43 : Ref sig .tc := ⟨.hbm, 87, rfl⟩
abbrev main_while0b_v44 : Ref sig .tc := ⟨.hbm, 88, rfl⟩
abbrev main_while0b_v45 : Ref sig .tc := ⟨.hbm, 89, rfl⟩
abbrev main_while0b_v46 : Ref sig .tc := ⟨.hbm, 90, rfl⟩
abbrev main_while0b_v47 : Ref sig .tc := ⟨.hbm, 91, rfl⟩
abbrev main_while0b_v48 : Ref sig .tc := ⟨.hbm, 92, rfl⟩
abbrev main_while0b_v49 : Ref sig .tc := ⟨.hbm, 93, rfl⟩
abbrev main_while0b_call7_v0 : Ref sig .tc := ⟨.hbm, 94, rfl⟩
abbrev main_while0b_call7_c : Ref sig .tc := ⟨.hbm, 95, rfl⟩
abbrev main_while0b_call7_c_0 : Ref sig .tc := ⟨.hbm, 96, rfl⟩
abbrev main_while0b_call7_c_1 : Ref sig .tc := ⟨.hbm, 97, rfl⟩
abbrev main_while0b_v50 : Ref sig .tc := ⟨.hbm, 98, rfl⟩
abbrev main_while0b_call8_v0 : Ref sig .tc := ⟨.hbm, 99, rfl⟩
abbrev main_while0b_call8_c : Ref sig .tc := ⟨.hbm, 100, rfl⟩
abbrev main_while0b_call8_c_0 : Ref sig .tc := ⟨.hbm, 101, rfl⟩
abbrev main_while0b_call8_c_1 : Ref sig .tc := ⟨.hbm, 102, rfl⟩
abbrev main_while0b_v51 : Ref sig .tc := ⟨.hbm, 103, rfl⟩
abbrev main_while0b_c_12 : Ref sig .tc := ⟨.hbm, 104, rfl⟩
abbrev main_while0b_v52 : Ref sig .tc := ⟨.hbm, 105, rfl⟩
abbrev main_v16 : Ref sig .tc := ⟨.hbm, 106, rfl⟩
abbrev main_v17 : Ref sig .tc := ⟨.hbm, 107, rfl⟩
abbrev main_v18 : Ref sig .tc := ⟨.hbm, 108, rfl⟩

abbrev nD : Nat := 1
abbrev τ : Topo := Topo.v7x

variable {F : FTy → Type} [FloatOps F]

abbrev main_while0_count : Scf.Loop 32 := ⟨0#32, 256#32, 1#32⟩
-- ==== GlaB.lean ====
abbrev S16384x3200 : Shape := ⟨2, ![16384, 3200]⟩
abbrev S16384x1024 : Shape := ⟨2, ![16384, 1024]⟩
abbrev S4x256x256x128 : Shape := ⟨4, ![4, 256, 256, 128]⟩
abbrev S64x64 : Shape := ⟨2, ![64, 64]⟩
abbrev S16384x512 : Shape := ⟨2, ![16384, 512]⟩
abbrev S256x1024 : Shape := ⟨2, ![256, 1024]⟩
abbrev S256x512 : Shape := ⟨2, ![256, 512]⟩
abbrev S4x4x256x128 : Shape := ⟨4, ![4, 4, 256, 128]⟩
abbrev S4x256x128 : Shape := ⟨3, ![4, 256, 128]⟩
abbrev S64x512 : Shape := ⟨2, ![64, 512]⟩
abbrev S1x512 : Shape := ⟨2, ![1, 512]⟩
abbrev S64x256 : Shape := ⟨2, ![64, 256]⟩
abbrev S1x1x256x128 : Shape := ⟨4, ![1, 1, 256, 128]⟩
abbrev S256x128 : Shape := ⟨2, ![256, 128]⟩
abbrev S1x256x128 : Shape := ⟨3, ![1, 256, 128]⟩
abbrev S64x128 : Shape := ⟨2, ![64, 128]⟩
abbrev S128 : Shape := ⟨1, ![128]⟩
abbrev S1x128 : Shape := ⟨2, ![1, 128]⟩
abbrev S512 : Shape := ⟨1, ![512]⟩

abbrev nBuf : Space → Nat
  | .hbm => 10
  | .vmem => 21
  | .smem => 0
  | _ => 0

abbrev bufTy : (tb : Table) → Fin (tcTables nBuf tb) → BufTy
  | .hbm, ⟨0, _⟩ => ⟨S16384x3200, .f32⟩
  | .hbm, ⟨1, _⟩ => ⟨S16384x1024, .f32⟩
  | .hbm, ⟨2, _⟩ => ⟨S4x256x256x128, .f32⟩
  | .hbm, ⟨3, _⟩ => ⟨S16384x1024, .f32⟩
  | .hbm, ⟨4, _⟩ => ⟨S64x64, .f32⟩
  | .hbm, ⟨5, _⟩ => ⟨S64x64, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S4x4x256x128, .f32⟩
  | .local _ .vmem, ⟨7, _⟩ => ⟨S4x4x256x128, .f32⟩
  | .local _ .vmem, ⟨8, _⟩ => ⟨S256x1024, .f32⟩
  | .local _ .vmem, ⟨9, _⟩ => ⟨S256x1024, .f32⟩
  | .local _ .vmem, ⟨10, _⟩ => ⟨S64x64, .f32⟩
  | .local _ .vmem, ⟨11, _⟩ => ⟨S64x64, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | .local _ .vmem, ⟨20, _⟩ => ⟨S4x256x128, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GlaBRefIdeal.lean ====
abbrev S16384x3200 : Shape := ⟨2, ![16384, 3200]⟩
abbrev S16384x1024 : Shape := ⟨2, ![16384, 1024]⟩
abbrev S4x256x256x128 : Shape := ⟨4, ![4, 256, 256, 128]⟩
abbrev S256x4x128x256 : Shape := ⟨4, ![256, 4, 128, 256]⟩
abbrev S256x64x4x256 : Shape := ⟨4, ![256, 64, 4, 256]⟩
abbrev S256x4x64x256 : Shape := ⟨4, ![256, 4, 64, 256]⟩
abbrev S16384x512 : Shape := ⟨2, ![16384, 512]⟩
abbrev S256x64x4x128 : Shape := ⟨4, ![256, 64, 4, 128]⟩
abbrev S256x4x64x128 : Shape := ⟨4, ![256, 4, 64, 128]⟩
abbrev S_ : Shape := ⟨0, ![]⟩
abbrev S4x128x256 : Shape := ⟨3, ![4, 128, 256]⟩
abbrev S1x4x128x256 : Shape := ⟨4, ![1, 4, 128, 256]⟩
abbrev S1x4x64x256 : Shape := ⟨4, ![1, 4, 64, 256]⟩
abbrev S4x64x256 : Shape := ⟨3, ![4, 64, 256]⟩
abbrev S1x4x64x128 : Shape := ⟨4, ![1, 4, 64, 128]⟩
abbrev S4x64x128 : Shape := ⟨3, ![4, 64, 128]⟩
abbrev S4x1x128 : Shape := ⟨3, ![4, 1, 128]⟩
abbrev S64x64 : Shape := ⟨2, ![64, 64]⟩
abbrev S4x64x64 : Shape := ⟨3, ![4, 64, 64]⟩
abbrev S4x128 : Shape := ⟨2, ![4, 128]⟩
abbrev S4x128x1 : Shape := ⟨3, ![4, 128, 1]⟩
abbrev S4x256x128 : Shape := ⟨3, ![4, 256, 128]⟩
abbrev S4x256x64 : Shape := ⟨3, ![4, 256, 64]⟩
abbrev S4x128x64 : Shape := ⟨3, ![4, 128, 64]⟩

abbrev nBuf : Space → Nat
  | .hbm => 208
  | .vmem => 0
  | .smem => 0
  | _ => 0

abbrev hbmTy0_0 (i : Nat) : BufTy := match i % 128 with
  | 0 => ⟨S16384x3200, .f32⟩
  | 1 => ⟨S16384x1024, .f32⟩
  | 2 => ⟨S4x256x256x128, .f32⟩
  | 3 => ⟨S16384x1024, .f32⟩
  | 4 => ⟨S256x4x128x256, .f32⟩
  | 5 => ⟨S256x64x4x256, .f32⟩
  | 6 => ⟨S256x4x64x256, .f32⟩
  | 7 => ⟨S16384x512, .f32⟩
  | 8 => ⟨S256x64x4x128, .f32⟩
  | 9 => ⟨S256x4x64x128, .f32⟩
  | 10 => ⟨S16384x512, .f32⟩
  | 11 => ⟨S256x64x4x128, .f32⟩
  | 12 => ⟨S256x4x64x128, .f32⟩
  | 13 => ⟨S16384x1024, .f32⟩
  | 14 => ⟨S256x64x4x256, .f32⟩
  | 15 => ⟨S256x4x64x256, .f32⟩
  | 16 => ⟨S16384x512, .f32⟩
  | 17 => ⟨S256x64x4x128, .f32⟩
  | 18 => ⟨S256x4x64x128, .f32⟩
  | 19 => ⟨S_, .f32⟩
  | 20 => ⟨S4x128x256, .f32⟩
  | 21 => ⟨S_, .f32⟩
  | 22 => ⟨S256x4x64x128, .f32⟩
  | 23 => ⟨S_, .f32⟩
  | 24 => ⟨S256x4x64x128, .f32⟩
  | 25 => ⟨S_, .f32⟩
  | 26 => ⟨S256x4x64x256, .f32⟩
  | 27 => ⟨S_, .f32⟩
  | 28 => ⟨S256x4x64x128, .f32⟩
  | 29 => ⟨S_, .i32⟩
  | 30 => ⟨S256x4x128x256, .f32⟩
  | 31 => ⟨S256x4x64x256, .f32⟩
  | 32 => ⟨S256x4x64x128, .f32⟩
  | 33 => ⟨S256x4x64x128, .f32⟩
  | 34 => ⟨S256x4x64x256, .f32⟩
  | 35 => ⟨S256x4x64x128, .f32⟩
  | 36 => ⟨S_, .i32⟩
  | 37 => ⟨S4x128x256, .f32⟩
  | 38 => ⟨S256x4x64x128, .f32⟩
  | 39 => ⟨S256x4x64x128, .f32⟩
  | 40 => ⟨S256x4x64x256, .f32⟩
  | 41 => ⟨S256x4x64x128, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S1x4x128x256, .f32⟩
  | 52 => ⟨S4x128x256, .f32⟩
  | 53 => ⟨S_, .i32⟩
  | 54 => ⟨S_, .i32⟩
  | 55 => ⟨S_, .i32⟩
  | 56 => ⟨S1x4x64x256, .f32⟩
  | 57 => ⟨S4x64x256, .f32⟩
  | 58 => ⟨S_, .i32⟩
  | 59 => ⟨S_, .i32⟩
  | 60 => ⟨S_, .i32⟩
  | 61 => ⟨S1x4x64x128, .f32⟩
  | 62 => ⟨S4x64x128, .f32⟩
  | 63 => ⟨S_, .i32⟩
  | 64 => ⟨S_, .i32⟩
  | 65 => ⟨S_, .i32⟩
  | 66 => ⟨S1x4x64x128, .f32⟩
  | 67 => ⟨S4x64x128, .f32⟩
  | 68 => ⟨S_, .i32⟩
  | 69 => ⟨S_, .i32⟩
  | 70 => ⟨S_, .i32⟩
  | 71 => ⟨S1x4x64x256, .f32⟩
  | 72 => ⟨S4x64x256, .f32⟩
  | 73 => ⟨S_, .i32⟩
  | 74 => ⟨S_, .i32⟩
  | 75 => ⟨S_, .i32⟩
  | 76 => ⟨S1x4x64x128, .f32⟩
  | 77 => ⟨S4x64x128, .f32⟩
  | 78 => ⟨S_, .f32⟩
  | 79 => ⟨S4x64x128, .f32⟩
  | 80 => ⟨S4x64x128, .f32⟩
  | 81 => ⟨S_, .f32⟩
  | 82 => ⟨S_, .f32⟩
  | 83 => ⟨S4x64x128, .f32⟩
  | 84 => ⟨S4x1x128, .f32⟩
  | 85 => ⟨S4x64x128, .f32⟩
  | 86 => ⟨S4x64x128, .f32⟩
  | 87 => ⟨S4x64x128, .f32⟩
  | 88 => ⟨S4x64x128, .f32⟩
  | 89 => ⟨S4x64x128, .f32⟩
  | 90 => ⟨S4x64x128, .f32⟩
  | 91 => ⟨S4x64x128, .f32⟩
  | 92 => ⟨S4x64x128, .f32⟩
  | 93 => ⟨S4x64x128, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S4x64x64, .f32⟩
  | 106 => ⟨S_, .f32⟩
  | 107 => ⟨S_, .f32⟩
  | 108 => ⟨S4x64x64, .i1⟩
  | 109 => ⟨S4x64x64, .f32⟩
  | 110 => ⟨S4x64x64, .f32⟩
  | 111 => ⟨S_, .f32⟩
  | 112 => ⟨S4x64x64, .f32⟩
  | 113 => ⟨S4x64x256, .f32⟩
  | 114 => ⟨S4x128x256, .f32⟩
  | 115 => ⟨S4x128, .f32⟩
  | 116 => ⟨S4x128, .f32⟩
  | 117 => ⟨S4x64x256, .f32⟩
  | 118 => ⟨S4x128x1, .f32⟩
  | 119 => ⟨S4x128x256, .f32⟩
  | 120 => ⟨S4x128x256, .f32⟩
  | 121 => ⟨S4x128x256, .f32⟩
  | 122 => ⟨S4x64x256, .f32⟩
  | 123 => ⟨S4x128x256, .f32⟩
  | 124 => ⟨S4x128x256, .f32⟩
  | 125 => ⟨S4x128x256, .f32⟩
  | 126 => ⟨S_, .f32⟩
  | 127 => ⟨S4x128, .f32⟩
  | _ => ⟨S16384x3200, .f32⟩

abbrev hbmTy0_1 (i : Nat) : BufTy := match i % 128 with
  | 0 => ⟨S4x128x1, .f32⟩
  | 1 => ⟨S_, .f32⟩
  | 2 => ⟨S4x128, .f32⟩
  | 3 => ⟨S4x256x128, .f32⟩
  | 4 => ⟨S4x128x256, .f32⟩
  | 5 => ⟨S4x128x256, .f32⟩
  | 6 => ⟨S4x64x128, .f32⟩
  | 7 => ⟨S4x128, .f32⟩
  | 8 => ⟨S4x1x128, .f32⟩
  | 9 => ⟨S4x256x64, .f32⟩
  | 10 => ⟨S4x64x256, .f32⟩
  | 11 => ⟨S4x128x64, .f32⟩
  | 12 => ⟨S4x64x128, .f32⟩
  | 13 => ⟨S4x256x64, .f32⟩
  | 14 => ⟨S4x64x256, .f32⟩
  | 15 => ⟨S4x64x256, .f32⟩
  | 16 => ⟨S4x64x64, .f32⟩
  | 17 => ⟨S_, .f32⟩
  | 18 => ⟨S4x64x64, .f32⟩
  | 19 => ⟨S4x64x64, .f32⟩
  | 20 => ⟨S4x64x128, .f32⟩
  | 21 => ⟨S4x64x128, .f32⟩
  | 22 => ⟨S4x64x128, .f32⟩
  | 23 => ⟨S4x64x128, .f32⟩
  | 24 => ⟨S4x64x128, .f32⟩
  | 25 => ⟨S4x64x128, .f32⟩
  | 26 => ⟨S_, .f32⟩
  | 27 => ⟨S4x128, .f32⟩
  | 28 => ⟨S4x1x128, .f32⟩
  | 29 => ⟨S4x64x128, .f32⟩
  | 30 => ⟨S4x1x128, .f32⟩
  | 31 => ⟨S4x64x128, .f32⟩
  | 32 => ⟨S4x64x128, .f32⟩
  | 33 => ⟨S4x64x128, .f32⟩
  | 34 => ⟨S4x64x128, .f32⟩
  | 35 => ⟨S4x64x128, .f32⟩
  | 36 => ⟨S4x64x128, .f32⟩
  | 37 => ⟨S4x64x128, .f32⟩
  | 38 => ⟨S4x64x128, .f32⟩
  | 39 => ⟨S4x64x128, .f32⟩
  | 40 => ⟨S4x64x128, .f32⟩
  | 41 => ⟨S_, .f32⟩
  | 42 => ⟨S4x64x128, .f32⟩
  | 43 => ⟨S4x64x128, .f32⟩
  | 44 => ⟨S_, .f32⟩
  | 45 => ⟨S_, .f32⟩
  | 46 => ⟨S4x64x128, .f32⟩
  | 47 => ⟨S_, .f32⟩
  | 48 => ⟨S4x64x128, .f32⟩
  | 49 => ⟨S4x64x128, .f32⟩
  | 50 => ⟨S1x4x64x128, .f32⟩
  | 51 => ⟨S_, .i32⟩
  | 52 => ⟨S_, .i32⟩
  | 53 => ⟨S_, .i32⟩
  | 54 => ⟨S256x4x64x128, .f32⟩
  | 55 => ⟨S1x4x64x128, .f32⟩
  | 56 => ⟨S_, .i32⟩
  | 57 => ⟨S_, .i32⟩
  | 58 => ⟨S_, .i32⟩
  | 59 => ⟨S256x4x64x128, .f32⟩
  | 60 => ⟨S1x4x64x256, .f32⟩
  | 61 => ⟨S_, .i32⟩
  | 62 => ⟨S_, .i32⟩
  | 63 => ⟨S_, .i32⟩
  | 64 => ⟨S256x4x64x256, .f32⟩
  | 65 => ⟨S1x4x64x128, .f32⟩
  | 66 => ⟨S_, .i32⟩
  | 67 => ⟨S_, .i32⟩
  | 68 => ⟨S_, .i32⟩
  | 69 => ⟨S256x4x64x128, .f32⟩
  | 70 => ⟨S_, .i32⟩
  | 71 => ⟨S_, .i32⟩
  | 72 => ⟨S256x64x4x128, .f32⟩
  | 73 => ⟨S16384x512, .f32⟩
  | 74 => ⟨S256x64x4x128, .f32⟩
  | 75 => ⟨S16384x512, .f32⟩
  | 76 => ⟨S256x64x4x256, .f32⟩
  | 77 => ⟨S16384x1024, .f32⟩
  | 78 => ⟨S256x64x4x128, .f32⟩
  | 79 => ⟨S16384x512, .f32⟩
  | _ => ⟨S16384x3200, .f32⟩

abbrev hbmTy (i : Nat) : BufTy := match i / 128 with
  | 0 => hbmTy0_0 i
  | 1 => hbmTy0_1 i
  | _ => ⟨S16384x3200, .f32⟩

abbrev bufTy : (tb : Table) → Fin (tcTables nBuf tb) → BufTy
  | .hbm, ⟨i, _⟩ => hbmTy i
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_c : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev main_v20_7 : Ref sig .tc := ⟨.hbm, 37, rfl⟩
abbrev main_v20_8 : Ref sig .tc := ⟨.hbm, 38, rfl⟩
abbrev main_v20_9 : Ref sig .tc := ⟨.hbm, 39, rfl⟩
abbrev main_v20_10 : Ref sig .tc := ⟨.hbm, 40, rfl⟩
abbrev main_v20_11 : Ref sig .tc := ⟨.hbm, 41, rfl⟩
abbrev main_while0c_c_15 : Ref sig .tc := ⟨.hbm, 42, rfl⟩
abbrev main_while0c_v29 : Ref sig .tc := ⟨.hbm, 43, rfl⟩
abbrev main_while0b_c_15 : Ref sig .tc := ⟨.hbm, 44, rfl⟩
abbrev main_while0b_v29 : Ref sig .tc := ⟨.hbm, 45, rfl⟩
abbrev main_while0b_c_16 : Ref sig .tc := ⟨.hbm, 46, rfl⟩
abbrev main_while0b_v30 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_c_1 : Ref sig .tc := ⟨.hbm, 50, rfl⟩
abbrev main_while0b_call0_v0 : Ref sig .tc := ⟨.hbm, 51, rfl⟩
abbrev main_while0b_v31 : Ref sig .tc := ⟨.hbm, 52, rfl⟩
abbrev main_while0b_call1_c : Ref sig .tc := ⟨.hbm, 53, rfl⟩
abbrev main_while0b_call1_c_0 : Ref sig .tc := ⟨.hbm, 54, rfl⟩
abbrev main_while0b_call1_c_1 : Ref sig .tc := ⟨.hbm, 55, rfl⟩
abbrev main_while0b_call1_v0 : Ref sig .tc := ⟨.hbm, 56, rfl⟩
abbrev main_while0b_v32 : Ref sig .tc := ⟨.hbm, 57, rfl⟩
abbrev main_while0b_call2_c : Ref sig .tc := ⟨.hbm, 58, rfl⟩
abbrev main_while0b_call2_c_0 : Ref sig .tc := ⟨.hbm, 59, rfl⟩
abbrev main_while0b_call2_c_1 : Ref sig .tc := ⟨.hbm, 60, rfl⟩
abbrev main_while0b_call2_v0 : Ref sig .tc := ⟨.hbm, 61, rfl⟩
abbrev main_while0b_v33 : Ref sig .tc := ⟨.hbm, 62, rfl⟩
abbrev main_while0b_call3_c : Ref sig .tc := ⟨.hbm, 63, rfl⟩
abbrev main_while0b_call3_c_0 : Ref sig .tc := ⟨.hbm, 64, rfl⟩
abbrev main_while0b_call3_c_1 : Ref sig .tc := ⟨.hbm, 65, rfl⟩
abbrev main_while0b_call3_v0 : Ref sig .tc := ⟨.hbm, 66, rfl⟩
abbrev main_while0b_v34 : Ref sig .tc := ⟨.hbm, 67, rfl⟩
abbrev main_while0b_call4_c : Ref sig .tc := ⟨.hbm, 68, rfl⟩
abbrev main_while0b_call4_c_0 : Ref sig .tc := ⟨.hbm, 69, rfl⟩
abbrev main_while0b_call4_c_1 : Ref sig .tc := ⟨.hbm, 70, rfl⟩
abbrev main_while0b_call4_v0 : Ref sig .tc := ⟨.hbm, 71, rfl⟩
abbrev main_while0b_v35 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_call5_c_1 : Ref sig .tc := ⟨.hbm, 75, rfl⟩
abbrev main_while0b_call5_v0 : Ref sig .tc := ⟨.hbm, 76, rfl⟩
abbrev main_while0b_v36 : Ref sig .tc := ⟨.hbm, 77, rfl⟩
abbrev main_while0b_cst_17 : Ref sig .tc := ⟨.hbm, 78, rfl⟩
abbrev main_while0b_v37 : Ref sig .tc := ⟨.hbm, 79, rfl⟩
abbrev main_while0b_v38 : Ref sig .tc := ⟨.hbm, 80, rfl⟩
abbrev main_while0b_call6_call0_cst : Ref sig .tc := ⟨.hbm, 81, rfl⟩
abbrev main_while0b_call6_call0_v0 : Ref sig .tc := ⟨.hbm, 82, rfl⟩
abbrev main_while0b_v39 : Ref sig .tc := ⟨.hbm, 83, rfl⟩
abbrev main_while0b_v40 : Ref sig .tc := ⟨.hbm, 84, rfl⟩
abbrev main_while0b_v41 : Ref sig .tc := ⟨.hbm, 85, rfl⟩
abbrev main_while0b_v42 : Ref sig .tc := ⟨.hbm, 86, rfl⟩
abbrev main_while0b_v43 : Ref sig .tc := ⟨.hbm, 87, rfl⟩
abbrev main_while0b_v44 : Ref sig .tc := ⟨.hbm, 88, rfl⟩
abbrev main_while0b_v45 : Ref sig .tc := ⟨.hbm, 89, rfl⟩
abbrev main_while0b_v46 : Ref sig .tc := ⟨.hbm, 90, rfl⟩
abbrev main_while0b_v47 : Ref sig .tc := ⟨.hbm, 91, rfl⟩
abbrev main_while0b_v48 : Ref sig .tc := ⟨.hbm, 92, rfl⟩
abbrev main_while0b_v49 : Ref sig .tc := ⟨.hbm, 93, rfl⟩
abbrev main_while0b_c_18 : Ref sig .tc := ⟨.hbm, 94, rfl⟩
abbrev main_while0b_v50 : Ref sig .tc := ⟨.hbm, 95, rfl⟩
abbrev main_while0b_call7_v0 : Ref sig .tc := ⟨.hbm, 96, rfl⟩
abbrev main_while0b_call7_c : Ref sig .tc := ⟨.hbm, 97, rfl⟩
abbrev main_while0b_call7_v1 : Ref sig .tc := ⟨.hbm, 98, rfl⟩
abbrev main_while0b_call7_v2 : Ref sig .tc := ⟨.hbm, 99, rfl⟩
abbrev main_while0b_call7_v3 : Ref sig .tc := ⟨.hbm, 100, rfl⟩
abbrev main_while0b_call7_v4 : Ref sig .tc := ⟨.hbm, 101, rfl⟩
abbrev main_while0b_call7_c_0 : Ref sig .tc := ⟨.hbm, 102, rfl⟩
abbrev main_while0b_call7_v5 : Ref sig .tc := ⟨.hbm, 103, rfl⟩
abbrev main_while0b_v51 : Ref sig .tc := ⟨.hbm, 104, rfl⟩
abbrev main_while0b_v52 : Ref sig .tc := ⟨.hbm, 105, rfl⟩
abbrev main_while0b_cst_19 : Ref sig .tc := ⟨.hbm, 106, rfl⟩
abbrev main_while0b_call8_v0 : Ref sig .tc := ⟨.hbm, 107, rfl⟩
abbrev main_while0b_v53_1 : Ref sig .tc := ⟨.hbm, 108, rfl⟩
abbrev main_while0b_call8_v2 : Ref sig .tc := ⟨.hbm, 109, rfl⟩
abbrev main_while0b_v53_0 : Ref sig .tc := ⟨.hbm, 110, rfl⟩
abbrev main_while0b_call8_cst : Ref sig .tc := ⟨.hbm, 111, rfl⟩
abbrev main_while0b_v53_2 : Ref sig .tc := ⟨.hbm, 112, rfl⟩
abbrev main_while0b_v54 : Ref sig .tc := ⟨.hbm, 113, rfl⟩
abbrev main_while0b_v55 : Ref sig .tc := ⟨.hbm, 114, rfl⟩
abbrev main_while0b_v56 : Ref sig .tc := ⟨.hbm, 115, rfl⟩
abbrev main_while0b_v57 : Ref sig .tc := ⟨.hbm, 116, rfl⟩
abbrev main_while0b_v58 : Ref sig .tc := ⟨.hbm, 117, rfl⟩
abbrev main_while0b_v59 : Ref sig .tc := ⟨.hbm, 118, rfl⟩
abbrev main_while0b_v60 : Ref sig .tc := ⟨.hbm, 119, rfl⟩
abbrev main_while0b_v61 : Ref sig .tc := ⟨.hbm, 120, rfl⟩
abbrev main_while0b_v62 : Ref sig .tc := ⟨.hbm, 121, rfl⟩
abbrev main_while0b_v63 : Ref sig .tc := ⟨.hbm, 122, rfl⟩
abbrev main_while0b_v64 : Ref sig .tc := ⟨.hbm, 123, rfl⟩
abbrev main_while0b_v65 : Ref sig .tc := ⟨.hbm, 124, rfl⟩
abbrev main_while0b_v66 : Ref sig .tc := ⟨.hbm, 125, rfl⟩
abbrev main_while0b_cst_20 : Ref sig .tc := ⟨.hbm, 126, rfl⟩
abbrev main_while0b_v67 : Ref sig .tc := ⟨.hbm, 127, rfl⟩
abbrev main_while0b_v68 : Ref sig .tc := ⟨.hbm, 128, rfl⟩
abbrev main_while0b_cst_21 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_v81 : Ref sig .tc := ⟨.hbm, 142, rfl⟩
abbrev main_while0b_v82 : Ref sig .tc := ⟨.hbm, 143, rfl⟩
abbrev main_while0b_v83 : Ref sig .tc := ⟨.hbm, 144, rfl⟩
abbrev main_while0b_call9_cst : Ref sig .tc := ⟨.hbm, 145, rfl⟩
abbrev main_while0b_call9_v0 : Ref sig .tc := ⟨.hbm, 146, rfl⟩
abbrev main_while0b_v84 : Ref sig .tc := ⟨.hbm, 147, rfl⟩
abbrev main_while0b_v85 : Ref sig .tc := ⟨.hbm, 148, rfl⟩
abbrev main_while0b_v86 : Ref sig .tc := ⟨.hbm, 149, rfl⟩
abbrev main_while0b_v87 : Ref sig .tc := ⟨.hbm, 150, rfl⟩
abbrev main_while0b_v88 : Ref sig .tc := ⟨.hbm, 151, rfl⟩
abbrev main_while0b_v89 : Ref sig .tc := ⟨.hbm, 152, rfl⟩
abbrev main_while0b_v90 : Ref sig .tc := ⟨.hbm, 153, rfl⟩
abbrev main_while0b_cst_22 : Ref sig .tc := ⟨.hbm, 154, rfl⟩
abbrev main_while0b_v91 : Ref sig .tc := ⟨.hbm, 155, rfl⟩
abbrev main_while0b_v92 : Ref sig .tc := ⟨.hbm, 156, rfl⟩
abbrev main_while0b_v93 : Ref sig .tc := ⟨.hbm, 157, rfl⟩
abbrev main_while0b_v94 : Ref sig .tc := ⟨.hbm, 158, rfl⟩
abbrev main_while0b_v95 : Ref sig .tc := ⟨.hbm, 159, rfl⟩
abbrev main_while0b_v96 : Ref sig .tc := ⟨.hbm, 160, rfl⟩
abbrev main_while0b_v97 : Ref sig .tc := ⟨.hbm, 161, rfl⟩
abbrev main_while0b_v98 : Ref sig .tc := ⟨.hbm, 162, rfl⟩
abbrev main_while0b_v99 : Ref sig .tc := ⟨.hbm, 163, rfl⟩
abbrev main_while0b_v100 : Ref sig .tc := ⟨.hbm, 164, rfl⟩
abbrev main_while0b_v101 : Ref sig .tc := ⟨.hbm, 165, rfl⟩
abbrev main_while0b_v102 : Ref sig .tc := ⟨.hbm, 166, rfl⟩
abbrev main_while0b_v103 : Ref sig .tc := ⟨.hbm, 167, rfl⟩
abbrev main_while0b_v104 : Ref sig .tc := ⟨.hbm, 168, rfl⟩
abbrev main_while0b_cst_23 : Ref sig .tc := ⟨.hbm, 169, rfl⟩
abbrev main_while0b_v105 : Ref sig .tc := ⟨.hbm, 170, rfl⟩
abbrev main_while0b_v106 : Ref sig .tc := ⟨.hbm, 171, rfl⟩
abbrev main_while0b_call10_call0_cst : Ref sig .tc := ⟨.hbm, 172, rfl⟩
abbrev main_while0b_call10_call0_v0 : Ref sig .tc := ⟨.hbm, 173, rfl⟩
abbrev main_while0b_v107 : Ref sig .tc := ⟨.hbm, 174, rfl⟩
abbrev main_while0b_cst_24 : Ref sig .tc := ⟨.hbm, 175, rfl⟩
abbrev main_while0b_v108 : Ref sig .tc := ⟨.hbm, 176, rfl⟩
abbrev main_while0b_v109 : Ref sig .tc := ⟨.hbm, 177, rfl⟩
abbrev main_while0b_call11_v0 : Ref sig .tc := ⟨.hbm, 178, rfl⟩
abbrev main_while0b_call11_c : Ref sig .tc := ⟨.hbm, 179, rfl⟩
abbrev main_while0b_call11_c_0 : Ref sig .tc := ⟨.hbm, 180, rfl⟩
abbrev main_while0b_call11_c_1 : Ref sig .tc := ⟨.hbm, 181, rfl⟩
abbrev main_while0b_v110 : Ref sig .tc := ⟨.hbm, 182, rfl⟩
abbrev main_while0b_call12_v0 : Ref sig .tc := ⟨.hbm, 183, rfl⟩
abbrev main_while0b_call12_c : Ref sig .tc := ⟨.hbm, 184, rfl⟩
abbrev main_while0b_call12_c_0 : Ref sig .tc := ⟨.hbm, 185, rfl⟩
abbrev main_while0b_call12_c_1 : Ref sig .tc := ⟨.hbm, 186, rfl⟩
abbrev main_while0b_v111 : Ref sig .tc := ⟨.hbm, 187, rfl⟩
abbrev main_while0b_call13_v0 : Ref sig .tc := ⟨.hbm, 188, rfl⟩
abbrev main_while0b_call13_c : Ref sig .tc := ⟨.hbm, 189, rfl⟩
abbrev main_while0b_call13_c_0 : Ref sig .tc := ⟨.hbm, 190, rfl⟩
abbrev main_while0b_call13_c_1 : Ref sig .tc := ⟨.hbm, 191, rfl⟩
abbrev main_while0b_v112 : Ref sig .tc := ⟨.hbm, 192, rfl⟩
abbrev main_while0b_call14_v0 : Ref sig .tc := ⟨.hbm, 193, rfl⟩
abbrev main_while0b_call14_c : Ref sig .tc := ⟨.hbm, 194, rfl⟩
abbrev main_while0b_call14_c_0 : Ref sig .tc := ⟨.hbm, 195, rfl⟩
abbrev main_while0b_call14_c_1 : Ref sig .tc := ⟨.hbm, 196, rfl⟩
abbrev main_while0b_v113 : Ref sig .tc := ⟨.hbm, 197, rfl⟩
abbrev main_while0b_c_25 : Ref sig .tc := ⟨.hbm, 198, rfl⟩
abbrev main_while0b_v114 : Ref sig .tc := ⟨.hbm, 199, rfl⟩
abbrev main_v21 : Ref sig .tc := ⟨.hbm, 200, rfl⟩
abbrev main_v22 : Ref sig .tc := ⟨.hbm, 201, rfl⟩
abbrev main_v23 : Ref sig .tc := ⟨.hbm, 202, rfl⟩
abbrev main_v24 : Ref sig .tc := ⟨.hbm, 203, rfl⟩
abbrev main_v25 : Ref sig .tc := ⟨.hbm, 204, rfl⟩
abbrev main_v26 : Ref sig .tc := ⟨.hbm, 205, rfl⟩
abbrev main_v27 : Ref sig .tc := ⟨.hbm, 206, rfl⟩
abbrev main_v28 : Ref sig .tc := ⟨.hbm, 207, rfl⟩

abbrev nD : Nat := 1
abbrev τ : Topo := Topo.v7x

variable {F : FTy → Type} [FloatOps F]

abbrev main_while0_count : Scf.Loop 32 := ⟨0#32, 256#32, 1#32⟩
-- ==== DownDw.lean ====
abbrev S2816x16384 : Shape := ⟨2, ![2816, 16384]⟩
abbrev S16384x1024 : Shape := ⟨2, ![16384, 1024]⟩
abbrev S2816x1024 : Shape := ⟨2, ![2816, 1024]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S2816x16384, .bf16⟩
  | .hbm, ⟨1, _⟩ => ⟨S16384x1024, .f32⟩
  | .hbm, ⟨2, _⟩ => ⟨S16384x1024, .bf16⟩
  | .hbm, ⟨3, _⟩ => ⟨S2816x1024, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S2816x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2816x16384 : Shape := ⟨2, ![2816, 16384]⟩
abbrev S16384x1024 : Shape := ⟨2, ![16384, 1024]⟩
abbrev S16384x2816 : Shape := ⟨2, ![16384, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2816x16384, .bf16⟩
  | .hbm, ⟨1, _⟩ => ⟨S16384x1024, .f32⟩
  | .hbm, ⟨2, _⟩ => ⟨S16384x2816, .bf16⟩
  | .hbm, ⟨3, _⟩ => ⟨S_, .f32⟩
  | .hbm, ⟨4, _⟩ => ⟨S2816x1024, .f32⟩
  | .hbm, ⟨5, _⟩ => ⟨S16384x2816, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S2816x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S16384x1024 : Shape := ⟨2, ![16384, 1024]⟩
abbrev S2816x1024 : Shape := ⟨2, ![2816, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x1024, .bf16⟩
  | .hbm, ⟨3, _⟩ => ⟨S2816x1024, .bf16⟩
  | .hbm, ⟨4, _⟩ => ⟨S1024x2816, .bf16⟩
  | .hbm, ⟨5, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S_, .f32⟩
  | .hbm, ⟨3, _⟩ => ⟨S16384x2816, .f32⟩
  | .hbm, ⟨4, _⟩ => ⟨S16384x1024, .f32⟩
  | .hbm, ⟨5, _⟩ => ⟨S16384x2816, .f32⟩
  | .hbm, ⟨6, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S1024x16384 : Shape := ⟨2, ![1024, 16384]⟩
abbrev S16384x5632 : Shape := ⟨2, ![16384, 5632]⟩
abbrev S1024x5632 : Shape := ⟨2, ![1024, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x16384, .bf16⟩
  | .hbm, ⟨1, _⟩ => ⟨S16384x5632, .bf16⟩
  | .hbm, ⟨2, _⟩ => ⟨S1024x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S1024x16384 : Shape := ⟨2, ![1024, 16384]⟩
abbrev S16384x5632 : Shape := ⟨2, ![16384, 5632]⟩
abbrev S16384x1024 : Shape := ⟨2, ![16384, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x5632, .bf16⟩
  | .hbm, ⟨2, _⟩ => ⟨S16384x1024, .bf16⟩
  | .hbm, ⟨3, _⟩ => ⟨S_, .f32⟩
  | .hbm, ⟨4, _⟩ => ⟨S1024x5632, .f32⟩
  | .hbm, ⟨5, _⟩ => ⟨S16384x1024, .f32⟩
  | .hbm, ⟨6, _⟩ => ⟨S16384x5632, .f32⟩
  | .hbm, ⟨7, _⟩ => ⟨S16384x5632, .f32⟩
  | .hbm, ⟨8, _⟩ => ⟨S5632x1024, .f32⟩
  | .hbm, ⟨9, _⟩ => ⟨S1024x5632, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S16384x5632 : Shape := ⟨2, ![16384, 5632]⟩
abbrev S1024x5632 : Shape := ⟨2, ![1024, 5632]⟩
abbrev S5632x1024 : Shape := ⟨2, ![5632, 1024]⟩
abbrev S16384x1024 : Shape := ⟨2, ![16384, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .f32⟩
  | .hbm, ⟨2, _⟩ => ⟨S1024x5632, .bf16⟩
  | .hbm, ⟨3, _⟩ => ⟨S5632x1024, .bf16⟩
  | .hbm, ⟨4, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S16384x5632 : Shape := ⟨2, ![16384, 5632]⟩
abbrev S1024x5632 : Shape := ⟨2, ![1024, 5632]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .f32⟩
  | .hbm, ⟨2, _⟩ => ⟨S_, .f32⟩
  | .hbm, ⟨3, _⟩ => ⟨S16384x1024, .f32⟩
  | .hbm, ⟨4, _⟩ => ⟨S16384x5632, .f32⟩
  | .hbm, ⟨5, _⟩ => ⟨S16384x5632, .f32⟩
  | .hbm, ⟨6, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S16384x1024 : Shape := ⟨2, ![16384, 1024]⟩
abbrev S1024x16384 : Shape := ⟨2, ![1024, 16384]⟩
abbrev S1024x1024 : Shape := ⟨2, ![1024, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x16384, .bf16⟩
  | .hbm, ⟨3, _⟩ => ⟨S16384x1024, .bf16⟩
  | .hbm, ⟨4, _⟩ => ⟨S1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AOutDx.lean ====
abbrev S16384x1024 : Shape := ⟨2, ![16384, 1024]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S1024x1024, .bf16⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDxRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BOutDx.lean ====
abbrev S16384x1024 : Shape := ⟨2, ![16384, 1024]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S1024x1024, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutDxRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AInDw.lean ====
abbrev S16384x1024 : Shape := ⟨2, ![16384, 1024]⟩
abbrev S16384x3072 : Shape := ⟨2, ![16384, 3072]⟩
abbrev S1024x16384 : Shape := ⟨2, ![1024, 16384]⟩
abbrev S1024x3072 : Shape := ⟨2, ![1024, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1024x16384, .bf16⟩
  | .hbm, ⟨3, _⟩ => ⟨S1024x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDwRefIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S_, .f32⟩
  | .hbm, ⟨3, _⟩ => ⟨S1024x3072, .f32⟩
  | .hbm, ⟨4, _⟩ => ⟨S16384x1024, .f32⟩
  | .hbm, ⟨5, _⟩ => ⟨S16384x3072, .f32⟩
  | .hbm, ⟨6, _⟩ => ⟨S16384x3072, .f32⟩
  | .hbm, ⟨7, _⟩ => ⟨S3072x1024, .f32⟩
  | .hbm, ⟨8, _⟩ => ⟨S1024x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AInDx.lean ====
abbrev S16384x3072 : Shape := ⟨2, ![16384, 3072]⟩
abbrev S1024x3072 : Shape := ⟨2, ![1024, 3072]⟩
abbrev S3072x1024 : Shape := ⟨2, ![3072, 1024]⟩
abbrev S16384x1024 : Shape := ⟨2, ![16384, 1024]⟩
abbrev S3072x512 : Shape := ⟨2, ![3072, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .f32⟩
  | .hbm, ⟨2, _⟩ => ⟨S1024x3072, .bf16⟩
  | .hbm, ⟨3, _⟩ => ⟨S3072x1024, .bf16⟩
  | .hbm, ⟨4, _⟩ => ⟨S16384x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDxRefIdeal.lean ====
abbrev S16384x3072 : Shape := ⟨2, ![16384, 3072]⟩
abbrev S1024x3072 : Shape := ⟨2, ![1024, 3072]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .f32⟩
  | .hbm, ⟨2, _⟩ => ⟨S_, .f32⟩
  | .hbm, ⟨3, _⟩ => ⟨S16384x1024, .f32⟩
  | .hbm, ⟨4, _⟩ => ⟨S16384x3072, .f32⟩
  | .hbm, ⟨5, _⟩ => ⟨S16384x3072, .f32⟩
  | .hbm, ⟨6, _⟩ => ⟨S16384x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BInDw.lean ====
abbrev S1024x16384 : Shape := ⟨2, ![1024, 16384]⟩
abbrev S16384x3200 : Shape := ⟨2, ![16384, 3200]⟩
abbrev S1024x3200 : Shape := ⟨2, ![1024, 3200]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S1024x16384, .bf16⟩
  | .hbm, ⟨1, _⟩ => ⟨S16384x3200, .bf16⟩
  | .hbm, ⟨2, _⟩ => ⟨S1024x3200, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInDwRefIdeal.lean ====
abbrev S1024x16384 : Shape := ⟨2, ![1024, 16384]⟩
abbrev S16384x3200 : Shape := ⟨2, ![16384, 3200]⟩
abbrev S16384x1024 : Shape := ⟨2, ![16384, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x3200, .bf16⟩
  | .hbm, ⟨2, _⟩ => ⟨S16384x1024, .bf16⟩
  | .hbm, ⟨3, _⟩ => ⟨S_, .f32⟩
  | .hbm, ⟨4, _⟩ => ⟨S1024x3200, .f32⟩
  | .hbm, ⟨5, _⟩ => ⟨S16384x1024, .f32⟩
  | .hbm, ⟨6, _⟩ => ⟨S16384x3200, .f32⟩
  | .hbm, ⟨7, _⟩ => ⟨S16384x3200, .f32⟩
  | .hbm, ⟨8, _⟩ => ⟨S3200x1024, .f32⟩
  | .hbm, ⟨9, _⟩ => ⟨S1024x3200, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BInDx.lean ====
abbrev S16384x3200 : Shape := ⟨2, ![16384, 3200]⟩
abbrev S1024x3104 : Shape := ⟨2, ![1024, 3104]⟩
abbrev S_ : Shape := ⟨0, ![]⟩
abbrev S1024x3200 : Shape := ⟨2, ![1024, 3200]⟩
abbrev S3200x1024 : Shape := ⟨2, ![3200, 1024]⟩
abbrev S16384x1024 : Shape := ⟨2, ![16384, 1024]⟩
abbrev S3200x512 : Shape := ⟨2, ![3200, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S16384x3200, .bf16⟩
  | .hbm, ⟨1, _⟩ => ⟨S1024x3104, .f32⟩
  | .hbm, ⟨2, _⟩ => ⟨S1024x3104, .bf16⟩
  | .hbm, ⟨3, _⟩ => ⟨S_, .i32⟩
  | .hbm, ⟨4, _⟩ => ⟨S_, .bf16⟩
  | .hbm, ⟨5, _⟩ => ⟨S1024x3200, .bf16⟩
  | .hbm, ⟨6, _⟩ => ⟨S3200x1024, .bf16⟩
  | .hbm, ⟨7, _⟩ => ⟨S16384x1024, .f32⟩
  | .local _ .vmem, ⟨0, _⟩ => ⟨S1024x3200, .bf16⟩
  | .local _ .vmem, ⟨1, _⟩ => ⟨S1024x3200, .bf16⟩
  | .local _ .vmem, ⟨2, _⟩ => ⟨S3200x512, .bf16⟩
  | .local _ .vmem, ⟨3, _⟩ => ⟨S3200x512, .bf16⟩
  | .local _ .vmem, ⟨4, _⟩ => ⟨S1024x512, .f32⟩
  | .local _ .vmem, ⟨5, _⟩ => ⟨S1024x512, .f32⟩
  | _, _ => ⟨S16384x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3200x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInDxRefIdeal.lean ====
abbrev S16384x3200 : Shape := ⟨2, ![16384, 3200]⟩
abbrev S1024x3104 : Shape := ⟨2, ![1024, 3104]⟩
abbrev S16384x3104 : Shape := ⟨2, ![16384, 3104]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x3200, .bf16⟩
  | .hbm, ⟨1, _⟩ => ⟨S1024x3104, .f32⟩
  | .hbm, ⟨2, _⟩ => ⟨S16384x3104, .bf16⟩
  | .hbm, ⟨3, _⟩ => ⟨S_, .f32⟩
  | .hbm, ⟨4, _⟩ => ⟨S16384x1024, .f32⟩
  | .hbm, ⟨5, _⟩ => ⟨S16384x3104, .f32⟩
  | .hbm, ⟨6, _⟩ => ⟨S16384x3104, .f32⟩
  | .hbm, ⟨7, _⟩ => ⟨S16384x1024, .f32⟩
  | _, _ => ⟨S16384x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AIn.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩
abbrev S1024x1536 : Shape := ⟨2, ![1024, 1536]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S1024x3072, .bf16⟩
  | .hbm, ⟨3, _⟩ => ⟨S16384x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInRefIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S16384x1024, .f32⟩
  | .hbm, ⟨3, _⟩ => ⟨S16384x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BIn.lean ====
abbrev S16384x1024 : Shape := ⟨2, ![16384, 1024]⟩
abbrev S1024x3104 : Shape := ⟨2, ![1024, 3104]⟩
abbrev S_ : Shape := ⟨0, ![]⟩
abbrev S1024x3200 : Shape := ⟨2, ![1024, 3200]⟩
abbrev S16384x3200 : Shape := ⟨2, ![16384, 3200]⟩
abbrev S1024x1024 : Shape := ⟨2, ![1024, 1024]⟩
abbrev S1024x640 : Shape := ⟨2, ![1024, 640]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3104, .f32⟩
  | .hbm, ⟨2, _⟩ => ⟨S1024x3104, .bf16⟩
  | .hbm, ⟨3, _⟩ => ⟨S_, .i32⟩
  | .hbm, ⟨4, _⟩ => ⟨S_, .bf16⟩
  | .hbm, ⟨5, _⟩ => ⟨S1024x3200, .bf16⟩
  | .hbm, ⟨6, _⟩ => ⟨S16384x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInRefIdeal.lean ====
abbrev S16384x1024 : Shape := ⟨2, ![16384, 1024]⟩
abbrev S1024x3104 : Shape := ⟨2, ![1024, 3104]⟩
abbrev S16384x3104 : Shape := ⟨2, ![16384, 3104]⟩
abbrev S_ : Shape := ⟨0, ![]⟩
abbrev S16384x3200 : Shape := ⟨2, ![16384, 3200]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3104, .f32⟩
  | .hbm, ⟨2, _⟩ => ⟨S16384x1024, .f32⟩
  | .hbm, ⟨3, _⟩ => ⟨S16384x3104, .f32⟩
  | .hbm, ⟨4, _⟩ => ⟨S_, .i32⟩
  | .hbm, ⟨5, _⟩ => ⟨S_, .f32⟩
  | .hbm, ⟨6, _⟩ => ⟨S16384x3200, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Up.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .f32⟩
  | .hbm, ⟨2, _⟩ => ⟨S1024x5632, .bf16⟩
  | .hbm, ⟨3, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .f32⟩
  | .hbm, ⟨2, _⟩ => ⟨S16384x1024, .f32⟩
  | .hbm, ⟨3, _⟩ => ⟨S16384x5632, .f32⟩
  | .hbm, ⟨4, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S2816x1024, .bf16⟩
  | .hbm, ⟨4, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x1024, .f32⟩
  | .hbm, ⟨5, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Act.lean ====
abbrev S16384x5632 : Shape := ⟨2, ![16384, 5632]⟩
abbrev S16384x2816 : Shape := ⟨2, ![16384, 2816]⟩
abbrev S2816x16384 : Shape := ⟨2, ![2816, 16384]⟩
abbrev S512x2816 : Shape := ⟨2, ![512, 2816]⟩
abbrev S2816x512 : Shape := ⟨2, ![2816, 512]⟩

abbrev nBuf : Space → Nat
  | .hbm => 3
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S2816x16384, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x512, .bf16⟩
  | .local _ .vmem, ⟨7, _⟩ => ⟨S2816x512, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActRefIdeal.lean ====
abbrev S16384x5632 : Shape := ⟨2, ![16384, 5632]⟩
abbrev S16384x2816 : Shape := ⟨2, ![16384, 2816]⟩
abbrev S_ : Shape := ⟨0, ![]⟩
abbrev S2816x16384 : Shape := ⟨2, ![2816, 16384]⟩

abbrev nBuf : Space → Nat
  | .hbm => 16
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x5632, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .bf16⟩
  | .hbm, ⟨15, _⟩ => ⟨S2816x16384, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Norm.lean ====
abbrev S16384x1024 : Shape := ⟨2, ![16384, 1024]⟩
abbrev S1x1024 : Shape := ⟨2, ![1, 1024]⟩
abbrev S1024x16384 : Shape := ⟨2, ![1024, 16384]⟩
abbrev S512x1024 : Shape := ⟨2, ![512, 1024]⟩
abbrev S1024x512 : Shape := ⟨2, ![1024, 512]⟩
abbrev S8x512x128 : Shape := ⟨3, ![8, 512, 128]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .hbm, ⟨3, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | .local _ .vmem, ⟨7, _⟩ => ⟨S8x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x16384 : Shape := ⟨2, ![1024, 16384]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== NormB.lean ====
abbrev S16384x1024 : Shape := ⟨2, ![16384, 1024]⟩
abbrev S1x1024 : Shape := ⟨2, ![1, 1024]⟩
abbrev S8x1024 : Shape := ⟨2, ![8, 1024]⟩
abbrev S256x1024 : Shape := ⟨2, ![256, 1024]⟩
abbrev S8x256x128 : Shape := ⟨3, ![8, 256, 128]⟩
abbrev S256 : Shape := ⟨1, ![256]⟩
abbrev S256x1 : Shape := ⟨2, ![256, 1]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | .local _ .vmem, ⟨10, _⟩ => ⟨S8x256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBRefIdeal.lean ====
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S_, .i32⟩
  | .hbm, ⟨53, _⟩ => ⟨S_, .f32⟩
  | .hbm, ⟨54, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== ActB.lean ====
abbrev S16384x5632 : Shape := ⟨2, ![16384, 5632]⟩
abbrev S16384x2816 : Shape := ⟨2, ![16384, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActBRefIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x5632, .f32⟩
  | .hbm, ⟨27, _⟩ => ⟨S16384x5632, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Proof.Recurrence.lean ====
/- The gradient of the gated linear recurrence as plain functions of indices: one head of one chunk, then the gradient of
   the state as it passes back from chunk to chunk. -/
module

public import Idealize.ShloMosaic.Lib.Pointwise

@[expose] public section

noncomputable section

namespace Cert.Recurrence

open Idealize.ShloMosaic

abbrev Mat (a b : ℕ) := Fin a → Fin b → EReal

/-- What one head of one chunk is given: query, key and log decay, value and the output's gradient, the state that enters
    (value by key) and the gradient of the state that leaves. -/
structure Head where
  q : Mat 64 128
  k : Mat 64 128
  la : Mat 64 128
  v : Mat 64 256
  dy : Mat 64 256
  s : Mat 256 128
  g : Mat 256 128

namespace Head

variable (H : Head)

/-- The sum of the log decays down to a row. -/
def cum (r : Fin 64) (d : Fin 128) : EReal := ∑ s, if s ≤ r then H.la s d else 0

def qt (r : Fin 64) (d : Fin 128) : EReal := H.q r d * Ideal.ofBits FTy.f32 1035273459#32 * Ideal.exp (H.cum r d)
def kt (r : Fin 64) (d : Fin 128) : EReal := H.k r d * Ideal.exp (-H.cum r d)
def kend (r : Fin 64) (d : Fin 128) : EReal := H.k r d * Ideal.exp (H.cum 63 d - H.cum r d)
def dec (d : Fin 128) : EReal := Ideal.exp (H.cum 63 d)

def att (r s : Fin 64) : EReal := if s ≤ r then ∑ d, H.qt r d * H.kt s d else 0
def datt (r s : Fin 64) : EReal := if s ≤ r then ∑ e, H.dy r e * H.v s e else 0

def dv (s : Fin 64) (e : Fin 256) : EReal := ∑ r, H.att r s * H.dy r e + ∑ d, H.kend s d * H.g e d
def dqt (r : Fin 64) (d : Fin 128) : EReal := ∑ s, H.datt r s * H.kt s d + ∑ e, H.dy r e * H.s e d
def dkt (s : Fin 64) (d : Fin 128) : EReal := ∑ r, H.datt r s * H.qt r d
def dkend (s : Fin 64) (d : Fin 128) : EReal := ∑ e, H.v s e * H.g e d
def ddec (d : Fin 128) : EReal := ∑ e, H.g e d * H.s e d

/-- The gradient of the state that enters. -/
def ds (e : Fin 256) (d : Fin 128) : EReal := H.g e d * H.dec d + ∑ r, H.dy r e * H.qt r d

def dq (r : Fin 64) (d : Fin 128) : EReal := H.dqt r d * Ideal.exp (H.cum r d) * Ideal.ofBits FTy.f32 1035273459#32
def dk (r : Fin 64) (d : Fin 128) : EReal :=
  H.dkt r d * Ideal.exp (-H.cum r d) + H.dkend r d * Ideal.exp (H.cum 63 d - H.cum r d)

/-- The gradient of the summed log decays. -/
def db (r : Fin 64) (d : Fin 128) : EReal :=
  H.dqt r d * H.qt r d - H.dkt r d * H.kt r d - H.dkend r d * H.kend r d
    + if r = 63 then ∑ s, H.dkend s d * H.kend s d + H.ddec d * H.dec d else 0
def dla (s : Fin 64) (d : Fin 128) : EReal := ∑ r, if s ≤ r then H.db r d else 0

end Head

/-- The arguments of the gradient call. -/
structure Args where
  proj : Mat 16384 3200
  loga : Mat 16384 1024
  states : Fin 4 → Fin 256 → Mat 256 128
  dy : Mat 16384 1024

/-- Row `r` of chunk `n`. -/
def row (n : Fin 256) (r : Fin 64) : Fin 16384 := ⟨64 * n.val + r.val, by omega⟩

/-- Chunk `n`'s head `h`, given the gradient of the state that leaves the chunk. -/
def Args.head (A : Args) (n : Fin 256) (h : Fin 4) (g : Mat 256 128) : Head where
  q r d := A.proj (row n r) ⟨128 * h.val + d.val, by omega⟩
  k r d := A.proj (row n r) ⟨512 + (128 * h.val + d.val), by omega⟩
  la r d := A.loga (row n r) ⟨128 * h.val + d.val, by omega⟩
  v r e := A.proj (row n r) ⟨1024 + (256 * h.val + e.val), by omega⟩
  dy r e := A.dy (row n r) ⟨256 * h.val + e.val, by omega⟩
  s := A.states h n
  g := g

/-- The chunk that the `s`-th step back comes to. -/
def back (s : ℕ) : Fin 256 := ⟨255 - s, by omega⟩

/-- The state's gradient before the `s`-th step back. -/
def Args.grad (A : Args) : ℕ → Fin 4 → Mat 256 128
  | 0, _ => fun _ _ => 0
  | s + 1, h => (A.head (back s) h (A.grad s h)).ds

/-- The head of the `s`-th step back. -/
def Args.step (A : Args) (s : ℕ) (h : Fin 4) : Head := A.head (back s) h (A.grad s h)

end Cert.Recurrence

end
-- ==== Proof.Forward.lean ====
/- The gated linear recurrence itself as plain functions of indices: what one head of one chunk gives, then the state as it
   passes from chunk to chunk. -/
module

public import proofs.«01_k».proof.Proof.Recurrence

@[expose] public section

noncomputable section

namespace Cert.Recurrence

open Idealize.ShloMosaic

namespace Head

variable (H : Head)

/-- The output. -/
def out (r : Fin 64) (e : Fin 256) : EReal := ∑ s, H.att r s * H.v s e + ∑ d, H.qt r d * H.s e d

/-- The state that leaves. -/
def next (e : Fin 256) (d : Fin 128) : EReal := H.s e d * H.dec d + ∑ r, H.v r e * H.kend r d

end Head

/-- The arguments of the forward call. -/
structure Inputs where
  proj : Mat 16384 3200
  loga : Mat 16384 1024

/-- Chunk `n`'s head `h`, given the state that enters it; nothing is differentiated. -/
def Inputs.head (A : Inputs) (n : Fin 256) (h : Fin 4) (s : Mat 256 128) : Head where
  q r d := A.proj (row n r) ⟨128 * h.val + d.val, by omega⟩
  k r d := A.proj (row n r) ⟨512 + (128 * h.val + d.val), by omega⟩
  la r d := A.loga (row n r) ⟨128 * h.val + d.val, by omega⟩
  v r e := A.proj (row n r) ⟨1024 + (256 * h.val + e.val), by omega⟩
  dy _ _ := 0
  s := s
  g _ _ := 0

/-- The chunk that the `n`-th step comes to. -/
def forth (n : ℕ) : Fin 256 := ⟨n % 256, by omega⟩

/-- The state before the `n`-th step. -/
def Inputs.state (A : Inputs) : ℕ → Fin 4 → Mat 256 128
  | 0, _ => fun _ _ => 0
  | n + 1, h => (A.head (forth n) h (A.state n h)).next

/-- The head of the `n`-th step. -/
def Inputs.step (A : Inputs) (n : ℕ) (h : Fin 4) : Head := A.head (forth n) h (A.state n h)

end Cert.Recurrence

end
-- ==== Proof.Common.lean ====
/- Small facts that the recurrence's calls share: a masked entry, a sum against a triangle of ones, a load at an index. -/
module

public import Idealize.ShloMosaic.Lib.Pointwise
public import Idealize.ShloMosaic.Lib.WordCmp
public import Idealize.ShloMosaic.Lib.KernelVsHost
public import Idealize.ShloMosaic.Lib.Pipeline.ValueKit

@[expose] public section

noncomputable section

namespace Cert.Recurrence

open Idealize.ShloMosaic Idealize.SL.Sem

theorem select_sge {m n : ℕ} (hm : m < 2 ^ 31) (hn : n < 2 ^ 31) (a b : EReal) :
    Scalar.select (Scalar.select (IntOp.cmpi .sge (IntOp.addi (BitVec.ofNat 32 m) 0#32) (BitVec.ofNat 32 n)) 1#1 0#1) a b
      = if n ≤ m then a else b := by
  rw [show IntOp.addi (BitVec.ofNat 32 m) 0#32 = BitVec.ofNat 32 m from BitVec.add_zero _,
    WordCmp.cmpi_sge_of_lt (by simp; omega) (by simp; omega)]
  have hm' : m % 4294967296 = m := Nat.mod_eq_of_lt (by omega)
  have hn' : n % 4294967296 = n := Nat.mod_eq_of_lt (by omega)
  by_cases h : n ≤ m <;> simp [Scalar.select, h, hm', hn']

theorem select_sle {m n : ℕ} (hm : m < 2 ^ 31) (hn : n < 2 ^ 31) (a b : EReal) :
    Scalar.select (IntOp.cmpi .sle (BitVec.ofNat 32 m) (BitVec.ofNat 32 n)) a b = if m ≤ n then a else b := by
  rw [WordCmp.cmpi_sle_of_lt (by simp; omega) (by simp; omega)]
  have hm' : m % 4294967296 = m := Nat.mod_eq_of_lt (by omega)
  have hn' : n % 4294967296 = n := Nat.mod_eq_of_lt (by omega)
  by_cases h : m ≤ n <;> simp [Scalar.select, h, hm', hn']

theorem sum_tri (x : Fin 64 → EReal) (p : Fin 64 → Prop) [DecidablePred p] :
    ∑ s, (if p s then (1 : EReal) else 0) * x s = ∑ s, if p s then x s else 0 :=
  Finset.sum_congr rfl fun s _ => by split_ifs <;> simp

theorem one_or_zero (p : Prop) [Decidable p] :
    (FloatOps.ofBits .f32 (if p then 0x3F800000#32 else 0#32) : Ideal .f32) = if p then (1 : EReal) else 0 := by
  split_ifs
  · exact Ideal.ofBits_one_f32
  · exact Ideal.ofBits_zero_f32

/-- A load from a whole buffer through a rectangle, at an index. -/
theorem load_apply {sig : RefSig} {s : Shape} (arg : Memref sig .tc .vmem s .f32) (harg : arg.IsWhole) (X : Vec Ideal s .f32) (off size : Fin s.rank → ℕ)
    (inb) (x : (Rect.unit off size inb).shape.Idx) (i : s.Idx) (hi : ∀ a, (i a).val = off a + (x a).val) :
    View.readAt (Elt Ideal) arg.view (Rect.unit off size inb).toLoadRect (harg.unread X) x = X i := by
  rw [View.readAt_eq_ld, Memref.IsWhole.read_unread]
  exact View.ld_unit_apply_of X off size inb x i hi

end Cert.Recurrence

end
-- ==== Proof.GlaFChunk.lean ====
/- One chunk of the forward kernel: its stored values as functions of what it loads, and each of them entry by entry over the
   extended reals, as `Recurrence.Head` says. -/
module

public import proofs.«01_k».proof.Proof.Gen.GlaFIdeal.Skeleton
public import proofs.«01_k».proof.Proof.Forward
public import proofs.«01_k».proof.Proof.Common

@[expose] public section

set_option maxRecDepth 16384

noncomputable section

namespace Cert.GlaFIdeal.Chunk

open Cert.GlaFIdeal Cert.GlaFIdeal.Gen Cert.Recurrence Idealize.ShloMosaic Idealize.SL.Sem

section Values

variable {F : FTy → Type} [FloatOps F]

/-- What a chunk loads, the state apart. -/
structure In (F : FTy → Type) where
  q : Vec F S64x512 .f32
  k : Vec F S64x512 .f32
  la : Vec F S64x512 .f32
  T : Vec F S64x64 .f32
  v : Fin 4 → Vec F S64x256 .f32

theorem slices (h : Fin 4) : S64x512.Slices ![0, 128 * h.val] S64x128 := by revert h; decide
theorem slices1 (h : Fin 4) : S1x512.Slices ![0, 128 * h.val] S1x128 := by revert h; decide

/-- Head `h`'s columns. -/
def cols {α : Type} (x : S64x512.Idx → α) (h : Fin 4) : S64x128.Idx → α :=
  extractStridedSlice S64x128 ![0, 128 * h.val] x (slices h)
def cols1 {α : Type} (x : S1x512.Idx → α) (h : Fin 4) : S1x128.Idx → α :=
  extractStridedSlice S1x128 ![0, 128 * h.val] x (slices1 h)

variable (I : In F) (s : Fin 4 → Vec F S1x256x128 .f32)

def qtb (h : Fin 4) : FVec F S64x128 .bf16 := cols (k0_pay7 I.q I.la I.T) h
def ktb (h : Fin 4) : FVec F S64x128 .bf16 := cols (k0_pay8 I.k I.la I.T) h
def keb (h : Fin 4) : FVec F S64x128 .bf16 := cols (k0_pay9 I.k I.la I.T) h
def vb (h : Fin 4) : FVec F S64x256 .bf16 := truncf .bf16 (I.v h) bitsLt_bf16_f32
def sv (h : Fin 4) : FVec F S256x128 .f32 := shapeCast S256x128 (s h) shapeCasts_S1x256x128_S256x128

def att (h : Fin 4) : FVec F S64x64 .f32 :=
  select k0_pay3 (matmul dot_S64x128_S64x128_S64x64_1_1_0_0_n_n none (qtb I h) (ktb I h) (constant S64x64 .f32 0x00000000#32))
    (broadcast S64x64 (Scalar.ofBits .f32 0x00000000#32))

/-- A head's output. -/
def out (h : Fin 4) : FVec F S64x256 .f32 :=
  addf (matmul dot_S64x64_S64x256_S64x256_1_0_0_1_n_n none (truncf .bf16 (att I h) bitsLt_bf16_f32) (vb I h) (constant S64x256 .f32 0x00000000#32))
    (matmul dot_S64x128_S256x128_S64x256_1_1_0_0_n_n none (qtb I h) (truncf .bf16 (sv s h) bitsLt_bf16_f32) (constant S64x256 .f32 0x00000000#32))

/-- The state that a head leaves. -/
def next (h : Fin 4) : FVec F S1x256x128 .f32 :=
  shapeCast S1x256x128 (addf (mulf (sv s h) (broadcastTo S256x128 (cols1 (k0_pay6 I.la I.T) h) broadcasts_S1x128_S256x128))
    (matmul dot_S64x256_S64x128_S256x128_0_0_1_1_n_n none (vb I h) (keb I h) (constant S256x128 .f32 0x00000000#32))) shapeCasts_S256x128_S1x256x128

/-- The state that enters a head, as the kernel keeps it. -/
def kept (h : Fin 4) : FVec F S1x1x256x128 .f32 := shapeCast S1x1x256x128 (sv s h) shapeCasts_S256x128_S1x1x256x128

end Values

theorem col_lt (h : Fin 4) (d : Fin 128) : 128 * h.val + d.val < 512 := by omega

/-- Head `h`'s column `d`. -/
abbrev col (h : Fin 4) (d : Fin 128) : Fin 512 := ⟨128 * h.val + d.val, col_lt h d⟩

/-- The loads `I` and the state `s` hold the four heads `H`. -/
structure Holds (I : In Ideal) (s : Fin 4 → Vec Ideal S1x256x128 .f32) (H : Fin 4 → Head) : Prop where
  q : ∀ h r d, I.q (ix2 r (col h d)) = (H h).q r d
  k : ∀ h r d, I.k (ix2 r (col h d)) = (H h).k r d
  la : ∀ h r d, I.la (ix2 r (col h d)) = (H h).la r d
  T : ∀ r s, I.T (ix2 r s) = if s ≤ r then 1 else 0
  v : ∀ h r e, I.v h (ix2 r e) = (H h).v r e
  s : ∀ h e d, s h (ix3 0 e d) = (H h).s e d

variable {I : In Ideal} {s : Fin 4 → Vec Ideal S1x256x128 .f32} {H : Fin 4 → Head} (hH : Holds I s H)
include hH

theorem cum_apply (h : Fin 4) (r : Fin 64) (d : Fin 128) : k0_pay4 I.la I.T (ix2 r (col h d)) = (H h).cum r d := by
  pointwise [k0_pay4]
  simp only [hH.T, hH.la, sum_tri, Head.cum]

theorem last_apply (h : Fin 4) (r : Fin 1) (d : Fin 128) : k0_pay5 I.la I.T (ix2 r (col h d)) = (H h).cum 63 d := by
  pointwise [k0_pay5]
  exact cum_apply hH h 63 d

theorem dec_apply (h : Fin 4) (r : Fin 1) (d : Fin 128) : k0_pay6 I.la I.T (ix2 r (col h d)) = (H h).dec d := by
  pointwise [k0_pay6]
  rw [last_apply hH, Head.dec]

theorem qtb_apply (h : Fin 4) (r : Fin 64) (d : Fin 128) : qtb I h (ix2 r d) = (H h).qt r d := by
  pointwise [qtb, cols, k0_pay7]
  rw [cum_apply hH h r d, hH.q h r d]
  rfl

theorem ktb_apply (h : Fin 4) (r : Fin 64) (d : Fin 128) : ktb I h (ix2 r d) = (H h).kt r d := by
  pointwise [ktb, cols, k0_pay8]
  rw [cum_apply hH h r d, hH.k h r d, Head.kt]
  simp

theorem keb_apply (h : Fin 4) (r : Fin 64) (d : Fin 128) : keb I h (ix2 r d) = (H h).kend r d := by
  pointwise [keb, cols, k0_pay9]
  rw [cum_apply hH h r d, last_apply hH h _ d, hH.k h r d]
  rfl

theorem att_apply (h : Fin 4) (r s : Fin 64) : att I h (ix2 r s) = (H h).att r s := by
  pointwise [att, k0_pay3]
  rw [select_sle (by omega) (by omega)]
  simp only [qtb_apply hH, ktb_apply hH, Head.att, Fin.le_def]

theorem out_apply (h : Fin 4) (r : Fin 64) (e : Fin 256) : out I s h (ix2 r e) = (H h).out r e := by
  pointwise [out, vb, sv]
  simp only [att_apply hH, qtb_apply hH, hH.v, hH.s, Head.out]

theorem next_apply (h : Fin 4) (z : Fin 1) (e : Fin 256) (d : Fin 128) : next I s h (ix3 z e d) = (H h).next e d := by
  pointwise [next, vb, sv, cols1]
  simp only [keb_apply hH, dec_apply hH, hH.v, hH.s, Head.next]

theorem kept_apply (h : Fin 4) (z z' : Fin 1) (e : Fin 256) (d : Fin 128) : kept s h (ix4 z z' e d) = (H h).s e d := by
  pointwise [kept, sv]
  exact hH.s h e d

end Cert.GlaFIdeal.Chunk

end
-- ==== Proof.GlaFPoint.lean ====
/- The buffers of a grid point of the forward kernel, what its chunks load from them, and how a head's state is read back from the scratch. -/
module

public import proofs.«01_k».proof.Proof.Gen.GlaFIdeal.Value
public import proofs.«01_k».proof.Proof.GlaFChunk
public import Idealize.ShloMosaic.Lib.Pipeline.ReadBack
public import Idealize.ShloMosaic.Lib.WritesUnit

@[expose] public section

set_option maxRecDepth 65536

noncomputable section

namespace Cert.GlaFIdeal.Chunk

open Cert.GlaFIdeal Cert.GlaFIdeal.Gen Cert.Recurrence Idealize.ShloMosaic Idealize.SL.Sem

/-- The buffers that a grid point is run on and what its input blocks hold. -/
structure Env (F : FTy → Type) where
  c : Dev nD
  i : grid0.Coords
  arg1 : Memref sig .tc .vmem S512x1024 .f32
  harg1 : arg1.IsWhole
  arg2 : Memref sig .tc .vmem S512x1024 .f32
  harg2 : arg2.IsWhole
  arg3 : Memref sig .tc .vmem S512x512 .f32
  harg3 : arg3.IsWhole
  arg4 : Memref sig .tc .vmem S64x64 .f32
  harg4 : arg4.IsWhole
  arg5 : Memref sig .tc .vmem S512x1024 .f32
  harg5 : arg5.IsWhole
  arg6 : Memref sig .tc .vmem S4x8x256x128 .f32
  harg6 : arg6.IsWhole
  arg7 : Memref sig .tc .vmem S4x256x128 .f32
  harg7 : arg7.IsWhole
  x0 : Vec F S512x1024 .f32
  x1 : Vec F S512x1024 .f32
  x2 : Vec F S512x512 .f32
  x3 : Vec F S64x64 .f32

variable {F : FTy → Type} [FloatOps F] (E : Env F) (xs0 : Vec F S4x256x128 .f32)

theorem inb_qk (j : Fin 8) (b : Fin 2) : ∀ a, (![64 * j.val, 512 * b.val] : Fin 2 → ℕ) a + S64x512.size a ≤ S512x1024.size a := by
  revert j b; decide
theorem inb_la (j : Fin 8) : ∀ a, (![64 * j.val, 0] : Fin 2 → ℕ) a + S64x512.size a ≤ S512x512.size a := by
  revert j; decide
theorem inb_v (j : Fin 8) (h : Fin 4) : ∀ a, (![64 * j.val, 256 * h.val] : Fin 2 → ℕ) a + S64x256.size a ≤ S512x1024.size a := by
  revert j h; decide
theorem inb_st (h : Fin 4) (j : Fin 8) : ∀ a, (![h.val, j.val, 0, 0] : Fin 4 → ℕ) a + S1x1x256x128.size a ≤ S4x8x256x128.size a := by
  revert j h; decide
theorem inb_s (h : Fin 4) : ∀ a, (![h.val, 0, 0] : Fin 3 → ℕ) a + S1x256x128.size a ≤ S4x256x128.size a := by
  revert h; decide
theorem inb_T : ∀ a, (![0, 0] : Fin 2 → ℕ) a + S64x64.size a ≤ S64x64.size a := by decide

/-- What local chunk `j` loads. -/
def Env.inp (j : Fin 8) : In F where
  q := View.readAt (Elt F) E.arg1.view (Rect.unit (s := S512x1024) ![64 * j.val, 512 * (0 : Fin 2).val] S64x512.size (inb_qk j 0)).toLoadRect (E.harg1.unread E.x0)
  k := View.readAt (Elt F) E.arg1.view (Rect.unit (s := S512x1024) ![64 * j.val, 512 * (1 : Fin 2).val] S64x512.size (inb_qk j 1)).toLoadRect (E.harg1.unread E.x0)
  la := View.readAt (Elt F) E.arg3.view (Rect.unit (s := S512x512) ![64 * j.val, 0] S64x512.size (inb_la j)).toLoadRect (E.harg3.unread E.x2)
  T := View.readAt (Elt F) E.arg4.view (Rect.unit (s := S64x64) ![0, 0] S64x64.size inb_T).toLoadRect (E.harg4.unread E.x3)
  v h := View.readAt (Elt F) E.arg2.view (Rect.unit (s := S512x1024) ![64 * j.val, 256 * h.val] S64x256.size (inb_v j h)).toLoadRect (E.harg2.unread E.x1)

/-- A head's rectangle of the scratch. -/
abbrev rect (h : Fin 4) : Rect S4x256x128 := Rect.unit (s := S4x256x128) ![h.val, 0, 0] S1x256x128.size (inb_s h)

/-- A head's part of the scratch, as a load of it. -/
def Env.old (h : Fin 4) : Vec F S1x256x128 .f32 := View.readAt (Elt F) E.arg7.view (rect h).toLoadRect (E.harg7.unread xs0)

/-- The state after a number of the point's chunks. -/
def Env.chain (s : Fin 4 → Vec F S1x256x128 .f32) : ℕ → Fin 4 → Vec F S1x256x128 .f32
  | 0 => s
  | n + 1 => next (E.inp ⟨n % 8, Nat.mod_lt n (by decide)⟩) (Env.chain s n)

/-- A head's block of a chunk's output, and of the states kept. -/
abbrev blockOf (j : Fin 8) (h : Fin 4) : Rect S512x1024 := Rect.unit (s := S512x1024) ![64 * j.val, 256 * h.val] S64x256.size (inb_v j h)
abbrev stateOf (j : Fin 8) (h : Fin 4) : Rect S4x8x256x128 := Rect.unit (s := S4x8x256x128) ![h.val, j.val, 0, 0] S1x1x256x128.size (inb_st h j)

/-- The local chunks and their heads, in the order of their last stores. -/
abbrev tiles : List (Fin 8 × Fin 4) := [(7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

/-- The pieces that a grid point stores, from the states `s` that enter its chunks. -/
def Env.outs (s : Fin 8 → Fin 4 → Vec F S1x256x128 .f32) : List (View.Piece (Elt F) S512x1024 .f32) :=
  tiles.map fun p => ⟨blockOf p.1 p.2, out (E.inp p.1) (s p.1) p.2⟩
def keeps (s : Fin 8 → Fin 4 → Vec F S1x256x128 .f32) : List (View.Piece (Elt F) S4x8x256x128 .f32) :=
  tiles.map fun p => ⟨stateOf p.1 p.2, kept (s p.1) p.2⟩

theorem rect_disjoint {h h' : Fin 4} (hne : h' ≠ h) : Disjoint (rect h').set (rect h).toLoadRect.set := by
  refine Rect.unit_disjoint (a := 0) ?_
  have := Fin.val_ne_of_ne hne
  show h'.val + 1 ≤ h.val ∨ h.val + 1 ≤ h'.val
  omega

/-- A load of a head's part reads past what another head has stored. -/
theorem read_past (V : View sig .tc .vmem S4x256x128 .f32) {a h : Fin 4} (ha : a ≠ h) (w : Vec F S1x256x128 .f32)
    (L : List (View.Piece (Elt F) S4x256x128 .f32)) :
    V.readCov (⟨rect a, w⟩ :: L) (rect h).toLoadRect = V.readCov L (rect h).toLoadRect :=
  View.readCov_cons_of_disjoint V ⟨rect a, w⟩ _ _ (rect_disjoint ha)

/-- The state at the start. -/
def zeros : Fin 4 → Vec F S1x256x128 .f32 := fun _ _ => Scalar.ofBits .f32 0x00000000#32

theorem read_zeros (V : View sig .tc .vmem S4x256x128 .f32) (h : Fin 4) (inb) :
    V.readCov [⟨Rect.unit (s := S4x256x128) ![0, 0, 0] S4x256x128.size inb, k0_pay2 (F := F)⟩] (rect h).toLoadRect = zeros h := by
  rw [View.readCov_eq_canon']
  funext y
  rw [View.canon_cons_unit_zero (by funext a; fin_cases a <;> rfl)]
  rfl

/-- A chunk's four stores to the scratch, over earlier ones. -/
abbrev four (w : Fin 4 → Vec F S1x256x128 .f32) (L : List (View.Piece (Elt F) S4x256x128 .f32)) :
    List (View.Piece (Elt F) S4x256x128 .f32) :=
  ⟨rect 3, w 3⟩ :: ⟨rect 2, w 2⟩ :: ⟨rect 1, w 1⟩ :: ⟨rect 0, w 0⟩ :: L

/-- What a chunk's heads load from the scratch, each after the stores of the heads before it. -/
def loads (V : View sig .tc .vmem S4x256x128 .f32) (w0 w1 w2 : Vec F S1x256x128 .f32)
    (L : List (View.Piece (Elt F) S4x256x128 .f32)) : Fin 4 → Vec F S1x256x128 .f32 :=
  ![V.readCov L (rect 0).toLoadRect, V.readCov (⟨rect 0, w0⟩ :: L) (rect 1).toLoadRect,
    V.readCov (⟨rect 1, w1⟩ :: ⟨rect 0, w0⟩ :: L) (rect 2).toLoadRect,
    V.readCov (⟨rect 2, w2⟩ :: ⟨rect 1, w1⟩ :: ⟨rect 0, w0⟩ :: L) (rect 3).toLoadRect]

theorem loads_eq (V : View sig .tc .vmem S4x256x128 .f32) (w0 w1 w2 : Vec F S1x256x128 .f32)
    (L : List (View.Piece (Elt F) S4x256x128 .f32)) (s : Fin 4 → Vec F S1x256x128 .f32)
    (hs : ∀ h, V.readCov L (rect h).toLoadRect = s h) : loads V w0 w1 w2 L = s := by
  funext h
  fin_cases h
  · exact hs 0
  · exact (read_past V (by decide) _ _).trans (hs 1)
  · exact (read_past V (by decide) _ _).trans ((read_past V (by decide) _ _).trans (hs 2))
  · exact (read_past V (by decide) _ _).trans ((read_past V (by decide) _ _).trans ((read_past V (by decide) _ _).trans (hs 3)))

theorem loads_four (V : View sig .tc .vmem S4x256x128 .f32) (w0 w1 w2 : Vec F S1x256x128 .f32)
    (L : List (View.Piece (Elt F) S4x256x128 .f32)) (w : Fin 4 → Vec F S1x256x128 .f32) : loads V w0 w1 w2 (four w L) = w := by
  refine loads_eq V _ _ _ _ _ fun h => ?_
  fin_cases h
  · exact (read_past V (by decide) _ _).trans ((read_past V (by decide) _ _).trans ((read_past V (by decide) _ _).trans (View.readCov_cons_toLoadRect V (rect 0) _ L)))
  · exact (read_past V (by decide) _ _).trans ((read_past V (by decide) _ _).trans (View.readCov_cons_toLoadRect V (rect 1) _ _))
  · exact (read_past V (by decide) _ _).trans (View.readCov_cons_toLoadRect V (rect 2) _ _)
  · exact View.readCov_cons_toLoadRect V (rect 3) _ _

end Cert.GlaFIdeal.Chunk

end
-- ==== Proof.GlaFPointA.lean ====
/- A grid point of the forward kernel, the first: what it stores is, chunk by chunk, what `GlaFChunk` says of the chunk's loads
   and of the state that the chunk before has left. -/
module

public import proofs.«01_k».proof.Proof.GlaFPoint

@[expose] public section

set_option maxRecDepth 65536
set_option maxHeartbeats 1000000

noncomputable section

namespace Cert.GlaFIdeal.Chunk

open Cert.GlaFIdeal Cert.GlaFIdeal.Gen Cert.Recurrence Idealize.ShloMosaic Idealize.SL.Sem

variable {F : FTy → Type} [FloatOps F] (E : Env F)

/-- The state as chunk 0 loads it, head by head. -/
def Env.sA0 : Fin 4 → Vec F S1x256x128 .f32 :=
  ![kernelRun0_A.sl.v30 E.c E.arg7,
    kernelRun0_A.sl.v58 E.c E.arg1 E.harg1 E.arg2 E.harg2 E.arg3 E.harg3 E.arg4 E.harg4 E.arg7 E.x0 E.x1 E.x2 E.x3,
    kernelRun0_A.sl.v86 E.c E.arg1 E.harg1 E.arg2 E.harg2 E.arg3 E.harg3 E.arg4 E.harg4 E.arg7 E.x0 E.x1 E.x2 E.x3,
    kernelRun0_A.sl.v114 E.c E.arg1 E.harg1 E.arg2 E.harg2 E.arg3 E.harg3 E.arg4 E.harg4 E.arg7 E.x0 E.x1 E.x2 E.x3]

/-- The state as chunk 1 loads it, head by head. -/
def Env.sA1 : Fin 4 → Vec F S1x256x128 .f32 :=
  ![kernelRun0_A.sl.v164 E.c E.arg1 E.harg1 E.arg2 E.harg2 E.arg3 E.harg3 E.arg4 E.harg4 E.arg7 E.x0 E.x1 E.x2 E.x3,
    kernelRun0_A.sl.v192 E.c E.arg1 E.harg1 E.arg2 E.harg2 E.arg3 E.harg3 E.arg4 E.harg4 E.arg7 E.x0 E.x1 E.x2 E.x3,
    kernelRun0_A.sl.v220 E.c E.arg1 E.harg1 E.arg2 E.harg2 E.arg3 E.harg3 E.arg4 E.harg4 E.arg7 E.x0 E.x1 E.x2 E.x3,
    kernelRun0_A.sl.v248 E.c E.arg1 E.harg1 E.arg2 E.harg2 E.arg3 E.harg3 E.arg4 E.harg4 E.arg7 E.x0 E.x1 E.x2 E.x3]

/-- The state as chunk 2 loads it, head by head. -/
def Env.sA2 : Fin 4 → Vec F S1x256x128 .f32 :=
  ![kernelRun0_A.sl.v298 E.c E.arg1 E.harg1 E.arg2 E.harg2 E.arg3 E.harg3 E.arg4 E.harg4 E.arg7 E.x0 E.x1 E.x2 E.x3,
    kernelRun0_A.sl.v326 E.c E.arg1 E.harg1 E.arg2 E.harg2 E.arg3 E.harg3 E.arg4 E.harg4 E.arg7 E.x0 E.x1 E.x2 E.x3,
    kernelRun0_A.sl.v354 E.c E.arg1 E.harg1 E.arg2 E.harg2 E.arg3 E.harg3 E.arg4 E.harg4 E.arg7 E.x0 E.x1 E.x2 E.x3,
    kernelRun0_A.sl.v382 E.c E.arg1 E.harg1 E.arg2 E.harg2 E.arg3 E.harg3 E.arg4 E.harg4 E.arg7 E.x0 E.x1 E.x2 E.x3]

/-- The state as chunk 3 loads it, head by head. -/
def Env.sA3 : Fin 4 → Vec F S1x256x128 .f32 :=
  ![kernelRun0_A.sl.v432 E.c E.arg1 E.harg1 E.arg2 E.harg2 E.arg3 E.harg3 E.arg4 E.harg4 E.arg7 E.x0 E.x1 E.x2 E.x3,
    kernelRun0_A.sl.v460 E.c E.arg1 E.harg1 E.arg2 E.harg2 E.arg3 E.harg3 E.arg4 E.harg4 E.arg7 E.x0 E.x1 E.x2 E.x3,
    kernelRun0_A.sl.v488 E.c E.arg1 E.harg1 E.arg2 E.harg2 E.arg3 E.harg3 E.arg4 E.harg4 E.arg7 E.x0 E.x1 E.x2 E.x3,
    kernelRun0_A.sl.v516 E.c E.arg1 E.harg1 E.arg2 E.harg2 E.arg3 E.harg3 E.arg4 E.harg4 E.arg7 E.x0 E.x1 E.x2 E.x3]

/-- The state as chunk 4 loads it, head by head. -/
def Env.sA4 : Fin 4 → Vec F S1x256x128 .f32 :=
  ![kernelRun0_A.sl.v566 E.c E.arg1 E.harg1 E.arg2 E.harg2 E.arg3 E.harg3 E.arg4 E.harg4 E.arg7 E.x0 E.x1 E.x2 E.x3,
    kernelRun0_A.sl.v594 E.c E.arg1 E.harg1 E.arg2 E.harg2 E.arg3 E.harg3 E.arg4 E.harg4 E.arg7 E.x0 E.x1 E.x2 E.x3,
    kernelRun0_A.sl.v622 E.c E.arg1 E.harg1 E.arg2 E.harg2 E.arg3 E.harg3 E.arg4 E.harg4 E.arg7 E.x0 E.x1 E.x2 E.x3,
    kernelRun0_A.sl.v650 E.c E.arg1 E.harg1 E.arg2 E.harg2 E.arg3 E.harg3 E.arg4 E.harg4 E.arg7 E.x0 E.x1 E.x2 E.x3]

/-- The state as chunk 5 loads it, head by head. -/
def Env.sA5 : Fin 4 → Vec F S1x256x128 .f32 :=
  ![kernelRun0_A.sl.v700 E.c E.arg1 E.harg1 E.arg2 E.harg2 E.arg3 E.harg3 E.arg4 E.harg4 E.arg7 E.x0 E.x1 E.x2 E.x3,
    kernelRun0_A.sl.v728 E.c E.arg1 E.harg1 E.arg2 E.harg2 E.arg3 E.harg3 E.arg4 E.harg4 E.arg7 E.x0 E.x1 E.x2 E.x3,
    kernelRun0_A.sl.v756 E.c E.arg1 E.harg1 E.arg2 E.harg2 E.arg3 E.harg3 E.arg4 E.harg4 E.arg7 E.x0 E.x1 E.x2 E.x3,
    kernelRun0_A.sl.v784 E.c E.arg1 E.harg1 E.arg2 E.harg2 E.arg3 E.harg3 E.arg4 E.harg4 E.arg7 E.x0 E.x1 E.x2 E.x3]

/-- The state as chunk 6 loads it, head by head. -/
def Env.sA6 : Fin 4 → Vec F S1x256x128 .f32 :=
  ![kernelRun0_A.sl.v834 E.c E.arg1 E.harg1 E.arg2 E.harg2 E.arg3 E.harg3 E.arg4 E.harg4 E.arg7 E.x0 E.x1 E.x2 E.x3,
    kernelRun0_A.sl.v862 E.c E.arg1 E.harg1 E.arg2 E.harg2 E.arg3 E.harg3 E.arg4 E.harg4 E.arg7 E.x0 E.x1 E.x2 E.x3,
    kernelRun0_A.sl.v890 E.c E.arg1 E.harg1 E.arg2 E.harg2 E.arg3 E.harg3 E.arg4 E.harg4 E.arg7 E.x0 E.x1 E.x2 E.x3,
    kernelRun0_A.sl.v918 E.c E.arg1 E.harg1 E.arg2 E.harg2 E.arg3 E.harg3 E.arg4 E.harg4 E.arg7 E.x0 E.x1 E.x2 E.x3]

/-- The state as chunk 7 loads it, head by head. -/
def Env.sA7 : Fin 4 → Vec F S1x256x128 .f32 :=
  ![kernelRun0_A.sl.v968 E.c E.arg1 E.harg1 E.arg2 E.harg2 E.arg3 E.harg3 E.arg4 E.harg4 E.arg7 E.x0 E.x1 E.x2 E.x3,
    kernelRun0_A.sl.v996 E.c E.arg1 E.harg1 E.arg2 E.harg2 E.arg3 E.harg3 E.arg4 E.harg4 E.arg7 E.x0 E.x1 E.x2 E.x3,
    kernelRun0_A.sl.v1024 E.c E.arg1 E.harg1 E.arg2 E.harg2 E.arg3 E.harg3 E.arg4 E.harg4 E.arg7 E.x0 E.x1 E.x2 E.x3,
    kernelRun0_A.sl.v1052 E.c E.arg1 E.harg1 E.arg2 E.harg2 E.arg3 E.harg3 E.arg4 E.harg4 E.arg7 E.x0 E.x1 E.x2 E.x3]

theorem sA0_eq : E.sA0 = zeros :=
  Eq.trans (b := loads E.arg7.view _ _ _ kernelRun0_A.sl.HS0_1) rfl (loads_eq _ _ _ _ _ _ fun h => read_zeros E.arg7.view h _)

theorem storesA0 : kernelRun0_A.sl.HS0_5 E.c E.arg1 E.harg1 E.arg2 E.harg2 E.arg3 E.harg3 E.arg4 E.harg4 E.arg7 E.x0 E.x1 E.x2 E.x3
    = four (next (E.inp 0) E.sA0) kernelRun0_A.sl.HS0_1 := rfl

theorem sA1_eq : E.sA1 = next (E.inp 0) E.sA0 :=
  Eq.trans (b := loads E.arg7.view _ _ _ (kernelRun0_A.sl.HS0_5 E.c E.arg1 E.harg1 E.arg2 E.harg2 E.arg3 E.harg3 E.arg4 E.harg4 E.arg7 E.x0 E.x1 E.x2 E.x3)) rfl (by rw [storesA0]; exact loads_four ..)

theorem storesA1 : kernelRun0_A.sl.HS0_9 E.c E.arg1 E.harg1 E.arg2 E.harg2 E.arg3 E.harg3 E.arg4 E.harg4 E.arg7 E.x0 E.x1 E.x2 E.x3
    = four (next (E.inp 1) E.sA1) (kernelRun0_A.sl.HS0_5 E.c E.arg1 E.harg1 E.arg2 E.harg2 E.arg3 E.harg3 E.arg4 E.harg4 E.arg7 E.x0 E.x1 E.x2 E.x3) := rfl

theorem sA2_eq : E.sA2 = next (E.inp 1) E.sA1 :=
  Eq.trans (b := loads E.arg7.view _ _ _ (kernelRun0_A.sl.HS0_9 E.c E.arg1 E.harg1 E.arg2 E.harg2 E.arg3 E.harg3 E.arg4 E.harg4 E.arg7 E.x0 E.x1 E.x2 E.x3)) rfl (by rw [storesA1]; exact loads_four ..)

theorem storesA2 : kernelRun0_A.sl.HS0_13 E.c E.arg1 E.harg1 E.arg2 E.harg2 E.arg3 E.harg3 E.arg4 E.harg4 E.arg7 E.x0 E.x1 E.x2 E.x3
    = four (next (E.inp 2) E.sA2) (kernelRun0_A.sl.HS0_9 E.c E.arg1 E.harg1 E.arg2 E.harg2 E.arg3 E.harg3 E.arg4 E.harg4 E.arg7 E.x0 E.x1 E.x2 E.x3) := rfl

theorem sA3_eq : E.sA3 = next (E.inp 2) E.sA2 :=
  Eq.trans (b := loads E.arg7.view _ _ _ (kernelRun0_A.sl.HS0_13 E.c E.arg1 E.harg1 E.arg2 E.harg2 E.arg3 E.harg3 E.arg4 E.harg4 E.arg7 E.x0 E.x1 E.x2 E.x3)) rfl (by rw [storesA2]; exact loads_four ..)

theorem storesA3 : kernelRun0_A.sl.HS0_17 E.c E.arg1 E.harg1 E.arg2 E.harg2 E.arg3 E.harg3 E.arg4 E.harg4 E.arg7 E.x0 E.x1 E.x2 E.x3
    = four (next (E.inp 3) E.sA3) (kernelRun0_A.sl.HS0_13 E.c E.arg1 E.harg1 E.arg2 E.harg2 E.arg3 E.harg3 E.arg4 E.harg4 E.arg7 E.x0 E.x1 E.x2 E.x3) := rfl

theorem sA4_eq : E.sA4 = next (E.inp 3) E.sA3 :=
  Eq.trans (b := loads E.arg7.view _ _ _ (kernelRun0_A.sl.HS0_17 E.c E.arg1 E.harg1 E.arg2 E.harg2 E.arg3 E.harg3 E.arg4 E.harg4 E.arg7 E.x0 E.x1 E.x2 E.x3)) rfl (by rw [storesA3]; exact loads_four ..)

theorem storesA4 : kernelRun0_A.sl.HS0_21 E.c E.arg1 E.harg1 E.arg2 E.harg2 E.arg3 E.harg3 E.arg4 E.harg4 E.arg7 E.x0 E.x1 E.x2 E.x3
    = four (next (E.inp 4) E.sA4) (kernelRun0_A.sl.HS0_17 E.c E.arg1 E.harg1 E.arg2 E.harg2 E.arg3 E.harg3 E.arg4 E.harg4 E.arg7 E.x0 E.x1 E.x2 E.x3) := rfl

theorem sA5_eq : E.sA5 = next (E.inp 4) E.sA4 :=
  Eq.trans (b := loads E.arg7.view _ _ _ (kernelRun0_A.sl.HS0_21 E.c E.arg1 E.harg1 E.arg2 E.harg2 E.arg3 E.harg3 E.arg4 E.harg4 E.arg7 E.x0 E.x1 E.x2 E.x3)) rfl (by rw [storesA4]; exact loads_four ..)

theorem storesA5 : kernelRun0_A.sl.HS0_25 E.c E.arg1 E.harg1 E.arg2 E.harg2 E.arg3 E.harg3 E.arg4 E.harg4 E.arg7 E.x0 E.x1 E.x2 E.x3
    = four (next (E.inp 5) E.sA5) (kernelRun0_A.sl.HS0_21 E.c E.arg1 E.harg1 E.arg2 E.harg2 E.arg3 E.harg3 E.arg4 E.harg4 E.arg7 E.x0 E.x1 E.x2 E.x3) := rfl

theorem sA6_eq : E.sA6 = next (E.inp 5) E.sA5 :=
  Eq.trans (b := loads E.arg7.view _ _ _ (kernelRun0_A.sl.HS0_25 E.c E.arg1 E.harg1 E.arg2 E.harg2 E.arg3 E.harg3 E.arg4 E.harg4 E.arg7 E.x0 E.x1 E.x2 E.x3)) rfl (by rw [storesA5]; exact loads_four ..)

theorem storesA6 : kernelRun0_A.sl.HS0_29 E.c E.arg1 E.harg1 E.arg2 E.harg2 E.arg3 E.harg3 E.arg4 E.harg4 E.arg7 E.x0 E.x1 E.x2 E.x3
    = four (next (E.inp 6) E.sA6) (kernelRun0_A.sl.HS0_25 E.c E.arg1 E.harg1 E.arg2 E.harg2 E.arg3 E.harg3 E.arg4 E.harg4 E.arg7 E.x0 E.x1 E.x2 E.x3) := rfl

theorem sA7_eq : E.sA7 = next (E.inp 6) E.sA6 :=
  Eq.trans (b := loads E.arg7.view _ _ _ (kernelRun0_A.sl.HS0_29 E.c E.arg1 E.harg1 E.arg2 E.harg2 E.arg3 E.harg3 E.arg4 E.harg4 E.arg7 E.x0 E.x1 E.x2 E.x3)) rfl (by rw [storesA6]; exact loads_four ..)

/-- The states that enter the point's chunks. -/
def Env.sA : Fin 8 → Fin 4 → Vec F S1x256x128 .f32 :=
  ![E.sA0, E.sA1, E.sA2, E.sA3, E.sA4, E.sA5, E.sA6, E.sA7]

theorem sA_eq : E.sA = fun j => E.chain zeros j.val := by
  have e0 := sA0_eq E
  have e1 : E.sA1 = E.chain zeros 1 := (sA1_eq E).trans (congrArg (next (E.inp 0)) e0)
  have e2 : E.sA2 = E.chain zeros 2 := (sA2_eq E).trans (congrArg (next (E.inp 1)) e1)
  have e3 : E.sA3 = E.chain zeros 3 := (sA3_eq E).trans (congrArg (next (E.inp 2)) e2)
  have e4 : E.sA4 = E.chain zeros 4 := (sA4_eq E).trans (congrArg (next (E.inp 3)) e3)
  have e5 : E.sA5 = E.chain zeros 5 := (sA5_eq E).trans (congrArg (next (E.inp 4)) e4)
  have e6 : E.sA6 = E.chain zeros 6 := (sA6_eq E).trans (congrArg (next (E.inp 5)) e5)
  have e7 : E.sA7 = E.chain zeros 7 := (sA7_eq E).trans (congrArg (next (E.inp 6)) e6)
  funext j
  match j with
  | 0 => exact e0
  | 1 => exact e1
  | 2 => exact e2
  | 3 => exact e3
  | 4 => exact e4
  | 5 => exact e5
  | 6 => exact e6
  | 7 => exact e7

variable (hc : cond0_0 E.i)

theorem outsA : (kernelRun0_A E.c E.i E.arg1 E.harg1 E.arg2 E.harg2 E.arg3 E.harg3 E.arg4 E.harg4 E.arg5 E.harg5 E.arg6 E.harg6 E.arg7 E.harg7 hc E.x0 E.x1 E.x2 E.x3).1 = E.outs (E.sA) := rfl

theorem keepsA : (kernelRun0_A E.c E.i E.arg1 E.harg1 E.arg2 E.harg2 E.arg3 E.harg3 E.arg4 E.harg4 E.arg5 E.harg5 E.arg6 E.harg6 E.arg7 E.harg7 hc E.x0 E.x1 E.x2 E.x3).2.1 = keeps (E.sA) := rfl

theorem leftA : (kernelRun0_A E.c E.i E.arg1 E.harg1 E.arg2 E.harg2 E.arg3 E.harg3 E.arg4 E.harg4 E.arg5 E.harg5 E.arg6 E.harg6 E.arg7 E.harg7 hc E.x0 E.x1 E.x2 E.x3).2.2.1
    = four (next (E.inp 7) E.sA7) (kernelRun0_A.sl.HS0_29 E.c E.arg1 E.harg1 E.arg2 E.harg2 E.arg3 E.harg3 E.arg4 E.harg4 E.arg7 E.x0 E.x1 E.x2 E.x3) := rfl

end Cert.GlaFIdeal.Chunk

end
-- ==== Proof.GlaFPointB.lean ====
/- A grid point of the forward kernel but for the first: what it stores is, chunk by chunk, what `GlaFChunk` says of the chunk's loads
   and of the state that the chunk before has left. -/
module

public import proofs.«01_k».proof.Proof.GlaFPoint

@[expose] public section

set_option maxRecDepth 65536
set_option maxHeartbeats 1000000

noncomputable section

namespace Cert.GlaFIdeal.Chunk

open Cert.GlaFIdeal Cert.GlaFIdeal.Gen Cert.Recurrence Idealize.ShloMosaic Idealize.SL.Sem

variable {F : FTy → Type} [FloatOps F] (E : Env F) (xs0 : Vec F S4x256x128 .f32)

/-- The state as chunk 1 loads it, head by head. -/
def Env.sB1 (xs0 : Vec F S4x256x128 .f32) : Fin 4 → Vec F S1x256x128 .f32 :=
  ![kernelRun0_B.sl.v164 E.c E.arg1 E.harg1 E.arg2 E.harg2 E.arg3 E.harg3 E.arg4 E.harg4 E.arg7 E.harg7 E.x0 E.x1 E.x2 E.x3 xs0,
    kernelRun0_B.sl.v192 E.c E.arg1 E.harg1 E.arg2 E.harg2 E.arg3 E.harg3 E.arg4 E.harg4 E.arg7 E.harg7 E.x0 E.x1 E.x2 E.x3 xs0,
    kernelRun0_B.sl.v220 E.c E.arg1 E.harg1 E.arg2 E.harg2 E.arg3 E.harg3 E.arg4 E.harg4 E.arg7 E.harg7 E.x0 E.x1 E.x2 E.x3 xs0,
    kernelRun0_B.sl.v248 E.c E.arg1 E.harg1 E.arg2 E.harg2 E.arg3 E.harg3 E.arg4 E.harg4 E.arg7 E.harg7 E.x0 E.x1 E.x2 E.x3 xs0]

/-- The state as chunk 2 loads it, head by head. -/
def Env.sB2 (xs0 : Vec F S4x256x128 .f32) : Fin 4 → Vec F S1x256x128 .f32 :=
  ![kernelRun0_B.sl.v298 E.c E.arg1 E.harg1 E.arg2 E.harg2 E.arg3 E.harg3 E.arg4 E.harg4 E.arg7 E.harg7 E.x0 E.x1 E.x2 E.x3 xs0,
    kernelRun0_B.sl.v326 E.c E.arg1 E.harg1 E.arg2 E.harg2 E.arg3 E.harg3 E.arg4 E.harg4 E.arg7 E.harg7 E.x0 E.x1 E.x2 E.x3 xs0,
    kernelRun0_B.sl.v354 E.c E.arg1 E.harg1 E.arg2 E.harg2 E.arg3 E.harg3 E.arg4 E.harg4 E.arg7 E.harg7 E.x0 E.x1 E.x2 E.x3 xs0,
    kernelRun0_B.sl.v382 E.c E.arg1 E.harg1 E.arg2 E.harg2 E.arg3 E.harg3 E.arg4 E.harg4 E.arg7 E.harg7 E.x0 E.x1 E.x2 E.x3 xs0]

/-- The state as chunk 3 loads it, head by head. -/
def Env.sB3 (xs0 : Vec F S4x256x128 .f32) : Fin 4 → Vec F S1x256x128 .f32 :=
  ![kernelRun0_B.sl.v432 E.c E.arg1 E.harg1 E.arg2 E.harg2 E.arg3 E.harg3 E.arg4 E.harg4 E.arg7 E.harg7 E.x0 E.x1 E.x2 E.x3 xs0,
    kernelRun0_B.sl.v460 E.c E.arg1 E.harg1 E.arg2 E.harg2 E.arg3 E.harg3 E.arg4 E.harg4 E.arg7 E.harg7 E.x0 E.x1 E.x2 E.x3 xs0,
    kernelRun0_B.sl.v488 E.c E.arg1 E.harg1 E.arg2 E.harg2 E.arg3 E.harg3 E.arg4 E.harg4 E.arg7 E.harg7 E.x0 E.x1 E.x2 E.x3 xs0,
    kernelRun0_B.sl.v516 E.c E.arg1 E.harg1 E.arg2 E.harg2 E.arg3 E.harg3 E.arg4 E.harg4 E.arg7 E.harg7 E.x0 E.x1 E.x2 E.x3 xs0]

/-- The state as chunk 4 loads it, head by head. -/
def Env.sB4 (xs0 : Vec F S4x256x128 .f32) : Fin 4 → Vec F S1x256x128 .f32 :=
  ![kernelRun0_B.sl.v566 E.c E.arg1 E.harg1 E.arg2 E.harg2 E.arg3 E.harg3 E.arg4 E.harg4 E.arg7 E.harg7 E.x0 E.x1 E.x2 E.x3 xs0,
    kernelRun0_B.sl.v594 E.c E.arg1 E.harg1 E.arg2 E.harg2 E.arg3 E.harg3 E.arg4 E.harg4 E.arg7 E.harg7 E.x0 E.x1 E.x2 E.x3 xs0,
    kernelRun0_B.sl.v622 E.c E.arg1 E.harg1 E.arg2 E.harg2 E.arg3 E.harg3 E.arg4 E.harg4 E.arg7 E.harg7 E.x0 E.x1 E.x2 E.x3 xs0,
    kernelRun0_B.sl.v650 E.c E.arg1 E.harg1 E.arg2 E.harg2 E.arg3 E.harg3 E.arg4 E.harg4 E.arg7 E.harg7 E.x0 E.x1 E.x2 E.x3 xs0]

/-- The state as chunk 5 loads it, head by head. -/
def Env.sB5 (xs0 : Vec F S4x256x128 .f32) : Fin 4 → Vec F S1x256x128 .f32 :=
  ![kernelRun0_B.sl.v700 E.c E.arg1 E.harg1 E.arg2 E.harg2 E.arg3 E.harg3 E.arg4 E.harg4 E.arg7 E.harg7 E.x0 E.x1 E.x2 E.x3 xs0,
    kernelRun0_B.sl.v728 E.c E.arg1 E.harg1 E.arg2 E.harg2 E.arg3 E.harg3 E.arg4 E.harg4 E.arg7 E.harg7 E.x0 E.x1 E.x2 E.x3 xs0,
    kernelRun0_B.sl.v756 E.c E.arg1 E.harg1 E.arg2 E.harg2 E.arg3 E.harg3 E.arg4 E.harg4 E.arg7 E.harg7 E.x0 E.x1 E.x2 E.x3 xs0,
    kernelRun0_B.sl.v784 E.c E.arg1 E.harg1 E.arg2 E.harg2 E.arg3 E.harg3 E.arg4 E.harg4 E.arg7 E.harg7 E.x0 E.x1 E.x2 E.x3 xs0]

/-- The state as chunk 6 loads it, head by head. -/
def Env.sB6 (xs0 : Vec F S4x256x128 .f32) : Fin 4 → Vec F S1x256x128 .f32 :=
  ![kernelRun0_B.sl.v834 E.c E.arg1 E.harg1 E.arg2 E.harg2 E.arg3 E.harg3 E.arg4 E.harg4 E.arg7 E.harg7 E.x0 E.x1 E.x2 E.x3 xs0,
    kernelRun0_B.sl.v862 E.c E.arg1 E.harg1 E.arg2 E.harg2 E.arg3 E.harg3 E.arg4 E.harg4 E.arg7 E.harg7 E.x0 E.x1 E.x2 E.x3 xs0,
    kernelRun0_B.sl.v890 E.c E.arg1 E.harg1 E.arg2 E.harg2 E.arg3 E.harg3 E.arg4 E.harg4 E.arg7 E.harg7 E.x0 E.x1 E.x2 E.x3 xs0,
    kernelRun0_B.sl.v918 E.c E.arg1 E.harg1 E.arg2 E.harg2 E.arg3 E.harg3 E.arg4 E.harg4 E.arg7 E.harg7 E.x0 E.x1 E.x2 E.x3 xs0]

/-- The state as chunk 7 loads it, head by head. -/
def Env.sB7 (xs0 : Vec F S4x256x128 .f32) : Fin 4 → Vec F S1x256x128 .f32 :=
  ![kernelRun0_B.sl.v968 E.c E.arg1 E.harg1 E.arg2 E.harg2 E.arg3 E.harg3 E.arg4 E.harg4 E.arg7 E.harg7 E.x0 E.x1 E.x2 E.x3 xs0,
    kernelRun0_B.sl.v996 E.c E.arg1 E.harg1 E.arg2 E.harg2 E.arg3 E.harg3 E.arg4 E.harg4 E.arg7 E.harg7 E.x0 E.x1 E.x2 E.x3 xs0,
    kernelRun0_B.sl.v1024 E.c E.arg1 E.harg1 E.arg2 E.harg2 E.arg3 E.harg3 E.arg4 E.harg4 E.arg7 E.harg7 E.x0 E.x1 E.x2 E.x3 xs0,
    kernelRun0_B.sl.v1052 E.c E.arg1 E.harg1 E.arg2 E.harg2 E.arg3 E.harg3 E.arg4 E.harg4 E.arg7 E.harg7 E.x0 E.x1 E.x2 E.x3 xs0]

theorem storesB0 : kernelRun0_B.sl.HS0_4 E.c E.arg1 E.harg1 E.arg2 E.harg2 E.arg3 E.harg3 E.arg4 E.harg4 E.arg7 E.harg7 E.x0 E.x1 E.x2 E.x3 xs0
    = four (next (E.inp 0) (E.old xs0)) [] := rfl

theorem sB1_eq : (E.sB1 xs0) = next (E.inp 0) (E.old xs0) :=
  Eq.trans (b := loads E.arg7.view _ _ _ (kernelRun0_B.sl.HS0_4 E.c E.arg1 E.harg1 E.arg2 E.harg2 E.arg3 E.harg3 E.arg4 E.harg4 E.arg7 E.harg7 E.x0 E.x1 E.x2 E.x3 xs0)) rfl (by rw [storesB0]; exact loads_four ..)

theorem storesB1 : kernelRun0_B.sl.HS0_8 E.c E.arg1 E.harg1 E.arg2 E.harg2 E.arg3 E.harg3 E.arg4 E.harg4 E.arg7 E.harg7 E.x0 E.x1 E.x2 E.x3 xs0
    = four (next (E.inp 1) (E.sB1 xs0)) (kernelRun0_B.sl.HS0_4 E.c E.arg1 E.harg1 E.arg2 E.harg2 E.arg3 E.harg3 E.arg4 E.harg4 E.arg7 E.harg7 E.x0 E.x1 E.x2 E.x3 xs0) := rfl

theorem sB2_eq : (E.sB2 xs0) = next (E.inp 1) (E.sB1 xs0) :=
  Eq.trans (b := loads E.arg7.view _ _ _ (kernelRun0_B.sl.HS0_8 E.c E.arg1 E.harg1 E.arg2 E.harg2 E.arg3 E.harg3 E.arg4 E.harg4 E.arg7 E.harg7 E.x0 E.x1 E.x2 E.x3 xs0)) rfl (by rw [storesB1]; exact loads_four ..)

theorem storesB2 : kernelRun0_B.sl.HS0_12 E.c E.arg1 E.harg1 E.arg2 E.harg2 E.arg3 E.harg3 E.arg4 E.harg4 E.arg7 E.harg7 E.x0 E.x1 E.x2 E.x3 xs0
    = four (next (E.inp 2) (E.sB2 xs0)) (kernelRun0_B.sl.HS0_8 E.c E.arg1 E.harg1 E.arg2 E.harg2 E.arg3 E.harg3 E.arg4 E.harg4 E.arg7 E.harg7 E.x0 E.x1 E.x2 E.x3 xs0) := rfl

theorem sB3_eq : (E.sB3 xs0) = next (E.inp 2) (E.sB2 xs0) :=
  Eq.trans (b := loads E.arg7.view _ _ _ (kernelRun0_B.sl.HS0_12 E.c E.arg1 E.harg1 E.arg2 E.harg2 E.arg3 E.harg3 E.arg4 E.harg4 E.arg7 E.harg7 E.x0 E.x1 E.x2 E.x3 xs0)) rfl (by rw [storesB2]; exact loads_four ..)

theorem storesB3 : kernelRun0_B.sl.HS0_16 E.c E.arg1 E.harg1 E.arg2 E.harg2 E.arg3 E.harg3 E.arg4 E.harg4 E.arg7 E.harg7 E.x0 E.x1 E.x2 E.x3 xs0
    = four (next (E.inp 3) (E.sB3 xs0)) (kernelRun0_B.sl.HS0_12 E.c E.arg1 E.harg1 E.arg2 E.harg2 E.arg3 E.harg3 E.arg4 E.harg4 E.arg7 E.harg7 E.x0 E.x1 E.x2 E.x3 xs0) := rfl

theorem sB4_eq : (E.sB4 xs0) = next (E.inp 3) (E.sB3 xs0) :=
  Eq.trans (b := loads E.arg7.view _ _ _ (kernelRun0_B.sl.HS0_16 E.c E.arg1 E.harg1 E.arg2 E.harg2 E.arg3 E.harg3 E.arg4 E.harg4 E.arg7 E.harg7 E.x0 E.x1 E.x2 E.x3 xs0)) rfl (by rw [storesB3]; exact loads_four ..)

theorem storesB4 : kernelRun0_B.sl.HS0_20 E.c E.arg1 E.harg1 E.arg2 E.harg2 E.arg3 E.harg3 E.arg4 E.harg4 E.arg7 E.harg7 E.x0 E.x1 E.x2 E.x3 xs0
    = four (next (E.inp 4) (E.sB4 xs0)) (kernelRun0_B.sl.HS0_16 E.c E.arg1 E.harg1 E.arg2 E.harg2 E.arg3 E.harg3 E.arg4 E.harg4 E.arg7 E.harg7 E.x0 E.x1 E.x2 E.x3 xs0) := rfl

theorem sB5_eq : (E.sB5 xs0) = next (E.inp 4) (E.sB4 xs0) :=
  Eq.trans (b := loads E.arg7.view _ _ _ (kernelRun0_B.sl.HS0_20 E.c E.arg1 E.harg1 E.arg2 E.harg2 E.arg3 E.harg3 E.arg4 E.harg4 E.arg7 E.harg7 E.x0 E.x1 E.x2 E.x3 xs0)) rfl (by rw [storesB4]; exact loads_four ..)

theorem storesB5 : kernelRun0_B.sl.HS0_24 E.c E.arg1 E.harg1 E.arg2 E.harg2 E.arg3 E.harg3 E.arg4 E.harg4 E.arg7 E.harg7 E.x0 E.x1 E.x2 E.x3 xs0
    = four (next (E.inp 5) (E.sB5 xs0)) (kernelRun0_B.sl.HS0_20 E.c E.arg1 E.harg1 E.arg2 E.harg2 E.arg3 E.harg3 E.arg4 E.harg4 E.arg7 E.harg7 E.x0 E.x1 E.x2 E.x3 xs0) := rfl

theorem sB6_eq : (E.sB6 xs0) = next (E.inp 5) (E.sB5 xs0) :=
  Eq.trans (b := loads E.arg7.view _ _ _ (kernelRun0_B.sl.HS0_24 E.c E.arg1 E.harg1 E.arg2 E.harg2 E.arg3 E.harg3 E.arg4 E.harg4 E.arg7 E.harg7 E.x0 E.x1 E.x2 E.x3 xs0)) rfl (by rw [storesB5]; exact loads_four ..)

theorem storesB6 : kernelRun0_B.sl.HS0_28 E.c E.arg1 E.harg1 E.arg2 E.harg2 E.arg3 E.harg3 E.arg4 E.harg4 E.arg7 E.harg7 E.x0 E.x1 E.x2 E.x3 xs0
    = four (next (E.inp 6) (E.sB6 xs0)) (kernelRun0_B.sl.HS0_24 E.c E.arg1 E.harg1 E.arg2 E.harg2 E.arg3 E.harg3 E.arg4 E.harg4 E.arg7 E.harg7 E.x0 E.x1 E.x2 E.x3 xs0) := rfl

theorem sB7_eq : (E.sB7 xs0) = next (E.inp 6) (E.sB6 xs0) :=
  Eq.trans (b := loads E.arg7.view _ _ _ (kernelRun0_B.sl.HS0_28 E.c E.arg1 E.harg1 E.arg2 E.harg2 E.arg3 E.harg3 E.arg4 E.harg4 E.arg7 E.harg7 E.x0 E.x1 E.x2 E.x3 xs0)) rfl (by rw [storesB6]; exact loads_four ..)

/-- The states that enter the point's chunks. -/
def Env.sB (xs0 : Vec F S4x256x128 .f32) : Fin 8 → Fin 4 → Vec F S1x256x128 .f32 :=
  ![(E.old xs0), (E.sB1 xs0), (E.sB2 xs0), (E.sB3 xs0), (E.sB4 xs0), (E.sB5 xs0), (E.sB6 xs0), (E.sB7 xs0)]

theorem sB_eq : E.sB xs0 = fun j => E.chain (E.old xs0) j.val := by
  have e1 : (E.sB1 xs0) = E.chain (E.old xs0) 1 := (sB1_eq E xs0).trans (congrArg (next (E.inp 0)) rfl)
  have e2 : (E.sB2 xs0) = E.chain (E.old xs0) 2 := (sB2_eq E xs0).trans (congrArg (next (E.inp 1)) e1)
  have e3 : (E.sB3 xs0) = E.chain (E.old xs0) 3 := (sB3_eq E xs0).trans (congrArg (next (E.inp 2)) e2)
  have e4 : (E.sB4 xs0) = E.chain (E.old xs0) 4 := (sB4_eq E xs0).trans (congrArg (next (E.inp 3)) e3)
  have e5 : (E.sB5 xs0) = E.chain (E.old xs0) 5 := (sB5_eq E xs0).trans (congrArg (next (E.inp 4)) e4)
  have e6 : (E.sB6 xs0) = E.chain (E.old xs0) 6 := (sB6_eq E xs0).trans (congrArg (next (E.inp 5)) e5)
  have e7 : (E.sB7 xs0) = E.chain (E.old xs0) 7 := (sB7_eq E xs0).trans (congrArg (next (E.inp 6)) e6)
  funext j
  match j with
  | 0 => exact rfl
  | 1 => exact e1
  | 2 => exact e2
  | 3 => exact e3
  | 4 => exact e4
  | 5 => exact e5
  | 6 => exact e6
  | 7 => exact e7

variable (hc : ¬cond0_0 E.i)

theorem outsB : (kernelRun0_B E.c E.i E.arg1 E.harg1 E.arg2 E.harg2 E.arg3 E.harg3 E.arg4 E.harg4 E.arg5 E.harg5 E.arg6 E.harg6 E.arg7 E.harg7 hc E.x0 E.x1 E.x2 E.x3 xs0).1 = E.outs (E.sB xs0) := rfl

theorem keepsB : (kernelRun0_B E.c E.i E.arg1 E.harg1 E.arg2 E.harg2 E.arg3 E.harg3 E.arg4 E.harg4 E.arg5 E.harg5 E.arg6 E.harg6 E.arg7 E.harg7 hc E.x0 E.x1 E.x2 E.x3 xs0).2.1 = keeps (E.sB xs0) := rfl

theorem leftB : (kernelRun0_B E.c E.i E.arg1 E.harg1 E.arg2 E.harg2 E.arg3 E.harg3 E.arg4 E.harg4 E.arg5 E.harg5 E.arg6 E.harg6 E.arg7 E.harg7 hc E.x0 E.x1 E.x2 E.x3 xs0).2.2.1
    = four (next (E.inp 7) (E.sB7 xs0)) (kernelRun0_B.sl.HS0_28 E.c E.arg1 E.harg1 E.arg2 E.harg2 E.arg3 E.harg3 E.arg4 E.harg4 E.arg7 E.harg7 E.x0 E.x1 E.x2 E.x3 xs0) := rfl

end Cert.GlaFIdeal.Chunk

end
-- ==== Proof.GlaFOuts.lean ====
/- What a grid point of the forward kernel leaves in its results' buffers and in the scratch, in either case of its condition. -/
module

public import proofs.«01_k».proof.Proof.GlaFPointA
public import proofs.«01_k».proof.Proof.GlaFPointB

@[expose] public section

set_option maxRecDepth 65536

noncomputable section

namespace Cert.GlaFIdeal.Chunk

open Cert.GlaFIdeal Cert.GlaFIdeal.Gen Idealize.ShloMosaic Idealize.SL.Sem

variable {F : FTy → Type} [FloatOps F] (E : Env F) (xs0 : Vec F S4x256x128 .f32)

section

variable (hc : cond0_0 E.i)

theorem out_oA : out0_A_4 E.c E.i E.arg1 E.harg1 E.arg2 E.harg2 E.arg3 E.harg3 E.arg4 E.harg4 E.arg5 E.harg5 E.arg6 E.harg6 E.arg7 E.harg7 hc E.x0 E.x1 E.x2 E.x3
    = VO0_4.read (Elt F) (VO0_4.writes (Elt F) VO0_4.junk (E.outs fun j => E.chain zeros j.val)) := by
  unfold out0_A_4
  rw [outsA E hc, sA_eq]

theorem out_statesA : out0_A_5 E.c E.i E.arg1 E.harg1 E.arg2 E.harg2 E.arg3 E.harg3 E.arg4 E.harg4 E.arg5 E.harg5 E.arg6 E.harg6 E.arg7 E.harg7 hc E.x0 E.x1 E.x2 E.x3
    = VO0_5.read (Elt F) (VO0_5.writes (Elt F) VO0_5.junk (keeps fun j => E.chain zeros j.val)) := by
  unfold out0_A_5
  rw [keepsA E hc, sA_eq]

theorem out_leftA : ∃ L, sout0_A_0 E.c E.i E.arg1 E.harg1 E.arg2 E.harg2 E.arg3 E.harg3 E.arg4 E.harg4 E.arg5 E.harg5 E.arg6 E.harg6 E.arg7 E.harg7 hc E.x0 E.x1 E.x2 E.x3
    = VS0_0.read (Elt F) (VS0_0.writes (Elt F) VS0_0.junk (four (E.chain zeros 8) L)) := by
  have e : E.sA7 = E.chain zeros 7 := congrFun (sA_eq E) 7
  unfold sout0_A_0
  rw [leftA E hc, e]
  exact ⟨_, rfl⟩

end

section

variable (hc : ¬cond0_0 E.i)

theorem out_oB : out0_B_4 E.c E.i E.arg1 E.harg1 E.arg2 E.harg2 E.arg3 E.harg3 E.arg4 E.harg4 E.arg5 E.harg5 E.arg6 E.harg6 E.arg7 E.harg7 hc E.x0 E.x1 E.x2 E.x3 xs0
    = VO0_4.read (Elt F) (VO0_4.writes (Elt F) VO0_4.junk (E.outs fun j => E.chain (E.old xs0) j.val)) := by
  unfold out0_B_4
  rw [outsB E xs0 hc, sB_eq]

theorem out_statesB : out0_B_5 E.c E.i E.arg1 E.harg1 E.arg2 E.harg2 E.arg3 E.harg3 E.arg4 E.harg4 E.arg5 E.harg5 E.arg6 E.harg6 E.arg7 E.harg7 hc E.x0 E.x1 E.x2 E.x3 xs0
    = VO0_5.read (Elt F) (VO0_5.writes (Elt F) VO0_5.junk (keeps fun j => E.chain (E.old xs0) j.val)) := by
  unfold out0_B_5
  rw [keepsB E xs0 hc, sB_eq]

theorem out_leftB : ∃ L, sout0_B_0 E.c E.i E.arg1 E.harg1 E.arg2 E.harg2 E.arg3 E.harg3 E.arg4 E.harg4 E.arg5 E.harg5 E.arg6 E.harg6 E.arg7 E.harg7 hc E.x0 E.x1 E.x2 E.x3 xs0
    = VS0_0.read (Elt F) (VS0_0.writes (Elt F) VS0_0.junk (four (E.chain (E.old xs0) 8) L)) := by
  have e : E.sB7 xs0 = E.chain (E.old xs0) 7 := congrFun (sB_eq E xs0) 7
  unfold sout0_B_0
  rw [leftB E xs0 hc, e]
  exact ⟨_, rfl⟩

end

end Cert.GlaFIdeal.Chunk

end
-- ==== Proof.GlaFTri.lean ====
/- The triangle of ones that the forward kernel is given, as words. -/
module

public import proofs.«01_k».proof.GlaFIdeal

@[expose] public section

set_option maxRecDepth 16384

noncomputable section

namespace Cert.GlaFIdeal.Chunk

open Cert.GlaFIdeal

theorem lit0_apply : ∀ r s : Fin 64, lit0 ⟨64 * r.val + s.val, by omega⟩ = if s ≤ r then 0x3F800000#32 else 0#32 := by
  decide +kernel

end Cert.GlaFIdeal.Chunk

end
-- ==== Proof.GlaFInput.lean ====
/- What the forward kernel's grid points load, entry by entry: the call's arguments, a block of eight chunks a point, from the first. -/
module

public import proofs.«01_k».proof.Proof.GlaFPoint
public import proofs.«01_k».proof.Proof.GlaFTri

@[expose] public section

set_option maxRecDepth 16384

noncomputable section

namespace Cert.GlaFIdeal.Chunk

open Cert.GlaFIdeal Cert.GlaFIdeal.Gen Cert.Recurrence Idealize.ShloMosaic Idealize.ShloMosaic.TcCoe Idealize.SL.Sem

variable (m : (ℓ : Loc nD τ sig) → Buf (Elt Ideal) ℓ) (c : Dev nD)

/-- The call's arguments on device `c`. -/
def args : Inputs where
  proj r j := (m ((c : Thread nD τ).loc main_arg0) : S16384x3200.Idx → EReal) (ix2 r j)
  loga r j := (m ((c : Thread nD τ).loc main_arg1) : S16384x1024.Idx → EReal) (ix2 r j)

/-- Grid point `t`'s buffers and input blocks. -/
def env (t : Fin cfg0.N) : Env Ideal where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := scM0_0
  harg7 := Memref.isWhole_whole _
  x0 := X0_0 m c t
  x1 := X0_1 m c t
  x2 := iblk m c 2 t
  x3 := iblk m c 3 t

theorem idxs : ∀ t : Fin cfg0.N, win0_0.index t = ![t.val, 0] ∧ win0_1.index t = ![t.val, 1]
    ∧ win0_2.index t = ![t.val, 0] ∧ win0_3.index t = ![0, 0] :=
  (by decide +kernel : ∀ t : Fin grid0.N, _)

variable (t : Fin cfg0.N)

theorem x0_apply (r : Fin 512) (j : Fin 1024) (i : Fin 16384) (k : Fin 3200) (hi : i.val = 512 * t.val + r.val)
    (hk : k.val = j.val) : (env m c t).x0 (ix2 r j) = (args m c).proj i k := by
  show X0_0 m c t (ix2 r j) = (m ((c : Thread nD τ).loc main_arg0) : S16384x3200.Idx → EReal) (ix2 i k)
  rw [← V_main_arg0 m c]
  unfold X0_0 Pipeline.Window.fill
  rw [dif_pos (moved0_0 t _)]
  blk_ext [iblk, idxs t]

theorem x1_apply (r : Fin 512) (j : Fin 1024) (i : Fin 16384) (k : Fin 3200) (hi : i.val = 512 * t.val + r.val)
    (hk : k.val = 1024 + j.val) : (env m c t).x1 (ix2 r j) = (args m c).proj i k := by
  show X0_1 m c t (ix2 r j) = (m ((c : Thread nD τ).loc main_arg0) : S16384x3200.Idx → EReal) (ix2 i k)
  rw [← V_main_arg0 m c]
  unfold X0_1 Pipeline.Window.fill
  rw [dif_pos (moved0_1 t _)]
  blk_ext [iblk, idxs t]

theorem x2_apply (r : Fin 512) (j : Fin 512) (i : Fin 16384) (k : Fin 1024) (hi : i.val = 512 * t.val + r.val)
    (hk : k.val = j.val) : (env m c t).x2 (ix2 r j) = (args m c).loga i k := by
  show iblk m c 2 t (ix2 r j) = (m ((c : Thread nD τ).loc main_arg1) : S16384x1024.Idx → EReal) (ix2 i k)
  rw [← V_main_arg1 m c]
  blk_ext [iblk, idxs t]

theorem place (r s : Fin 64) : S64x64.rowMajor (ix2 r s) = ⟨64 * r.val + s.val, by show _ < 4096; omega⟩ :=
  Fin.ext <| (Shape.rowMajor_val_two _).trans (by show r.val * 64 + s.val = 64 * r.val + s.val; omega)

theorem x3_apply (r s : Fin 64) : (env m c t).x3 (ix2 r s) = if s ≤ r then 1 else 0 := by
  have e : (env m c t).x3 (ix2 r s) = (V m c main_cst : S64x64.Idx → EReal) (ix2 r s) := by
    show iblk m c 3 t (ix2 r s) = _
    blk_ext [iblk, idxs t]
  rw [e]
  entry_read
  rw [place, lit0_apply]
  exact one_or_zero _

/-- The step of the recurrence that grid point `t` makes at its local chunk `j`. -/
abbrev stepAt (j : Fin 8) : ℕ := 8 * t.val + j.val

theorem forth_val (j : Fin 8) : (forth (stepAt t j)).val = 8 * t.val + j.val := by
  have hN : t.val < 32 := lt_of_lt_of_eq t.isLt (show cfg0.N = 32 from N_0)
  show (8 * t.val + j.val) % 256 = _
  omega

theorem row_val (j : Fin 8) (r : Fin 64) : (row (forth (stepAt t j)) r).val = 512 * t.val + (64 * j.val + r.val) := by
  show 64 * (forth (stepAt t j)).val + r.val = _
  rw [forth_val]
  omega

/-- A local chunk's loads hold what the step of the recurrence takes, when the state does. -/
theorem holds (j : Fin 8) (s : Fin 4 → Vec Ideal S1x256x128 .f32)
    (hs : ∀ h e d, s h (ix3 0 e d) = (args m c).state (stepAt t j) h e d) :
    Holds ((env m c t).inp j) s fun h => (args m c).step (stepAt t j) h where
  q h r d := (load_apply _ _ _ _ _ _ _ (ix2 ⟨64 * j.val + r.val, by omega⟩ ⟨128 * h.val + d.val, by omega⟩)
    (Fin.forall_fin_two.mpr ⟨rfl, (Nat.zero_add _).symm⟩)).trans (x0_apply m c t _ _ _ _ (row_val t j r) rfl)
  k h r d := (load_apply _ _ _ _ _ _ _ (ix2 ⟨64 * j.val + r.val, by omega⟩ ⟨512 + (128 * h.val + d.val), by omega⟩)
    (Fin.forall_fin_two.mpr ⟨rfl, rfl⟩)).trans (x0_apply m c t _ _ _ _ (row_val t j r) rfl)
  la h r d := (load_apply _ _ _ _ _ _ _ (ix2 ⟨64 * j.val + r.val, by omega⟩ ⟨128 * h.val + d.val, by omega⟩)
    (Fin.forall_fin_two.mpr ⟨rfl, (Nat.zero_add _).symm⟩)).trans (x2_apply m c t _ _ _ _ (row_val t j r) rfl)
  T r s := (load_apply _ _ _ _ _ _ _ (ix2 r s)
    (Fin.forall_fin_two.mpr ⟨(Nat.zero_add _).symm, (Nat.zero_add _).symm⟩)).trans (x3_apply m c t r s)
  v h r e := (load_apply _ _ _ _ _ _ _ (ix2 ⟨64 * j.val + r.val, by omega⟩ ⟨256 * h.val + e.val, by omega⟩)
    (Fin.forall_fin_two.mpr ⟨rfl, rfl⟩)).trans (x1_apply m c t _ _ _ _ (row_val t j r) rfl)
  s := hs

theorem chain_apply (s : Fin 4 → Vec Ideal S1x256x128 .f32)
    (hs : ∀ h e d, s h (ix3 0 e d) = (args m c).state (8 * t.val) h e d) :
    ∀ n ≤ 8, ∀ h e d, (env m c t).chain s n h (ix3 0 e d) = (args m c).state (8 * t.val + n) h e d
  | 0, _, h, e, d => hs h e d
  | n + 1, hn, h, e, d => by
    have ih := chain_apply s hs n (by omega)
    have es : stepAt t ⟨n % 8, by omega⟩ = 8 * t.val + n := by show 8 * t.val + n % 8 = _; omega
    exact (next_apply (holds m c t ⟨n % 8, by omega⟩ _ (es ▸ ih)) h 0 e d).trans (by rw [es]; rfl)

end Cert.GlaFIdeal.Chunk

end
-- ==== Proof.GlaFPieces.lean ====
/- What a grid point of the forward kernel leaves in its buffers, at an index: the piece that the index is in. -/
module

public import proofs.«01_k».proof.Proof.GlaFPoint

@[expose] public section

set_option maxRecDepth 16384

noncomputable section

namespace Cert.GlaFIdeal.Chunk

open Cert.GlaFIdeal Cert.GlaFIdeal.Gen Idealize.ShloMosaic Idealize.SL.Sem

variable {F : FTy → Type} [FloatOps F]

theorem read_blocks (V : View sig .tc .vmem S512x1024 .f32) (f : V.ty.Contents (Elt F)) (w : Fin 8 → Fin 4 → Vec F S64x256 .f32)
    (j : Fin 8) (h : Fin 4) (r : Fin 64) (y : Fin 256) : ∀ ps : List (Fin 8 × Fin 4), (j, h) ∈ ps →
    V.read (Elt F) (V.writes (Elt F) f (ps.map fun p => (⟨blockOf p.1 p.2, w p.1 p.2⟩ : View.Piece (Elt F) S512x1024 .f32)))
      (ix2 ⟨64 * j.val + r.val, by omega⟩ ⟨256 * h.val + y.val, by omega⟩) = w j h (ix2 r y)
  | [], hj => absurd hj List.not_mem_nil
  | p :: ps, hj => by
    rw [List.map_cons]
    by_cases e : (j, h) = p
    · subst e
      exact View.read_writes_cons_unit_of_mem V f _ (w j h) _ _ (ix2 r y) rfl (Fin.forall_fin_two.mpr ⟨rfl, rfl⟩)
    · refine Eq.trans ?_ (read_blocks V f w j h r y ps ((List.mem_cons.mp hj).resolve_left e))
      by_cases e1 : j = p.1
      · refine View.read_writes_cons_unit_of_not_mem V f _ (w p.1 p.2) _ _ rfl 1 ?_
        have : h.val ≠ p.2.val := fun e2 => e (Prod.ext e1 (Fin.ext e2))
        show 256 * h.val + y.val < 256 * p.2.val ∨ 256 * p.2.val + 256 ≤ 256 * h.val + y.val
        omega
      · refine View.read_writes_cons_unit_of_not_mem V f _ (w p.1 p.2) _ _ rfl 0 ?_
        have := Fin.val_ne_of_ne e1
        show 64 * j.val + r.val < 64 * p.1.val ∨ 64 * p.1.val + 64 ≤ 64 * j.val + r.val
        omega

theorem read_states (V : View sig .tc .vmem S4x8x256x128 .f32) (f : V.ty.Contents (Elt F)) (w : Fin 8 → Fin 4 → Vec F S1x1x256x128 .f32)
    (j : Fin 8) (h : Fin 4) (e : Fin 256) (d : Fin 128) : ∀ ps : List (Fin 8 × Fin 4), (j, h) ∈ ps →
    V.read (Elt F) (V.writes (Elt F) f (ps.map fun p => (⟨stateOf p.1 p.2, w p.1 p.2⟩ : View.Piece (Elt F) S4x8x256x128 .f32)))
      (ix4 h j e d) = w j h (ix4 0 0 e d)
  | [], hj => absurd hj List.not_mem_nil
  | p :: ps, hj => by
    rw [List.map_cons]
    by_cases eq : (j, h) = p
    · subst eq
      refine View.read_writes_cons_unit_of_mem V f _ (w j h) _ _ (ix4 0 0 e d) rfl fun a => ?_
      match a with
      | 0 => rfl
      | 1 => rfl
      | 2 => exact (Nat.zero_add _).symm
      | 3 => exact (Nat.zero_add _).symm
    · refine Eq.trans ?_ (read_states V f w j h e d ps ((List.mem_cons.mp hj).resolve_left eq))
      by_cases e1 : j = p.1
      · refine View.read_writes_cons_unit_of_not_mem V f _ (w p.1 p.2) _ _ rfl 0 ?_
        have : h.val ≠ p.2.val := fun e2 => eq (Prod.ext e1 (Fin.ext e2))
        show h.val < p.2.val ∨ p.2.val + 1 ≤ h.val
        omega
      · refine View.read_writes_cons_unit_of_not_mem V f _ (w p.1 p.2) _ _ rfl 1 ?_
        have := Fin.val_ne_of_ne e1
        show j.val < p.1.val ∨ p.1.val + 1 ≤ j.val
        omega

theorem read_heads (V : View sig .tc .vmem S4x256x128 .f32) (f : V.ty.Contents (Elt F)) (w : Fin 4 → Vec F S1x256x128 .f32) (h : Fin 4)
    (e : Fin 256) (d : Fin 128) (L : List (View.Piece (Elt F) S4x256x128 .f32)) : ∀ ps : List (Fin 4), h ∈ ps →
    V.read (Elt F) (V.writes (Elt F) f (ps.map (fun p => (⟨rect p, w p⟩ : View.Piece (Elt F) S4x256x128 .f32)) ++ L)) (ix3 h e d)
      = w h (ix3 0 e d)
  | [], hj => absurd hj List.not_mem_nil
  | p :: ps, hj => by
    rw [List.map_cons, List.cons_append]
    by_cases eq : h = p
    · subst eq
      refine View.read_writes_cons_unit_of_mem V f _ (w h) _ _ (ix3 0 e d) rfl fun a => ?_
      match a with
      | 0 => rfl
      | 1 => exact (Nat.zero_add _).symm
      | 2 => exact (Nat.zero_add _).symm
    · refine (View.read_writes_cons_unit_of_not_mem V f _ (w p) _ _ rfl 0 ?_).trans
        (read_heads V f w h e d L ps ((List.mem_cons.mp hj).resolve_left eq))
      have := Fin.val_ne_of_ne eq
      show h.val < p.val ∨ p.val + 1 ≤ h.val
      omega

/-- The rows and columns of a block, by local chunk and head. -/
theorem split1024 (y : S512x1024.Idx) : ∃ (j : Fin 8) (r : Fin 64) (h : Fin 4) (e : Fin 256),
    y = ix2 ⟨64 * j.val + r.val, by omega⟩ ⟨256 * h.val + e.val, by omega⟩ := by
  idx_vars y
  refine ⟨⟨y0.val / 64, by omega⟩, ⟨y0.val % 64, by omega⟩, ⟨y1.val / 256, by omega⟩, ⟨y1.val % 256, by omega⟩, ?_⟩
  congr 1 <;> exact Fin.ext (by simp only []; omega)

theorem tiles_all (j : Fin 8) (h : Fin 4) : (j, h) ∈ tiles := by revert j h; decide

end Cert.GlaFIdeal.Chunk

end
-- ==== Proof.Windows.lean ====
/- A running sum down the rows of a stack of matrices, and a slice of a stack read or replaced at a given place, at an index. -/
module

public import Idealize.ShloMosaic.Lib.Pointwise

@[expose] public section

noncomputable section

namespace Cert.Windows

open Idealize.ShloMosaic

/-- A window of a column's length, at row `r` of a stack padded by `lo` rows above. -/
theorem window_apply {A B N : ℕ} (lo hi : ℕ) (x : FVec Ideal ⟨3, ![A, N, B]⟩ .f32) {u : Shape} (init : u.Idx → Ideal .f32)
    (h : (⟨3, ![A, N, B]⟩ : Shape).ReduceWindows ![1, N, 1] ![1, 1, 1] ![0, lo, 0] ![0, hi, 0] ⟨3, ![A, N, B]⟩) (hu : 0 < u.numel)
    (hinit : init (Shape.Idx.first hu) = (0 : EReal)) (a : Fin A) (r : Fin N) (b : Fin B) :
    Host.reduceWindowAdd ![1, N, 1] ![1, 1, 1] ![0, lo, 0] ![0, hi, 0] x init h hu (ix3 a r b)
      = ∑ w : Fin N, if hw : lo ≤ r.val + w.val ∧ r.val + w.val - lo < N then x (ix3 a ⟨r.val + w.val - lo, hw.2⟩ b) else (0 : EReal) := by
  let W : Shape := ⟨3, ![1, N, 1]⟩
  let f : W.Idx → EReal := fun i =>
    if hw : lo ≤ r.val + (i 1).val ∧ r.val + (i 1).val - lo < N then x (ix3 a ⟨r.val + (i 1).val - lo, hw.2⟩ b) else (0 : EReal)
  have key : Host.reduceWindowAdd ![1, N, 1] ![1, 1, 1] ![0, lo, 0] ![0, hi, 0] x init h hu (ix3 a r b)
      = (List.finRange W.numel).foldl (fun t n => t + f (W.rowMajor.symm n)) (0 : EReal) := by
    show List.foldl _ (init (Shape.Idx.first hu) : EReal) _ = _
    rw [hinit]
    congr 1
    funext t n
    congr 1
    have h0 : (W.rowMajor.symm n 0).val = 0 := by have := (W.rowMajor.symm n 0).isLt; change _ < 1 at this; omega
    have h2 : (W.rowMajor.symm n 2).val = 0 := by have := (W.rowMajor.symm n 2).isLt; change _ < 1 at this; omega
    have ha := a.isLt
    have hb := b.isLt
    dsimp only
    split
    · next hin =>
      have h1 := hin 1
      change lo ≤ r.val * 1 + (W.rowMajor.symm n 1).val ∧ r.val * 1 + (W.rowMajor.symm n 1).val - lo < N at h1
      rw [Nat.mul_one] at h1
      show _ = t + dite (lo ≤ r.val + (W.rowMajor.symm n 1).val ∧ r.val + (W.rowMajor.symm n 1).val - lo < N)
        (fun hw => x (ix3 a ⟨r.val + (W.rowMajor.symm n 1).val - lo, hw.2⟩ b)) (fun _ => (0 : EReal))
      rw [dif_pos h1]
      refine congrArg (t + ·) (congrArg x (funext fun i => Fin.ext ?_))
      match i with
      | ⟨0, _⟩ => show a.val * 1 + (W.rowMajor.symm n 0).val - 0 = a.val; omega
      | ⟨1, _⟩ => show r.val * 1 + (W.rowMajor.symm n 1).val - lo = r.val + (W.rowMajor.symm n 1).val - lo; omega
      | ⟨2, _⟩ => show b.val * 1 + (W.rowMajor.symm n 2).val - 0 = b.val; omega
    · next hin =>
      show _ = t + dite (lo ≤ r.val + (W.rowMajor.symm n 1).val ∧ r.val + (W.rowMajor.symm n 1).val - lo < N)
        (fun hw => x (ix3 a ⟨r.val + (W.rowMajor.symm n 1).val - lo, hw.2⟩ b)) (fun _ => (0 : EReal))
      rw [dif_neg]
      intro hw
      refine hin fun i => ?_
      match i with
      | ⟨0, _⟩ => show 0 ≤ a.val * 1 + (W.rowMajor.symm n 0).val ∧ a.val * 1 + (W.rowMajor.symm n 0).val - 0 < A; omega
      | ⟨1, _⟩ => show lo ≤ r.val * 1 + (W.rowMajor.symm n 1).val ∧ r.val * 1 + (W.rowMajor.symm n 1).val - lo < N; omega
      | ⟨2, _⟩ => show 0 ≤ b.val * 1 + (W.rowMajor.symm n 2).val ∧ b.val * 1 + (W.rowMajor.symm n 2).val - 0 < B; omega
  rw [key, ← List.foldl_map (f := fun n => f (W.rowMajor.symm n)) (g := fun s t => s + t), ← List.sum_eq_foldl, ← Fin.sum_univ_def,
    Equiv.sum_comp W.rowMajor.symm f]
  refine (sum_idx3 f).trans ?_
  simp [f]
  rfl

/-- jnp's `cumsum` down the rows. -/
theorem cumsum_apply {A B N : ℕ} (x : FVec Ideal ⟨3, ![A, N + 1, B]⟩ .f32) {u : Shape} (init : u.Idx → Ideal .f32)
    (h : (⟨3, ![A, N + 1, B]⟩ : Shape).ReduceWindows ![1, N + 1, 1] ![1, 1, 1] ![0, N, 0] ![0, 0, 0] ⟨3, ![A, N + 1, B]⟩) (hu : 0 < u.numel)
    (hinit : init (Shape.Idx.first hu) = (0 : EReal)) (a : Fin A) (r : Fin (N + 1)) (b : Fin B) :
    Host.reduceWindowAdd ![1, N + 1, 1] ![1, 1, 1] ![0, N, 0] ![0, 0, 0] x init h hu (ix3 a r b)
      = ∑ s : Fin (N + 1), if s ≤ r then x (ix3 a s b) else (0 : EReal) := by
  rw [window_apply _ _ x init h hu hinit]
  refine Fintype.sum_equiv (Equiv.addLeft (r + 1)) _ _ fun w => ?_
  have hr := r.isLt
  have hw := w.isLt
  have e : ((r + 1 + w : Fin (N + 1))).val = (r.val + 1 + w.val) % (N + 1) := by
    simp [Fin.val_add]
  by_cases hin : N ≤ r.val + w.val
  · have e' : (r.val + 1 + w.val) % (N + 1) = r.val + w.val - N := by
      rw [show r.val + 1 + w.val = r.val + w.val - N + (N + 1) by omega, Nat.add_mod_right, Nat.mod_eq_of_lt (by omega)]
    rw [e'] at e
    rw [dif_pos ⟨hin, by omega⟩]
    refine Eq.trans ?_ (if_pos (Fin.le_def.2 (le_of_eq_of_le e (by omega)))).symm
    exact congrArg (fun s => x (ix3 a s b)) (Fin.ext e.symm)
  · rw [Nat.mod_eq_of_lt (by omega)] at e
    rw [dif_neg fun h => hin h.1]
    exact (if_neg fun h => by have := Fin.le_def.1 h; change (r + 1 + w : Fin (N + 1)).val ≤ _ at this; omega).symm

/-- The same from a row down. -/
theorem cumsum_rev_apply {A B N : ℕ} (x : FVec Ideal ⟨3, ![A, N + 1, B]⟩ .f32) {u : Shape} (init : u.Idx → Ideal .f32)
    (h : (⟨3, ![A, N + 1, B]⟩ : Shape).ReduceWindows ![1, N + 1, 1] ![1, 1, 1] ![0, 0, 0] ![0, N, 0] ⟨3, ![A, N + 1, B]⟩) (hu : 0 < u.numel)
    (hinit : init (Shape.Idx.first hu) = (0 : EReal)) (a : Fin A) (r : Fin (N + 1)) (b : Fin B) :
    Host.reduceWindowAdd ![1, N + 1, 1] ![1, 1, 1] ![0, 0, 0] ![0, N, 0] x init h hu (ix3 a r b)
      = ∑ s : Fin (N + 1), if r ≤ s then x (ix3 a s b) else (0 : EReal) := by
  rw [window_apply _ _ x init h hu hinit]
  refine Fintype.sum_equiv (Equiv.addLeft r) _ _ fun w => ?_
  have hr := r.isLt
  have hw := w.isLt
  have e : ((r + w : Fin (N + 1))).val = (r.val + w.val) % (N + 1) := Fin.val_add r w
  by_cases hin : r.val + w.val < N + 1
  · rw [Nat.mod_eq_of_lt hin] at e
    rw [dif_pos ⟨Nat.zero_le _, hin⟩]
    refine Eq.trans ?_ (if_pos (Fin.le_def.2 (le_of_le_of_eq (by omega) e.symm))).symm
    exact congrArg (fun s => x (ix3 a s b)) (Fin.ext e.symm)
  · have e' : (r.val + w.val) % (N + 1) = r.val + w.val - (N + 1) := by
      conv_lhs => rw [show r.val + w.val = r.val + w.val - (N + 1) + (N + 1) by omega]
      rw [Nat.add_mod_right, Nat.mod_eq_of_lt (by omega)]
    rw [e'] at e
    rw [dif_neg fun h => hin h.2]
    exact (if_neg fun h => by have := Fin.le_def.1 h; change _ ≤ (r + w : Fin (N + 1)).val at this; omega).symm

section Slices
variable {α : Type} {N A B C : ℕ} (n : Fin N) (start : Fin 4 → Int)
  (h0 : start 0 = n.val) (h1 : start 1 = 0) (h2 : start 2 = 0) (h3 : start 3 = 0)
include h0 h1 h2 h3

theorem slice_apply (x : (⟨4, ![N, A, B, C]⟩ : Shape).Idx → α)
    (h : (⟨4, ![N, A, B, C]⟩ : Shape).Slices (fun _ => 0) ⟨4, ![1, A, B, C]⟩) (z : Fin 1) (a : Fin A) (b : Fin B) (c : Fin C) :
    Host.dynamicSlice ⟨4, ![1, A, B, C]⟩ x start h (ix4 z a b c) = x (ix4 n a b c) := by
  rw [Host.dynamicSlice_apply]
  refine congrArg x ?_
  have hn := n.isLt
  funext i
  refine Fin.ext ?_
  match i with
  | ⟨0, _⟩ => simp [Host.clampedStart, h0, Shape.Idx.norm]; omega
  | ⟨1, _⟩ => simp [Host.clampedStart, h1, Shape.Idx.norm]
  | ⟨2, _⟩ => simp [Host.clampedStart, h2, Shape.Idx.norm]
  | ⟨3, _⟩ => simp [Host.clampedStart, h3, Shape.Idx.norm]

theorem update_apply (x : (⟨4, ![N, A, B, C]⟩ : Shape).Idx → α) (y : (⟨4, ![1, A, B, C]⟩ : Shape).Idx → α)
    (h : (⟨4, ![N, A, B, C]⟩ : Shape).Slices (fun _ => 0) ⟨4, ![1, A, B, C]⟩) (p : Fin N) (a : Fin A) (b : Fin B) (c : Fin C) :
    Host.dynamicUpdateSlice x y start h (ix4 p a b c) = if p = n then y (ix4 0 a b c) else x (ix4 p a b c) := by
  rw [Host.dynamicUpdateSlice_apply]
  have hn := n.isLt
  have c0 : Host.clampedStart ⟨4, ![N, A, B, C]⟩ ⟨4, ![1, A, B, C]⟩ h.1 start 0 = n.val :=
    Host.clampedStart_of_le h.1 start 0 n.val h0 hn
  have c1 : Host.clampedStart ⟨4, ![N, A, B, C]⟩ ⟨4, ![1, A, B, C]⟩ h.1 start 1 = 0 :=
    Host.clampedStart_of_le h.1 start 1 0 h1 (by simp)
  have c2 : Host.clampedStart ⟨4, ![N, A, B, C]⟩ ⟨4, ![1, A, B, C]⟩ h.1 start 2 = 0 :=
    Host.clampedStart_of_le h.1 start 2 0 h2 (by simp)
  have c3 : Host.clampedStart ⟨4, ![N, A, B, C]⟩ ⟨4, ![1, A, B, C]⟩ h.1 start 3 = 0 :=
    Host.clampedStart_of_le h.1 start 3 0 h3 (by simp)
  by_cases hp : p = n
  · subst hp
    rw [if_pos rfl, dif_pos]
    · refine congrArg y ?_
      funext i
      refine Fin.ext ?_
      match i with
      | ⟨0, _⟩ => show p.val - Host.clampedStart ⟨4, ![N, A, B, C]⟩ ⟨4, ![1, A, B, C]⟩ h.1 start 0 = 0; omega
      | ⟨1, _⟩ => show a.val - Host.clampedStart ⟨4, ![N, A, B, C]⟩ ⟨4, ![1, A, B, C]⟩ h.1 start 1 = a.val; omega
      | ⟨2, _⟩ => show b.val - Host.clampedStart ⟨4, ![N, A, B, C]⟩ ⟨4, ![1, A, B, C]⟩ h.1 start 2 = b.val; omega
      | ⟨3, _⟩ => show c.val - Host.clampedStart ⟨4, ![N, A, B, C]⟩ ⟨4, ![1, A, B, C]⟩ h.1 start 3 = c.val; omega
    · have ha := a.isLt
      have hb := b.isLt
      have hc := c.isLt
      intro i
      match i with
      | ⟨0, _⟩ => exact ⟨le_of_eq c0, (by show p.val < Host.clampedStart ⟨4, ![N, A, B, C]⟩ ⟨4, ![1, A, B, C]⟩ h.1 start 0 + 1; omega)⟩
      | ⟨1, _⟩ => exact ⟨le_of_eq_of_le c1 (Nat.zero_le _), (by show a.val < Host.clampedStart ⟨4, ![N, A, B, C]⟩ ⟨4, ![1, A, B, C]⟩ h.1 start 1 + A; omega)⟩
      | ⟨2, _⟩ => exact ⟨le_of_eq_of_le c2 (Nat.zero_le _), (by show b.val < Host.clampedStart ⟨4, ![N, A, B, C]⟩ ⟨4, ![1, A, B, C]⟩ h.1 start 2 + B; omega)⟩
      | ⟨3, _⟩ => exact ⟨le_of_eq_of_le c3 (Nat.zero_le _), (by show c.val < Host.clampedStart ⟨4, ![N, A, B, C]⟩ ⟨4, ![1, A, B, C]⟩ h.1 start 3 + C; omega)⟩
  · rw [if_neg hp, dif_neg]
    intro hin
    obtain ⟨l, u⟩ := hin 0
    change _ ≤ p.val at l
    change p.val < _ + 1 at u
    exact hp (Fin.ext (by omega))

end Slices

end Cert.Windows

end
-- ==== Proof.GlaFLoop.lean ====
/- One trip of the forward reference's loop, entry by entry: from the chunks' arrays and the state, what `Forward` says. -/
module

public import proofs.«01_k».proof.Proof.Gen.GlaFRefIdeal.Run
public import proofs.«01_k».proof.Proof.Forward
public import proofs.«01_k».proof.Proof.Windows
public import proofs.«01_k».proof.Proof.Common
public import Idealize.ShloMosaic.Lib.Pipeline.ValueKit
public import Idealize.ShloMosaic.Lib.KernelVsHost

@[expose] public section

set_option maxRecDepth 16384

noncomputable section

namespace Cert.GlaFRefIdeal.Loop

open Cert.GlaFRefIdeal Cert.GlaFRefIdeal.Gen Cert.Recurrence Cert.Windows Cert.GlaFRefIdeal.Value Idealize.ShloMosaic Idealize.SL.Sem

/-- The contents at the start of trip `t`. -/
structure At (A : Inputs) (t : ℕ) (V : Valuation τ sig (Elt Ideal)) : Prop where
  ctr : (V (Proc.devRef .tc main_v15_4) : S_.Idx → BitVec 32) = fun _ => BitVec.ofNat 32 t
  q : ∀ n h x y s, (V (Proc.devRef .tc main_v15_0) : S256x4x64x128.Idx → EReal) (ix4 n h x y) = (A.head n h s).q x y
  k : ∀ n h x y s, (V (Proc.devRef .tc main_v15_1) : S256x4x64x128.Idx → EReal) (ix4 n h x y) = (A.head n h s).k x y
  v : ∀ n h x y s, (V (Proc.devRef .tc main_v15_2) : S256x4x64x256.Idx → EReal) (ix4 n h x y) = (A.head n h s).v x y
  la : ∀ n h x y s, (V (Proc.devRef .tc main_v15_3) : S256x4x64x128.Idx → EReal) (ix4 n h x y) = (A.head n h s).la x y
  s : ∀ h d e, (V (Proc.devRef .tc main_v15_5) : S4x128x256.Idx → EReal) (ix3 h d e) = A.state t h e d
  out : ∀ (n : Fin 256) h x y, n.val < t → (V (Proc.devRef .tc main_v15_6) : S256x4x64x256.Idx → EReal) (ix4 n h x y) = (A.step n.val h).out x y
  states : ∀ (n : Fin 256) h d e, n.val < t → (V (Proc.devRef .tc main_v15_7) : S256x4x128x256.Idx → EReal) (ix4 n h d e) = A.state n.val h e d

theorem cast_S4x64x256 (X : S1x4x64x256.Idx → EReal) (c) (h : Fin 4) (x : Fin 64) (y : Fin 256) :
    shapeCast S4x64x256 X c (ix3 h x y) = X (ix4 0 h x y) := by pointwise []
theorem cast_S4x64x128 (X : S1x4x64x128.Idx → EReal) (c) (h : Fin 4) (x : Fin 64) (y : Fin 128) :
    shapeCast S4x64x128 X c (ix3 h x y) = X (ix4 0 h x y) := by pointwise []

variable {A : Inputs} {t : ℕ} {V : Valuation τ sig (Elt Ideal)} (hV : At A t V) (ht : t < 256)
include hV ht

theorem ix_apply (i : S_.Idx) : ((V (Proc.devRef .tc main_v15_4) : S_.Idx → BitVec 32) i).toInt = ((forth t).val : ℤ) := by
  have hb : (forth t).val = t := Nat.mod_eq_of_lt ht
  rw [hV.ctr, hb, BitVec.toInt_eq_toNat_of_lt (by simp; omega)]
  simp
  omega

theorem k_apply (h : Fin 4) (x : Fin 64) (y : Fin 128) :
    (res_main_while0b_v20 V : S4x64x128.Idx → EReal) (ix3 h x y) = (A.step t h).k x y := by
  unfold res_main_while0b_v20
  refine (cast_S4x64x128 _ _ _ _ _).trans ((slice_apply (forth t) _ (ix_apply hV ht _) rfl rfl rfl (V (Proc.devRef .tc main_v15_1) : S256x4x64x128.Idx → EReal) sliceFits_S256x4x64x128_S1x4x64x128 0 h x y).trans (hV.k (forth t) h x y (A.state t h)))

theorem v_apply (h : Fin 4) (x : Fin 64) (y : Fin 256) :
    (res_main_while0b_v21 V : S4x64x256.Idx → EReal) (ix3 h x y) = (A.step t h).v x y := by
  unfold res_main_while0b_v21
  refine (cast_S4x64x256 _ _ _ _ _).trans ((slice_apply (forth t) _ (ix_apply hV ht _) rfl rfl rfl (V (Proc.devRef .tc main_v15_2) : S256x4x64x256.Idx → EReal) sliceFits_S256x4x64x256_S1x4x64x256 0 h x y).trans (hV.v (forth t) h x y (A.state t h)))

theorem cum_apply (h : Fin 4) (r : Fin 64) (d : Fin 128) :
    (res_main_while0b_v25 V : S4x64x128.Idx → EReal) (ix3 h r d) = (A.step t h).cum r d := by
  unfold res_main_while0b_v25
  refine (cumsum_apply (N := 63) _ _ _ _ (by pointwise []) h r d).trans ?_
  refine Finset.sum_congr rfl fun s _ => ?_
  refine congrArg (fun y : EReal => if s ≤ r then y else 0) ?_
  refine (cast_S4x64x128 _ _ _ _ _).trans ((slice_apply (forth t) _ (ix_apply hV ht _) rfl rfl rfl (V (Proc.devRef .tc main_v15_3) : S256x4x64x128.Idx → EReal) sliceFits_S256x4x64x128_S1x4x64x128 0 h s d).trans (hV.la (forth t) h s d (A.state t h)))

theorem last_apply (h : Fin 4) (z : Fin 1) (d : Fin 128) :
    (res_main_while0b_v26 V : S4x1x128.Idx → EReal) (ix3 h z d) = (A.step t h).cum 63 d := by
  pointwise [res_main_while0b_v26]
  exact cum_apply hV ht h 63 d

theorem qt_apply (h : Fin 4) (r : Fin 64) (d : Fin 128) :
    (res_main_while0b_v28 V : S4x64x128.Idx → EReal) (ix3 h r d) = (A.step t h).qt r d := by
  unfold res_main_while0b_v28
  refine congrArg₂ (fun x y : EReal => x * Ideal.ofBits FTy.f32 1035273459#32 * Ideal.exp y) ?_ (cum_apply hV ht h r d)
  refine (cast_S4x64x128 _ _ _ _ _).trans ((slice_apply (forth t) _ (ix_apply hV ht _) rfl rfl rfl (V (Proc.devRef .tc main_v15_0) : S256x4x64x128.Idx → EReal) sliceFits_S256x4x64x128_S1x4x64x128 0 h r d).trans (hV.q (forth t) h r d (A.state t h)))

theorem state_step (h : Fin 4) (d : Fin 128) (e : Fin 256) :
    (step_main_v15_5 V : S4x128x256.Idx → EReal) (ix3 h d e) = A.state (t + 1) h e d := by
  pointwise [step_main_v15_5, id_eq]
  simp only [last_apply hV ht, cum_apply hV ht, k_apply hV ht, v_apply hV ht, hV.s]
  simp only [mul_comm (Ideal.exp _), mul_comm (_ * _) ((A.step t h).v _ _)]
  rfl

theorem out_step (n : Fin 256) (h : Fin 4) (x : Fin 64) (y : Fin 256) (hn : n.val < t + 1) :
    (step_main_v15_6 V : S256x4x64x256.Idx → EReal) (ix4 n h x y) = (A.step n.val h).out x y := by
  unfold step_main_v15_6
  refine (update_apply (forth t) _ (ix_apply hV ht _) rfl rfl rfl (V (Proc.devRef .tc main_v15_6) : S256x4x64x256.Idx → EReal) _ updateFits_S256x4x64x256_S1x4x64x256 n h x y).trans ?_
  have hf : (forth t).val = t := Nat.mod_eq_of_lt ht
  by_cases hb : n = forth t
  · rw [if_pos hb, hb, hf]
    pointwise [id_eq]
    simp only [qt_apply hV ht, k_apply hV ht, v_apply hV ht, cum_apply hV ht, hV.s]
    refine congrArg (fun y : EReal => y + _) (Finset.sum_congr rfl fun s _ => ?_)
    rw [select_sge (m := x.val) (n := s.val) (by omega) (by omega)]
    simp only [Head.att, Fin.le_def]
    split_ifs
    · rfl
    · exact (zero_mul _).symm
  · rw [if_neg hb]
    have : n.val ≠ t := fun e => hb (Fin.ext (by omega))
    exact hV.out n h x y (by omega)

theorem states_step (n : Fin 256) (h : Fin 4) (d : Fin 128) (e : Fin 256) (hn : n.val < t + 1) :
    (step_main_v15_7 V : S256x4x128x256.Idx → EReal) (ix4 n h d e) = A.state n.val h e d := by
  unfold step_main_v15_7
  refine (update_apply (forth t) _ (ix_apply hV ht _) rfl rfl rfl (V (Proc.devRef .tc main_v15_7) : S256x4x128x256.Idx → EReal) _ updateFits_S256x4x128x256_S1x4x128x256 n h d e).trans ?_
  have hf : (forth t).val = t := Nat.mod_eq_of_lt ht
  by_cases hb : n = forth t
  · rw [if_pos hb, hb, hf]
    pointwise []
    exact hV.s h d e
  · rw [if_neg hb]
    have : n.val ≠ t := fun e => hb (Fin.ext (by omega))
    exact hV.states n h d e (by omega)

end Cert.GlaFRefIdeal.Loop

end
-- ==== Proof.GlaFRef.lean ====
/- The forward reference's results, entry by entry: the 256 trips of its loop, each by `GlaFLoop`. -/
module

public import proofs.«01_k».proof.Proof.GlaFLoop

@[expose] public section

set_option maxRecDepth 16384

noncomputable section

namespace Cert.GlaFRefIdeal.Loop

open Cert.GlaFRefIdeal Cert.GlaFRefIdeal.Gen Cert.GlaFRefIdeal.Value Cert.Recurrence Idealize.ShloMosaic Idealize.SL.Sem
open Idealize.ShloMosaic.StableHlo

variable (m : (ℓ : Loc nD τ sig) → Buf (Elt Ideal) ℓ) (c : Dev nD)

/-- The call's arguments on device `c`. -/
def args : Inputs where
  proj r j := (m ((c.tc : Thread nD τ).loc main_arg0) : S16384x3200.Idx → EReal) (ix2 r j)
  loga r j := (m ((c.tc : Thread nD τ).loc main_arg1) : S16384x1024.Idx → EReal) (ix2 r j)

/-- `w` columns of `X` from the `o`-th on, cut into chunks and heads. -/
def cut512 (X : S16384x512.Idx → EReal) : S256x4x64x128.Idx → EReal :=
  transpose S256x4x64x128 [0, 2, 1, 3] (shapeCast S256x64x4x128 X shapeCasts_S16384x512_S256x64x4x128) transposes_S256x64x4x128_S256x4x64x128_0_2_1_3
def cut1024 (X : S16384x1024.Idx → EReal) : S256x4x64x256.Idx → EReal :=
  transpose S256x4x64x256 [0, 2, 1, 3] (shapeCast S256x64x4x256 X shapeCasts_S16384x1024_S256x64x4x256) transposes_S256x64x4x256_S256x4x64x256_0_2_1_3

theorem cut512_apply (X : S16384x512.Idx → EReal) (n : Fin 256) (h : Fin 4) (x : Fin 64) (y : Fin 128) :
    cut512 X (ix4 n h x y) = X (ix2 (row n x) ⟨128 * h.val + y.val, by omega⟩) := by
  pointwise [cut512, row]
  simp only [Nat.mul_comm]
theorem cut1024_apply (X : S16384x1024.Idx → EReal) (n : Fin 256) (h : Fin 4) (x : Fin 64) (y : Fin 256) :
    cut1024 X (ix4 n h x y) = X (ix2 (row n x) ⟨256 * h.val + y.val, by omega⟩) := by
  pointwise [cut1024, row]
  simp only [Nat.mul_comm]

theorem entry_q : entryContents preI m c (Proc.devRef .tc main_v15_0)
    = cut512 (extractStridedSlice S16384x512 ![0, 0] (m ((c.tc : Thread nD τ).loc main_arg0)) slices_S16384x3200_S16384x512_0_0) := by
  simp only [entryContents, afterL_cons, afterL_nil, preI, hostOps0]
  after_results_entrywise []

theorem entry_k : entryContents preI m c (Proc.devRef .tc main_v15_1)
    = cut512 (extractStridedSlice S16384x512 ![0, 512] (m ((c.tc : Thread nD τ).loc main_arg0)) slices_S16384x3200_S16384x512_0_512) := by
  simp only [entryContents, afterL_cons, afterL_nil, preI, hostOps0]
  after_results_entrywise []

theorem entry_v : entryContents preI m c (Proc.devRef .tc main_v15_2)
    = cut1024 (extractStridedSlice S16384x1024 ![0, 1024] (m ((c.tc : Thread nD τ).loc main_arg0)) slices_S16384x3200_S16384x1024_0_1024) := by
  simp only [entryContents, afterL_cons, afterL_nil, preI, hostOps0]
  after_results_entrywise []

theorem entry_la : entryContents preI m c (Proc.devRef .tc main_v15_3)
    = cut512 (extractStridedSlice S16384x512 ![0, 0] (m ((c.tc : Thread nD τ).loc main_arg1)) slices_S16384x1024_S16384x512_0_0) := by
  simp only [entryContents, afterL_cons, afterL_nil, preI, hostOps0]
  after_results_entrywise []

theorem entry_s : entryContents preI m c (Proc.devRef .tc main_v15_5)
    = broadcastInDim S4x128x256 ![] bcast_S_S4x128x256 (constant (F := Ideal) S_ .f32 0x00000000#32) := by
  simp only [entryContents, afterL_cons, afterL_nil, preI, hostOps0]
  after_results_entrywise []

/-- The contents at the loop's entry. -/
theorem at_zero : At (args m c) 0 (entryContents preI m c) where
  ctr := ctr_entry m c
  q n h x y s := by rw [entry_q]; refine (cut512_apply ..).trans ?_; pointwise [args, Inputs.head]
  k n h x y s := by rw [entry_k]; refine (cut512_apply ..).trans ?_; pointwise [args, Inputs.head]
  v n h x y s := by rw [entry_v]; refine (cut1024_apply ..).trans ?_; pointwise [args, Inputs.head]
  la n h x y s := by rw [entry_la]; refine (cut512_apply ..).trans ?_; pointwise [args, Inputs.head]
  s h d e := by rw [entry_s]; pointwise [Inputs.state]
  out n := fun _ _ _ hn => absurd hn (by omega)
  states n := fun _ _ _ hn => absurd hn (by omega)

variable {A : Inputs} {t : ℕ} {V : Valuation τ sig (Elt Ideal)}

/-- One trip. -/
theorem at_succ (hV : At A t V) (ht : t < 256) : At A (t + 1) (STEP V) where
  ctr := by
    rw [STEP_main_v15_4]
    unfold step_main_v15_4
    rw [hV.ctr]
    exact funext fun _ => (BitVec.ofNat_add ..).symm
  q := by rw [STEP_main_v15_0]; exact hV.q
  k := by rw [STEP_main_v15_1]; exact hV.k
  v := by rw [STEP_main_v15_2]; exact hV.v
  la := by rw [STEP_main_v15_3]; exact hV.la
  s := by rw [STEP_main_v15_5]; exact state_step hV ht
  out := by rw [STEP_main_v15_6]; exact out_step hV ht
  states := by rw [STEP_main_v15_7]; exact states_step hV ht

theorem at_iterate (hV : At A 0 V) : ∀ t ≤ 256, At A t (STEP^[t] V)
  | 0, _ => hV
  | t + 1, ht => by
    rw [Function.iterate_succ_apply']
    exact at_succ (at_iterate hV t (by omega)) (by omega)

/-- The contents at the loop's end. -/
theorem at_end : At (args m c) 256 (STEP^[256] (entryContents preI m c)) :=
  at_iterate (at_zero m c) 256 le_rfl

theorem out_o (hV : At A 256 V) (n : Fin 256) (h : Fin 4) (x : Fin 64) (y : Fin 256) :
    (out_main_v17 V : S16384x1024.Idx → EReal) (ix2 (row n x) ⟨256 * h.val + y.val, by omega⟩) = (A.step n.val h).out x y := by
  rw [← hV.out n h x y n.isLt]
  pointwise [out_main_v17, row]
theorem out_states (hV : At A 256 V) (n : Fin 256) (h : Fin 4) (e : Fin 256) (d : Fin 128) :
    (out_main_v18 V : S4x256x256x128.Idx → EReal) (ix4 h n e d) = A.state n.val h e d := by
  rw [← hV.states n h d e n.isLt]
  pointwise [out_main_v18]

end Cert.GlaFRefIdeal.Loop

end
-- ==== Proof.GlaFValue.lean ====
/- The gated linear recurrence forward: the arrays that the run leaves are those that the reference computes, entry by entry. -/
module

public import proofs.«01_k».proof.Proof.GlaFOuts
public import proofs.«01_k».proof.Proof.GlaFInput
public import proofs.«01_k».proof.Proof.GlaFPieces
public import proofs.«01_k».proof.Proof.GlaFRef
public import proofs.«01_k».proof.Defs

@[expose] public section

set_option maxRecDepth 16384

noncomputable section

namespace Cert.GlaFIdeal.Value

open Cert.GlaFIdeal Cert.GlaFIdeal.Gen Cert.GlaFIdeal.Chunk Cert.Recurrence Idealize.ShloMosaic Idealize.ShloMosaic.TcCoe Idealize.SL.Sem

variable (m : (ℓ : Loc nD τ sig) → Buf (Elt Ideal) ℓ) (ρ : Dev nD → PrngReg) (c : Dev nD)

/-- What grid point `t` leaves in the scratch. -/
abbrev left (t : Fin cfg0.N) : Vec Ideal S4x256x128 .f32 := (outsAt0 m c t.val t.isLt).2.2

/-- What grid point `t` finds in the scratch, but for the first. -/
abbrev held (t : Fin cfg0.N) : Vec Ideal S4x256x128 .f32 :=
  (outsAt0 m c (t.val - 1) (Nat.lt_of_le_of_lt (Nat.sub_le _ _) t.isLt)).2.2

/-- The state that grid point `t` starts from. -/
def start (t : Fin cfg0.N) : Fin 4 → Vec Ideal S1x256x128 .f32 :=
  if t.val % 32 = 0 then zeros else (env m c t).old (held m c t)

/-- The state that local chunk `j` of grid point `t` starts from. -/
abbrev states (t : Fin cfg0.N) (j : Fin 8) : Fin 4 → Vec Ideal S1x256x128 .f32 := (env m c t).chain (start m c t) j.val

variable (t : Fin cfg0.N)

theorem left_o : (outsAt0 m c t.val t.isLt).1 = VO0_4.read (Elt Ideal) (VO0_4.writes (Elt Ideal) VO0_4.junk
    ((env m c t).outs (states m c t))) := by
  unfold states start
  by_cases h0 : t.val % 32 = 0
  · rw [outsAt0_A m c t h0, if_pos h0]
    dsimp only
    refine Eq.trans ?_ (out_oA (env m c t) ((hcond0_0 t).mpr h0))
    dsimp only [env]
  · rw [outsAt0_B m c t h0, if_neg h0]
    dsimp only
    refine Eq.trans ?_ (out_oB (env m c t) _ fun h => h0 ((hcond0_0 t).mp h))
    dsimp only [env]

theorem left_states : (outsAt0 m c t.val t.isLt).2.1 = VO0_5.read (Elt Ideal) (VO0_5.writes (Elt Ideal) VO0_5.junk
    (keeps (states m c t))) := by
  unfold states start
  by_cases h0 : t.val % 32 = 0
  · rw [outsAt0_A m c t h0, if_pos h0]
    dsimp only
    refine Eq.trans ?_ (out_statesA (env m c t) ((hcond0_0 t).mpr h0))
    dsimp only [env]
  · rw [outsAt0_B m c t h0, if_neg h0]
    dsimp only
    refine Eq.trans ?_ (out_statesB (env m c t) _ fun h => h0 ((hcond0_0 t).mp h))
    dsimp only [env]

theorem left_left : ∃ L, left m c t = VS0_0.read (Elt Ideal) (VS0_0.writes (Elt Ideal) VS0_0.junk
    (four ((env m c t).chain (start m c t) 8) L)) := by
  unfold left start
  by_cases h0 : t.val % 32 = 0
  · rw [outsAt0_A m c t h0, if_pos h0]
    obtain ⟨L, hL⟩ := out_leftA (env m c t) ((hcond0_0 t).mpr h0)
    refine ⟨L, Eq.trans ?_ hL⟩
    dsimp only [env]
  · rw [outsAt0_B m c t h0, if_neg h0]
    obtain ⟨L, hL⟩ := out_leftB (env m c t) _ fun h => h0 ((hcond0_0 t).mp h)
    refine ⟨L, Eq.trans ?_ hL⟩
    dsimp only [env]

theorem left_apply (hs : ∀ h e d, start m c t h (ix3 0 e d) = (args m c).state (8 * t.val) h e d) (h : Fin 4) (e : Fin 256) (d : Fin 128) :
    left m c t (ix3 h e d) = (args m c).state (8 * t.val + 8) h e d := by
  obtain ⟨L, hL⟩ := left_left m c t
  rw [hL]
  refine (read_heads _ _ ((env m c t).chain (start m c t) 8) h e d L [3, 2, 1, 0] ?_).trans (chain_apply m c t _ hs 8 le_rfl h e d)
  revert h; decide

theorem start_apply : ∀ (n : ℕ) (hn : n < cfg0.N) (h : Fin 4) (e : Fin 256) (d : Fin 128),
    start m c ⟨n, hn⟩ h (ix3 0 e d) = (args m c).state (8 * n) h e d
  | 0, hn, h, e, d => Ideal.ofBits_zero_f32
  | n + 1, hn, h, e, d => by
    have hN : n + 1 < 32 := lt_of_lt_of_eq hn (show cfg0.N = 32 from N_0)
    have ih := start_apply n (by omega)
    unfold start
    rw [if_neg (show ¬(n + 1) % 32 = 0 by omega)]
    refine (load_apply _ _ _ _ _ (inb_s h) (ix3 0 e d) (ix3 h e d) fun a => ?_).trans (left_apply m c ⟨n, by omega⟩ ih h e d)
    match a with
    | 0 => rfl
    | 1 => exact (Nat.zero_add _).symm
    | 2 => exact (Nat.zero_add _).symm

/-- Each local chunk's loads hold what its step of the recurrence takes. -/
theorem chunk_holds (j : Fin 8) :
    Holds ((env m c t).inp j) (states m c t j) fun h => (args m c).step (stepAt t j) h :=
  holds m c t j _ (chain_apply m c t _ (start_apply m c t.val t.isLt) j.val (by omega))

theorem out_idxs : ∀ t : Fin cfg0.N, win0_4.index t = ![t.val, 0] ∧ win0_5.index t = ![0, t.val, 0, 0] :=
  (by decide +kernel : ∀ t : Fin grid0.N, _)

/-- An array's index from its block's: the block's offset, then the index in the block. -/
theorem offset {i n : ℕ} (w x : ℕ) (hi : i = n) : i * w + 1 * x = w * n + x := by
  subst hi; rw [Nat.mul_comm, Nat.one_mul]
theorem offset_zero {i w x : ℕ} (hi : i = 0) : i * w + 1 * x = x := by
  subst hi; omega

theorem o_final (X : S16384x1024.Idx → EReal)
    (hX : ∀ (n : Fin 256) (h : Fin 4) (x : Fin 64) (y : Fin 256),
      X (ix2 (row n x) ⟨256 * h.val + y.val, by omega⟩) = ((args m c).step n.val h).out x y) :
    (dats m 0 c).arrAt 4 cfg0.N = X := by
  refine (dats m 0 c).arrAt_eq_of_covers 4 X (by decide +kernel) fun t hf y => ?_
  blk_simp
  rw [after0_4, left_o]
  obtain ⟨j, r, h, e, rfl⟩ := split1024 y
  refine (read_blocks VO0_4 VO0_4.junk (fun j => out ((env m c t).inp j) (states m c t j)) j h r e tiles (tiles_all j h)).trans ?_
  refine (out_apply (chunk_holds m c t j) h r e).trans ?_
  have := hX (forth (stepAt t j)) h r e
  rw [forth_val] at this
  rw [← this]
  congr 1
  funext a
  match a with
  | 0 => exact Fin.ext ((row_val t j r).trans (offset 512 _ (congrFun (out_idxs t).1 0)).symm)
  | 1 => exact Fin.ext (offset_zero (congrFun (out_idxs t).1 1)).symm

theorem states_final (X : S4x256x256x128.Idx → EReal)
    (hX : ∀ (n : Fin 256) (h : Fin 4) (e : Fin 256) (d : Fin 128), X (ix4 h n e d) = (args m c).state n.val h e d) :
    (dats m 0 c).arrAt 5 cfg0.N = X := by
  refine (dats m 0 c).arrAt_eq_of_covers 5 X (by decide +kernel) fun t hf y => ?_
  blk_simp
  rw [after0_5, left_states]
  idx_vars y
  refine (read_states VO0_5 VO0_5.junk (fun j => kept (states m c t j)) y1 y0 y2 y3 tiles (tiles_all y1 y0)).trans ?_
  refine (kept_apply (chunk_holds m c t y1) y0 0 0 y2 y3).trans ?_
  have := hX (forth (stepAt t y1)) y0 y2 y3
  rw [forth_val] at this
  refine this.symm.trans ?_
  congr 1
  funext a
  match a with
  | 0 => exact Fin.ext (offset_zero (congrFun (out_idxs t).2 0)).symm
  | 1 => exact Fin.ext ((forth_val t y1).trans (offset 8 _ (congrFun (out_idxs t).2 1)).symm)
  | 2 => exact Fin.ext (offset_zero (congrFun (out_idxs t).2 2)).symm
  | 3 => exact Fin.ext (offset_zero (congrFun (out_idxs t).2 3)).symm

open Cert.GlaFRefIdeal in
/-- The claim: the kernel and the reference end with equal results. -/
theorem algebraic : Cert.algebraic_GlaFIdeal_GlaFRefIdeal := by
  intro m g m' g' _ hm
  have hA (c : Dev nD) : Cert.GlaFRefIdeal.Loop.args m' c = args m c := by
    unfold Cert.GlaFRefIdeal.Loop.args args
    rw [(hm c).1, (hm c).2]
  have hV (c : Dev nD) := hA c ▸ Cert.GlaFRefIdeal.Loop.at_end m' c
  refine ⟨fun c => _, fun c => _, (θ_run defs _ _).mono (fun r h c => h c) (run_blocks m g),
    (θ_run _ _ _).mono (fun r h c => ⟨(h c).1.trans ?_, (h c).2.1.trans ?_, (h c).2.2⟩)
      (Cert.GlaFRefIdeal.Value.run m' g')⟩
  · exact (o_final m c _ (Cert.GlaFRefIdeal.Loop.out_o (hV c))).symm
  · exact (states_final m c _ (Cert.GlaFRefIdeal.Loop.out_states (hV c))).symm

end Cert.GlaFIdeal.Value
end
-- ==== Proof.GlaBChunk.lean ====
/- One chunk of the gradient kernel: its stored values as functions of what it loads, and each of them entry by entry. -/
module

public import proofs.«01_k».proof.Proof.Gen.GlaBIdeal.Skeleton
public import proofs.«01_k».proof.Proof.Recurrence
public import Idealize.ShloMosaic.Lib.Pointwise
public import Idealize.ShloMosaic.Lib.Pipeline.ValueKit

@[expose] public section

set_option maxRecDepth 16384

noncomputable section

namespace Cert.GlaBIdeal.Chunk

open Cert.GlaBIdeal Cert.GlaBIdeal.Gen Cert.Recurrence Idealize.ShloMosaic Idealize.SL.Sem

variable {F : FTy → Type} [FloatOps F]

/-- What a chunk loads, the state's gradient apart. -/
structure In (F : FTy → Type) where
  q : Vec F S64x512 .f32
  k : Vec F S64x512 .f32
  la : Vec F S64x512 .f32
  T : Vec F S64x64 .f32
  Tt : Vec F S64x64 .f32
  v : Fin 4 → Vec F S64x256 .f32
  dy : Fin 4 → Vec F S64x256 .f32
  st : Fin 4 → Vec F S1x1x256x128 .f32

theorem slices (h : Fin 4) : S64x512.Slices ![0, 128 * h.val] S64x128 := by revert h; decide
theorem slices1 (h : Fin 4) : S1x512.Slices ![0, 128 * h.val] S1x128 := by revert h; decide

/-- Head `h`'s columns. -/
def cols {α : Type} (x : S64x512.Idx → α) (h : Fin 4) : S64x128.Idx → α :=
  extractStridedSlice S64x128 ![0, 128 * h.val] x (slices h)
def cols1 {α : Type} (x : S1x512.Idx → α) (h : Fin 4) : S1x128.Idx → α :=
  extractStridedSlice S1x128 ![0, 128 * h.val] x (slices1 h)

variable (I : In F) (g : Fin 4 → Vec F S1x256x128 .f32)

def qtb (h : Fin 4) : FVec F S64x128 .bf16 := cols (k0_pay15 I.q I.la I.T) h
def ktb (h : Fin 4) : FVec F S64x128 .bf16 := cols (k0_pay16 I.k I.la I.T) h
def keb (h : Fin 4) : FVec F S64x128 .bf16 := cols (k0_pay17 I.k I.la I.T) h
def vb (h : Fin 4) : FVec F S64x256 .bf16 := truncf .bf16 (I.v h) bitsLt_bf16_f32
def dyb (h : Fin 4) : FVec F S64x256 .bf16 := truncf .bf16 (I.dy h) bitsLt_bf16_f32
def stv (h : Fin 4) : FVec F S256x128 .f32 := shapeCast S256x128 (I.st h) shapeCasts_S1x1x256x128_S256x128
def gv (h : Fin 4) : FVec F S256x128 .f32 := shapeCast S256x128 (g h) shapeCasts_S1x256x128_S256x128
def gb (h : Fin 4) : FVec F S256x128 .bf16 := truncf .bf16 (gv g h) bitsLt_bf16_f32

def zero64 : FVec F S64x64 .f32 := broadcast S64x64 (Scalar.ofBits .f32 0x00000000#32)

def attT (h : Fin 4) : FVec F S64x64 .f32 :=
  select k0_pay4 (matmul dot_S64x128_S64x128_S64x64_1_1_0_0_n_n none (ktb I h) (qtb I h) (constant S64x64 .f32 0x00000000#32)) zero64
def datt (h : Fin 4) : FVec F S64x64 .f32 :=
  select k0_pay3 (matmul dot_S64x256_S64x256_S64x64_1_1_0_0_n_n none (dyb I h) (vb I h) (constant S64x64 .f32 0x00000000#32)) zero64
def dattT (h : Fin 4) : FVec F S64x64 .f32 :=
  select k0_pay4 (matmul dot_S64x256_S64x256_S64x64_1_1_0_0_n_n none (vb I h) (dyb I h) (constant S64x64 .f32 0x00000000#32)) zero64

def dv (h : Fin 4) : FVec F S64x256 .f32 :=
  addf (matmul dot_S64x64_S64x256_S64x256_1_0_0_1_n_n none (truncf .bf16 (attT I h) bitsLt_bf16_f32) (dyb I h) (constant S64x256 .f32 0x00000000#32))
    (matmul dot_S64x128_S256x128_S64x256_1_1_0_0_n_n none (keb I h) (gb g h) (constant S64x256 .f32 0x00000000#32))
def dqt (h : Fin 4) : FVec F S64x128 .f32 :=
  addf (matmul dot_S64x64_S64x128_S64x128_1_0_0_1_n_n none (truncf .bf16 (datt I h) bitsLt_bf16_f32) (ktb I h) (constant S64x128 .f32 0x00000000#32))
    (matmul dot_S64x256_S256x128_S64x128_1_0_0_1_n_n none (dyb I h) (truncf .bf16 (stv I h) bitsLt_bf16_f32) (constant S64x128 .f32 0x00000000#32))
def dkt (h : Fin 4) : FVec F S64x128 .f32 :=
  matmul dot_S64x64_S64x128_S64x128_1_0_0_1_n_n none (truncf .bf16 (dattT I h) bitsLt_bf16_f32) (qtb I h) (constant S64x128 .f32 0x00000000#32)
def dkend (h : Fin 4) : FVec F S64x128 .f32 :=
  matmul dot_S64x256_S256x128_S64x128_1_0_0_1_n_n none (vb I h) (gb g h) (constant S64x128 .f32 0x00000000#32)
def ddec (h : Fin 4) : FVec F S1x128 .f32 :=
  shapeCast S1x128 (multiReduction .add [0] S128 (mulf (gv g h) (stv I h)) 0x00000000#32 reduces_S256x128_S128 (.inl rfl) rfl) shapeCasts_S128_S1x128
def ds (h : Fin 4) : FVec F S1x256x128 .f32 :=
  shapeCast S1x256x128 (addf (mulf (gv g h) (broadcastTo S256x128 (cols1 (k0_pay14 I.la I.T) h) broadcasts_S1x128_S256x128))
    (matmul dot_S64x256_S64x128_S256x128_0_0_1_1_n_n none (dyb I h) (qtb I h) (constant S256x128 .f32 0x00000000#32))) shapeCasts_S256x128_S1x256x128

def dq : FVec F S64x512 .f32 := k0_pay74 (k0_pay8 I.la I.T) (dqt I 0) (dqt I 1) (dqt I 2) (dqt I 3)
def dk : FVec F S64x512 .f32 := k0_pay75 (k0_pay10 I.la I.T) (k0_pay12 I.la I.T) (dkt I 0) (dkend I g 0) (dkt I 1) (dkend I g 1)
  (dkt I 2) (dkend I g 2) (dkt I 3) (dkend I g 3)
def dla : FVec F S64x512 .f32 := k0_pay76 k0_pay5 (k0_pay9 I.q I.la I.T) (k0_pay11 I.k I.la I.T) (k0_pay13 I.k I.la I.T) (k0_pay14 I.la I.T)
  (dqt I 0) (dkt I 0) (dkend I g 0) (ddec I g 0) (dqt I 1) (dkt I 1) (dkend I g 1) (ddec I g 1)
  (dqt I 2) (dkt I 2) (dkend I g 2) (ddec I g 2) (dqt I 3) (dkt I 3) (dkend I g 3) (ddec I g 3) I.Tt

end Cert.GlaBIdeal.Chunk

end
-- ==== Proof.GlaBPoint.lean ====
/- A grid point of the gradient kernel, in either case of its condition: what it stores is, chunk by chunk from the last, what
   `Chunk` says of the chunk's loads and of the state's gradient that the chunk before has left. -/
module

public import proofs.«01_k».proof.Proof.Gen.GlaBIdeal.Value
public import proofs.«01_k».proof.Proof.GlaBChunk
public import Idealize.ShloMosaic.Lib.Pipeline.ReadBack
public import Idealize.ShloMosaic.Lib.WritesUnit

@[expose] public section

set_option maxRecDepth 65536

noncomputable section

namespace Cert.GlaBIdeal.Chunk

open Cert.GlaBIdeal Cert.GlaBIdeal.Gen Cert.Recurrence Idealize.ShloMosaic Idealize.SL.Sem

/-- The buffers that a grid point is run on and what its input blocks hold. -/
structure Env (F : FTy → Type) where
  c : Dev nD
  i : grid0.Coords
  arg1 : Memref sig .tc .vmem S256x1024 .f32
  harg1 : arg1.IsWhole
  arg2 : Memref sig .tc .vmem S256x1024 .f32
  harg2 : arg2.IsWhole
  arg3 : Memref sig .tc .vmem S256x512 .f32
  harg3 : arg3.IsWhole
  arg4 : Memref sig .tc .vmem S4x4x256x128 .f32
  harg4 : arg4.IsWhole
  arg5 : Memref sig .tc .vmem S256x1024 .f32
  harg5 : arg5.IsWhole
  arg6 : Memref sig .tc .vmem S64x64 .f32
  harg6 : arg6.IsWhole
  arg7 : Memref sig .tc .vmem S64x64 .f32
  harg7 : arg7.IsWhole
  arg8 : Memref sig .tc .vmem S256x512 .f32
  harg8 : arg8.IsWhole
  arg9 : Memref sig .tc .vmem S256x512 .f32
  harg9 : arg9.IsWhole
  arg10 : Memref sig .tc .vmem S256x1024 .f32
  harg10 : arg10.IsWhole
  arg11 : Memref sig .tc .vmem S256x512 .f32
  harg11 : arg11.IsWhole
  arg12 : Memref sig .tc .vmem S4x256x128 .f32
  harg12 : arg12.IsWhole
  x0 : Vec F S256x1024 .f32
  x1 : Vec F S256x1024 .f32
  x2 : Vec F S256x512 .f32
  x3 : Vec F S4x4x256x128 .f32
  x4 : Vec F S256x1024 .f32
  x5 : Vec F S64x64 .f32
  x6 : Vec F S64x64 .f32

variable {F : FTy → Type} [FloatOps F] (E : Env F) (xs0 : Vec F S4x256x128 .f32)

theorem inb_qk (j : Fin 4) (b : Fin 2) : ∀ a, (![64 * j.val, 512 * b.val] : Fin 2 → ℕ) a + S64x512.size a ≤ S256x1024.size a := by
  revert j b; decide
theorem inb_la (j : Fin 4) : ∀ a, (![64 * j.val, 0] : Fin 2 → ℕ) a + S64x512.size a ≤ S256x512.size a := by
  revert j; decide
theorem inb_v (j h : Fin 4) : ∀ a, (![64 * j.val, 256 * h.val] : Fin 2 → ℕ) a + S64x256.size a ≤ S256x1024.size a := by
  revert j h; decide
theorem inb_st (h j : Fin 4) : ∀ a, (![h.val, j.val, 0, 0] : Fin 4 → ℕ) a + S1x1x256x128.size a ≤ S4x4x256x128.size a := by
  revert j h; decide
theorem inb_g (h : Fin 4) : ∀ a, (![h.val, 0, 0] : Fin 3 → ℕ) a + S1x256x128.size a ≤ S4x256x128.size a := by
  revert h; decide
theorem inb_T : ∀ a, (![0, 0] : Fin 2 → ℕ) a + S64x64.size a ≤ S64x64.size a := by decide

/-- What local chunk `j` loads. -/
def Env.inp (j : Fin 4) : In F where
  q := View.readAt (Elt F) E.arg1.view (Rect.unit (s := S256x1024) ![64 * j.val, 512 * (0 : Fin 2).val] S64x512.size (inb_qk j 0)).toLoadRect (E.harg1.unread E.x0)
  k := View.readAt (Elt F) E.arg1.view (Rect.unit (s := S256x1024) ![64 * j.val, 512 * (1 : Fin 2).val] S64x512.size (inb_qk j 1)).toLoadRect (E.harg1.unread E.x0)
  la := View.readAt (Elt F) E.arg3.view (Rect.unit (s := S256x512) ![64 * j.val, 0] S64x512.size (inb_la j)).toLoadRect (E.harg3.unread E.x2)
  T := View.readAt (Elt F) E.arg6.view (Rect.unit (s := S64x64) ![0, 0] S64x64.size inb_T).toLoadRect (E.harg6.unread E.x5)
  Tt := View.readAt (Elt F) E.arg7.view (Rect.unit (s := S64x64) ![0, 0] S64x64.size inb_T).toLoadRect (E.harg7.unread E.x6)
  v h := View.readAt (Elt F) E.arg2.view (Rect.unit (s := S256x1024) ![64 * j.val, 256 * h.val] S64x256.size (inb_v j h)).toLoadRect (E.harg2.unread E.x1)
  dy h := View.readAt (Elt F) E.arg5.view (Rect.unit (s := S256x1024) ![64 * j.val, 256 * h.val] S64x256.size (inb_v j h)).toLoadRect (E.harg5.unread E.x4)
  st h := View.readAt (Elt F) E.arg4.view (Rect.unit (s := S4x4x256x128) ![h.val, j.val, 0, 0] S1x1x256x128.size (inb_st h j)).toLoadRect (E.harg4.unread E.x3)

/-- A head's rectangle of the scratch. -/
abbrev rect (h : Fin 4) : Rect S4x256x128 := Rect.unit (s := S4x256x128) ![h.val, 0, 0] S1x256x128.size (inb_g h)

/-- A head's part of the scratch, as a load of it. -/
def Env.old (h : Fin 4) : Vec F S1x256x128 .f32 := View.readAt (Elt F) E.arg12.view (rect h).toLoadRect (E.harg12.unread xs0)

/-- The state's gradient after a number of the point's chunks, the last chunk first. -/
def Env.chain (g : Fin 4 → Vec F S1x256x128 .f32) : ℕ → Fin 4 → Vec F S1x256x128 .f32
  | 0 => g
  | s + 1 => ds (E.inp ⟨3 - s, by omega⟩) (Env.chain g s)

/-- A chunk's rows of an output, and a head's columns of them. -/
abbrev rowsOf (j : Fin 4) : Rect S256x512 := Rect.unit (s := S256x512) ![64 * j.val, 0] S64x512.size (inb_la j)
abbrev blockOf (j h : Fin 4) : Rect S256x1024 := Rect.unit (s := S256x1024) ![64 * j.val, 256 * h.val] S64x256.size (inb_v j h)

theorem rect_disjoint {h h' : Fin 4} (hne : h' ≠ h) : Disjoint (rect h').set (rect h).toLoadRect.set := by
  refine Rect.unit_disjoint (a := 0) ?_
  have := Fin.val_ne_of_ne hne
  show h'.val + 1 ≤ h.val ∨ h.val + 1 ≤ h'.val
  omega

/-- A load of a head's part reads what the head last stored, three other heads having stored since. -/
theorem read4 (V : View sig .tc .vmem S4x256x128 .f32) (h a b d : Fin 4) (ha : a ≠ h) (hb : b ≠ h) (hd : d ≠ h)
    (wa wb wd w : Vec F S1x256x128 .f32) (L : List (View.Piece (Elt F) S4x256x128 .f32)) :
    V.readCov (⟨rect a, wa⟩ :: ⟨rect b, wb⟩ :: ⟨rect d, wd⟩ :: ⟨rect h, w⟩ :: L) (rect h).toLoadRect = w :=
  (View.readCov_cons_of_disjoint V ⟨rect a, wa⟩ _ _ (rect_disjoint ha)).trans <|
    (View.readCov_cons_of_disjoint V ⟨rect b, wb⟩ _ _ (rect_disjoint hb)).trans <|
      (View.readCov_cons_of_disjoint V ⟨rect d, wd⟩ _ _ (rect_disjoint hd)).trans <|
        View.readCov_cons_toLoadRect V (rect h) w L

/-- The state's gradient at the start. -/
def zeros : Fin 4 → Vec F S1x256x128 .f32 := fun _ _ => Scalar.ofBits .f32 0x00000000#32

theorem read_zeros (V : View sig .tc .vmem S4x256x128 .f32) (h : Fin 4) (inb) :
    V.readCov [⟨Rect.unit (s := S4x256x128) ![0, 0, 0] S4x256x128.size inb, k0_pay2 (F := F)⟩] (rect h).toLoadRect = zeros h := by
  rw [View.readCov_eq_canon']
  funext y
  rw [View.canon_cons_unit_zero (by funext a; fin_cases a <;> rfl)]
  rfl

/-- A chunk's four stores to the scratch, over earlier ones. -/
abbrev four (w : Fin 4 → Vec F S1x256x128 .f32) (L : List (View.Piece (Elt F) S4x256x128 .f32)) :
    List (View.Piece (Elt F) S4x256x128 .f32) :=
  ⟨rect 3, w 3⟩ :: ⟨rect 2, w 2⟩ :: ⟨rect 1, w 1⟩ :: ⟨rect 0, w 0⟩ :: L

section CaseB

/-- The state's gradient as chunk 2 loads it, head by head. -/
def Env.gB2 (xs0 : Vec F S4x256x128 .f32) : Fin 4 → Vec F S1x256x128 .f32 :=
  ![kernelRun0_B.sl.v283 E.c E.arg1 E.harg1 E.arg3 E.harg3 E.arg5 E.harg5 E.arg6 E.harg6 E.arg12 E.harg12 E.x0 E.x2 E.x4 E.x5 xs0,
    kernelRun0_B.sl.v331 E.c E.arg1 E.harg1 E.arg3 E.harg3 E.arg5 E.harg5 E.arg6 E.harg6 E.arg12 E.harg12 E.x0 E.x2 E.x4 E.x5 xs0,
    kernelRun0_B.sl.v379 E.c E.arg1 E.harg1 E.arg3 E.harg3 E.arg5 E.harg5 E.arg6 E.harg6 E.arg12 E.harg12 E.x0 E.x2 E.x4 E.x5 xs0,
    kernelRun0_B.sl.v427 E.c E.arg1 E.harg1 E.arg3 E.harg3 E.arg5 E.harg5 E.arg6 E.harg6 E.arg12 E.harg12 E.x0 E.x2 E.x4 E.x5 xs0]

/-- The state's gradient as chunk 1 loads it, head by head. -/
def Env.gB1 (xs0 : Vec F S4x256x128 .f32) : Fin 4 → Vec F S1x256x128 .f32 :=
  ![kernelRun0_B.sl.v526 E.c E.arg1 E.harg1 E.arg3 E.harg3 E.arg5 E.harg5 E.arg6 E.harg6 E.arg12 E.harg12 E.x0 E.x2 E.x4 E.x5 xs0,
    kernelRun0_B.sl.v574 E.c E.arg1 E.harg1 E.arg3 E.harg3 E.arg5 E.harg5 E.arg6 E.harg6 E.arg12 E.harg12 E.x0 E.x2 E.x4 E.x5 xs0,
    kernelRun0_B.sl.v622 E.c E.arg1 E.harg1 E.arg3 E.harg3 E.arg5 E.harg5 E.arg6 E.harg6 E.arg12 E.harg12 E.x0 E.x2 E.x4 E.x5 xs0,
    kernelRun0_B.sl.v670 E.c E.arg1 E.harg1 E.arg3 E.harg3 E.arg5 E.harg5 E.arg6 E.harg6 E.arg12 E.harg12 E.x0 E.x2 E.x4 E.x5 xs0]

/-- The state's gradient as chunk 0 loads it, head by head. -/
def Env.gB0 (xs0 : Vec F S4x256x128 .f32) : Fin 4 → Vec F S1x256x128 .f32 :=
  ![kernelRun0_B.sl.v769 E.c E.arg1 E.harg1 E.arg3 E.harg3 E.arg5 E.harg5 E.arg6 E.harg6 E.arg12 E.harg12 E.x0 E.x2 E.x4 E.x5 xs0,
    kernelRun0_B.sl.v817 E.c E.arg1 E.harg1 E.arg3 E.harg3 E.arg5 E.harg5 E.arg6 E.harg6 E.arg12 E.harg12 E.x0 E.x2 E.x4 E.x5 xs0,
    kernelRun0_B.sl.v865 E.c E.arg1 E.harg1 E.arg3 E.harg3 E.arg5 E.harg5 E.arg6 E.harg6 E.arg12 E.harg12 E.x0 E.x2 E.x4 E.x5 xs0,
    kernelRun0_B.sl.v913 E.c E.arg1 E.harg1 E.arg3 E.harg3 E.arg5 E.harg5 E.arg6 E.harg6 E.arg12 E.harg12 E.x0 E.x2 E.x4 E.x5 xs0]

theorem storesB3 : kernelRun0_B.sl.HS0_4 E.c E.arg1 E.harg1 E.arg3 E.harg3 E.arg5 E.harg5 E.arg6 E.harg6 E.arg12 E.harg12 E.x0 E.x2 E.x4 E.x5 xs0 = four (ds (E.inp 3) (E.old xs0)) [] := rfl

theorem gB2_eq : (E.gB2 xs0) = ds (E.inp 3) (E.old xs0) := by
  funext h
  fin_cases h
  · show E.arg12.view.readCov ((kernelRun0_B.sl.HS0_4 E.c E.arg1 E.harg1 E.arg3 E.harg3 E.arg5 E.harg5 E.arg6 E.harg6 E.arg12 E.harg12 E.x0 E.x2 E.x4 E.x5 xs0)) (rect 0).toLoadRect = _
    rw [storesB3]
    exact read4 E.arg12.view 0 3 2 1 (by decide) (by decide) (by decide) _ _ _ _ _
  · show E.arg12.view.readCov (⟨rect 0, _⟩ :: (kernelRun0_B.sl.HS0_4 E.c E.arg1 E.harg1 E.arg3 E.harg3 E.arg5 E.harg5 E.arg6 E.harg6 E.arg12 E.harg12 E.x0 E.x2 E.x4 E.x5 xs0)) (rect 1).toLoadRect = _
    rw [storesB3]
    exact read4 E.arg12.view 1 0 3 2 (by decide) (by decide) (by decide) _ _ _ _ _
  · show E.arg12.view.readCov (⟨rect 1, _⟩ :: ⟨rect 0, _⟩ :: (kernelRun0_B.sl.HS0_4 E.c E.arg1 E.harg1 E.arg3 E.harg3 E.arg5 E.harg5 E.arg6 E.harg6 E.arg12 E.harg12 E.x0 E.x2 E.x4 E.x5 xs0)) (rect 2).toLoadRect = _
    rw [storesB3]
    exact read4 E.arg12.view 2 1 0 3 (by decide) (by decide) (by decide) _ _ _ _ _
  · show E.arg12.view.readCov (⟨rect 2, _⟩ :: ⟨rect 1, _⟩ :: ⟨rect 0, _⟩ :: (kernelRun0_B.sl.HS0_4 E.c E.arg1 E.harg1 E.arg3 E.harg3 E.arg5 E.harg5 E.arg6 E.harg6 E.arg12 E.harg12 E.x0 E.x2 E.x4 E.x5 xs0)) (rect 3).toLoadRect = _
    rw [storesB3]
    exact read4 E.arg12.view 3 2 1 0 (by decide) (by decide) (by decide) _ _ _ _ _

theorem storesB2 : kernelRun0_B.sl.HS0_8 E.c E.arg1 E.harg1 E.arg3 E.harg3 E.arg5 E.harg5 E.arg6 E.harg6 E.arg12 E.harg12 E.x0 E.x2 E.x4 E.x5 xs0 = four (ds (E.inp 2) (E.gB2 xs0)) (kernelRun0_B.sl.HS0_4 E.c E.arg1 E.harg1 E.arg3 E.harg3 E.arg5 E.harg5 E.arg6 E.harg6 E.arg12 E.harg12 E.x0 E.x2 E.x4 E.x5 xs0) := rfl

theorem gB1_eq : (E.gB1 xs0) = ds (E.inp 2) (E.gB2 xs0) := by
  funext h
  fin_cases h
  · show E.arg12.view.readCov ((kernelRun0_B.sl.HS0_8 E.c E.arg1 E.harg1 E.arg3 E.harg3 E.arg5 E.harg5 E.arg6 E.harg6 E.arg12 E.harg12 E.x0 E.x2 E.x4 E.x5 xs0)) (rect 0).toLoadRect = _
    rw [storesB2]
    exact read4 E.arg12.view 0 3 2 1 (by decide) (by decide) (by decide) _ _ _ _ _
  · show E.arg12.view.readCov (⟨rect 0, _⟩ :: (kernelRun0_B.sl.HS0_8 E.c E.arg1 E.harg1 E.arg3 E.harg3 E.arg5 E.harg5 E.arg6 E.harg6 E.arg12 E.harg12 E.x0 E.x2 E.x4 E.x5 xs0)) (rect 1).toLoadRect = _
    rw [storesB2]
    exact read4 E.arg12.view 1 0 3 2 (by decide) (by decide) (by decide) _ _ _ _ _
  · show E.arg12.view.readCov (⟨rect 1, _⟩ :: ⟨rect 0, _⟩ :: (kernelRun0_B.sl.HS0_8 E.c E.arg1 E.harg1 E.arg3 E.harg3 E.arg5 E.harg5 E.arg6 E.harg6 E.arg12 E.harg12 E.x0 E.x2 E.x4 E.x5 xs0)) (rect 2).toLoadRect = _
    rw [storesB2]
    exact read4 E.arg12.view 2 1 0 3 (by decide) (by decide) (by decide) _ _ _ _ _
  · show E.arg12.view.readCov (⟨rect 2, _⟩ :: ⟨rect 1, _⟩ :: ⟨rect 0, _⟩ :: (kernelRun0_B.sl.HS0_8 E.c E.arg1 E.harg1 E.arg3 E.harg3 E.arg5 E.harg5 E.arg6 E.harg6 E.arg12 E.harg12 E.x0 E.x2 E.x4 E.x5 xs0)) (rect 3).toLoadRect = _
    rw [storesB2]
    exact read4 E.arg12.view 3 2 1 0 (by decide) (by decide) (by decide) _ _ _ _ _

theorem storesB1 : kernelRun0_B.sl.HS0_12 E.c E.arg1 E.harg1 E.arg3 E.harg3 E.arg5 E.harg5 E.arg6 E.harg6 E.arg12 E.harg12 E.x0 E.x2 E.x4 E.x5 xs0 = four (ds (E.inp 1) (E.gB1 xs0)) (kernelRun0_B.sl.HS0_8 E.c E.arg1 E.harg1 E.arg3 E.harg3 E.arg5 E.harg5 E.arg6 E.harg6 E.arg12 E.harg12 E.x0 E.x2 E.x4 E.x5 xs0) := rfl

theorem gB0_eq : (E.gB0 xs0) = ds (E.inp 1) (E.gB1 xs0) := by
  funext h
  fin_cases h
  · show E.arg12.view.readCov ((kernelRun0_B.sl.HS0_12 E.c E.arg1 E.harg1 E.arg3 E.harg3 E.arg5 E.harg5 E.arg6 E.harg6 E.arg12 E.harg12 E.x0 E.x2 E.x4 E.x5 xs0)) (rect 0).toLoadRect = _
    rw [storesB1]
    exact read4 E.arg12.view 0 3 2 1 (by decide) (by decide) (by decide) _ _ _ _ _
  · show E.arg12.view.readCov (⟨rect 0, _⟩ :: (kernelRun0_B.sl.HS0_12 E.c E.arg1 E.harg1 E.arg3 E.harg3 E.arg5 E.harg5 E.arg6 E.harg6 E.arg12 E.harg12 E.x0 E.x2 E.x4 E.x5 xs0)) (rect 1).toLoadRect = _
    rw [storesB1]
    exact read4 E.arg12.view 1 0 3 2 (by decide) (by decide) (by decide) _ _ _ _ _
  · show E.arg12.view.readCov (⟨rect 1, _⟩ :: ⟨rect 0, _⟩ :: (kernelRun0_B.sl.HS0_12 E.c E.arg1 E.harg1 E.arg3 E.harg3 E.arg5 E.harg5 E.arg6 E.harg6 E.arg12 E.harg12 E.x0 E.x2 E.x4 E.x5 xs0)) (rect 2).toLoadRect = _
    rw [storesB1]
    exact read4 E.arg12.view 2 1 0 3 (by decide) (by decide) (by decide) _ _ _ _ _
  · show E.arg12.view.readCov (⟨rect 2, _⟩ :: ⟨rect 1, _⟩ :: ⟨rect 0, _⟩ :: (kernelRun0_B.sl.HS0_12 E.c E.arg1 E.harg1 E.arg3 E.harg3 E.arg5 E.harg5 E.arg6 E.harg6 E.arg12 E.harg12 E.x0 E.x2 E.x4 E.x5 xs0)) (rect 3).toLoadRect = _
    rw [storesB1]
    exact read4 E.arg12.view 3 2 1 0 (by decide) (by decide) (by decide) _ _ _ _ _

theorem gB2_chain : (E.gB2 xs0) = E.chain (E.old xs0) 1 :=
  (gB2_eq E xs0).trans rfl

theorem gB1_chain : (E.gB1 xs0) = E.chain (E.old xs0) 2 :=
  (gB1_eq E xs0).trans (congrArg (ds (E.inp 2)) (gB2_chain E xs0))

theorem gB0_chain : (E.gB0 xs0) = E.chain (E.old xs0) 3 :=
  (gB0_eq E xs0).trans (congrArg (ds (E.inp 1)) (gB1_chain E xs0))

set_option maxHeartbeats 1000000

variable (hc : ¬cond0_0 E.i)

theorem dqB : (kernelRun0_B E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0).1
    = [⟨rowsOf 0, dq (E.inp 0)⟩, ⟨rowsOf 1, dq (E.inp 1)⟩, ⟨rowsOf 2, dq (E.inp 2)⟩, ⟨rowsOf 3, dq (E.inp 3)⟩] := rfl

theorem dkB' : (kernelRun0_B E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0).2.1
    = [⟨rowsOf 0, dk (E.inp 0) (E.gB0 xs0)⟩, ⟨rowsOf 1, dk (E.inp 1) (E.gB1 xs0)⟩, ⟨rowsOf 2, dk (E.inp 2) (E.gB2 xs0)⟩, ⟨rowsOf 3, dk (E.inp 3) (E.old xs0)⟩] := rfl

theorem dkB : (kernelRun0_B E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0).2.1
    = [⟨rowsOf 0, dk (E.inp 0) (E.chain (E.old xs0) 3)⟩, ⟨rowsOf 1, dk (E.inp 1) (E.chain (E.old xs0) 2)⟩, ⟨rowsOf 2, dk (E.inp 2) (E.chain (E.old xs0) 1)⟩, ⟨rowsOf 3, dk (E.inp 3) (E.chain (E.old xs0) 0)⟩] :=
  (dkB' E xs0 hc).trans (by rw [gB2_chain, gB1_chain, gB0_chain]; rfl)

theorem dlaB' : (kernelRun0_B E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0).2.2.2.1
    = [⟨rowsOf 0, dla (E.inp 0) (E.gB0 xs0)⟩, ⟨rowsOf 1, dla (E.inp 1) (E.gB1 xs0)⟩, ⟨rowsOf 2, dla (E.inp 2) (E.gB2 xs0)⟩, ⟨rowsOf 3, dla (E.inp 3) (E.old xs0)⟩] := rfl

theorem dlaB : (kernelRun0_B E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0).2.2.2.1
    = [⟨rowsOf 0, dla (E.inp 0) (E.chain (E.old xs0) 3)⟩, ⟨rowsOf 1, dla (E.inp 1) (E.chain (E.old xs0) 2)⟩, ⟨rowsOf 2, dla (E.inp 2) (E.chain (E.old xs0) 1)⟩, ⟨rowsOf 3, dla (E.inp 3) (E.chain (E.old xs0) 0)⟩] :=
  (dlaB' E xs0 hc).trans (by rw [gB2_chain, gB1_chain, gB0_chain]; rfl)

theorem dvB' : (kernelRun0_B E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0).2.2.1
    = [⟨blockOf 0 3, dv (E.inp 0) (E.gB0 xs0) 3⟩, ⟨blockOf 0 2, dv (E.inp 0) (E.gB0 xs0) 2⟩, ⟨blockOf 0 1, dv (E.inp 0) (E.gB0 xs0) 1⟩, ⟨blockOf 0 0, dv (E.inp 0) (E.gB0 xs0) 0⟩,
      ⟨blockOf 1 3, dv (E.inp 1) (E.gB1 xs0) 3⟩, ⟨blockOf 1 2, dv (E.inp 1) (E.gB1 xs0) 2⟩, ⟨blockOf 1 1, dv (E.inp 1) (E.gB1 xs0) 1⟩, ⟨blockOf 1 0, dv (E.inp 1) (E.gB1 xs0) 0⟩,
      ⟨blockOf 2 3, dv (E.inp 2) (E.gB2 xs0) 3⟩, ⟨blockOf 2 2, dv (E.inp 2) (E.gB2 xs0) 2⟩, ⟨blockOf 2 1, dv (E.inp 2) (E.gB2 xs0) 1⟩, ⟨blockOf 2 0, dv (E.inp 2) (E.gB2 xs0) 0⟩,
      ⟨blockOf 3 3, dv (E.inp 3) (E.old xs0) 3⟩, ⟨blockOf 3 2, dv (E.inp 3) (E.old xs0) 2⟩, ⟨blockOf 3 1, dv (E.inp 3) (E.old xs0) 1⟩, ⟨blockOf 3 0, dv (E.inp 3) (E.old xs0) 0⟩] := rfl

theorem dvB : (kernelRun0_B E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0).2.2.1
    = [⟨blockOf 0 3, dv (E.inp 0) (E.chain (E.old xs0) 3) 3⟩, ⟨blockOf 0 2, dv (E.inp 0) (E.chain (E.old xs0) 3) 2⟩, ⟨blockOf 0 1, dv (E.inp 0) (E.chain (E.old xs0) 3) 1⟩, ⟨blockOf 0 0, dv (E.inp 0) (E.chain (E.old xs0) 3) 0⟩,
      ⟨blockOf 1 3, dv (E.inp 1) (E.chain (E.old xs0) 2) 3⟩, ⟨blockOf 1 2, dv (E.inp 1) (E.chain (E.old xs0) 2) 2⟩, ⟨blockOf 1 1, dv (E.inp 1) (E.chain (E.old xs0) 2) 1⟩, ⟨blockOf 1 0, dv (E.inp 1) (E.chain (E.old xs0) 2) 0⟩,
      ⟨blockOf 2 3, dv (E.inp 2) (E.chain (E.old xs0) 1) 3⟩, ⟨blockOf 2 2, dv (E.inp 2) (E.chain (E.old xs0) 1) 2⟩, ⟨blockOf 2 1, dv (E.inp 2) (E.chain (E.old xs0) 1) 1⟩, ⟨blockOf 2 0, dv (E.inp 2) (E.chain (E.old xs0) 1) 0⟩,
      ⟨blockOf 3 3, dv (E.inp 3) (E.chain (E.old xs0) 0) 3⟩, ⟨blockOf 3 2, dv (E.inp 3) (E.chain (E.old xs0) 0) 2⟩, ⟨blockOf 3 1, dv (E.inp 3) (E.chain (E.old xs0) 0) 1⟩, ⟨blockOf 3 0, dv (E.inp 3) (E.chain (E.old xs0) 0) 0⟩] :=
  (dvB' E xs0 hc).trans (by rw [gB2_chain, gB1_chain, gB0_chain]; rfl)

theorem dsB : (kernelRun0_B E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0).2.2.2.2.1
    = four (ds (E.inp 0) (E.gB0 xs0)) (kernelRun0_B.sl.HS0_12 E.c E.arg1 E.harg1 E.arg3 E.harg3 E.arg5 E.harg5 E.arg6 E.harg6 E.arg12 E.harg12 E.x0 E.x2 E.x4 E.x5 xs0) := rfl

end CaseB

end Cert.GlaBIdeal.Chunk

end
-- ==== Proof.GlaBPointA.lean ====
/- A grid point of the gradient kernel, in either case of its condition: what it stores is, chunk by chunk from the last, what
   `Chunk` says of the chunk's loads and of the state's gradient that the chunk before has left. -/
module

public import proofs.«01_k».proof.Proof.Gen.GlaBIdeal.Value
public import proofs.«01_k».proof.Proof.GlaBPoint
public import Idealize.ShloMosaic.Lib.Pipeline.ReadBack
public import Idealize.ShloMosaic.Lib.WritesUnit

@[expose] public section

set_option maxRecDepth 65536

noncomputable section

namespace Cert.GlaBIdeal.Chunk

open Cert.GlaBIdeal Cert.GlaBIdeal.Gen Cert.Recurrence Idealize.ShloMosaic Idealize.SL.Sem

variable {F : FTy → Type} [FloatOps F] (E : Env F)

section CaseA

/-- The state's gradient as chunk 3 loads it, head by head. -/
def Env.gA3 : Fin 4 → Vec F S1x256x128 .f32 :=
  ![kernelRun0_A.sl.v40 E.c E.arg12,
    kernelRun0_A.sl.v88 E.c E.arg1 E.harg1 E.arg3 E.harg3 E.arg5 E.harg5 E.arg6 E.harg6 E.arg12 E.x0 E.x2 E.x4 E.x5,
    kernelRun0_A.sl.v136 E.c E.arg1 E.harg1 E.arg3 E.harg3 E.arg5 E.harg5 E.arg6 E.harg6 E.arg12 E.x0 E.x2 E.x4 E.x5,
    kernelRun0_A.sl.v184 E.c E.arg1 E.harg1 E.arg3 E.harg3 E.arg5 E.harg5 E.arg6 E.harg6 E.arg12 E.x0 E.x2 E.x4 E.x5]

/-- The state's gradient as chunk 2 loads it, head by head. -/
def Env.gA2 : Fin 4 → Vec F S1x256x128 .f32 :=
  ![kernelRun0_A.sl.v283 E.c E.arg1 E.harg1 E.arg3 E.harg3 E.arg5 E.harg5 E.arg6 E.harg6 E.arg12 E.x0 E.x2 E.x4 E.x5,
    kernelRun0_A.sl.v331 E.c E.arg1 E.harg1 E.arg3 E.harg3 E.arg5 E.harg5 E.arg6 E.harg6 E.arg12 E.x0 E.x2 E.x4 E.x5,
    kernelRun0_A.sl.v379 E.c E.arg1 E.harg1 E.arg3 E.harg3 E.arg5 E.harg5 E.arg6 E.harg6 E.arg12 E.x0 E.x2 E.x4 E.x5,
    kernelRun0_A.sl.v427 E.c E.arg1 E.harg1 E.arg3 E.harg3 E.arg5 E.harg5 E.arg6 E.harg6 E.arg12 E.x0 E.x2 E.x4 E.x5]

/-- The state's gradient as chunk 1 loads it, head by head. -/
def Env.gA1 : Fin 4 → Vec F S1x256x128 .f32 :=
  ![kernelRun0_A.sl.v526 E.c E.arg1 E.harg1 E.arg3 E.harg3 E.arg5 E.harg5 E.arg6 E.harg6 E.arg12 E.x0 E.x2 E.x4 E.x5,
    kernelRun0_A.sl.v574 E.c E.arg1 E.harg1 E.arg3 E.harg3 E.arg5 E.harg5 E.arg6 E.harg6 E.arg12 E.x0 E.x2 E.x4 E.x5,
    kernelRun0_A.sl.v622 E.c E.arg1 E.harg1 E.arg3 E.harg3 E.arg5 E.harg5 E.arg6 E.harg6 E.arg12 E.x0 E.x2 E.x4 E.x5,
    kernelRun0_A.sl.v670 E.c E.arg1 E.harg1 E.arg3 E.harg3 E.arg5 E.harg5 E.arg6 E.harg6 E.arg12 E.x0 E.x2 E.x4 E.x5]

/-- The state's gradient as chunk 0 loads it, head by head. -/
def Env.gA0 : Fin 4 → Vec F S1x256x128 .f32 :=
  ![kernelRun0_A.sl.v769 E.c E.arg1 E.harg1 E.arg3 E.harg3 E.arg5 E.harg5 E.arg6 E.harg6 E.arg12 E.x0 E.x2 E.x4 E.x5,
    kernelRun0_A.sl.v817 E.c E.arg1 E.harg1 E.arg3 E.harg3 E.arg5 E.harg5 E.arg6 E.harg6 E.arg12 E.x0 E.x2 E.x4 E.x5,
    kernelRun0_A.sl.v865 E.c E.arg1 E.harg1 E.arg3 E.harg3 E.arg5 E.harg5 E.arg6 E.harg6 E.arg12 E.x0 E.x2 E.x4 E.x5,
    kernelRun0_A.sl.v913 E.c E.arg1 E.harg1 E.arg3 E.harg3 E.arg5 E.harg5 E.arg6 E.harg6 E.arg12 E.x0 E.x2 E.x4 E.x5]

theorem zeros1 {a h : Fin 4} (w : Vec F S1x256x128 .f32) (ha : a ≠ h) :
    E.arg12.view.readCov (⟨rect a, w⟩ :: kernelRun0_A.sl.HS0_1) (rect h).toLoadRect = zeros h := by
  rw [View.readCov_cons_of_disjoint E.arg12.view ⟨rect a, w⟩ _ _ (rect_disjoint ha)]
  exact read_zeros E.arg12.view h _

theorem zeros2 {a b h : Fin 4} (w w' : Vec F S1x256x128 .f32) (hb : b ≠ h) (ha : a ≠ h) :
    E.arg12.view.readCov (⟨rect b, w'⟩ :: ⟨rect a, w⟩ :: kernelRun0_A.sl.HS0_1) (rect h).toLoadRect = zeros h := by
  rw [View.readCov_cons_of_disjoint E.arg12.view ⟨rect b, w'⟩ _ _ (rect_disjoint hb)]
  exact zeros1 E w ha

theorem zeros3 {a b d h : Fin 4} (w w' w'' : Vec F S1x256x128 .f32) (hd : d ≠ h) (hb : b ≠ h) (ha : a ≠ h) :
    E.arg12.view.readCov (⟨rect d, w''⟩ :: ⟨rect b, w'⟩ :: ⟨rect a, w⟩ :: kernelRun0_A.sl.HS0_1) (rect h).toLoadRect = zeros h := by
  rw [View.readCov_cons_of_disjoint E.arg12.view ⟨rect d, w''⟩ _ _ (rect_disjoint hd)]
  exact zeros2 E w w' hb ha

theorem gA3_eq : E.gA3 = zeros := by
  funext h
  fin_cases h
  · exact read_zeros E.arg12.view 0 _
  · show E.arg12.view.readCov (⟨rect 0, _⟩ :: kernelRun0_A.sl.HS0_1) (rect 1).toLoadRect = _
    exact zeros1 E _ (by decide)
  · show E.arg12.view.readCov (⟨rect 1, _⟩ :: ⟨rect 0, _⟩ :: kernelRun0_A.sl.HS0_1) (rect 2).toLoadRect = _
    exact zeros2 E _ _ (by decide) (by decide)
  · show E.arg12.view.readCov (⟨rect 2, _⟩ :: ⟨rect 1, _⟩ :: ⟨rect 0, _⟩ :: kernelRun0_A.sl.HS0_1) (rect 3).toLoadRect = _
    exact zeros3 E _ _ _ (by decide) (by decide) (by decide)

theorem storesA3 : kernelRun0_A.sl.HS0_5 E.c E.arg1 E.harg1 E.arg3 E.harg3 E.arg5 E.harg5 E.arg6 E.harg6 E.arg12 E.x0 E.x2 E.x4 E.x5 = four (ds (E.inp 3) E.gA3) kernelRun0_A.sl.HS0_1 := rfl

theorem gA2_eq : E.gA2 = ds (E.inp 3) E.gA3 := by
  funext h
  fin_cases h
  · show E.arg12.view.readCov ((kernelRun0_A.sl.HS0_5 E.c E.arg1 E.harg1 E.arg3 E.harg3 E.arg5 E.harg5 E.arg6 E.harg6 E.arg12 E.x0 E.x2 E.x4 E.x5)) (rect 0).toLoadRect = _
    rw [storesA3]
    exact read4 E.arg12.view 0 3 2 1 (by decide) (by decide) (by decide) _ _ _ _ _
  · show E.arg12.view.readCov (⟨rect 0, _⟩ :: (kernelRun0_A.sl.HS0_5 E.c E.arg1 E.harg1 E.arg3 E.harg3 E.arg5 E.harg5 E.arg6 E.harg6 E.arg12 E.x0 E.x2 E.x4 E.x5)) (rect 1).toLoadRect = _
    rw [storesA3]
    exact read4 E.arg12.view 1 0 3 2 (by decide) (by decide) (by decide) _ _ _ _ _
  · show E.arg12.view.readCov (⟨rect 1, _⟩ :: ⟨rect 0, _⟩ :: (kernelRun0_A.sl.HS0_5 E.c E.arg1 E.harg1 E.arg3 E.harg3 E.arg5 E.harg5 E.arg6 E.harg6 E.arg12 E.x0 E.x2 E.x4 E.x5)) (rect 2).toLoadRect = _
    rw [storesA3]
    exact read4 E.arg12.view 2 1 0 3 (by decide) (by decide) (by decide) _ _ _ _ _
  · show E.arg12.view.readCov (⟨rect 2, _⟩ :: ⟨rect 1, _⟩ :: ⟨rect 0, _⟩ :: (kernelRun0_A.sl.HS0_5 E.c E.arg1 E.harg1 E.arg3 E.harg3 E.arg5 E.harg5 E.arg6 E.harg6 E.arg12 E.x0 E.x2 E.x4 E.x5)) (rect 3).toLoadRect = _
    rw [storesA3]
    exact read4 E.arg12.view 3 2 1 0 (by decide) (by decide) (by decide) _ _ _ _ _

theorem storesA2 : kernelRun0_A.sl.HS0_9 E.c E.arg1 E.harg1 E.arg3 E.harg3 E.arg5 E.harg5 E.arg6 E.harg6 E.arg12 E.x0 E.x2 E.x4 E.x5 = four (ds (E.inp 2) E.gA2) (kernelRun0_A.sl.HS0_5 E.c E.arg1 E.harg1 E.arg3 E.harg3 E.arg5 E.harg5 E.arg6 E.harg6 E.arg12 E.x0 E.x2 E.x4 E.x5) := rfl

theorem gA1_eq : E.gA1 = ds (E.inp 2) E.gA2 := by
  funext h
  fin_cases h
  · show E.arg12.view.readCov ((kernelRun0_A.sl.HS0_9 E.c E.arg1 E.harg1 E.arg3 E.harg3 E.arg5 E.harg5 E.arg6 E.harg6 E.arg12 E.x0 E.x2 E.x4 E.x5)) (rect 0).toLoadRect = _
    rw [storesA2]
    exact read4 E.arg12.view 0 3 2 1 (by decide) (by decide) (by decide) _ _ _ _ _
  · show E.arg12.view.readCov (⟨rect 0, _⟩ :: (kernelRun0_A.sl.HS0_9 E.c E.arg1 E.harg1 E.arg3 E.harg3 E.arg5 E.harg5 E.arg6 E.harg6 E.arg12 E.x0 E.x2 E.x4 E.x5)) (rect 1).toLoadRect = _
    rw [storesA2]
    exact read4 E.arg12.view 1 0 3 2 (by decide) (by decide) (by decide) _ _ _ _ _
  · show E.arg12.view.readCov (⟨rect 1, _⟩ :: ⟨rect 0, _⟩ :: (kernelRun0_A.sl.HS0_9 E.c E.arg1 E.harg1 E.arg3 E.harg3 E.arg5 E.harg5 E.arg6 E.harg6 E.arg12 E.x0 E.x2 E.x4 E.x5)) (rect 2).toLoadRect = _
    rw [storesA2]
    exact read4 E.arg12.view 2 1 0 3 (by decide) (by decide) (by decide) _ _ _ _ _
  · show E.arg12.view.readCov (⟨rect 2, _⟩ :: ⟨rect 1, _⟩ :: ⟨rect 0, _⟩ :: (kernelRun0_A.sl.HS0_9 E.c E.arg1 E.harg1 E.arg3 E.harg3 E.arg5 E.harg5 E.arg6 E.harg6 E.arg12 E.x0 E.x2 E.x4 E.x5)) (rect 3).toLoadRect = _
    rw [storesA2]
    exact read4 E.arg12.view 3 2 1 0 (by decide) (by decide) (by decide) _ _ _ _ _

theorem storesA1 : kernelRun0_A.sl.HS0_13 E.c E.arg1 E.harg1 E.arg3 E.harg3 E.arg5 E.harg5 E.arg6 E.harg6 E.arg12 E.x0 E.x2 E.x4 E.x5 = four (ds (E.inp 1) E.gA1) (kernelRun0_A.sl.HS0_9 E.c E.arg1 E.harg1 E.arg3 E.harg3 E.arg5 E.harg5 E.arg6 E.harg6 E.arg12 E.x0 E.x2 E.x4 E.x5) := rfl

theorem gA0_eq : E.gA0 = ds (E.inp 1) E.gA1 := by
  funext h
  fin_cases h
  · show E.arg12.view.readCov ((kernelRun0_A.sl.HS0_13 E.c E.arg1 E.harg1 E.arg3 E.harg3 E.arg5 E.harg5 E.arg6 E.harg6 E.arg12 E.x0 E.x2 E.x4 E.x5)) (rect 0).toLoadRect = _
    rw [storesA1]
    exact read4 E.arg12.view 0 3 2 1 (by decide) (by decide) (by decide) _ _ _ _ _
  · show E.arg12.view.readCov (⟨rect 0, _⟩ :: (kernelRun0_A.sl.HS0_13 E.c E.arg1 E.harg1 E.arg3 E.harg3 E.arg5 E.harg5 E.arg6 E.harg6 E.arg12 E.x0 E.x2 E.x4 E.x5)) (rect 1).toLoadRect = _
    rw [storesA1]
    exact read4 E.arg12.view 1 0 3 2 (by decide) (by decide) (by decide) _ _ _ _ _
  · show E.arg12.view.readCov (⟨rect 1, _⟩ :: ⟨rect 0, _⟩ :: (kernelRun0_A.sl.HS0_13 E.c E.arg1 E.harg1 E.arg3 E.harg3 E.arg5 E.harg5 E.arg6 E.harg6 E.arg12 E.x0 E.x2 E.x4 E.x5)) (rect 2).toLoadRect = _
    rw [storesA1]
    exact read4 E.arg12.view 2 1 0 3 (by decide) (by decide) (by decide) _ _ _ _ _
  · show E.arg12.view.readCov (⟨rect 2, _⟩ :: ⟨rect 1, _⟩ :: ⟨rect 0, _⟩ :: (kernelRun0_A.sl.HS0_13 E.c E.arg1 E.harg1 E.arg3 E.harg3 E.arg5 E.harg5 E.arg6 E.harg6 E.arg12 E.x0 E.x2 E.x4 E.x5)) (rect 3).toLoadRect = _
    rw [storesA1]
    exact read4 E.arg12.view 3 2 1 0 (by decide) (by decide) (by decide) _ _ _ _ _

theorem gA3_chain : E.gA3 = E.chain zeros 0 := gA3_eq E

theorem gA2_chain : E.gA2 = E.chain zeros 1 :=
  (gA2_eq E).trans (congrArg (ds (E.inp 3)) (gA3_chain E))

theorem gA1_chain : E.gA1 = E.chain zeros 2 :=
  (gA1_eq E).trans (congrArg (ds (E.inp 2)) (gA2_chain E))

theorem gA0_chain : E.gA0 = E.chain zeros 3 :=
  (gA0_eq E).trans (congrArg (ds (E.inp 1)) (gA1_chain E))

set_option maxHeartbeats 1000000

variable (hc : cond0_0 E.i)

theorem dqA : (kernelRun0_A E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6).1
    = [⟨rowsOf 0, dq (E.inp 0)⟩, ⟨rowsOf 1, dq (E.inp 1)⟩, ⟨rowsOf 2, dq (E.inp 2)⟩, ⟨rowsOf 3, dq (E.inp 3)⟩] := rfl

theorem dkA' : (kernelRun0_A E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6).2.1
    = [⟨rowsOf 0, dk (E.inp 0) E.gA0⟩, ⟨rowsOf 1, dk (E.inp 1) E.gA1⟩, ⟨rowsOf 2, dk (E.inp 2) E.gA2⟩, ⟨rowsOf 3, dk (E.inp 3) E.gA3⟩] := rfl

theorem dkA : (kernelRun0_A E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6).2.1
    = [⟨rowsOf 0, dk (E.inp 0) (E.chain zeros 3)⟩, ⟨rowsOf 1, dk (E.inp 1) (E.chain zeros 2)⟩, ⟨rowsOf 2, dk (E.inp 2) (E.chain zeros 1)⟩, ⟨rowsOf 3, dk (E.inp 3) (E.chain zeros 0)⟩] :=
  (dkA' E hc).trans (by rw [gA3_chain, gA2_chain, gA1_chain, gA0_chain])

theorem dlaA' : (kernelRun0_A E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6).2.2.2.1
    = [⟨rowsOf 0, dla (E.inp 0) E.gA0⟩, ⟨rowsOf 1, dla (E.inp 1) E.gA1⟩, ⟨rowsOf 2, dla (E.inp 2) E.gA2⟩, ⟨rowsOf 3, dla (E.inp 3) E.gA3⟩] := rfl

theorem dlaA : (kernelRun0_A E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6).2.2.2.1
    = [⟨rowsOf 0, dla (E.inp 0) (E.chain zeros 3)⟩, ⟨rowsOf 1, dla (E.inp 1) (E.chain zeros 2)⟩, ⟨rowsOf 2, dla (E.inp 2) (E.chain zeros 1)⟩, ⟨rowsOf 3, dla (E.inp 3) (E.chain zeros 0)⟩] :=
  (dlaA' E hc).trans (by rw [gA3_chain, gA2_chain, gA1_chain, gA0_chain])

theorem dvA' : (kernelRun0_A E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6).2.2.1
    = [⟨blockOf 0 3, dv (E.inp 0) E.gA0 3⟩, ⟨blockOf 0 2, dv (E.inp 0) E.gA0 2⟩, ⟨blockOf 0 1, dv (E.inp 0) E.gA0 1⟩, ⟨blockOf 0 0, dv (E.inp 0) E.gA0 0⟩,
      ⟨blockOf 1 3, dv (E.inp 1) E.gA1 3⟩, ⟨blockOf 1 2, dv (E.inp 1) E.gA1 2⟩, ⟨blockOf 1 1, dv (E.inp 1) E.gA1 1⟩, ⟨blockOf 1 0, dv (E.inp 1) E.gA1 0⟩,
      ⟨blockOf 2 3, dv (E.inp 2) E.gA2 3⟩, ⟨blockOf 2 2, dv (E.inp 2) E.gA2 2⟩, ⟨blockOf 2 1, dv (E.inp 2) E.gA2 1⟩, ⟨blockOf 2 0, dv (E.inp 2) E.gA2 0⟩,
      ⟨blockOf 3 3, dv (E.inp 3) E.gA3 3⟩, ⟨blockOf 3 2, dv (E.inp 3) E.gA3 2⟩, ⟨blockOf 3 1, dv (E.inp 3) E.gA3 1⟩, ⟨blockOf 3 0, dv (E.inp 3) E.gA3 0⟩] := rfl

theorem dvA : (kernelRun0_A E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6).2.2.1
    = [⟨blockOf 0 3, dv (E.inp 0) (E.chain zeros 3) 3⟩, ⟨blockOf 0 2, dv (E.inp 0) (E.chain zeros 3) 2⟩, ⟨blockOf 0 1, dv (E.inp 0) (E.chain zeros 3) 1⟩, ⟨blockOf 0 0, dv (E.inp 0) (E.chain zeros 3) 0⟩,
      ⟨blockOf 1 3, dv (E.inp 1) (E.chain zeros 2) 3⟩, ⟨blockOf 1 2, dv (E.inp 1) (E.chain zeros 2) 2⟩, ⟨blockOf 1 1, dv (E.inp 1) (E.chain zeros 2) 1⟩, ⟨blockOf 1 0, dv (E.inp 1) (E.chain zeros 2) 0⟩,
      ⟨blockOf 2 3, dv (E.inp 2) (E.chain zeros 1) 3⟩, ⟨blockOf 2 2, dv (E.inp 2) (E.chain zeros 1) 2⟩, ⟨blockOf 2 1, dv (E.inp 2) (E.chain zeros 1) 1⟩, ⟨blockOf 2 0, dv (E.inp 2) (E.chain zeros 1) 0⟩,
      ⟨blockOf 3 3, dv (E.inp 3) (E.chain zeros 0) 3⟩, ⟨blockOf 3 2, dv (E.inp 3) (E.chain zeros 0) 2⟩, ⟨blockOf 3 1, dv (E.inp 3) (E.chain zeros 0) 1⟩, ⟨blockOf 3 0, dv (E.inp 3) (E.chain zeros 0) 0⟩] :=
  (dvA' E hc).trans (by rw [gA3_chain, gA2_chain, gA1_chain, gA0_chain])

theorem dsA : (kernelRun0_A E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6).2.2.2.2.1
    = four (ds (E.inp 0) E.gA0) (kernelRun0_A.sl.HS0_13 E.c E.arg1 E.harg1 E.arg3 E.harg3 E.arg5 E.harg5 E.arg6 E.harg6 E.arg12 E.x0 E.x2 E.x4 E.x5) := rfl

end CaseA

end Cert.GlaBIdeal.Chunk

end
-- ==== Proof.GlaBOuts.lean ====
/- What a grid point leaves in its results' buffers and in the scratch, in either case of its condition: the pieces of `Chunk`, read back. -/
module

public import proofs.«01_k».proof.Proof.GlaBPointA

@[expose] public section

set_option maxRecDepth 65536

noncomputable section

namespace Cert.GlaBIdeal.Chunk

open Cert.GlaBIdeal Cert.GlaBIdeal.Gen Idealize.ShloMosaic Idealize.SL.Sem

variable {F : FTy → Type} [FloatOps F] (E : Env F) (xs0 : Vec F S4x256x128 .f32)

/-- The local chunks, in the order of their last stores, and their heads. -/
abbrev chunks : List (Fin 4) := [0, 1, 2, 3]
abbrev tiles : List (Fin 4 × Fin 4) :=
  [(0, 3), (0, 2), (0, 1), (0, 0), (1, 3), (1, 2), (1, 1), (1, 0), (2, 3), (2, 2), (2, 1), (2, 0), (3, 3), (3, 2), (3, 1), (3, 0)]

/-- The pieces that a grid point stores, from the state's gradient `g` that it starts from. -/
def Env.dqs : List (View.Piece (Elt F) S256x512 .f32) := chunks.map fun j => ⟨rowsOf j, dq (E.inp j)⟩
def Env.dks (g : Fin 4 → Vec F S1x256x128 .f32) : List (View.Piece (Elt F) S256x512 .f32) :=
  chunks.map fun j => ⟨rowsOf j, dk (E.inp j) (E.chain g (3 - j.val))⟩
def Env.dvs (g : Fin 4 → Vec F S1x256x128 .f32) : List (View.Piece (Elt F) S256x1024 .f32) :=
  tiles.map fun p => ⟨blockOf p.1 p.2, dv (E.inp p.1) (E.chain g (3 - p.1.val)) p.2⟩
def Env.dlas (g : Fin 4 → Vec F S1x256x128 .f32) : List (View.Piece (Elt F) S256x512 .f32) :=
  chunks.map fun j => ⟨rowsOf j, dla (E.inp j) (E.chain g (3 - j.val))⟩

section

variable (hc : cond0_0 E.i)

theorem out_dqA : out0_A_7 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 = VO0_7.read (Elt F) (VO0_7.writes (Elt F) VO0_7.junk (E.dqs)) := by
  unfold out0_A_7
  rw [dqA E hc]
  rfl

theorem out_dkA : out0_A_8 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 = VO0_8.read (Elt F) (VO0_8.writes (Elt F) VO0_8.junk (E.dks zeros)) := by
  unfold out0_A_8
  rw [dkA E hc]
  rfl

theorem out_dvA : out0_A_9 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 = VO0_9.read (Elt F) (VO0_9.writes (Elt F) VO0_9.junk (E.dvs zeros)) := by
  unfold out0_A_9
  rw [dvA E hc]
  rfl

theorem out_dlaA : out0_A_10 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 = VO0_10.read (Elt F) (VO0_10.writes (Elt F) VO0_10.junk (E.dlas zeros)) := by
  unfold out0_A_10
  rw [dlaA E hc]
  rfl

theorem out_dsA : ∃ L, sout0_A_0 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 = VS0_0.read (Elt F) (VS0_0.writes (Elt F) VS0_0.junk (four (E.chain zeros 4) L)) := by
  unfold sout0_A_0
  rw [dsA E hc, gA0_chain]
  exact ⟨_, rfl⟩

end

section

variable (hc : ¬cond0_0 E.i)

theorem out_dqB : out0_B_7 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0 = VO0_7.read (Elt F) (VO0_7.writes (Elt F) VO0_7.junk (E.dqs)) := by
  unfold out0_B_7
  rw [dqB E xs0 hc]
  rfl

theorem out_dkB : out0_B_8 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0 = VO0_8.read (Elt F) (VO0_8.writes (Elt F) VO0_8.junk (E.dks (E.old xs0))) := by
  unfold out0_B_8
  rw [dkB E xs0 hc]
  rfl

theorem out_dvB : out0_B_9 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0 = VO0_9.read (Elt F) (VO0_9.writes (Elt F) VO0_9.junk (E.dvs (E.old xs0))) := by
  unfold out0_B_9
  rw [dvB E xs0 hc]
  rfl

theorem out_dlaB : out0_B_10 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0 = VO0_10.read (Elt F) (VO0_10.writes (Elt F) VO0_10.junk (E.dlas (E.old xs0))) := by
  unfold out0_B_10
  rw [dlaB E xs0 hc]
  rfl

theorem out_dsB : ∃ L, sout0_B_0 E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 hc E.x0 E.x1 E.x2 E.x3 E.x4 E.x5 E.x6 xs0 = VS0_0.read (Elt F) (VS0_0.writes (Elt F) VS0_0.junk (four (E.chain (E.old xs0) 4) L)) := by
  unfold sout0_B_0
  rw [dsB E xs0 hc, gB0_chain]
  exact ⟨_, rfl⟩

end

end Cert.GlaBIdeal.Chunk

end
-- ==== Proof.GlaBEntries.lean ====
/- The values of `Chunk` entry by entry, over the extended reals: each is what `Recurrence.Head` says. -/
module

public import proofs.«01_k».proof.Proof.GlaBChunk
public import proofs.«01_k».proof.Proof.Common
public import Idealize.ShloMosaic.Lib.KernelVsHost

@[expose] public section

set_option maxRecDepth 16384

noncomputable section

namespace Cert.GlaBIdeal.Chunk

open Cert.GlaBIdeal Cert.GlaBIdeal.Gen Cert.Recurrence Idealize.ShloMosaic Idealize.SL.Sem

theorem col_lt (h : Fin 4) (d : Fin 128) : 128 * h.val + d.val < 512 := by omega

/-- Head `h`'s column `d`. -/
abbrev col (h : Fin 4) (d : Fin 128) : Fin 512 := ⟨128 * h.val + d.val, col_lt h d⟩

/-- The loads `I` and the state's gradient `g` hold the four heads `H`. -/
structure Holds (I : In Ideal) (g : Fin 4 → Vec Ideal S1x256x128 .f32) (H : Fin 4 → Head) : Prop where
  q : ∀ h r d, I.q (ix2 r (col h d)) = (H h).q r d
  k : ∀ h r d, I.k (ix2 r (col h d)) = (H h).k r d
  la : ∀ h r d, I.la (ix2 r (col h d)) = (H h).la r d
  T : ∀ r s, I.T (ix2 r s) = if s ≤ r then 1 else 0
  Tt : ∀ s r, I.Tt (ix2 s r) = if s ≤ r then 1 else 0
  v : ∀ h r e, I.v h (ix2 r e) = (H h).v r e
  dy : ∀ h r e, I.dy h (ix2 r e) = (H h).dy r e
  st : ∀ h e d, I.st h (ix4 0 0 e d) = (H h).s e d
  g : ∀ h e d, g h (ix3 0 e d) = (H h).g e d

theorem select_eq_last (r : Fin 64) (a b : EReal) :
    Scalar.select (IntOp.cmpi .eq (BitVec.ofNat 32 r.val) 63#32) a b = if r = 63 then a else b := by
  rw [WordCmp.cmpi_eq_eq_toNat]
  have hm' : r.val % 4294967296 = r.val := Nat.mod_eq_of_lt (by omega)
  by_cases h : r = 63
  · subst h; rfl
  · have : ¬ r.val = 63 := fun e => h (Fin.ext e)
    simp [Scalar.select, h, hm', this]

theorem concat_apply (x : Fin 4 → FVec Ideal S64x128 .f32) (h : Fin 4) (r : Fin 64) (d : Fin 128) :
    concatenate S64x512 1 [⟨S64x128, x 0⟩, ⟨S64x128, x 1⟩, ⟨S64x128, x 2⟩, ⟨S64x128, x 3⟩]
      concatenates_S64x128_S64x128_S64x128_S64x128_S64x512_d1 (ix2 r (col h d)) = x h (ix2 r d) := by
  pointwise []
  have := d.isLt
  fin_cases h <;> simp <;> (try split_ifs) <;> (try omega) <;> congr 3 <;> omega

theorem pick {α : Type} (x : Fin 4 → Fin 128 → α) (h : Fin 4) (d : Fin 128) :
    (if h1 : 128 * h.val + d.val < 128 then x 0 ⟨128 * h.val + d.val, h1⟩
      else if h2 : 128 * h.val + d.val - 128 < 128 then x 1 ⟨128 * h.val + d.val - 128, h2⟩
      else if h3 : 128 * h.val + d.val - 128 - 128 < 128 then x 2 ⟨128 * h.val + d.val - 128 - 128, h3⟩
      else x 3 ⟨128 * h.val + d.val - 128 - 128 - 128, by omega⟩) = x h d := by
  have := d.isLt
  fin_cases h <;> simp <;> (try split_ifs) <;> (try omega) <;> congr 2 <;> omega

variable {I : In Ideal} {g : Fin 4 → Vec Ideal S1x256x128 .f32} {H : Fin 4 → Head} (hH : Holds I g H)
include hH

theorem cum_apply (h : Fin 4) (r : Fin 64) (d : Fin 128) : k0_pay6 I.la I.T (ix2 r (col h d)) = (H h).cum r d := by
  pointwise [k0_pay6]
  simp only [hH.T, hH.la, sum_tri, Head.cum]

theorem last_apply (h : Fin 4) (r : Fin 1) (d : Fin 128) : k0_pay7 I.la I.T (ix2 r (col h d)) = (H h).cum 63 d := by
  pointwise [k0_pay7]
  exact cum_apply hH h 63 d

theorem eb_apply (h : Fin 4) (r : Fin 64) (d : Fin 128) : k0_pay8 I.la I.T (ix2 r (col h d)) = Ideal.exp ((H h).cum r d) := by
  pointwise [k0_pay8]
  rw [cum_apply hH]

theorem qt_apply (h : Fin 4) (r : Fin 64) (d : Fin 128) : k0_pay9 I.q I.la I.T (ix2 r (col h d)) = (H h).qt r d := by
  pointwise [k0_pay9]
  rw [eb_apply hH, hH.q, Head.qt]

theorem enb_apply (h : Fin 4) (r : Fin 64) (d : Fin 128) : k0_pay10 I.la I.T (ix2 r (col h d)) = Ideal.exp (-(H h).cum r d) := by
  pointwise [k0_pay10]
  rw [cum_apply hH]
  simp

theorem kt_apply (h : Fin 4) (r : Fin 64) (d : Fin 128) : k0_pay11 I.k I.la I.T (ix2 r (col h d)) = (H h).kt r d := by
  pointwise [k0_pay11]
  rw [enb_apply hH, hH.k, Head.kt]

theorem eend_apply (h : Fin 4) (r : Fin 64) (d : Fin 128) :
    k0_pay12 I.la I.T (ix2 r (col h d)) = Ideal.exp ((H h).cum 63 d - (H h).cum r d) := by
  pointwise [k0_pay12]
  rw [cum_apply hH, last_apply hH]

theorem kend_apply (h : Fin 4) (r : Fin 64) (d : Fin 128) : k0_pay13 I.k I.la I.T (ix2 r (col h d)) = (H h).kend r d := by
  pointwise [k0_pay13]
  rw [eend_apply hH, hH.k, Head.kend]

theorem dec_apply (h : Fin 4) (r : Fin 1) (d : Fin 128) : k0_pay14 I.la I.T (ix2 r (col h d)) = (H h).dec d := by
  pointwise [k0_pay14]
  rw [last_apply hH, Head.dec]

theorem qtb_apply (h : Fin 4) (r : Fin 64) (d : Fin 128) : qtb I h (ix2 r d) = (H h).qt r d := by
  pointwise [qtb, cols, k0_pay15]
  exact qt_apply hH h r d

theorem ktb_apply (h : Fin 4) (r : Fin 64) (d : Fin 128) : ktb I h (ix2 r d) = (H h).kt r d := by
  pointwise [ktb, cols, k0_pay16]
  exact kt_apply hH h r d

theorem keb_apply (h : Fin 4) (r : Fin 64) (d : Fin 128) : keb I h (ix2 r d) = (H h).kend r d := by
  pointwise [keb, cols, k0_pay17]
  exact kend_apply hH h r d

theorem attT_apply (h : Fin 4) (s r : Fin 64) : attT I h (ix2 s r) = (H h).att r s := by
  pointwise [attT, zero64, k0_pay4]
  rw [select_sle (by omega) (by omega)]
  simp only [qtb_apply hH, ktb_apply hH, Head.att, Fin.le_def, mul_comm]

theorem datt_apply (h : Fin 4) (r s : Fin 64) : datt I h (ix2 r s) = (H h).datt r s := by
  pointwise [datt, zero64, k0_pay3, dyb, vb]
  rw [select_sle (by omega) (by omega)]
  simp only [hH.v, hH.dy, Head.datt, Fin.le_def]

theorem dattT_apply (h : Fin 4) (s r : Fin 64) : dattT I h (ix2 s r) = (H h).datt r s := by
  pointwise [dattT, zero64, k0_pay4, dyb, vb]
  rw [select_sle (by omega) (by omega)]
  simp only [hH.v, hH.dy, Head.datt, Fin.le_def, mul_comm]

theorem dv_apply (h : Fin 4) (s : Fin 64) (e : Fin 256) : dv I g h (ix2 s e) = (H h).dv s e := by
  pointwise [dv, dyb, gb, gv]
  simp only [attT_apply hH, keb_apply hH, hH.dy, hH.g, Head.dv]

theorem dqt_apply (h : Fin 4) (r : Fin 64) (d : Fin 128) : dqt I h (ix2 r d) = (H h).dqt r d := by
  pointwise [dqt, dyb, stv]
  simp only [datt_apply hH, ktb_apply hH, hH.dy, hH.st, Head.dqt]

theorem dkt_apply (h : Fin 4) (r : Fin 64) (d : Fin 128) : dkt I h (ix2 r d) = (H h).dkt r d := by
  pointwise [dkt]
  simp only [dattT_apply hH, qtb_apply hH, Head.dkt]

theorem dkend_apply (h : Fin 4) (r : Fin 64) (d : Fin 128) : dkend I g h (ix2 r d) = (H h).dkend r d := by
  pointwise [dkend, vb, gb, gv]
  simp only [hH.v, hH.g, Head.dkend]

theorem ddec_apply (h : Fin 4) (z : Fin 1) (d : Fin 128) : ddec I g h (ix2 z d) = (H h).ddec d := by
  pointwise [ddec, gv, stv]
  simp only [hH.st, hH.g, Head.ddec]

theorem ds_apply (h : Fin 4) (z : Fin 1) (e : Fin 256) (d : Fin 128) : ds I g h (ix3 z e d) = (H h).ds e d := by
  pointwise [ds, dyb, gv, cols1]
  simp only [qtb_apply hH, dec_apply hH, hH.dy, hH.g, Head.ds]

theorem dq_apply (h : Fin 4) (r : Fin 64) (d : Fin 128) : dq I (ix2 r (col h d)) = (H h).dq r d := by
  unfold dq k0_pay74 k0_pay71
  show concatenate S64x512 1 _ _ _ * k0_pay8 I.la I.T _ * _ = _
  rw [concat_apply (dqt I), eb_apply hH, dqt_apply hH, Head.dq]
  rfl

theorem dk_apply (h : Fin 4) (r : Fin 64) (d : Fin 128) : dk I g (ix2 r (col h d)) = (H h).dk r d := by
  unfold dk k0_pay75 k0_pay72 k0_pay73
  show concatenate S64x512 1 _ _ _ * k0_pay10 I.la I.T _ + concatenate S64x512 1 _ _ _ * k0_pay12 I.la I.T _ = _
  rw [concat_apply (dkt I), concat_apply (dkend I g), enb_apply hH, eend_apply hH, dkt_apply hH, dkend_apply hH, Head.dk]

theorem dla_apply (h : Fin 4) (r : Fin 64) (d : Fin 128) : dla I g (ix2 r (col h d)) = (H h).dla r d := by
  pointwise [dla, k0_pay76, k0_pay5]
  simp only [select_eq_last, k0_pay71, k0_pay72, k0_pay73]
  simp only [hH.Tt, concat_apply (dkt I), concat_apply (dqt I), concat_apply (dkend I g), dqt_apply hH, dkt_apply hH,
    dkend_apply hH, ddec_apply hH, qt_apply hH, kt_apply hH, kend_apply hH, dec_apply hH]
  simp only [pick fun h => (H h).ddec, sum_tri, Head.dla, Head.db]

end Cert.GlaBIdeal.Chunk

end
-- ==== Proof.GlaBTri.lean ====
/- The two triangles of ones that the gradient kernel is given, as words. -/
module

public import proofs.«01_k».proof.GlaBIdeal

@[expose] public section

set_option maxRecDepth 16384

noncomputable section

namespace Cert.GlaBIdeal.Chunk

open Cert.GlaBIdeal

theorem lit0_apply : ∀ r s : Fin 64, lit0 ⟨64 * r.val + s.val, by omega⟩ = if s ≤ r then 0x3F800000#32 else 0#32 := by
  decide +kernel
theorem lit1_apply : ∀ s r : Fin 64, lit1 ⟨64 * s.val + r.val, by omega⟩ = if s ≤ r then 0x3F800000#32 else 0#32 := by
  decide +kernel

end Cert.GlaBIdeal.Chunk

end
-- ==== Proof.GlaBInput.lean ====
/- What the gradient kernel's grid points load, entry by entry: the call's arguments, a block of four chunks a point, from the last. -/
module

public import proofs.«01_k».proof.Proof.GlaBPoint
public import proofs.«01_k».proof.Proof.GlaBEntries
public import proofs.«01_k».proof.Proof.GlaBTri

@[expose] public section

set_option maxRecDepth 16384

noncomputable section

namespace Cert.GlaBIdeal.Chunk

open Cert.GlaBIdeal Cert.GlaBIdeal.Gen Cert.Recurrence Idealize.ShloMosaic Idealize.ShloMosaic.TcCoe Idealize.SL.Sem

variable (m : (ℓ : Loc nD τ sig) → Buf (Elt Ideal) ℓ) (c : Dev nD)

/-- The call's arguments on device `c`. -/
def args : Args where
  proj r j := (m ((c : Thread nD τ).loc main_arg0) : S16384x3200.Idx → EReal) (ix2 r j)
  loga r j := (m ((c : Thread nD τ).loc main_arg1) : S16384x1024.Idx → EReal) (ix2 r j)
  states h n e d := (m ((c : Thread nD τ).loc main_arg2) : S4x256x256x128.Idx → EReal) (ix4 h n e d)
  dy r j := (m ((c : Thread nD τ).loc main_arg3) : S16384x1024.Idx → EReal) (ix2 r j)

/-- Grid point `t`'s buffers and input blocks. -/
def env (t : Fin cfg0.N) : Env Ideal where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  arg11 := ms0_10 t
  harg11 := hs0_10 t
  arg12 := scM0_0
  harg12 := Memref.isWhole_whole _
  x0 := X0_0 m c t
  x1 := X0_1 m c t
  x2 := iblk m c 2 t
  x3 := iblk m c 3 t
  x4 := iblk m c 4 t
  x5 := iblk m c 5 t
  x6 := iblk m c 6 t

theorem idxs : ∀ t : Fin cfg0.N, win0_0.index t = ![63 - t.val, 0] ∧ win0_1.index t = ![63 - t.val, 1]
    ∧ win0_2.index t = ![63 - t.val, 0] ∧ win0_3.index t = ![0, 63 - t.val, 0, 0] ∧ win0_4.index t = ![63 - t.val, 0]
    ∧ win0_5.index t = ![0, 0] ∧ win0_6.index t = ![0, 0] :=
  (by decide +kernel : ∀ t : Fin grid0.N, _)

variable (t : Fin cfg0.N)

theorem x0_apply (r : Fin 256) (j : Fin 1024) (i : Fin 16384) (k : Fin 3200) (hi : i.val = 256 * (63 - t.val) + r.val)
    (hk : k.val = j.val) : (env m c t).x0 (ix2 r j) = (args m c).proj i k := by
  show X0_0 m c t (ix2 r j) = (m ((c : Thread nD τ).loc main_arg0) : S16384x3200.Idx → EReal) (ix2 i k)
  rw [← V_main_arg0 m c]
  unfold X0_0 Pipeline.Window.fill
  rw [dif_pos (moved0_0 t _)]
  blk_ext [iblk, idxs t]

theorem x1_apply (r : Fin 256) (j : Fin 1024) (i : Fin 16384) (k : Fin 3200) (hi : i.val = 256 * (63 - t.val) + r.val)
    (hk : k.val = 1024 + j.val) : (env m c t).x1 (ix2 r j) = (args m c).proj i k := by
  show X0_1 m c t (ix2 r j) = (m ((c : Thread nD τ).loc main_arg0) : S16384x3200.Idx → EReal) (ix2 i k)
  rw [← V_main_arg0 m c]
  unfold X0_1 Pipeline.Window.fill
  rw [dif_pos (moved0_1 t _)]
  blk_ext [iblk, idxs t]

theorem x2_apply (r : Fin 256) (j : Fin 512) (i : Fin 16384) (k : Fin 1024) (hi : i.val = 256 * (63 - t.val) + r.val)
    (hk : k.val = j.val) : (env m c t).x2 (ix2 r j) = (args m c).loga i k := by
  show iblk m c 2 t (ix2 r j) = (m ((c : Thread nD τ).loc main_arg1) : S16384x1024.Idx → EReal) (ix2 i k)
  rw [← V_main_arg1 m c]
  blk_ext [iblk, idxs t]

theorem x3_apply (h j : Fin 4) (e : Fin 256) (d : Fin 128) (n : Fin 256) (hn : n.val = 4 * (63 - t.val) + j.val) :
    (env m c t).x3 (ix4 h j e d) = (args m c).states h n e d := by
  show iblk m c 3 t (ix4 h j e d) = (m ((c : Thread nD τ).loc main_arg2) : S4x256x256x128.Idx → EReal) (ix4 h n e d)
  rw [← V_main_arg2 m c]
  blk_ext [iblk, idxs t]

theorem x4_apply (r : Fin 256) (j : Fin 1024) (i : Fin 16384) (hi : i.val = 256 * (63 - t.val) + r.val) :
    (env m c t).x4 (ix2 r j) = (args m c).dy i j := by
  show iblk m c 4 t (ix2 r j) = (m ((c : Thread nD τ).loc main_arg3) : S16384x1024.Idx → EReal) (ix2 i j)
  rw [← V_main_arg3 m c]
  blk_ext [iblk, idxs t]

theorem place (r s : Fin 64) : S64x64.rowMajor (ix2 r s) = ⟨64 * r.val + s.val, by show _ < 4096; omega⟩ :=
  Fin.ext <| (Shape.rowMajor_val_two _).trans (by show r.val * 64 + s.val = 64 * r.val + s.val; omega)

theorem x5_apply (r s : Fin 64) : (env m c t).x5 (ix2 r s) = if s ≤ r then 1 else 0 := by
  have e : (env m c t).x5 (ix2 r s) = (V m c main_cst : S64x64.Idx → EReal) (ix2 r s) := by
    show iblk m c 5 t (ix2 r s) = _
    blk_ext [iblk, idxs t]
  rw [e]
  entry_read
  rw [place, lit0_apply]
  exact one_or_zero _

theorem x6_apply (s r : Fin 64) : (env m c t).x6 (ix2 s r) = if s ≤ r then 1 else 0 := by
  have e : (env m c t).x6 (ix2 s r) = (V m c main_cst_0 : S64x64.Idx → EReal) (ix2 s r) := by
    show iblk m c 6 t (ix2 s r) = _
    blk_ext [iblk, idxs t]
  rw [e]
  entry_read
  rw [place, lit1_apply]
  exact one_or_zero _

/-- The step of the recurrence that grid point `t` makes at its local chunk `j`. -/
abbrev stepAt (j : Fin 4) : ℕ := 4 * t.val + (3 - j.val)

theorem back_val (j : Fin 4) : (back (stepAt t j)).val = 4 * (63 - t.val) + j.val := by
  have hN : t.val < 64 := lt_of_lt_of_eq t.isLt (show cfg0.N = 64 from N_0)
  show 255 - (4 * t.val + (3 - j.val)) = _
  omega

theorem row_val (j : Fin 4) (r : Fin 64) : (row (back (stepAt t j)) r).val = 256 * (63 - t.val) + (64 * j.val + r.val) := by
  show 64 * (back (stepAt t j)).val + r.val = _
  rw [back_val]
  omega

/-- A local chunk's loads hold what the step of the recurrence takes, when the state's gradient does. -/
theorem holds (j : Fin 4) (g : Fin 4 → Vec Ideal S1x256x128 .f32)
    (hg : ∀ h e d, g h (ix3 0 e d) = (args m c).grad (stepAt t j) h e d) :
    Holds ((env m c t).inp j) g fun h => (args m c).step (stepAt t j) h where
  q h r d := (load_apply _ _ _ _ _ _ _ (ix2 ⟨64 * j.val + r.val, by omega⟩ ⟨128 * h.val + d.val, by omega⟩)
    (Fin.forall_fin_two.mpr ⟨rfl, (Nat.zero_add _).symm⟩)).trans (x0_apply m c t _ _ _ _ (row_val t j r) rfl)
  k h r d := (load_apply _ _ _ _ _ _ _ (ix2 ⟨64 * j.val + r.val, by omega⟩ ⟨512 + (128 * h.val + d.val), by omega⟩)
    (Fin.forall_fin_two.mpr ⟨rfl, rfl⟩)).trans (x0_apply m c t _ _ _ _ (row_val t j r) rfl)
  la h r d := (load_apply _ _ _ _ _ _ _ (ix2 ⟨64 * j.val + r.val, by omega⟩ ⟨128 * h.val + d.val, by omega⟩)
    (Fin.forall_fin_two.mpr ⟨rfl, (Nat.zero_add _).symm⟩)).trans (x2_apply m c t _ _ _ _ (row_val t j r) rfl)
  T r s := (load_apply _ _ _ _ _ _ _ (ix2 r s)
    (Fin.forall_fin_two.mpr ⟨(Nat.zero_add _).symm, (Nat.zero_add _).symm⟩)).trans (x5_apply m c t r s)
  Tt s r := (load_apply _ _ _ _ _ _ _ (ix2 s r)
    (Fin.forall_fin_two.mpr ⟨(Nat.zero_add _).symm, (Nat.zero_add _).symm⟩)).trans (x6_apply m c t s r)
  v h r e := (load_apply _ _ _ _ _ _ _ (ix2 ⟨64 * j.val + r.val, by omega⟩ ⟨256 * h.val + e.val, by omega⟩)
    (Fin.forall_fin_two.mpr ⟨rfl, rfl⟩)).trans (x1_apply m c t _ _ _ _ (row_val t j r) rfl)
  dy h r e := (load_apply _ _ _ _ _ _ _ (ix2 ⟨64 * j.val + r.val, by omega⟩ ⟨256 * h.val + e.val, by omega⟩)
    (Fin.forall_fin_two.mpr ⟨rfl, rfl⟩)).trans (x4_apply m c t _ _ _ (row_val t j r))
  st h e d := by
    refine (load_apply (ms0_3 t) (hs0_3 t) _ _ _ (inb_st h j) (ix4 0 0 e d) (ix4 h j e d) fun a => ?_).trans
      (x3_apply m c t _ _ _ _ _ (back_val t j))
    match a with
    | 0 => rfl
    | 1 => rfl
    | 2 => exact (Nat.zero_add _).symm
    | 3 => exact (Nat.zero_add _).symm
  g := hg

theorem chain_apply (g : Fin 4 → Vec Ideal S1x256x128 .f32)
    (hg : ∀ h e d, g h (ix3 0 e d) = (args m c).grad (4 * t.val) h e d) :
    ∀ s ≤ 4, ∀ h e d, (env m c t).chain g s h (ix3 0 e d) = (args m c).grad (4 * t.val + s) h e d
  | 0, _, h, e, d => hg h e d
  | s + 1, hs, h, e, d => by
    have ih := chain_apply g hg s (by omega)
    have es : stepAt t ⟨3 - s, by omega⟩ = 4 * t.val + s := by show 4 * t.val + (3 - (3 - s)) = _; omega
    exact (ds_apply (holds m c t ⟨3 - s, by omega⟩ _ (es ▸ ih)) h 0 e d).trans (by rw [es]; rfl)

end Cert.GlaBIdeal.Chunk

end
-- ==== Proof.GlaBPieces.lean ====
/- What a grid point leaves in its buffers, at an index: the piece that the index is in. -/
module

public import proofs.«01_k».proof.Proof.GlaBPoint

@[expose] public section

set_option maxRecDepth 16384

noncomputable section

namespace Cert.GlaBIdeal.Chunk

open Cert.GlaBIdeal Cert.GlaBIdeal.Gen Idealize.ShloMosaic Idealize.SL.Sem

variable {F : FTy → Type} [FloatOps F]

theorem read_rows (V : View sig .tc .vmem S256x512 .f32) (f : V.ty.Contents (Elt F)) (w : Fin 4 → Vec F S64x512 .f32) (j : Fin 4)
    (r : Fin 64) (y : Fin 512) : ∀ ps : List (Fin 4), j ∈ ps →
    V.read (Elt F) (V.writes (Elt F) f (ps.map fun p => (⟨rowsOf p, w p⟩ : View.Piece (Elt F) S256x512 .f32)))
      (ix2 ⟨64 * j.val + r.val, by omega⟩ y) = w j (ix2 r y)
  | [], hj => absurd hj List.not_mem_nil
  | p :: ps, hj => by
    rw [List.map_cons]
    by_cases e : j = p
    · subst e
      exact View.read_writes_cons_unit_of_mem V f _ (w j) _ _ (ix2 r y) rfl
        (Fin.forall_fin_two.mpr ⟨rfl, (Nat.zero_add _).symm⟩)
    · refine (View.read_writes_cons_unit_of_not_mem V f _ (w p) _ _ rfl 0 ?_).trans
        (read_rows V f w j r y ps ((List.mem_cons.mp hj).resolve_left e))
      have := Fin.val_ne_of_ne e
      show 64 * j.val + r.val < 64 * p.val ∨ 64 * p.val + 64 ≤ 64 * j.val + r.val
      omega

theorem read_blocks (V : View sig .tc .vmem S256x1024 .f32) (f : V.ty.Contents (Elt F)) (w : Fin 4 → Fin 4 → Vec F S64x256 .f32)
    (j h : Fin 4) (r : Fin 64) (y : Fin 256) : ∀ ps : List (Fin 4 × Fin 4), (j, h) ∈ ps →
    V.read (Elt F) (V.writes (Elt F) f (ps.map fun p => (⟨blockOf p.1 p.2, w p.1 p.2⟩ : View.Piece (Elt F) S256x1024 .f32)))
      (ix2 ⟨64 * j.val + r.val, by omega⟩ ⟨256 * h.val + y.val, by omega⟩) = w j h (ix2 r y)
  | [], hj => absurd hj List.not_mem_nil
  | p :: ps, hj => by
    rw [List.map_cons]
    by_cases e : (j, h) = p
    · subst e
      exact View.read_writes_cons_unit_of_mem V f _ (w j h) _ _ (ix2 r y) rfl (Fin.forall_fin_two.mpr ⟨rfl, rfl⟩)
    · refine Eq.trans ?_ (read_blocks V f w j h r y ps ((List.mem_cons.mp hj).resolve_left e))
      by_cases e1 : j = p.1
      · refine View.read_writes_cons_unit_of_not_mem V f _ (w p.1 p.2) _ _ rfl 1 ?_
        have : h.val ≠ p.2.val := fun e2 => e (Prod.ext e1 (Fin.ext e2))
        show 256 * h.val + y.val < 256 * p.2.val ∨ 256 * p.2.val + 256 ≤ 256 * h.val + y.val
        omega
      · refine View.read_writes_cons_unit_of_not_mem V f _ (w p.1 p.2) _ _ rfl 0 ?_
        have := Fin.val_ne_of_ne e1
        show 64 * j.val + r.val < 64 * p.1.val ∨ 64 * p.1.val + 64 ≤ 64 * j.val + r.val
        omega

theorem read_heads (V : View sig .tc .vmem S4x256x128 .f32) (f : V.ty.Contents (Elt F)) (w : Fin 4 → Vec F S1x256x128 .f32) (h : Fin 4)
    (e : Fin 256) (d : Fin 128) (L : List (View.Piece (Elt F) S4x256x128 .f32)) : ∀ ps : List (Fin 4), h ∈ ps →
    V.read (Elt F) (V.writes (Elt F) f (ps.map (fun p => (⟨rect p, w p⟩ : View.Piece (Elt F) S4x256x128 .f32)) ++ L)) (ix3 h e d)
      = w h (ix3 0 e d)
  | [], hj => absurd hj List.not_mem_nil
  | p :: ps, hj => by
    rw [List.map_cons, List.cons_append]
    by_cases eq : h = p
    · subst eq
      refine View.read_writes_cons_unit_of_mem V f _ (w h) _ _ (ix3 0 e d) rfl fun a => ?_
      match a with
      | 0 => rfl
      | 1 => exact (Nat.zero_add _).symm
      | 2 => exact (Nat.zero_add _).symm
    · refine (View.read_writes_cons_unit_of_not_mem V f _ (w p) _ _ rfl 0 ?_).trans
        (read_heads V f w h e d L ps ((List.mem_cons.mp hj).resolve_left eq))
      have := Fin.val_ne_of_ne eq
      show h.val < p.val ∨ p.val + 1 ≤ h.val
      omega

/-- The rows and columns of a block, by local chunk and head. -/
theorem split512 (y : S256x512.Idx) : ∃ (j : Fin 4) (r : Fin 64) (h : Fin 4) (d : Fin 128),
    y = ix2 ⟨64 * j.val + r.val, by omega⟩ ⟨128 * h.val + d.val, by omega⟩ := by
  idx_vars y
  refine ⟨⟨y0.val / 64, by omega⟩, ⟨y0.val % 64, by omega⟩, ⟨y1.val / 128, by omega⟩, ⟨y1.val % 128, by omega⟩, ?_⟩
  congr 1 <;> exact Fin.ext (by simp only []; omega)

theorem split1024 (y : S256x1024.Idx) : ∃ (j : Fin 4) (r : Fin 64) (h : Fin 4) (e : Fin 256),
    y = ix2 ⟨64 * j.val + r.val, by omega⟩ ⟨256 * h.val + e.val, by omega⟩ := by
  idx_vars y
  refine ⟨⟨y0.val / 64, by omega⟩, ⟨y0.val % 64, by omega⟩, ⟨y1.val / 256, by omega⟩, ⟨y1.val % 256, by omega⟩, ?_⟩
  congr 1 <;> exact Fin.ext (by simp only []; omega)

end Cert.GlaBIdeal.Chunk

end
-- ==== Proof.GlaBLoop.lean ====
/- One trip of the reference's loop, entry by entry: from the chunks' arrays and the state's gradient, what `Recurrence` says. -/
module

public import proofs.«01_k».proof.Proof.Gen.GlaBRefIdeal.Run
public import proofs.«01_k».proof.Proof.Recurrence
public import proofs.«01_k».proof.Proof.Windows
public import proofs.«01_k».proof.Proof.Common
public import Idealize.ShloMosaic.Lib.Pipeline.ValueKit
public import Idealize.ShloMosaic.Lib.KernelVsHost

@[expose] public section

set_option maxRecDepth 16384

noncomputable section

namespace Cert.GlaBRefIdeal.Loop

open Cert.GlaBRefIdeal Cert.GlaBRefIdeal.Gen Cert.Recurrence Cert.Windows Cert.GlaBRefIdeal.Value Idealize.ShloMosaic Idealize.SL.Sem

/-- The contents at the start of trip `t`. -/
structure At (A : Args) (t : ℕ) (V : Valuation τ sig (Elt Ideal)) : Prop where
  ctr : (V (Proc.devRef .tc main_v20_6) : S_.Idx → BitVec 32) = fun _ => BitVec.ofNat 32 t
  s : ∀ n h d e g, (V (Proc.devRef .tc main_v20_0) : S256x4x128x256.Idx → EReal) (ix4 n h d e) = (A.head n h g).s e d
  dy : ∀ n h x y g, (V (Proc.devRef .tc main_v20_1) : S256x4x64x256.Idx → EReal) (ix4 n h x y) = (A.head n h g).dy x y
  q : ∀ n h x y g, (V (Proc.devRef .tc main_v20_2) : S256x4x64x128.Idx → EReal) (ix4 n h x y) = (A.head n h g).q x y
  k : ∀ n h x y g, (V (Proc.devRef .tc main_v20_3) : S256x4x64x128.Idx → EReal) (ix4 n h x y) = (A.head n h g).k x y
  v : ∀ n h x y g, (V (Proc.devRef .tc main_v20_4) : S256x4x64x256.Idx → EReal) (ix4 n h x y) = (A.head n h g).v x y
  la : ∀ n h x y g, (V (Proc.devRef .tc main_v20_5) : S256x4x64x128.Idx → EReal) (ix4 n h x y) = (A.head n h g).la x y
  g : ∀ h d e, (V (Proc.devRef .tc main_v20_7) : S4x128x256.Idx → EReal) (ix3 h d e) = A.grad t h e d
  dq : ∀ (n : Fin 256) h x y, 256 ≤ t + n.val → (V (Proc.devRef .tc main_v20_8) : S256x4x64x128.Idx → EReal) (ix4 n h x y) = (A.step (255 - n.val) h).dq x y
  dk : ∀ (n : Fin 256) h x y, 256 ≤ t + n.val → (V (Proc.devRef .tc main_v20_9) : S256x4x64x128.Idx → EReal) (ix4 n h x y) = (A.step (255 - n.val) h).dk x y
  dv : ∀ (n : Fin 256) h x y, 256 ≤ t + n.val → (V (Proc.devRef .tc main_v20_10) : S256x4x64x256.Idx → EReal) (ix4 n h x y) = (A.step (255 - n.val) h).dv x y
  dla : ∀ (n : Fin 256) h x y, 256 ≤ t + n.val → (V (Proc.devRef .tc main_v20_11) : S256x4x64x128.Idx → EReal) (ix4 n h x y) = (A.step (255 - n.val) h).dla x y

theorem cast_S4x128x256 (X : S1x4x128x256.Idx → EReal) (c) (h : Fin 4) (x : Fin 128) (y : Fin 256) :
    shapeCast S4x128x256 X c (ix3 h x y) = X (ix4 0 h x y) := by pointwise []
theorem cast_S4x64x256 (X : S1x4x64x256.Idx → EReal) (c) (h : Fin 4) (x : Fin 64) (y : Fin 256) :
    shapeCast S4x64x256 X c (ix3 h x y) = X (ix4 0 h x y) := by pointwise []
theorem cast_S4x64x128 (X : S1x4x64x128.Idx → EReal) (c) (h : Fin 4) (x : Fin 64) (y : Fin 128) :
    shapeCast S4x64x128 X c (ix3 h x y) = X (ix4 0 h x y) := by pointwise []

theorem add_S4x64x128 (X : S4x64x128.Idx → EReal) (z : Fin 1) (h : Fin 4) (x : Fin 64) (y : Fin 128) :
    broadcastInDim S1x4x64x128 ![1, 2, 3] bcast_S4x64x128_S1x4x64x128_1_2_3 X (ix4 z h x y) = X (ix3 h x y) := by pointwise []

/-- The order the reference adds the summed log decays' gradient in. -/
theorem sum_order (a b c x : EReal) : -a + -b + c + x = c - b - a + x := by
  rw [sub_eq_add_neg, sub_eq_add_neg, add_comm (-a + -b) c, add_comm (-a) (-b), add_assoc c (-b) (-a)]

variable {A : Args} {t : ℕ} {V : Valuation τ sig (Elt Ideal)} (hV : At A t V) (ht : t < 256)
include hV ht

theorem ix_apply (i : S_.Idx) : ((res_main_while0b_v30 V : S_.Idx → BitVec 32) i).toInt = ((back t).val : ℤ) := by
  have e : (res_main_while0b_v30 V : S_.Idx → BitVec 32) i = BitVec.ofNat 32 (255 - t) := by
    unfold res_main_while0b_v30
    rw [hV.ctr]
    show BitVec.ofNat 32 256 - BitVec.ofNat 32 t - BitVec.ofNat 32 1 = _
    apply BitVec.eq_of_toNat_eq
    simp only [BitVec.toNat_sub, BitVec.toNat_ofNat]
    omega
  have hb : (back t).val = 255 - t := rfl
  rw [e, hb, BitVec.toInt_eq_toNat_of_lt (by simp; omega)]
  simp
  omega

theorem step_eq (h : Fin 4) : A.step t h = A.head (back t) h (A.grad t h) := rfl

theorem s_apply (h : Fin 4) (d : Fin 128) (e : Fin 256) :
    (res_main_while0b_v31 V : S4x128x256.Idx → EReal) (ix3 h d e) = (A.step t h).s e d := by
  unfold res_main_while0b_v31
  refine (cast_S4x128x256 _ _ _ _ _).trans ((slice_apply (back t) _ (ix_apply hV ht _) rfl rfl rfl (V (Proc.devRef .tc main_v20_0) : S256x4x128x256.Idx → EReal) sliceFits_S256x4x128x256_S1x4x128x256 0 h d e).trans (hV.s (back t) h d e (A.grad t h)))

theorem dy_apply (h : Fin 4) (x : Fin 64) (y : Fin 256) :
    (res_main_while0b_v32 V : S4x64x256.Idx → EReal) (ix3 h x y) = (A.step t h).dy x y := by
  unfold res_main_while0b_v32
  refine (cast_S4x64x256 _ _ _ _ _).trans ((slice_apply (back t) _ (ix_apply hV ht _) rfl rfl rfl (V (Proc.devRef .tc main_v20_1) : S256x4x64x256.Idx → EReal) sliceFits_S256x4x64x256_S1x4x64x256 0 h x y).trans (hV.dy (back t) h x y (A.grad t h)))

theorem k_apply (h : Fin 4) (x : Fin 64) (y : Fin 128) :
    (res_main_while0b_v34 V : S4x64x128.Idx → EReal) (ix3 h x y) = (A.step t h).k x y := by
  unfold res_main_while0b_v34
  refine (cast_S4x64x128 _ _ _ _ _).trans ((slice_apply (back t) _ (ix_apply hV ht _) rfl rfl rfl (V (Proc.devRef .tc main_v20_3) : S256x4x64x128.Idx → EReal) sliceFits_S256x4x64x128_S1x4x64x128 0 h x y).trans (hV.k (back t) h x y (A.grad t h)))

theorem v_apply (h : Fin 4) (x : Fin 64) (y : Fin 256) :
    (res_main_while0b_v35 V : S4x64x256.Idx → EReal) (ix3 h x y) = (A.step t h).v x y := by
  unfold res_main_while0b_v35
  refine (cast_S4x64x256 _ _ _ _ _).trans ((slice_apply (back t) _ (ix_apply hV ht _) rfl rfl rfl (V (Proc.devRef .tc main_v20_4) : S256x4x64x256.Idx → EReal) sliceFits_S256x4x64x256_S1x4x64x256 0 h x y).trans (hV.v (back t) h x y (A.grad t h)))

theorem qs_apply (h : Fin 4) (r : Fin 64) (d : Fin 128) :
    (res_main_while0b_v38 V : S4x64x128.Idx → EReal) (ix3 h r d) = (A.step t h).q r d * Ideal.ofBits FTy.f32 1035273459#32 := by
  unfold res_main_while0b_v38
  refine congrArg (fun y : EReal => y * Ideal.ofBits FTy.f32 1035273459#32) ?_
  refine (cast_S4x64x128 _ _ _ _ _).trans ((slice_apply (back t) _ (ix_apply hV ht _) rfl rfl rfl (V (Proc.devRef .tc main_v20_2) : S256x4x64x128.Idx → EReal) sliceFits_S256x4x64x128_S1x4x64x128 0 h r d).trans (hV.q (back t) h r d (A.grad t h)))

theorem cum_apply (h : Fin 4) (r : Fin 64) (d : Fin 128) :
    (res_main_while0b_v39 V : S4x64x128.Idx → EReal) (ix3 h r d) = (A.step t h).cum r d := by
  unfold res_main_while0b_v39
  refine (cumsum_apply (N := 63) _ _ _ _ (by pointwise []) h r d).trans ?_
  refine Finset.sum_congr rfl fun s _ => ?_
  refine congrArg (fun y : EReal => if s ≤ r then y else 0) ?_
  refine (cast_S4x64x128 _ _ _ _ _).trans ((slice_apply (back t) _ (ix_apply hV ht _) rfl rfl rfl (V (Proc.devRef .tc main_v20_5) : S256x4x64x128.Idx → EReal) sliceFits_S256x4x64x128_S1x4x64x128 0 h s d).trans (hV.la (back t) h s d (A.grad t h)))

theorem last_apply (h : Fin 4) (z : Fin 1) (d : Fin 128) :
    (res_main_while0b_v40 V : S4x1x128.Idx → EReal) (ix3 h z d) = (A.step t h).cum 63 d := by
  pointwise [res_main_while0b_v40]
  exact cum_apply hV ht h 63 d

theorem eb_apply (h : Fin 4) (r : Fin 64) (d : Fin 128) :
    (res_main_while0b_v41 V : S4x64x128.Idx → EReal) (ix3 h r d) = Ideal.exp ((A.step t h).cum r d) := by
  pointwise [res_main_while0b_v41]
  simp only [cum_apply hV ht]

theorem qt_apply (h : Fin 4) (r : Fin 64) (d : Fin 128) :
    (res_main_while0b_v42 V : S4x64x128.Idx → EReal) (ix3 h r d) = (A.step t h).qt r d := by
  pointwise [res_main_while0b_v42]
  simp only [qs_apply hV ht, eb_apply hV ht]
  rfl

theorem enb_apply (h : Fin 4) (r : Fin 64) (d : Fin 128) :
    (res_main_while0b_v44 V : S4x64x128.Idx → EReal) (ix3 h r d) = Ideal.exp (-(A.step t h).cum r d) := by
  pointwise [res_main_while0b_v44]
  simp only [cum_apply hV ht]

theorem kt_apply (h : Fin 4) (r : Fin 64) (d : Fin 128) :
    (res_main_while0b_v45 V : S4x64x128.Idx → EReal) (ix3 h r d) = (A.step t h).kt r d := by
  pointwise [res_main_while0b_v45]
  simp only [k_apply hV ht, enb_apply hV ht]
  rfl

theorem eend_apply (h : Fin 4) (r : Fin 64) (d : Fin 128) :
    (res_main_while0b_v48 V : S4x64x128.Idx → EReal) (ix3 h r d) = Ideal.exp ((A.step t h).cum 63 d - (A.step t h).cum r d) := by
  pointwise [res_main_while0b_v48]
  simp only [cum_apply hV ht, last_apply hV ht]

theorem kend_apply (h : Fin 4) (r : Fin 64) (d : Fin 128) :
    (res_main_while0b_v49 V : S4x64x128.Idx → EReal) (ix3 h r d) = (A.step t h).kend r d := by
  pointwise [res_main_while0b_v49]
  simp only [k_apply hV ht, eend_apply hV ht]
  rfl

omit hV ht in
theorem mask_apply (h : Fin 4) (r s : Fin 64) (a b : EReal) :
    Scalar.select ((res_main_while0b_v53_1 V : S4x64x64.Idx → BitVec 1) (ix3 h r s)) a b = if s ≤ r then a else b := by
  pointwise [res_main_while0b_v53_1]
  exact select_sge (by omega) (by omega) a b

theorem att_apply (h : Fin 4) (r s : Fin 64) :
    (res_main_while0b_v53_0 V : S4x64x64.Idx → EReal) (ix3 h r s) = (A.step t h).att r s := by
  pointwise [res_main_while0b_v53_0, id_eq]
  simp only [qt_apply hV ht, kt_apply hV ht]
  exact mask_apply h r s _ _

theorem dec_apply (h : Fin 4) (d : Fin 128) :
    (res_main_while0b_v57 V : S4x128.Idx → EReal) (ix2 h d) = (A.step t h).dec d := by
  pointwise [res_main_while0b_v57]
  simp only [last_apply hV ht]
  rfl

theorem dec1_apply (h : Fin 4) (d : Fin 128) (z : Fin 1) :
    (res_main_while0b_v59 V : S4x128x1.Idx → EReal) (ix3 h d z) = (A.step t h).dec d := by
  pointwise [res_main_while0b_v59]
  simp only [dec_apply hV ht]

omit ht in
theorem g_apply (h : Fin 4) (d : Fin 128) (e : Fin 256) : (V (Proc.devRef .tc main_v20_7) : S4x128x256.Idx → EReal) (ix3 h d e) = (A.step t h).g e d := hV.g h d e

theorem dkend_apply (h : Fin 4) (r : Fin 64) (d : Fin 128) :
    (res_main_while0b_v79 V : S4x64x128.Idx → EReal) (ix3 h r d) = (A.step t h).dkend r d := by
  pointwise [res_main_while0b_v79]
  simp only [v_apply hV ht, g_apply hV]
  simp only [Head.dkend, mul_comm]

theorem datt_apply (h : Fin 4) (r s : Fin 64) :
    (res_main_while0b_v84 V : S4x64x64.Idx → EReal) (ix3 h r s) = (A.step t h).datt r s := by
  pointwise [res_main_while0b_v84]
  simp only [dy_apply hV ht, v_apply hV ht]
  exact mask_apply h r s _ _

theorem dkt_apply (h : Fin 4) (r : Fin 64) (d : Fin 128) :
    (res_main_while0b_v85 V : S4x64x128.Idx → EReal) (ix3 h r d) = (A.step t h).dkt r d := by
  pointwise [res_main_while0b_v85]
  simp only [datt_apply hV ht, qt_apply hV ht]
  rfl

theorem dqt_apply (h : Fin 4) (r : Fin 64) (d : Fin 128) :
    (res_main_while0b_v87 V : S4x64x128.Idx → EReal) (ix3 h r d) = (A.step t h).dqt r d := by
  pointwise [res_main_while0b_v87]
  simp only [datt_apply hV ht, kt_apply hV ht, dy_apply hV ht, s_apply hV ht]
  exact add_comm (_ : EReal) _

theorem ke_apply (h : Fin 4) (r : Fin 64) (d : Fin 128) :
    (res_main_while0b_v90 V : S4x64x128.Idx → EReal) (ix3 h r d) = (A.step t h).dkend r d * (A.step t h).kend r d := by
  pointwise [res_main_while0b_v90]
  simp only [k_apply hV ht, dkend_apply hV ht, eend_apply hV ht]
  rw [Head.kend, mul_comm ((A.step t h).k r d), mul_assoc]

theorem grad_step (h : Fin 4) (d : Fin 128) (e : Fin 256) : (step_main_v20_7 V : S4x128x256.Idx → EReal) (ix3 h d e) = A.grad (t + 1) h e d := by
  pointwise [step_main_v20_7, id_eq]
  simp only [dec1_apply hV ht, qt_apply hV ht, dy_apply hV ht, g_apply hV]
  rw [mul_comm]
  rfl

theorem dq_step (n : Fin 256) (h : Fin 4) (x : Fin 64) (y : Fin 128) (hn : 256 ≤ t + 1 + n.val) :
    (step_main_v20_8 V : S256x4x64x128.Idx → EReal) (ix4 n h x y) = (A.step (255 - n.val) h).dq x y := by
  unfold step_main_v20_8
  refine (update_apply (back t) _ (ix_apply hV ht _) rfl rfl rfl (V (Proc.devRef .tc main_v20_8) : S256x4x64x128.Idx → EReal) _ updateFits_S256x4x64x128_S1x4x64x128 n h x y).trans ?_
  by_cases hb : n = back t
  · have e : 255 - n.val = t := by subst hb; show 255 - (255 - t) = t; omega
    rw [if_pos hb, e]
    pointwise []
    simp only [dqt_apply hV ht, eb_apply hV ht]
    rfl
  · rw [if_neg hb]
    have : n.val ≠ 255 - t := fun e => hb (Fin.ext e)
    exact hV.dq n h x y (by omega)

theorem dk_step (n : Fin 256) (h : Fin 4) (x : Fin 64) (y : Fin 128) (hn : 256 ≤ t + 1 + n.val) :
    (step_main_v20_9 V : S256x4x64x128.Idx → EReal) (ix4 n h x y) = (A.step (255 - n.val) h).dk x y := by
  unfold step_main_v20_9
  refine (update_apply (back t) _ (ix_apply hV ht _) rfl rfl rfl (V (Proc.devRef .tc main_v20_9) : S256x4x64x128.Idx → EReal) _ updateFits_S256x4x64x128_S1x4x64x128 n h x y).trans ?_
  by_cases hb : n = back t
  · have e : 255 - n.val = t := by subst hb; show 255 - (255 - t) = t; omega
    rw [if_pos hb, e]
    pointwise []
    simp only [dkend_apply hV ht, eend_apply hV ht, dkt_apply hV ht, enb_apply hV ht]
    exact add_comm (_ : EReal) _
  · rw [if_neg hb]
    have : n.val ≠ 255 - t := fun e => hb (Fin.ext e)
    exact hV.dk n h x y (by omega)

theorem dv_step (n : Fin 256) (h : Fin 4) (x : Fin 64) (y : Fin 256) (hn : 256 ≤ t + 1 + n.val) :
    (step_main_v20_10 V : S256x4x64x256.Idx → EReal) (ix4 n h x y) = (A.step (255 - n.val) h).dv x y := by
  unfold step_main_v20_10
  refine (update_apply (back t) _ (ix_apply hV ht _) rfl rfl rfl (V (Proc.devRef .tc main_v20_10) : S256x4x64x256.Idx → EReal) _ updateFits_S256x4x64x256_S1x4x64x256 n h x y).trans ?_
  by_cases hb : n = back t
  · have e : 255 - n.val = t := by subst hb; show 255 - (255 - t) = t; omega
    rw [if_pos hb, e]
    pointwise []
    simp only [kend_apply hV ht, dy_apply hV ht, att_apply hV ht, g_apply hV]
    simp only [Head.dv, mul_comm, add_comm]
  · rw [if_neg hb]
    have : n.val ≠ 255 - t := fun e => hb (Fin.ext e)
    exact hV.dv n h x y (by omega)

theorem db_apply (h : Fin 4) (r : Fin 64) (d : Fin 128) (X : S4x64x128.Idx → EReal)
    (hX : X (ix3 h r d) = if r = 63 then ∑ s, (A.step t h).dkend s d * (A.step t h).kend s d + (A.step t h).ddec d * (A.step t h).dec d else 0) :
    (addf (F := Ideal) (φ := .f32) (addf (addf (Host.negf (res_main_while0b_v90 V)) (Host.negf (mulf (mulf (res_main_while0b_v34 V) (res_main_while0b_v85 V)) (res_main_while0b_v44 V))))
      (mulf (mulf (res_main_while0b_v38 V) (res_main_while0b_v87 V)) (res_main_while0b_v41 V))) X : S4x64x128.Idx → EReal) (ix3 h r d) = (A.step t h).db r d := by
  pointwise []
  simp only [ke_apply hV ht, k_apply hV ht, dkt_apply hV ht, enb_apply hV ht, qs_apply hV ht, dqt_apply hV ht, eb_apply hV ht, hX]
  refine (sum_order _ _ _ _).trans ?_
  rw [Head.db, mul_comm ((A.step t h).k r d), mul_assoc ((A.step t h).dkt r d), mul_comm (_ * Ideal.ofBits _ _), mul_assoc ((A.step t h).dqt r d)]
  rfl

theorem dla_step (n : Fin 256) (h : Fin 4) (x : Fin 64) (y : Fin 128) (hn : 256 ≤ t + 1 + n.val) :
    (step_main_v20_11 V : S256x4x64x128.Idx → EReal) (ix4 n h x y) = (A.step (255 - n.val) h).dla x y := by
  unfold step_main_v20_11
  refine (update_apply (back t) _ (ix_apply hV ht _) rfl rfl rfl (V (Proc.devRef .tc main_v20_11) : S256x4x64x128.Idx → EReal) _ updateFits_S256x4x64x128_S1x4x64x128 n h x y).trans ?_
  by_cases hb : n = back t
  · have e : 255 - n.val = t := by subst hb; show 255 - (255 - t) = t; omega
    rw [if_pos hb, e]
    refine Eq.trans (add_S4x64x128 _ _ _ _ _) ((cumsum_rev_apply (N := 63) _ _ _ _ (by pointwise []) h x y).trans ?_)
    refine Finset.sum_congr rfl fun r _ => ?_
    refine congrArg (fun y : EReal => if x ≤ r then y else 0) ?_
    refine db_apply hV ht h r y _ ?_
    pointwise []
    by_cases hr : r = 63
    · subst hr
      rw [dif_pos (by decide), if_pos rfl, add_comm (_ : EReal)]
      simp only [s_apply hV ht, dec_apply hV ht, ke_apply hV ht, g_apply hV, Finset.sum_const, Finset.card_univ, Fintype.card_fin, one_smul]
      rfl
    · rw [dif_neg fun h => hr (Fin.ext (by have := r.isLt; change r.val = 63; omega)), if_neg hr]
  · rw [if_neg hb]
    have : n.val ≠ 255 - t := fun e => hb (Fin.ext e)
    exact hV.dla n h x y (by omega)

end Cert.GlaBRefIdeal.Loop

end
-- ==== Proof.GlaBRef.lean ====
/- The reference's results, entry by entry: the 256 trips of its loop, each by `Loop`. -/
module

public import proofs.«01_k».proof.Proof.GlaBLoop

@[expose] public section

set_option maxRecDepth 16384

noncomputable section

namespace Cert.GlaBRefIdeal.Loop

open Cert.GlaBRefIdeal Cert.GlaBRefIdeal.Gen Cert.GlaBRefIdeal.Value Cert.Recurrence Idealize.ShloMosaic Idealize.SL.Sem
open Idealize.ShloMosaic.StableHlo

variable (m : (ℓ : Loc nD τ sig) → Buf (Elt Ideal) ℓ) (c : Dev nD)

/-- The call's arguments on device `c`. -/
def args : Args where
  proj r j := (m ((c.tc : Thread nD τ).loc main_arg0) : S16384x3200.Idx → EReal) (ix2 r j)
  loga r j := (m ((c.tc : Thread nD τ).loc main_arg1) : S16384x1024.Idx → EReal) (ix2 r j)
  states h n e d := (m ((c.tc : Thread nD τ).loc main_arg2) : S4x256x256x128.Idx → EReal) (ix4 h n e d)
  dy r j := (m ((c.tc : Thread nD τ).loc main_arg3) : S16384x1024.Idx → EReal) (ix2 r j)

/-- `w` columns of `X` from the `o`-th on, cut into chunks and heads. -/
def cut512 (X : S16384x512.Idx → EReal) : S256x4x64x128.Idx → EReal :=
  transpose S256x4x64x128 [0, 2, 1, 3] (shapeCast S256x64x4x128 X shapeCasts_S16384x512_S256x64x4x128) transposes_S256x64x4x128_S256x4x64x128_0_2_1_3
def cut1024 (X : S16384x1024.Idx → EReal) : S256x4x64x256.Idx → EReal :=
  transpose S256x4x64x256 [0, 2, 1, 3] (shapeCast S256x64x4x256 X shapeCasts_S16384x1024_S256x64x4x256) transposes_S256x64x4x256_S256x4x64x256_0_2_1_3

theorem cut512_apply (X : S16384x512.Idx → EReal) (n : Fin 256) (h : Fin 4) (x : Fin 64) (y : Fin 128) :
    cut512 X (ix4 n h x y) = X (ix2 (row n x) ⟨128 * h.val + y.val, by omega⟩) := by
  pointwise [cut512, row]
  simp only [Nat.mul_comm]
theorem cut1024_apply (X : S16384x1024.Idx → EReal) (n : Fin 256) (h : Fin 4) (x : Fin 64) (y : Fin 256) :
    cut1024 X (ix4 n h x y) = X (ix2 (row n x) ⟨256 * h.val + y.val, by omega⟩) := by
  pointwise [cut1024, row]
  simp only [Nat.mul_comm]

theorem entry_s : entryContents preI m c (Proc.devRef .tc main_v20_0)
    = transpose S256x4x128x256 [1, 0, 3, 2] (m ((c.tc : Thread nD τ).loc main_arg2)) transposes_S4x256x256x128_S256x4x128x256_1_0_3_2 := by
  simp only [entryContents, afterL_cons, afterL_nil, preI, hostOps0]
  after_results_entrywise []

theorem entry_dy : entryContents preI m c (Proc.devRef .tc main_v20_1)
    = cut1024 (m ((c.tc : Thread nD τ).loc main_arg3)) := by
  simp only [entryContents, afterL_cons, afterL_nil, preI, hostOps0]
  after_results_entrywise []

theorem entry_q : entryContents preI m c (Proc.devRef .tc main_v20_2)
    = cut512 (extractStridedSlice S16384x512 ![0, 0] (m ((c.tc : Thread nD τ).loc main_arg0)) slices_S16384x3200_S16384x512_0_0) := by
  simp only [entryContents, afterL_cons, afterL_nil, preI, hostOps0]
  after_results_entrywise []

theorem entry_k : entryContents preI m c (Proc.devRef .tc main_v20_3)
    = cut512 (extractStridedSlice S16384x512 ![0, 512] (m ((c.tc : Thread nD τ).loc main_arg0)) slices_S16384x3200_S16384x512_0_512) := by
  simp only [entryContents, afterL_cons, afterL_nil, preI, hostOps0]
  after_results_entrywise []

theorem entry_v : entryContents preI m c (Proc.devRef .tc main_v20_4)
    = cut1024 (extractStridedSlice S16384x1024 ![0, 1024] (m ((c.tc : Thread nD τ).loc main_arg0)) slices_S16384x3200_S16384x1024_0_1024) := by
  simp only [entryContents, afterL_cons, afterL_nil, preI, hostOps0]
  after_results_entrywise []

theorem entry_la : entryContents preI m c (Proc.devRef .tc main_v20_5)
    = cut512 (extractStridedSlice S16384x512 ![0, 0] (m ((c.tc : Thread nD τ).loc main_arg1)) slices_S16384x1024_S16384x512_0_0) := by
  simp only [entryContents, afterL_cons, afterL_nil, preI, hostOps0]
  after_results_entrywise []

theorem entry_g : entryContents preI m c (Proc.devRef .tc main_v20_7)
    = broadcastInDim S4x128x256 ![] bcast_S_S4x128x256 (constant (F := Ideal) S_ .f32 0x00000000#32) := by
  simp only [entryContents, afterL_cons, afterL_nil, preI, hostOps0]
  after_results_entrywise []

/-- The contents at the loop's entry. -/
theorem at_zero : At (args m c) 0 (entryContents preI m c) where
  ctr := ctr_entry m c
  s n h d e g := by rw [entry_s]; pointwise [args, Args.head]
  dy n h x y g := by rw [entry_dy]; exact cut1024_apply ..
  q n h x y g := by rw [entry_q]; refine (cut512_apply ..).trans ?_; pointwise [args, Args.head]
  k n h x y g := by rw [entry_k]; refine (cut512_apply ..).trans ?_; pointwise [args, Args.head]
  v n h x y g := by rw [entry_v]; refine (cut1024_apply ..).trans ?_; pointwise [args, Args.head]
  la n h x y g := by rw [entry_la]; refine (cut512_apply ..).trans ?_; pointwise [args, Args.head]
  g h d e := by rw [entry_g]; pointwise [Args.grad]
  dq n := fun _ _ _ hn => absurd hn (by omega)
  dk n := fun _ _ _ hn => absurd hn (by omega)
  dv n := fun _ _ _ hn => absurd hn (by omega)
  dla n := fun _ _ _ hn => absurd hn (by omega)

variable {A : Args} {t : ℕ} {V : Valuation τ sig (Elt Ideal)}

/-- One trip. -/
theorem at_succ (hV : At A t V) (ht : t < 256) : At A (t + 1) (STEP V) where
  ctr := by
    rw [STEP_main_v20_6]
    unfold step_main_v20_6
    rw [hV.ctr]
    exact funext fun _ => (BitVec.ofNat_add ..).symm
  s := by rw [STEP_main_v20_0]; exact hV.s
  dy := by rw [STEP_main_v20_1]; exact hV.dy
  q := by rw [STEP_main_v20_2]; exact hV.q
  k := by rw [STEP_main_v20_3]; exact hV.k
  v := by rw [STEP_main_v20_4]; exact hV.v
  la := by rw [STEP_main_v20_5]; exact hV.la
  g := by rw [STEP_main_v20_7]; exact grad_step hV ht
  dq := by rw [STEP_main_v20_8]; exact dq_step hV ht
  dk := by rw [STEP_main_v20_9]; exact dk_step hV ht
  dv := by rw [STEP_main_v20_10]; exact dv_step hV ht
  dla := by rw [STEP_main_v20_11]; exact dla_step hV ht

theorem at_iterate (hV : At A 0 V) : ∀ t ≤ 256, At A t (STEP^[t] V)
  | 0, _ => hV
  | t + 1, ht => by
    rw [Function.iterate_succ_apply']
    exact at_succ (at_iterate hV t (by omega)) (by omega)

/-- The contents at the loop's end. -/
theorem at_end : At (args m c) 256 (STEP^[256] (entryContents preI m c)) :=
  at_iterate (at_zero m c) 256 le_rfl

theorem out_dq (hV : At A 256 V) (n : Fin 256) (h : Fin 4) (x : Fin 64) (y : Fin 128) :
    (out_main_v22 V : S16384x512.Idx → EReal) (ix2 (row n x) ⟨128 * h.val + y.val, by omega⟩) = (A.step (255 - n.val) h).dq x y := by
  rw [← hV.dq n h x y (by omega)]
  pointwise [out_main_v22, row]
theorem out_dk (hV : At A 256 V) (n : Fin 256) (h : Fin 4) (x : Fin 64) (y : Fin 128) :
    (out_main_v24 V : S16384x512.Idx → EReal) (ix2 (row n x) ⟨128 * h.val + y.val, by omega⟩) = (A.step (255 - n.val) h).dk x y := by
  rw [← hV.dk n h x y (by omega)]
  pointwise [out_main_v24, row]
theorem out_dv (hV : At A 256 V) (n : Fin 256) (h : Fin 4) (x : Fin 64) (y : Fin 256) :
    (out_main_v26 V : S16384x1024.Idx → EReal) (ix2 (row n x) ⟨256 * h.val + y.val, by omega⟩) = (A.step (255 - n.val) h).dv x y := by
  rw [← hV.dv n h x y (by omega)]
  pointwise [out_main_v26, row]
theorem out_dla (hV : At A 256 V) (n : Fin 256) (h : Fin 4) (x : Fin 64) (y : Fin 128) :
    (out_main_v28 V : S16384x512.Idx → EReal) (ix2 (row n x) ⟨128 * h.val + y.val, by omega⟩) = (A.step (255 - n.val) h).dla x y := by
  rw [← hV.dla n h x y (by omega)]
  pointwise [out_main_v28, row]

end Cert.GlaBRefIdeal.Loop

end
-- ==== Proof.GlaBValue.lean ====
/- The gradient of the gated linear recurrence: the arrays that the run leaves are those that the reference computes, entry by entry. -/
module

public import proofs.«01_k».proof.Proof.GlaBOuts
public import proofs.«01_k».proof.Proof.GlaBInput
public import proofs.«01_k».proof.Proof.GlaBPieces
public import proofs.«01_k».proof.Proof.GlaBRef
public import proofs.«01_k».proof.Defs

@[expose] public section

set_option maxRecDepth 16384

noncomputable section

namespace Cert.GlaBIdeal.Value

open Cert.GlaBIdeal Cert.GlaBIdeal.Gen Cert.GlaBIdeal.Chunk Cert.Recurrence Idealize.ShloMosaic Idealize.ShloMosaic.TcCoe Idealize.SL.Sem

variable (m : (ℓ : Loc nD τ sig) → Buf (Elt Ideal) ℓ) (ρ : Dev nD → PrngReg) (c : Dev nD)

/-- What grid point `t` leaves in the scratch. -/
abbrev left (t : Fin cfg0.N) : Vec Ideal S4x256x128 .f32 := (outsAt0 m c t.val t.isLt).2.2.2.2

/-- What grid point `t` finds in the scratch, but for the first. -/
abbrev held (t : Fin cfg0.N) : Vec Ideal S4x256x128 .f32 :=
  (outsAt0 m c (t.val - 1) (Nat.lt_of_le_of_lt (Nat.sub_le _ _) t.isLt)).2.2.2.2

/-- The state's gradient that grid point `t` starts from. -/
def start (t : Fin cfg0.N) : Fin 4 → Vec Ideal S1x256x128 .f32 :=
  if t.val % 64 = 0 then zeros else (env m c t).old (held m c t)

/-- The state's gradient that local chunk `j` of grid point `t` starts from. -/
abbrev grads (t : Fin cfg0.N) (j : Fin 4) : Fin 4 → Vec Ideal S1x256x128 .f32 := (env m c t).chain (start m c t) (3 - j.val)

variable (t : Fin cfg0.N)

theorem left_dq : (outsAt0 m c t.val t.isLt).1 = VO0_7.read (Elt Ideal) (VO0_7.writes (Elt Ideal) VO0_7.junk (env m c t).dqs) := by
  by_cases h0 : t.val % 64 = 0
  · rw [outsAt0_A m c t h0]
    dsimp only
    refine Eq.trans ?_ (out_dqA (env m c t) ((hcond0_0 t).mpr h0))
    dsimp only [env]
  · rw [outsAt0_B m c t h0]
    dsimp only
    refine Eq.trans ?_ (out_dqB (env m c t) (held m c t) fun h => h0 ((hcond0_0 t).mp h))
    dsimp only [env]

theorem left_dk : (outsAt0 m c t.val t.isLt).2.1 = VO0_8.read (Elt Ideal) (VO0_8.writes (Elt Ideal) VO0_8.junk
    ((env m c t).dks (start m c t))) := by
  unfold start
  by_cases h0 : t.val % 64 = 0
  · rw [outsAt0_A m c t h0, if_pos h0]
    dsimp only
    refine Eq.trans ?_ (out_dkA (env m c t) ((hcond0_0 t).mpr h0))
    dsimp only [env]
  · rw [outsAt0_B m c t h0, if_neg h0]
    dsimp only
    refine Eq.trans ?_ (out_dkB (env m c t) _ fun h => h0 ((hcond0_0 t).mp h))
    dsimp only [env]

theorem left_dv : (outsAt0 m c t.val t.isLt).2.2.1 = VO0_9.read (Elt Ideal) (VO0_9.writes (Elt Ideal) VO0_9.junk
    ((env m c t).dvs (start m c t))) := by
  unfold start
  by_cases h0 : t.val % 64 = 0
  · rw [outsAt0_A m c t h0, if_pos h0]
    dsimp only
    refine Eq.trans ?_ (out_dvA (env m c t) ((hcond0_0 t).mpr h0))
    dsimp only [env]
  · rw [outsAt0_B m c t h0, if_neg h0]
    dsimp only
    refine Eq.trans ?_ (out_dvB (env m c t) _ fun h => h0 ((hcond0_0 t).mp h))
    dsimp only [env]

theorem left_dla : (outsAt0 m c t.val t.isLt).2.2.2.1 = VO0_10.read (Elt Ideal) (VO0_10.writes (Elt Ideal) VO0_10.junk
    ((env m c t).dlas (start m c t))) := by
  unfold start
  by_cases h0 : t.val % 64 = 0
  · rw [outsAt0_A m c t h0, if_pos h0]
    dsimp only
    refine Eq.trans ?_ (out_dlaA (env m c t) ((hcond0_0 t).mpr h0))
    dsimp only [env]
  · rw [outsAt0_B m c t h0, if_neg h0]
    dsimp only
    refine Eq.trans ?_ (out_dlaB (env m c t) _ fun h => h0 ((hcond0_0 t).mp h))
    dsimp only [env]

theorem left_ds : ∃ L, left m c t = VS0_0.read (Elt Ideal) (VS0_0.writes (Elt Ideal) VS0_0.junk
    (four ((env m c t).chain (start m c t) 4) L)) := by
  unfold left start
  by_cases h0 : t.val % 64 = 0
  · rw [outsAt0_A m c t h0, if_pos h0]
    obtain ⟨L, hL⟩ := out_dsA (env m c t) ((hcond0_0 t).mpr h0)
    refine ⟨L, Eq.trans ?_ hL⟩
    dsimp only [env]
  · rw [outsAt0_B m c t h0, if_neg h0]
    obtain ⟨L, hL⟩ := out_dsB (env m c t) _ fun h => h0 ((hcond0_0 t).mp h)
    refine ⟨L, Eq.trans ?_ hL⟩
    dsimp only [env]

theorem left_apply (hg : ∀ h e d, start m c t h (ix3 0 e d) = (args m c).grad (4 * t.val) h e d) (h : Fin 4) (e : Fin 256) (d : Fin 128) :
    left m c t (ix3 h e d) = (args m c).grad (4 * t.val + 4) h e d := by
  obtain ⟨L, hL⟩ := left_ds m c t
  rw [hL]
  refine (read_heads _ _ ((env m c t).chain (start m c t) 4) h e d L [3, 2, 1, 0] ?_).trans (chain_apply m c t _ hg 4 le_rfl h e d)
  revert h; decide

theorem start_apply : ∀ (n : ℕ) (hn : n < cfg0.N) (h : Fin 4) (e : Fin 256) (d : Fin 128),
    start m c ⟨n, hn⟩ h (ix3 0 e d) = (args m c).grad (4 * n) h e d
  | 0, hn, h, e, d => Ideal.ofBits_zero_f32
  | n + 1, hn, h, e, d => by
    have hN : n + 1 < 64 := lt_of_lt_of_eq hn (show cfg0.N = 64 from N_0)
    have ih := start_apply n (by omega)
    unfold start
    rw [if_neg (show ¬(n + 1) % 64 = 0 by omega)]
    refine (load_apply _ _ _ _ _ (inb_g h) (ix3 0 e d) (ix3 h e d) fun a => ?_).trans (left_apply m c ⟨n, by omega⟩ ih h e d)
    match a with
    | 0 => rfl
    | 1 => exact (Nat.zero_add _).symm
    | 2 => exact (Nat.zero_add _).symm

/-- Each local chunk's loads hold what its step of the recurrence takes. -/
theorem chunk_holds (j : Fin 4) :
    Holds ((env m c t).inp j) (grads m c t j) fun h => (args m c).step (stepAt t j) h :=
  holds m c t j _ (chain_apply m c t _ (start_apply m c t.val t.isLt) (3 - j.val) (by omega))

theorem out_idxs : ∀ t : Fin cfg0.N, win0_7.index t = ![63 - t.val, 0] ∧ win0_8.index t = ![63 - t.val, 0]
    ∧ win0_9.index t = ![63 - t.val, 0] ∧ win0_10.index t = ![63 - t.val, 0] :=
  (by decide +kernel : ∀ t : Fin grid0.N, _)

theorem back_back (j : Fin 4) : 255 - (back (stepAt t j)).val = stepAt t j := by
  have hN : t.val < 64 := lt_of_lt_of_eq t.isLt (show cfg0.N = 64 from N_0)
  show 255 - (255 - (4 * t.val + (3 - j.val))) = 4 * t.val + (3 - j.val)
  omega

/-- An array whose entries are a gradient's, chunk by chunk and head by head. -/
def IsGrad {N W : ℕ} (hW : N = 4 * W) (X : (⟨2, ![16384, N]⟩ : Shape).Idx → EReal) (f : Head → Mat 64 W) : Prop :=
  ∀ (n : Fin 256) (h : Fin 4) (x : Fin 64) (y : Fin W),
    X (ix2 (row n x) ⟨W * h.val + y.val, by subst hW; have := h.isLt; have := y.isLt; nlinarith⟩)
      = f ((args m c).step (255 - n.val) h) x y

/-- Where the array has the entries of the chunk that local chunk `j` of grid point `t` takes. -/
theorem IsGrad.at {N W : ℕ} {hW : N = 4 * W} {X : (⟨2, ![16384, N]⟩ : Shape).Idx → EReal} {f : Head → Mat 64 W} (hX : IsGrad m c hW X f)
    (j : Fin 4) (r : Fin 64) (h : Fin 4) (d : Fin W) (i : (⟨2, ![16384, N]⟩ : Shape).Idx)
    (hr : (i 0).val = 256 * (63 - t.val) + (64 * j.val + r.val)) (hc : (i 1).val = W * h.val + d.val) :
    X i = f ((args m c).step (stepAt t j) h) r d := by
  have := hX (back (stepAt t j)) h r d
  rw [back_back] at this
  rw [← this]
  congr 1
  funext a
  match a with
  | 0 => exact Fin.ext (hr.trans (row_val t j r).symm)
  | 1 => exact Fin.ext hc

/-- An array's index from its block's: the block's offset, then the index in the block. -/
theorem offset_row {i : ℕ} (x : ℕ) (hi : i = 63 - t.val) : i * 256 + 1 * x = 256 * (63 - t.val) + x := by
  subst hi; omega
theorem offset_col {i w x : ℕ} (hi : i = 0) : i * w + 1 * x = x := by
  subst hi; omega

theorem dq_final (X : S16384x512.Idx → EReal) (hX : IsGrad m c (W := 128) rfl X Head.dq) : (dats m 0 c).arrAt 7 cfg0.N = X := by
  refine (dats m 0 c).arrAt_eq_of_covers 7 X (by decide +kernel) fun t hf y => ?_
  blk_simp
  rw [after0_7, left_dq]
  obtain ⟨j, r, h, d, rfl⟩ := split512 y
  refine (read_rows VO0_7 VO0_7.junk (fun j => dq ((env m c t).inp j)) j r _ chunks (by revert j; decide)).trans ?_
  refine (dq_apply (chunk_holds m c t j) h r d).trans (hX.at m c t j r h d _ ?_ ?_).symm
  · exact offset_row t _ (congrFun (out_idxs t).1 0)
  · exact offset_col (congrFun (out_idxs t).1 1)

theorem dk_final (X : S16384x512.Idx → EReal) (hX : IsGrad m c (W := 128) rfl X Head.dk) : (dats m 0 c).arrAt 8 cfg0.N = X := by
  refine (dats m 0 c).arrAt_eq_of_covers 8 X (by decide +kernel) fun t hf y => ?_
  blk_simp
  rw [after0_8, left_dk]
  obtain ⟨j, r, h, d, rfl⟩ := split512 y
  refine (read_rows VO0_8 VO0_8.junk (fun j => dk ((env m c t).inp j) (grads m c t j)) j r _ chunks (by revert j; decide)).trans ?_
  refine (dk_apply (chunk_holds m c t j) h r d).trans (hX.at m c t j r h d _ ?_ ?_).symm
  · exact offset_row t _ (congrFun (out_idxs t).2.1 0)
  · exact offset_col (congrFun (out_idxs t).2.1 1)

theorem dla_final (X : S16384x512.Idx → EReal) (hX : IsGrad m c (W := 128) rfl X Head.dla) : (dats m 0 c).arrAt 10 cfg0.N = X := by
  refine (dats m 0 c).arrAt_eq_of_covers 10 X (by decide +kernel) fun t hf y => ?_
  blk_simp
  rw [after0_10, left_dla]
  obtain ⟨j, r, h, d, rfl⟩ := split512 y
  refine (read_rows VO0_10 VO0_10.junk (fun j => dla ((env m c t).inp j) (grads m c t j)) j r _ chunks (by revert j; decide)).trans ?_
  refine (dla_apply (chunk_holds m c t j) h r d).trans (hX.at m c t j r h d _ ?_ ?_).symm
  · exact offset_row t _ (congrFun (out_idxs t).2.2.2 0)
  · exact offset_col (congrFun (out_idxs t).2.2.2 1)

theorem dv_final (X : S16384x1024.Idx → EReal) (hX : IsGrad m c (W := 256) rfl X Head.dv) : (dats m 0 c).arrAt 9 cfg0.N = X := by
  refine (dats m 0 c).arrAt_eq_of_covers 9 X (by decide +kernel) fun t hf y => ?_
  blk_simp
  rw [after0_9, left_dv]
  obtain ⟨j, r, h, d, rfl⟩ := split1024 y
  refine (read_blocks VO0_9 VO0_9.junk (fun j => dv ((env m c t).inp j) (grads m c t j)) j h r d tiles (by revert j h; decide)).trans ?_
  refine (dv_apply (chunk_holds m c t j) h r d).trans (hX.at m c t j r h d _ ?_ ?_).symm
  · exact offset_row t _ (congrFun (out_idxs t).2.2.1 0)
  · exact offset_col (congrFun (out_idxs t).2.2.1 1)

open Cert.GlaBRefIdeal in
/-- The claim: the kernel and the reference end with equal results. -/
theorem algebraic : Cert.algebraic_GlaBIdeal_GlaBRefIdeal := by
  intro m g m' g' _ hm
  have hA (c : Dev nD) : Cert.GlaBRefIdeal.Loop.args m' c = args m c := by
    unfold Cert.GlaBRefIdeal.Loop.args args
    rw [(hm c).1, (hm c).2.1, (hm c).2.2.1, (hm c).2.2.2]
  have hV (c : Dev nD) := hA c ▸ Cert.GlaBRefIdeal.Loop.at_end m' c
  refine ⟨fun c => _, fun c => _, fun c => _, fun c => _, (θ_run defs _ _).mono (fun r h c => h c) (run_blocks m g),
    (θ_run _ _ _).mono (fun r h c => ⟨(h c).1.trans ?_, (h c).2.1.trans ?_, (h c).2.2.1.trans ?_, (h c).2.2.2.1.trans ?_, (h c).2.2.2.2⟩)
      (Cert.GlaBRefIdeal.Value.run m' g')⟩
  · exact (dq_final m c _ (Cert.GlaBRefIdeal.Loop.out_dq (hV c))).symm
  · exact (dk_final m c _ (Cert.GlaBRefIdeal.Loop.out_dk (hV c))).symm
  · exact (dv_final m c _ (Cert.GlaBRefIdeal.Loop.out_dv (hV c))).symm
  · exact (dla_final m c _ (Cert.GlaBRefIdeal.Loop.out_dla (hV c))).symm

end Cert.GlaBIdeal.Value
end
-- ==== Proof.Products.lean ====
/- Sums over a long axis taken block by block, and a matrix read at two natural numbers. -/
module

public import Idealize.ShloMosaic.Lib.Pointwise
public import Idealize.ShloMosaic.Lib.Pipeline.ValueKit
public import Idealize.ShloMosaic.Lib.KernelVsHost

@[expose] public section

noncomputable section

namespace Cert.Products

open Idealize.ShloMosaic

/-- A matrix of extended reals at row `a` and column `b`, zero outside of it. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

theorem at2_of {n0 n1 : ℕ} (X : (⟨2, ![n0, n1]⟩ : Shape).Idx → EReal) (a b : ℕ) (ha : a < n0) (hb : b < n1) :
    X (ix2 ⟨a, ha⟩ ⟨b, hb⟩) = at2 X a b := by
  unfold at2; rw [dif_pos ⟨ha, hb⟩]

/-- The entry of the product of `A` and `B` at row `r` and column `c`, the contracted axis of length `K`. -/
def prod {n0 n1 k0 k1 : ℕ} (A : (⟨2, ![n0, k0]⟩ : Shape).Idx → EReal) (B : (⟨2, ![k1, n1]⟩ : Shape).Idx → EReal)
    (K r c : ℕ) : EReal :=
  ∑ k : Fin K, at2 A r k * at2 B k c

theorem prod_of {n0 n1 K : ℕ} (A : (⟨2, ![n0, K]⟩ : Shape).Idx → EReal) (B : (⟨2, ![K, n1]⟩ : Shape).Idx → EReal) {r c : ℕ}
    (hr : r < n0) (hc : c < n1) : prod A B K r c = ∑ k : Fin K, A (ix2 ⟨r, hr⟩ k) * B (ix2 k ⟨c, hc⟩) :=
  Finset.sum_congr rfl fun k _ => by rw [← at2_of _ _ _ hr k.isLt, ← at2_of _ _ _ k.isLt hc]

/-- A sum over `n` blocks of `b` consecutive terms is the sum over all the terms. -/
theorem sum_blocks {β : Type*} [AddCommMonoid β] (n b : ℕ) (g : ℕ → β) :
    ∑ s ∈ Finset.range n, ∑ r : Fin b, g (b * s + r) = ∑ k : Fin (n * b), g k := by
  rw [Fin.sum_univ_eq_sum_range (fun k => g k) (n * b)]
  induction n with
  | zero => simp
  | succ n ih =>
    rw [Finset.sum_range_succ, ih, Nat.succ_mul, Finset.sum_range_add, Fin.sum_univ_eq_sum_range (fun r => g (b * n + r)) b]
    simp only [Nat.mul_comm n b]

/-- What grid point `n` adds to entry `(r, c)` of its block of a product taken over the grid `(rows, nn, nk)` (`q = nn * nk`),
    with blocks of `tm` rows, `tn` columns and `tk` contracted entries. -/
def part {n0 n1 k0 k1 : ℕ} (A : (⟨2, ![n0, k0]⟩ : Shape).Idx → EReal) (B : (⟨2, ![k1, n1]⟩ : Shape).Idx → EReal)
    (tm tn tk q nn nk n r c : ℕ) : EReal :=
  ∑ k : Fin tk, at2 A (tm * (n / q) + r) (tk * (n % nk) + k) * at2 B (tk * (n % nk) + k) (tn * (n / nk % nn) + c)

/-- The parts of the `nk` points of one block add up to the block's entries of the product. -/
theorem sum_part {n0 n1 k0 k1 : ℕ} (A : (⟨2, ![n0, k0]⟩ : Shape).Idx → EReal) (B : (⟨2, ![k1, n1]⟩ : Shape).Idx → EReal)
    (tm tn tk q nn nk n r c : ℕ) (hq : q = nk * nn) (hk : 0 < nk) :
    ∑ s ∈ Finset.range nk, part A B tm tn tk q nn nk (nk * (n / nk) + s) r c
      = prod A B (nk * tk) (tm * (n / q) + r) (tn * (n / nk % nn) + c) := by
  unfold prod
  rw [← sum_blocks nk tk fun k => at2 A (tm * (n / q) + r) k * at2 B k (tn * (n / nk % nn) + c)]
  refine Finset.sum_congr rfl fun s hs => ?_
  have hs := Finset.mem_range.mp hs
  have h1 : (nk * (n / nk) + s) / nk = n / nk := by
    rw [Nat.mul_add_div hk, Nat.div_eq_of_lt hs, Nat.add_zero]
  have h2 : (nk * (n / nk) + s) % nk = s := by
    rw [Nat.mul_add_mod, Nat.mod_eq_of_lt hs]
  unfold part
  rw [h1, h2, hq, ← Nat.div_div_eq_div_mul, h1, ← Nat.div_div_eq_div_mul]

theorem sitofp_zero (φ : FTy) {s : Shape} (i : s.Idx) : (sitofp (F := Ideal) φ (constantI s 32 0#32) i : EReal) = 0 := by
  show (((0#32 : BitVec 32).toInt : ℝ) : EReal) = 0
  simp

/-- A matrix of `n` columns with `q` columns of zeros put after them. -/
theorem pad_cols {R n q p : ℕ} (x : (⟨2, ![R, n]⟩ : Shape).Idx → EReal) {u : Shape} (v : u.Idx → EReal)
    (h : (⟨2, ![R, n]⟩ : Shape).Pads (![0, 0] : Fin 2 → ℕ) ![0, q] ![0, 0] ⟨2, ![R, p]⟩) (hu : 0 < u.numel)
    (hv : v (Shape.Idx.first hu) = 0) (i : Fin R) (j : Fin p) :
    pad ⟨2, ![R, p]⟩ ![0, 0] ![0, q] ![0, 0] x v h hu (ix2 i j)
      = if hj : j.val < n then x (ix2 i ⟨j.val, hj⟩) else 0 := by
  by_cases hj : j.val < n
  · rw [dif_pos hj]
    refine pad_apply_of_inside _ _ _ _ _ h hu _ _ fun a => ?_
    fin_cases a
    · show i.val = 0 + i.val * (0 + 1); omega
    · show j.val = 0 + j.val * (0 + 1); omega
  · rw [dif_neg hj, ← hv]
    refine pad_apply_of_not_inside _ _ _ _ _ h hu _ 1 fun ha => hj ?_
    have := ha.2.2
    change (j.val - 0) / (0 + 1) < n at this
    simpa using this

/-- A product whose right factor has columns of zeros after those of `W`. -/
theorem prod_zero_cols {R K n p : ℕ} (A : (⟨2, ![R, K]⟩ : Shape).Idx → EReal) (B : (⟨2, ![K, p]⟩ : Shape).Idx → EReal)
    (W : (⟨2, ![K, n]⟩ : Shape).Idx → EReal)
    (hB : ∀ k j, B (ix2 k j) = if hj : j.val < n then W (ix2 k ⟨j.val, hj⟩) else 0) (i : Fin R) (j : Fin p) :
    ∑ k, A (ix2 i k) * B (ix2 k j) = if hj : j.val < n then ∑ k, A (ix2 i k) * W (ix2 k ⟨j.val, hj⟩) else 0 := by
  simp only [hB]
  split
  · rfl
  · simp only [mul_zero, Finset.sum_const_zero]

/-- A product whose right factor has rows of zeros after those of `W`. -/
theorem prod_zero_rows {R N n q : ℕ} (A : (⟨2, ![R, n + q]⟩ : Shape).Idx → EReal) (B : (⟨2, ![n + q, N]⟩ : Shape).Idx → EReal)
    (W : (⟨2, ![N, n]⟩ : Shape).Idx → EReal)
    (hB : ∀ k j, B (ix2 k j) = if hk : k.val < n then W (ix2 j ⟨k.val, hk⟩) else 0) (i : Fin R) (j : Fin N) :
    ∑ k, A (ix2 i k) * B (ix2 k j) = ∑ k : Fin n, A (ix2 i (Fin.castAdd q k)) * W (ix2 j k) := by
  rw [Fin.sum_univ_add]
  conv_rhs => rw [← add_zero (∑ k : Fin n, A (ix2 i (Fin.castAdd q k)) * W (ix2 j k))]
  refine congrArg₂ (· + ·) (Finset.sum_congr rfl fun k _ => ?_) (Finset.sum_eq_zero fun k _ => ?_)
  · rw [hB, dif_pos (show (Fin.castAdd q k).val < n from k.isLt)]
    rfl
  · rw [hB, dif_neg (by show ¬ n + k.val < n; omega), mul_zero]

end Cert.Products

end
-- ==== Proof.DownDwValue.lean ====
/- The gradient of the down projection's weight: the array that the run leaves is the product that the reference computes, entry by entry. -/
module

public import proofs.«01_k».proof.Proof.Gen.DownDwIdeal.Value
public import proofs.«01_k».proof.Proof.Gen.DownDwRefIdeal.Run
public import proofs.«01_k».proof.Proof.Products
public import proofs.«01_k».proof.Defs
public import Idealize.ShloMosaic.Lib.Pipeline.ReadBack

@[expose] public section

set_option maxRecDepth 16384

noncomputable section

namespace Cert.DownDwIdeal.Value

open Cert.Products Cert.DownDwIdeal Cert.DownDwIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1408x2048 .bf16) (x1 : Vec Ideal S2048x512 .bf16) (y : S1408x512.Idx) :
    k0_pay1 x0 x1 y = ∑ k : Fin 2048, x0 (ix2 (y 0) k) * x1 (ix2 k (y 1)) := by
  pointwise [k0_pay1]

theorem idxs : ∀ t : Fin cfg0.N, win0_0.index t = ![t.val / 16, t.val % 8] ∧ win0_1.index t = ![t.val % 8, t.val / 8 % 2]
    ∧ win0_2.index t = ![t.val / 16, t.val / 8 % 2] := (by decide +kernel : ∀ t : Fin grid0.N, _)

theorem x0_apply (c : Dev nD) (t : Fin cfg0.N) (y : S1408x2048.Idx) :
    iblk m c 0 t y = at2 (V m c main_arg0) (1408 * (t.val / 16) + (y 0).val) (2048 * (t.val % 8) + (y 1).val) := by
  idx_vars y
  have hN : t.val < 32 := lt_of_lt_of_eq t.isLt (show cfg0.N = 32 from N_0)
  rw [← at2_of _ _ _ (by show _ < 2816; simp <;> omega) (by show _ < 16384; simp <;> omega)]
  blk_ext [iblk, idxs t]

theorem x1_apply (c : Dev nD) (t : Fin cfg0.N) (y : S2048x512.Idx) :
    iblk m c 1 t y = at2 (V m c main_v0) (2048 * (t.val % 8) + (y 0).val) (512 * (t.val / 8 % 2) + (y 1).val) := by
  idx_vars y
  have hN : t.val < 32 := lt_of_lt_of_eq t.isLt (show cfg0.N = 32 from N_0)
  rw [← at2_of _ _ _ (by show _ < 16384; simp <;> omega) (by show _ < 1024; simp <;> omega)]
  blk_ext [iblk, idxs t]

theorem pay1_part (c : Dev nD) (t : Fin cfg0.N) (y : S1408x512.Idx) :
    k0_pay1 (iblk m c 0 t) (iblk m c 1 t) y = part (V m c main_arg0) (V m c main_v0) 1408 512 2048 16 2 8 t.val (y 0).val (y 1).val := by
  rw [pay1_apply]
  refine Finset.sum_congr rfl fun k _ => ?_
  rw [x0_apply, x1_apply]
  rfl

theorem pay3_apply (x0 : Vec Ideal S1408x2048 .bf16) (x1 : Vec Ideal S2048x512 .bf16) (acc : Vec Ideal S1408x512 .f32)
    (y : S1408x512.Idx) : k0_pay3 x0 x1 acc y = acc y + k0_pay1 x0 x1 y := by
  pointwise [k0_pay3]

theorem pay4_apply (x0 : Vec Ideal S1408x2048 .bf16) (x1 : Vec Ideal S2048x512 .bf16) (acc : Vec Ideal S1408x512 .f32)
    (y : S1408x512.Idx) : k0_pay4 x0 x1 acc y = acc y + k0_pay1 x0 x1 y := by
  pointwise [k0_pay4]

/-- The block's sum so far: in the result's buffer after the last of the block's points, in the scratch before. -/
def acc (c : Dev nD) (n : ℕ) (hn : n < cfg0.N) (y : S1408x512.Idx) : EReal :=
  if n % 8 = 7 then (outsAt0 m c n hn).1 y else (outsAt0 m c n hn).2 y

theorem acc_reset (c : Dev nD) (t : Fin cfg0.N) (h0 : t.val % 8 = 0) (y : S1408x512.Idx) :
    acc m c t.val t.isLt y = 0 + part (V m c main_arg0) (V m c main_v0) 1408 512 2048 16 2 8 t.val (y 0).val (y 1).val := by
  unfold acc
  rw [if_neg (by omega), outsAt0_A m c t h0 (by omega) (by omega), zero_add]
  frame_out
  simp only [k0_pay2, shapeCast_self, pay1_part]

theorem acc_step (c : Dev nD) (t : Fin cfg0.N) (h0 : ¬t.val % 8 = 0) (y : S1408x512.Idx) :
    acc m c t.val t.isLt y = acc m c (t.val - 1) (Nat.lt_of_le_of_lt (Nat.sub_le _ _) t.isLt) y
      + part (V m c main_arg0) (V m c main_v0) 1408 512 2048 16 2 8 t.val (y 0).val (y 1).val := by
  unfold acc
  rw [if_neg (show ¬(t.val - 1) % 8 = 7 by omega)]
  by_cases h1 : t.val % 8 = 7
  · rw [if_pos h1]
    rw [outsAt0_C m c t h0 (by omega) h1]
    frame_out
    simp only [read_unread_whole, pay4_apply, pay1_part]
  · rw [if_neg h1, outsAt0_B m c t h0 (by omega) h1]
    frame_out
    simp only [read_unread_whole, pay3_apply, pay1_part]

/-- The result array, entry by entry. -/
def G (c : Dev nD) : Buf (Elt Ideal) ((c : Thread nD τ).loc main_v1) := fun i : S2816x1024.Idx =>
  prod (V m c main_arg0) (V m c main_v0) 16384 (i 0).val (i 1).val

theorem final_eq (c : Dev nD) : (dats m 0 c).arrAt 2 cfg0.N = G m c := by
  refine (dats m 0 c).arrAt_eq_of_covers 2 _ (by decide +kernel) fun t hf y => ?_
  have hN : t.val < 32 := lt_of_lt_of_eq t.isLt (show cfg0.N = 32 from N_0)
  have h1 : t.val % 8 = 7 := (flush0_2 t).mp hf
  blk_simp
  rw [after0_2]
  have hr : (((((View.whole main_v1).slice (win0_2.rect t)).emb y) : S2816x1024.Idx) 0).val = 1408 * (t.val / 16) + (y 0).val := by
    have := congrFun (idxs t).2.2 0
    show win0_2.index t (0 : Fin 2) * 1408 + 1 * (y 0).val = _
    rw [this]; simp; omega
  have hc : (((((View.whole main_v1).slice (win0_2.rect t)).emb y) : S2816x1024.Idx) 1).val = 512 * (t.val / 8 % 2) + (y 1).val := by
    have := congrFun (idxs t).2.2 1
    show win0_2.index t (1 : Fin 2) * 512 + 1 * (y 1).val = _
    rw [this]; simp; omega
  unfold G
  rw [hr, hc, ← sum_part (V m c main_arg0) (V m c main_v0) 1408 512 2048 16 2 8 t.val _ _ rfl (by decide)]
  refine Eq.trans (α := EReal) (show acc m c t.val t.isLt y = _ from if_pos h1).symm ?_
  exact (Pipeline.eq_sum_of_reset_step_apply_of_mod (acc m c) 8 (fun _ => 0) (fun n y => part (V m c main_arg0) (V m c main_v0) 1408 512 2048 16 2 8 n (y 0).val (y 1).val)
    (acc_reset m c) (acc_step m c) t h1 y).trans (zero_add _)

open Cert.DownDwRefIdeal in
/-- The claim: the kernel and the reference end with equal results. -/
theorem algebraic : Cert.algebraic_DownDwIdeal_DownDwRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.DownDwRefIdeal.Value.run m' g')⟩
  rw [(hm c).1, (hm c).2]
  funext i
  idx_vars i
  rw [show G m c (ix2 i0 i1) = prod (V m c main_arg0) (V m c main_v0) 16384 i0.val i1.val from rfl, prod_of _ _ i0.isLt i1.isLt]
  entry_read
  pointwise
  exact Finset.sum_congr rfl fun k _ => mul_comm (G := EReal) _ _

end Cert.DownDwIdeal.Value
end
-- ==== Proof.DownDxValue.lean ====
/- The gradient of the down projection's input: the array that the run leaves is the product that the reference computes, entry by entry. -/
module

public import proofs.«01_k».proof.Proof.Gen.DownDxIdeal.Value
public import proofs.«01_k».proof.Proof.Gen.DownDxRefIdeal.Run
public import proofs.«01_k».proof.Proof.Products
public import proofs.«01_k».proof.Defs
public import Idealize.ShloMosaic.Lib.Pipeline.ReadBack

@[expose] public section

set_option maxRecDepth 16384

noncomputable section

namespace Cert.DownDxIdeal.Value

open Cert.Products Cert.DownDxIdeal Cert.DownDxIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x1024 .bf16) (x1 : Vec Ideal S1024x1408 .bf16) (y : S1024x1408.Idx) :
    k0_pay1 x0 x1 y = ∑ k : Fin 1024, x0 (ix2 (y 0) k) * x1 (ix2 k (y 1)) := by
  pointwise [k0_pay1]

theorem idxs : ∀ t : Fin cfg0.N, win0_0.index t = ![t.val / 2, 0] ∧ win0_1.index t = ![0, t.val % 2]
    ∧ win0_2.index t = ![t.val / 2, t.val % 2] := (by decide +kernel : ∀ t : Fin grid0.N, _)

theorem x0_apply (c : Dev nD) (t : Fin cfg0.N) (y : S1024x1024.Idx) :
    iblk m c 0 t y = at2 (V m c main_v0) (1024 * (t.val / 2) + (y 0).val) ((y 1).val) := by
  idx_vars y
  have hN : t.val < 32 := lt_of_lt_of_eq t.isLt (show cfg0.N = 32 from N_0)
  rw [← at2_of _ _ _ (by show _ < 16384; simp <;> omega) (by show _ < 1024; simp <;> omega)]
  blk_ext [iblk, idxs t]

theorem x1_apply (c : Dev nD) (t : Fin cfg0.N) (y : S1024x1408.Idx) :
    iblk m c 1 t y = at2 (V m c main_v2) ((y 0).val) (1408 * (t.val % 2) + (y 1).val) := by
  idx_vars y
  have hN : t.val < 32 := lt_of_lt_of_eq t.isLt (show cfg0.N = 32 from N_0)
  rw [← at2_of _ _ _ (by show _ < 1024; simp <;> omega) (by show _ < 2816; simp <;> omega)]
  blk_ext [iblk, idxs t]

/-- The result array, entry by entry. -/
def G (c : Dev nD) : Buf (Elt Ideal) ((c : Thread nD τ).loc main_v3) := fun i : S16384x2816.Idx =>
  prod (V m c main_v0) (V m c main_v2) 1024 (i 0).val (i 1).val

theorem pay1_block (c : Dev nD) (t : Fin cfg0.N) (y : S1024x1408.Idx) : k0_pay1 (iblk m c 0 t) (iblk m c 1 t) y
    = prod (V m c main_v0) (V m c main_v2) 1024 (1024 * (t.val / 2) + (y 0).val) (1408 * (t.val % 2) + (y 1).val) := by
  rw [pay1_apply]
  refine Finset.sum_congr rfl fun k _ => ?_
  rw [x0_apply, x1_apply]
  rfl

theorem final_eq (c : Dev nD) : (dats m 0 c).arrAt 2 cfg0.N = G m c := by
  refine (dats m 0 c).arrAt_eq_of_covers 2 _ (by decide +kernel) fun t hf y => ?_
  have hN : t.val < 32 := lt_of_lt_of_eq t.isLt (show cfg0.N = 32 from N_0)
  blk_simp
  rw [after0_2]
  frame_out
  have hr : (((((View.whole main_v3).slice (win0_2.rect t)).emb y) : S16384x2816.Idx) 0).val = 1024 * (t.val / 2) + (y 0).val := by
    have := congrFun (idxs t).2.2 0
    show win0_2.index t (0 : Fin 2) * 1024 + 1 * (y 0).val = _
    rw [this]; simp; omega
  have hc : (((((View.whole main_v3).slice (win0_2.rect t)).emb y) : S16384x2816.Idx) 1).val = 1408 * (t.val % 2) + (y 1).val := by
    have := congrFun (idxs t).2.2 1
    show win0_2.index t (1 : Fin 2) * 1408 + 1 * (y 1).val = _
    rw [this]; simp; omega
  unfold G
  rw [hr, hc]
  exact pay1_block m c t y

/-- The kernel's right operand: the transposed weight. -/
theorem V_v2 (c : Dev nD) : V m c main_v2 = transpose S1024x2816 [1, 0]
    (truncf (F := Ideal) (s := S2816x1024) .bf16 (m ((c : Thread nD τ).loc main_arg1)) bitsLt_bf16_f32)
    transposes_S2816x1024_S1024x2816_1_0 := by
  entry_read
  rfl

open Cert.DownDxRefIdeal in
/-- The claim: the kernel and the reference end with equal results. -/
theorem algebraic : Cert.algebraic_DownDxIdeal_DownDxRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.DownDxRefIdeal.Value.run m' g')⟩
  rw [(hm c).1, (hm c).2]
  funext i
  idx_vars i
  rw [show G m c (ix2 i0 i1) = prod (V m c main_v0) (V m c main_v2) 1024 i0.val i1.val from rfl, prod_of _ _ i0.isLt i1.isLt]
  rw [V_v2]
  entry_read
  pointwise

end Cert.DownDxIdeal.Value
end
-- ==== Proof.UpDwValue.lean ====
/- The gradient of the up projection's weight: the array that the run leaves is the product that the reference computes, entry by entry. -/
module

public import proofs.«01_k».proof.Proof.Gen.UpDwIdeal.Value
public import proofs.«01_k».proof.Proof.Gen.UpDwRefIdeal.Run
public import proofs.«01_k».proof.Proof.Products
public import proofs.«01_k».proof.Defs
public import Idealize.ShloMosaic.Lib.Pipeline.ReadBack

@[expose] public section

set_option maxRecDepth 16384

noncomputable section

namespace Cert.UpDwIdeal.Value

open Cert.Products Cert.UpDwIdeal Cert.UpDwIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x2048 .bf16) (x1 : Vec Ideal S2048x512 .bf16) (y : S1024x512.Idx) :
    k0_pay1 x0 x1 y = ∑ k : Fin 2048, x0 (ix2 (y 0) k) * x1 (ix2 k (y 1)) := by
  pointwise [k0_pay1]

theorem idxs : ∀ t : Fin cfg0.N, win0_0.index t = ![t.val / 88, t.val % 8] ∧ win0_1.index t = ![t.val % 8, t.val / 8 % 11]
    ∧ win0_2.index t = ![t.val / 88, t.val / 8 % 11] := (by decide +kernel : ∀ t : Fin grid0.N, _)

theorem x0_apply (c : Dev nD) (t : Fin cfg0.N) (y : S1024x2048.Idx) :
    iblk m c 0 t y = at2 (V m c main_arg0) (1024 * (t.val / 88) + (y 0).val) (2048 * (t.val % 8) + (y 1).val) := by
  idx_vars y
  have hN : t.val < 88 := lt_of_lt_of_eq t.isLt (show cfg0.N = 88 from N_0)
  rw [← at2_of _ _ _ (by show _ < 1024; simp <;> omega) (by show _ < 16384; simp <;> omega)]
  blk_ext [iblk, idxs t]

theorem x1_apply (c : Dev nD) (t : Fin cfg0.N) (y : S2048x512.Idx) :
    iblk m c 1 t y = at2 (V m c main_arg1) (2048 * (t.val % 8) + (y 0).val) (512 * (t.val / 8 % 11) + (y 1).val) := by
  idx_vars y
  have hN : t.val < 88 := lt_of_lt_of_eq t.isLt (show cfg0.N = 88 from N_0)
  rw [← at2_of _ _ _ (by show _ < 16384; simp <;> omega) (by show _ < 5632; simp <;> omega)]
  blk_ext [iblk, idxs t]

theorem pay1_part (c : Dev nD) (t : Fin cfg0.N) (y : S1024x512.Idx) :
    k0_pay1 (iblk m c 0 t) (iblk m c 1 t) y = part (V m c main_arg0) (V m c main_arg1) 1024 512 2048 88 11 8 t.val (y 0).val (y 1).val := by
  rw [pay1_apply]
  refine Finset.sum_congr rfl fun k _ => ?_
  rw [x0_apply, x1_apply]
  rfl

theorem pay3_apply (x0 : Vec Ideal S1024x2048 .bf16) (x1 : Vec Ideal S2048x512 .bf16) (acc : Vec Ideal S1024x512 .f32)
    (y : S1024x512.Idx) : k0_pay3 x0 x1 acc y = acc y + k0_pay1 x0 x1 y := by
  pointwise [k0_pay3]

theorem pay4_apply (x0 : Vec Ideal S1024x2048 .bf16) (x1 : Vec Ideal S2048x512 .bf16) (acc : Vec Ideal S1024x512 .f32)
    (y : S1024x512.Idx) : k0_pay4 x0 x1 acc y = acc y + k0_pay1 x0 x1 y := by
  pointwise [k0_pay4]

/-- The block's sum so far: in the result's buffer after the last of the block's points, in the scratch before. -/
def acc (c : Dev nD) (n : ℕ) (hn : n < cfg0.N) (y : S1024x512.Idx) : EReal :=
  if n % 8 = 7 then (outsAt0 m c n hn).1 y else (outsAt0 m c n hn).2 y

theorem acc_reset (c : Dev nD) (t : Fin cfg0.N) (h0 : t.val % 8 = 0) (y : S1024x512.Idx) :
    acc m c t.val t.isLt y = 0 + part (V m c main_arg0) (V m c main_arg1) 1024 512 2048 88 11 8 t.val (y 0).val (y 1).val := by
  unfold acc
  rw [if_neg (by omega), outsAt0_A m c t h0 (by omega) (by omega), zero_add]
  frame_out
  simp only [k0_pay2, shapeCast_self, pay1_part]

theorem acc_step (c : Dev nD) (t : Fin cfg0.N) (h0 : ¬t.val % 8 = 0) (y : S1024x512.Idx) :
    acc m c t.val t.isLt y = acc m c (t.val - 1) (Nat.lt_of_le_of_lt (Nat.sub_le _ _) t.isLt) y
      + part (V m c main_arg0) (V m c main_arg1) 1024 512 2048 88 11 8 t.val (y 0).val (y 1).val := by
  unfold acc
  rw [if_neg (show ¬(t.val - 1) % 8 = 7 by omega)]
  by_cases h1 : t.val % 8 = 7
  · rw [if_pos h1]
    rw [outsAt0_C m c t h0 (by omega) h1]
    frame_out
    simp only [read_unread_whole, pay4_apply, pay1_part]
  · rw [if_neg h1, outsAt0_B m c t h0 (by omega) h1]
    frame_out
    simp only [read_unread_whole, pay3_apply, pay1_part]

/-- The result array, entry by entry. -/
def G (c : Dev nD) : Buf (Elt Ideal) ((c : Thread nD τ).loc main_v0) := fun i : S1024x5632.Idx =>
  prod (V m c main_arg0) (V m c main_arg1) 16384 (i 0).val (i 1).val

theorem final_eq (c : Dev nD) : (dats m 0 c).arrAt 2 cfg0.N = G m c := by
  refine (dats m 0 c).arrAt_eq_of_covers 2 _ (by decide +kernel) fun t hf y => ?_
  have hN : t.val < 88 := lt_of_lt_of_eq t.isLt (show cfg0.N = 88 from N_0)
  have h1 : t.val % 8 = 7 := (flush0_2 t).mp hf
  blk_simp
  rw [after0_2]
  have hr : (((((View.whole main_v0).slice (win0_2.rect t)).emb y) : S1024x5632.Idx) 0).val = 1024 * (t.val / 88) + (y 0).val := by
    have := congrFun (idxs t).2.2 0
    show win0_2.index t (0 : Fin 2) * 1024 + 1 * (y 0).val = _
    rw [this]; simp; omega
  have hc : (((((View.whole main_v0).slice (win0_2.rect t)).emb y) : S1024x5632.Idx) 1).val = 512 * (t.val / 8 % 11) + (y 1).val := by
    have := congrFun (idxs t).2.2 1
    show win0_2.index t (1 : Fin 2) * 512 + 1 * (y 1).val = _
    rw [this]; simp; omega
  unfold G
  rw [hr, hc, ← sum_part (V m c main_arg0) (V m c main_arg1) 1024 512 2048 88 11 8 t.val _ _ rfl (by decide)]
  refine Eq.trans (α := EReal) (show acc m c t.val t.isLt y = _ from if_pos h1).symm ?_
  exact (Pipeline.eq_sum_of_reset_step_apply_of_mod (acc m c) 8 (fun _ => 0) (fun n y => part (V m c main_arg0) (V m c main_arg1) 1024 512 2048 88 11 8 n (y 0).val (y 1).val)
    (acc_reset m c) (acc_step m c) t h1 y).trans (zero_add _)

open Cert.UpDwRefIdeal in
/-- The claim: the kernel and the reference end with equal results. -/
theorem algebraic : Cert.algebraic_UpDwIdeal_UpDwRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.UpDwRefIdeal.Value.run m' g')⟩
  rw [(hm c).1, (hm c).2]
  funext i
  idx_vars i
  rw [show G m c (ix2 i0 i1) = prod (V m c main_arg0) (V m c main_arg1) 16384 i0.val i1.val from rfl, prod_of _ _ i0.isLt i1.isLt]
  entry_read
  pointwise
  exact Finset.sum_congr rfl fun k _ => mul_comm (G := EReal) _ _

end Cert.UpDwIdeal.Value
end
-- ==== Proof.UpDxValue.lean ====
/- The gradient of the up projection's input: the array that the run leaves is the product that the reference computes, entry by entry. -/
module

public import proofs.«01_k».proof.Proof.Gen.UpDxIdeal.Value
public import proofs.«01_k».proof.Proof.Gen.UpDxRefIdeal.Run
public import proofs.«01_k».proof.Proof.Products
public import proofs.«01_k».proof.Defs
public import Idealize.ShloMosaic.Lib.Pipeline.ReadBack

@[expose] public section

set_option maxRecDepth 16384

noncomputable section

namespace Cert.UpDxIdeal.Value

open Cert.Products Cert.UpDxIdeal Cert.UpDxIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x2816 .bf16) (x1 : Vec Ideal S2816x512 .bf16) (y : S1024x512.Idx) :
    k0_pay1 x0 x1 y = ∑ k : Fin 2816, x0 (ix2 (y 0) k) * x1 (ix2 k (y 1)) := by
  pointwise [k0_pay1]

theorem idxs : ∀ t : Fin cfg0.N, win0_0.index t = ![t.val / 4, t.val % 2] ∧ win0_1.index t = ![t.val % 2, t.val / 2 % 2]
    ∧ win0_2.index t = ![t.val / 4, t.val / 2 % 2] := (by decide +kernel : ∀ t : Fin grid0.N, _)

theorem x0_apply (c : Dev nD) (t : Fin cfg0.N) (y : S1024x2816.Idx) :
    iblk m c 0 t y = at2 (V m c main_arg0) (1024 * (t.val / 4) + (y 0).val) (2816 * (t.val % 2) + (y 1).val) := by
  idx_vars y
  have hN : t.val < 64 := lt_of_lt_of_eq t.isLt (show cfg0.N = 64 from N_0)
  rw [← at2_of _ _ _ (by show _ < 16384; simp <;> omega) (by show _ < 5632; simp <;> omega)]
  blk_ext [iblk, idxs t]

theorem x1_apply (c : Dev nD) (t : Fin cfg0.N) (y : S2816x512.Idx) :
    iblk m c 1 t y = at2 (V m c main_v1) (2816 * (t.val % 2) + (y 0).val) (512 * (t.val / 2 % 2) + (y 1).val) := by
  idx_vars y
  have hN : t.val < 64 := lt_of_lt_of_eq t.isLt (show cfg0.N = 64 from N_0)
  rw [← at2_of _ _ _ (by show _ < 5632; simp <;> omega) (by show _ < 1024; simp <;> omega)]
  blk_ext [iblk, idxs t]

theorem pay1_part (c : Dev nD) (t : Fin cfg0.N) (y : S1024x512.Idx) :
    k0_pay1 (iblk m c 0 t) (iblk m c 1 t) y = part (V m c main_arg0) (V m c main_v1) 1024 512 2816 4 2 2 t.val (y 0).val (y 1).val := by
  rw [pay1_apply]
  refine Finset.sum_congr rfl fun k _ => ?_
  rw [x0_apply, x1_apply]
  rfl

theorem pay3_apply (x0 : Vec Ideal S1024x2816 .bf16) (x1 : Vec Ideal S2816x512 .bf16) (acc : Vec Ideal S1024x512 .f32)
    (y : S1024x512.Idx) : k0_pay3 x0 x1 acc y = acc y + k0_pay1 x0 x1 y := by
  pointwise [k0_pay3]

theorem pay4_apply (x0 : Vec Ideal S1024x2816 .bf16) (x1 : Vec Ideal S2816x512 .bf16) (acc : Vec Ideal S1024x512 .f32)
    (y : S1024x512.Idx) : k0_pay4 x0 x1 acc y = acc y + k0_pay1 x0 x1 y := by
  pointwise [k0_pay4]

/-- The block's sum so far: in the result's buffer after the last of the block's points, in the scratch before. -/
def acc (c : Dev nD) (n : ℕ) (hn : n < cfg0.N) (y : S1024x512.Idx) : EReal :=
  if n % 2 = 1 then (outsAt0 m c n hn).1 y else (outsAt0 m c n hn).2 y

theorem acc_reset (c : Dev nD) (t : Fin cfg0.N) (h0 : t.val % 2 = 0) (y : S1024x512.Idx) :
    acc m c t.val t.isLt y = 0 + part (V m c main_arg0) (V m c main_v1) 1024 512 2816 4 2 2 t.val (y 0).val (y 1).val := by
  unfold acc
  rw [if_neg (by omega), outsAt0_A m c t h0 (by omega), zero_add]
  frame_out
  simp only [k0_pay2, shapeCast_self, pay1_part]

theorem acc_step (c : Dev nD) (t : Fin cfg0.N) (h0 : ¬t.val % 2 = 0) (y : S1024x512.Idx) :
    acc m c t.val t.isLt y = acc m c (t.val - 1) (Nat.lt_of_le_of_lt (Nat.sub_le _ _) t.isLt) y
      + part (V m c main_arg0) (V m c main_v1) 1024 512 2816 4 2 2 t.val (y 0).val (y 1).val := by
  unfold acc
  rw [if_neg (show ¬(t.val - 1) % 2 = 1 by omega)]
  by_cases h1 : t.val % 2 = 1
  · rw [if_pos h1]
    rw [outsAt0_B m c t h0 h1]
    frame_out
    simp only [read_unread_whole, pay4_apply, pay1_part]
  · omega

/-- The result array, entry by entry. -/
def G (c : Dev nD) : Buf (Elt Ideal) ((c : Thread nD τ).loc main_v2) := fun i : S16384x1024.Idx =>
  prod (V m c main_arg0) (V m c main_v1) 5632 (i 0).val (i 1).val

theorem final_eq (c : Dev nD) : (dats m 0 c).arrAt 2 cfg0.N = G m c := by
  refine (dats m 0 c).arrAt_eq_of_covers 2 _ (by decide +kernel) fun t hf y => ?_
  have hN : t.val < 64 := lt_of_lt_of_eq t.isLt (show cfg0.N = 64 from N_0)
  have h1 : t.val % 2 = 1 := (flush0_2 t).mp hf
  blk_simp
  rw [after0_2]
  have hr : (((((View.whole main_v2).slice (win0_2.rect t)).emb y) : S16384x1024.Idx) 0).val = 1024 * (t.val / 4) + (y 0).val := by
    have := congrFun (idxs t).2.2 0
    show win0_2.index t (0 : Fin 2) * 1024 + 1 * (y 0).val = _
    rw [this]; simp; omega
  have hc : (((((View.whole main_v2).slice (win0_2.rect t)).emb y) : S16384x1024.Idx) 1).val = 512 * (t.val / 2 % 2) + (y 1).val := by
    have := congrFun (idxs t).2.2 1
    show win0_2.index t (1 : Fin 2) * 512 + 1 * (y 1).val = _
    rw [this]; simp; omega
  unfold G
  rw [hr, hc, ← sum_part (V m c main_arg0) (V m c main_v1) 1024 512 2816 4 2 2 t.val _ _ rfl (by decide)]
  refine Eq.trans (α := EReal) (show acc m c t.val t.isLt y = _ from if_pos h1).symm ?_
  exact (Pipeline.eq_sum_of_reset_step_apply_of_mod (acc m c) 2 (fun _ => 0) (fun n y => part (V m c main_arg0) (V m c main_v1) 1024 512 2816 4 2 2 n (y 0).val (y 1).val)
    (acc_reset m c) (acc_step m c) t h1 y).trans (zero_add _)

/-- The kernel's right operand: the transposed weight. -/
theorem V_v1 (c : Dev nD) : V m c main_v1 = transpose S5632x1024 [1, 0]
    (truncf (F := Ideal) (s := S1024x5632) .bf16 (m ((c : Thread nD τ).loc main_arg1)) bitsLt_bf16_f32)
    transposes_S1024x5632_S5632x1024_1_0 := by
  entry_read
  rfl

open Cert.UpDxRefIdeal in
/-- The claim: the kernel and the reference end with equal results. -/
theorem algebraic : Cert.algebraic_UpDxIdeal_UpDxRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.UpDxRefIdeal.Value.run m' g')⟩
  rw [(hm c).1, (hm c).2]
  funext i
  idx_vars i
  rw [show G m c (ix2 i0 i1) = prod (V m c main_arg0) (V m c main_v1) 5632 i0.val i1.val from rfl, prod_of _ _ i0.isLt i1.isLt]
  rw [V_v1]
  entry_read
  pointwise

end Cert.UpDxIdeal.Value
end
-- ==== Proof.OutDwValue.lean ====
/- The gradient of a mixer's output weight: the array that the run leaves is the product that the reference computes, entry by entry. -/
module

public import proofs.«01_k».proof.Proof.Gen.OutDwIdeal.Value
public import proofs.«01_k».proof.Proof.Gen.OutDwRefIdeal.Run
public import proofs.«01_k».proof.Proof.Products
public import proofs.«01_k».proof.Defs
public import Idealize.ShloMosaic.Lib.Pipeline.ReadBack

@[expose] public section

set_option maxRecDepth 16384

noncomputable section

namespace Cert.OutDwIdeal.Value

open Cert.Products Cert.OutDwIdeal Cert.OutDwIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x2048 .bf16) (x1 : Vec Ideal S2048x512 .bf16) (y : S1024x512.Idx) :
    k0_pay1 x0 x1 y = ∑ k : Fin 2048, x0 (ix2 (y 0) k) * x1 (ix2 k (y 1)) := by
  pointwise [k0_pay1]

theorem idxs : ∀ t : Fin cfg0.N, win0_0.index t = ![t.val / 16, t.val % 8] ∧ win0_1.index t = ![t.val % 8, t.val / 8 % 2]
    ∧ win0_2.index t = ![t.val / 16, t.val / 8 % 2] := (by decide +kernel : ∀ t : Fin grid0.N, _)

theorem x0_apply (c : Dev nD) (t : Fin cfg0.N) (y : S1024x2048.Idx) :
    iblk m c 0 t y = at2 (V m c main_v0) (1024 * (t.val / 16) + (y 0).val) (2048 * (t.val % 8) + (y 1).val) := by
  idx_vars y
  have hN : t.val < 16 := lt_of_lt_of_eq t.isLt (show cfg0.N = 16 from N_0)
  rw [← at2_of _ _ _ (by show _ < 1024; simp <;> omega) (by show _ < 16384; simp <;> omega)]
  blk_ext [iblk, idxs t]

theorem x1_apply (c : Dev nD) (t : Fin cfg0.N) (y : S2048x512.Idx) :
    iblk m c 1 t y = at2 (V m c main_v1) (2048 * (t.val % 8) + (y 0).val) (512 * (t.val / 8 % 2) + (y 1).val) := by
  idx_vars y
  have hN : t.val < 16 := lt_of_lt_of_eq t.isLt (show cfg0.N = 16 from N_0)
  rw [← at2_of _ _ _ (by show _ < 16384; simp <;> omega) (by show _ < 1024; simp <;> omega)]
  blk_ext [iblk, idxs t]

theorem pay1_part (c : Dev nD) (t : Fin cfg0.N) (y : S1024x512.Idx) :
    k0_pay1 (iblk m c 0 t) (iblk m c 1 t) y = part (V m c main_v0) (V m c main_v1) 1024 512 2048 16 2 8 t.val (y 0).val (y 1).val := by
  rw [pay1_apply]
  refine Finset.sum_congr rfl fun k _ => ?_
  rw [x0_apply, x1_apply]
  rfl

theorem pay3_apply (x0 : Vec Ideal S1024x2048 .bf16) (x1 : Vec Ideal S2048x512 .bf16) (acc : Vec Ideal S1024x512 .f32)
    (y : S1024x512.Idx) : k0_pay3 x0 x1 acc y = acc y + k0_pay1 x0 x1 y := by
  pointwise [k0_pay3]

theorem pay4_apply (x0 : Vec Ideal S1024x2048 .bf16) (x1 : Vec Ideal S2048x512 .bf16) (acc : Vec Ideal S1024x512 .f32)
    (y : S1024x512.Idx) : k0_pay4 x0 x1 acc y = acc y + k0_pay1 x0 x1 y := by
  pointwise [k0_pay4]

/-- The block's sum so far: in the result's buffer after the last of the block's points, in the scratch before. -/
def acc (c : Dev nD) (n : ℕ) (hn : n < cfg0.N) (y : S1024x512.Idx) : EReal :=
  if n % 8 = 7 then (outsAt0 m c n hn).1 y else (outsAt0 m c n hn).2 y

theorem acc_reset (c : Dev nD) (t : Fin cfg0.N) (h0 : t.val % 8 = 0) (y : S1024x512.Idx) :
    acc m c t.val t.isLt y = 0 + part (V m c main_v0) (V m c main_v1) 1024 512 2048 16 2 8 t.val (y 0).val (y 1).val := by
  unfold acc
  rw [if_neg (by omega), outsAt0_A m c t h0 (by omega) (by omega), zero_add]
  frame_out
  simp only [k0_pay2, shapeCast_self, pay1_part]

theorem acc_step (c : Dev nD) (t : Fin cfg0.N) (h0 : ¬t.val % 8 = 0) (y : S1024x512.Idx) :
    acc m c t.val t.isLt y = acc m c (t.val - 1) (Nat.lt_of_le_of_lt (Nat.sub_le _ _) t.isLt) y
      + part (V m c main_v0) (V m c main_v1) 1024 512 2048 16 2 8 t.val (y 0).val (y 1).val := by
  unfold acc
  rw [if_neg (show ¬(t.val - 1) % 8 = 7 by omega)]
  by_cases h1 : t.val % 8 = 7
  · rw [if_pos h1]
    rw [outsAt0_C m c t h0 (by omega) h1]
    frame_out
    simp only [read_unread_whole, pay4_apply, pay1_part]
  · rw [if_neg h1, outsAt0_B m c t h0 (by omega) h1]
    frame_out
    simp only [read_unread_whole, pay3_apply, pay1_part]

/-- The result array, entry by entry. -/
def G (c : Dev nD) : Buf (Elt Ideal) ((c : Thread nD τ).loc main_v2) := fun i : S1024x1024.Idx =>
  prod (V m c main_v0) (V m c main_v1) 16384 (i 0).val (i 1).val

theorem final_eq (c : Dev nD) : (dats m 0 c).arrAt 2 cfg0.N = G m c := by
  refine (dats m 0 c).arrAt_eq_of_covers 2 _ (by decide +kernel) fun t hf y => ?_
  have hN : t.val < 16 := lt_of_lt_of_eq t.isLt (show cfg0.N = 16 from N_0)
  have h1 : t.val % 8 = 7 := (flush0_2 t).mp hf
  blk_simp
  rw [after0_2]
  have hr : (((((View.whole main_v2).slice (win0_2.rect t)).emb y) : S1024x1024.Idx) 0).val = 1024 * (t.val / 16) + (y 0).val := by
    have := congrFun (idxs t).2.2 0
    show win0_2.index t (0 : Fin 2) * 1024 + 1 * (y 0).val = _
    rw [this]; simp; omega
  have hc : (((((View.whole main_v2).slice (win0_2.rect t)).emb y) : S1024x1024.Idx) 1).val = 512 * (t.val / 8 % 2) + (y 1).val := by
    have := congrFun (idxs t).2.2 1
    show win0_2.index t (1 : Fin 2) * 512 + 1 * (y 1).val = _
    rw [this]; simp; omega
  unfold G
  rw [hr, hc, ← sum_part (V m c main_v0) (V m c main_v1) 1024 512 2048 16 2 8 t.val _ _ rfl (by decide)]
  refine Eq.trans (α := EReal) (show acc m c t.val t.isLt y = _ from if_pos h1).symm ?_
  exact (Pipeline.eq_sum_of_reset_step_apply_of_mod (acc m c) 8 (fun _ => 0) (fun n y => part (V m c main_v0) (V m c main_v1) 1024 512 2048 16 2 8 n (y 0).val (y 1).val)
    (acc_reset m c) (acc_step m c) t h1 y).trans (zero_add _)

open Cert.OutDwRefIdeal in
/-- The claim: the kernel and the reference end with equal results. -/
theorem algebraic : Cert.algebraic_OutDwIdeal_OutDwRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.OutDwRefIdeal.Value.run m' g')⟩
  rw [(hm c).1, (hm c).2]
  funext i
  idx_vars i
  rw [show G m c (ix2 i0 i1) = prod (V m c main_v0) (V m c main_v1) 16384 i0.val i1.val from rfl, prod_of _ _ i0.isLt i1.isLt]
  entry_read
  pointwise
  exact Finset.sum_congr rfl fun k _ => mul_comm (G := EReal) _ _

end Cert.OutDwIdeal.Value
end
-- ==== Proof.AOutDxValue.lean ====
/- The gradient of the attention's output: the array that the run leaves is the product that the reference computes, entry by entry. -/
module

public import proofs.«01_k».proof.Proof.Gen.AOutDxIdeal.Value
public import proofs.«01_k».proof.Proof.Gen.AOutDxRefIdeal.Run
public import proofs.«01_k».proof.Proof.Products
public import proofs.«01_k».proof.Defs
public import Idealize.ShloMosaic.Lib.Pipeline.ReadBack

@[expose] public section

set_option maxRecDepth 16384

noncomputable section

namespace Cert.AOutDxIdeal.Value

open Cert.Products Cert.AOutDxIdeal Cert.AOutDxIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x1024 .bf16) (x1 : Vec Ideal S1024x512 .bf16) (y : S1024x512.Idx) :
    k0_pay1 x0 x1 y = ∑ k : Fin 1024, x0 (ix2 (y 0) k) * x1 (ix2 k (y 1)) := by
  pointwise [k0_pay1]

theorem idxs : ∀ t : Fin cfg0.N, win0_0.index t = ![t.val / 2, 0] ∧ win0_1.index t = ![0, t.val % 2]
    ∧ win0_2.index t = ![t.val / 2, t.val % 2] := (by decide +kernel : ∀ t : Fin grid0.N, _)

theorem x0_apply (c : Dev nD) (t : Fin cfg0.N) (y : S1024x1024.Idx) :
    iblk m c 0 t y = at2 (V m c main_v0) (1024 * (t.val / 2) + (y 0).val) ((y 1).val) := by
  idx_vars y
  have hN : t.val < 32 := lt_of_lt_of_eq t.isLt (show cfg0.N = 32 from N_0)
  rw [← at2_of _ _ _ (by show _ < 16384; simp <;> omega) (by show _ < 1024; simp <;> omega)]
  blk_ext [iblk, idxs t]

theorem x1_apply (c : Dev nD) (t : Fin cfg0.N) (y : S1024x512.Idx) :
    iblk m c 1 t y = at2 (V m c main_v2) ((y 0).val) (512 * (t.val % 2) + (y 1).val) := by
  idx_vars y
  have hN : t.val < 32 := lt_of_lt_of_eq t.isLt (show cfg0.N = 32 from N_0)
  rw [← at2_of _ _ _ (by show _ < 1024; simp <;> omega) (by show _ < 1024; simp <;> omega)]
  blk_ext [iblk, idxs t]

/-- The result array, entry by entry. -/
def G (c : Dev nD) : Buf (Elt Ideal) ((c : Thread nD τ).loc main_v3) := fun i : S16384x1024.Idx =>
  prod (V m c main_v0) (V m c main_v2) 1024 (i 0).val (i 1).val

theorem pay1_block (c : Dev nD) (t : Fin cfg0.N) (y : S1024x512.Idx) : k0_pay1 (iblk m c 0 t) (iblk m c 1 t) y
    = prod (V m c main_v0) (V m c main_v2) 1024 (1024 * (t.val / 2) + (y 0).val) (512 * (t.val % 2) + (y 1).val) := by
  rw [pay1_apply]
  refine Finset.sum_congr rfl fun k _ => ?_
  rw [x0_apply, x1_apply]
  rfl

theorem final_eq (c : Dev nD) : (dats m 0 c).arrAt 2 cfg0.N = G m c := by
  refine (dats m 0 c).arrAt_eq_of_covers 2 _ (by decide +kernel) fun t hf y => ?_
  have hN : t.val < 32 := lt_of_lt_of_eq t.isLt (show cfg0.N = 32 from N_0)
  blk_simp
  rw [after0_2]
  frame_out
  have hr : (((((View.whole main_v3).slice (win0_2.rect t)).emb y) : S16384x1024.Idx) 0).val = 1024 * (t.val / 2) + (y 0).val := by
    have := congrFun (idxs t).2.2 0
    show win0_2.index t (0 : Fin 2) * 1024 + 1 * (y 0).val = _
    rw [this]; simp; omega
  have hc : (((((View.whole main_v3).slice (win0_2.rect t)).emb y) : S16384x1024.Idx) 1).val = 512 * (t.val % 2) + (y 1).val := by
    have := congrFun (idxs t).2.2 1
    show win0_2.index t (1 : Fin 2) * 512 + 1 * (y 1).val = _
    rw [this]; simp; omega
  unfold G
  rw [hr, hc]
  exact pay1_block m c t y

/-- The kernel's right operand: the transposed weight. -/
theorem V_v2 (c : Dev nD) : V m c main_v2 = transpose S1024x1024 [1, 0]
    (truncf (F := Ideal) (s := S1024x1024) .bf16 (m ((c : Thread nD τ).loc main_arg1)) bitsLt_bf16_f32)
    transposes_S1024x1024_S1024x1024_1_0 := by
  entry_read
  rfl

open Cert.AOutDxRefIdeal in
/-- The claim: the kernel and the reference end with equal results. -/
theorem algebraic : Cert.algebraic_AOutDxIdeal_AOutDxRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.AOutDxRefIdeal.Value.run m' g')⟩
  rw [(hm c).1, (hm c).2]
  funext i
  idx_vars i
  rw [show G m c (ix2 i0 i1) = prod (V m c main_v0) (V m c main_v2) 1024 i0.val i1.val from rfl, prod_of _ _ i0.isLt i1.isLt]
  rw [V_v2]
  entry_read
  pointwise

end Cert.AOutDxIdeal.Value
end
-- ==== Proof.BOutDxValue.lean ====
/- The gradient of the gated linear attention's output: the array that the run leaves is the product that the reference computes, entry by entry. -/
module

public import proofs.«01_k».proof.Proof.Gen.BOutDxIdeal.Value
public import proofs.«01_k».proof.Proof.Gen.BOutDxRefIdeal.Run
public import proofs.«01_k».proof.Proof.Products
public import proofs.«01_k».proof.Defs
public import Idealize.ShloMosaic.Lib.Pipeline.ReadBack

@[expose] public section

set_option maxRecDepth 16384

noncomputable section

namespace Cert.BOutDxIdeal.Value

open Cert.Products Cert.BOutDxIdeal Cert.BOutDxIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x1024 .bf16) (x1 : Vec Ideal S1024x512 .bf16) (y : S1024x512.Idx) :
    k0_pay1 x0 x1 y = ∑ k : Fin 1024, x0 (ix2 (y 0) k) * x1 (ix2 k (y 1)) := by
  pointwise [k0_pay1]

theorem idxs : ∀ t : Fin cfg0.N, win0_0.index t = ![t.val / 2, 0] ∧ win0_1.index t = ![0, t.val % 2]
    ∧ win0_2.index t = ![t.val / 2, t.val % 2] := (by decide +kernel : ∀ t : Fin grid0.N, _)

theorem x0_apply (c : Dev nD) (t : Fin cfg0.N) (y : S1024x1024.Idx) :
    iblk m c 0 t y = at2 (V m c main_v0) (1024 * (t.val / 2) + (y 0).val) ((y 1).val) := by
  idx_vars y
  have hN : t.val < 32 := lt_of_lt_of_eq t.isLt (show cfg0.N = 32 from N_0)
  rw [← at2_of _ _ _ (by show _ < 16384; simp <;> omega) (by show _ < 1024; simp <;> omega)]
  blk_ext [iblk, idxs t]

theorem x1_apply (c : Dev nD) (t : Fin cfg0.N) (y : S1024x512.Idx) :
    iblk m c 1 t y = at2 (V m c main_v2) ((y 0).val) (512 * (t.val % 2) + (y 1).val) := by
  idx_vars y
  have hN : t.val < 32 := lt_of_lt_of_eq t.isLt (show cfg0.N = 32 from N_0)
  rw [← at2_of _ _ _ (by show _ < 1024; simp <;> omega) (by show _ < 1024; simp <;> omega)]
  blk_ext [iblk, idxs t]

/-- The result array, entry by entry. -/
def G (c : Dev nD) : Buf (Elt Ideal) ((c : Thread nD τ).loc main_v3) := fun i : S16384x1024.Idx =>
  prod (V m c main_v0) (V m c main_v2) 1024 (i 0).val (i 1).val

theorem pay1_block (c : Dev nD) (t : Fin cfg0.N) (y : S1024x512.Idx) : k0_pay1 (iblk m c 0 t) (iblk m c 1 t) y
    = prod (V m c main_v0) (V m c main_v2) 1024 (1024 * (t.val / 2) + (y 0).val) (512 * (t.val % 2) + (y 1).val) := by
  rw [pay1_apply]
  refine Finset.sum_congr rfl fun k _ => ?_
  rw [x0_apply, x1_apply]
  rfl

theorem final_eq (c : Dev nD) : (dats m 0 c).arrAt 2 cfg0.N = G m c := by
  refine (dats m 0 c).arrAt_eq_of_covers 2 _ (by decide +kernel) fun t hf y => ?_
  have hN : t.val < 32 := lt_of_lt_of_eq t.isLt (show cfg0.N = 32 from N_0)
  blk_simp
  rw [after0_2]
  frame_out
  have hr : (((((View.whole main_v3).slice (win0_2.rect t)).emb y) : S16384x1024.Idx) 0).val = 1024 * (t.val / 2) + (y 0).val := by
    have := congrFun (idxs t).2.2 0
    show win0_2.index t (0 : Fin 2) * 1024 + 1 * (y 0).val = _
    rw [this]; simp; omega
  have hc : (((((View.whole main_v3).slice (win0_2.rect t)).emb y) : S16384x1024.Idx) 1).val = 512 * (t.val % 2) + (y 1).val := by
    have := congrFun (idxs t).2.2 1
    show win0_2.index t (1 : Fin 2) * 512 + 1 * (y 1).val = _
    rw [this]; simp; omega
  unfold G
  rw [hr, hc]
  exact pay1_block m c t y

/-- The kernel's right operand: the transposed weight. -/
theorem V_v2 (c : Dev nD) : V m c main_v2 = transpose S1024x1024 [1, 0]
    (truncf (F := Ideal) (s := S1024x1024) .bf16 (m ((c : Thread nD τ).loc main_arg1)) bitsLt_bf16_f32)
    transposes_S1024x1024_S1024x1024_1_0 := by
  entry_read
  rfl

open Cert.BOutDxRefIdeal in
/-- The claim: the kernel and the reference end with equal results. -/
theorem algebraic : Cert.algebraic_BOutDxIdeal_BOutDxRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.BOutDxRefIdeal.Value.run m' g')⟩
  rw [(hm c).1, (hm c).2]
  funext i
  idx_vars i
  rw [show G m c (ix2 i0 i1) = prod (V m c main_v0) (V m c main_v2) 1024 i0.val i1.val from rfl, prod_of _ _ i0.isLt i1.isLt]
  rw [V_v2]
  entry_read
  pointwise

end Cert.BOutDxIdeal.Value
end
-- ==== Proof.AInDwValue.lean ====
/- The gradient of the attention's input weight: the array that the run leaves is the product that the reference computes, entry by entry. -/
module

public import proofs.«01_k».proof.Proof.Gen.AInDwIdeal.Value
public import proofs.«01_k».proof.Proof.Gen.AInDwRefIdeal.Run
public import proofs.«01_k».proof.Proof.Products
public import proofs.«01_k».proof.Defs
public import Idealize.ShloMosaic.Lib.Pipeline.ReadBack

@[expose] public section

set_option maxRecDepth 16384

noncomputable section

namespace Cert.AInDwIdeal.Value

open Cert.Products Cert.AInDwIdeal Cert.AInDwIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x2048 .bf16) (x1 : Vec Ideal S2048x512 .bf16) (y : S1024x512.Idx) :
    k0_pay1 x0 x1 y = ∑ k : Fin 2048, x0 (ix2 (y 0) k) * x1 (ix2 k (y 1)) := by
  pointwise [k0_pay1]

theorem idxs : ∀ t : Fin cfg0.N, win0_0.index t = ![t.val / 48, t.val % 8] ∧ win0_1.index t = ![t.val % 8, t.val / 8 % 6]
    ∧ win0_2.index t = ![t.val / 48, t.val / 8 % 6] := (by decide +kernel : ∀ t : Fin grid0.N, _)

theorem x0_apply (c : Dev nD) (t : Fin cfg0.N) (y : S1024x2048.Idx) :
    iblk m c 0 t y = at2 (V m c main_v0) (1024 * (t.val / 48) + (y 0).val) (2048 * (t.val % 8) + (y 1).val) := by
  idx_vars y
  have hN : t.val < 48 := lt_of_lt_of_eq t.isLt (show cfg0.N = 48 from N_0)
  rw [← at2_of _ _ _ (by show _ < 1024; simp <;> omega) (by show _ < 16384; simp <;> omega)]
  blk_ext [iblk, idxs t]

theorem x1_apply (c : Dev nD) (t : Fin cfg0.N) (y : S2048x512.Idx) :
    iblk m c 1 t y = at2 (V m c main_arg1) (2048 * (t.val % 8) + (y 0).val) (512 * (t.val / 8 % 6) + (y 1).val) := by
  idx_vars y
  have hN : t.val < 48 := lt_of_lt_of_eq t.isLt (show cfg0.N = 48 from N_0)
  rw [← at2_of _ _ _ (by show _ < 16384; simp <;> omega) (by show _ < 3072; simp <;> omega)]
  blk_ext [iblk, idxs t]

theorem pay1_part (c : Dev nD) (t : Fin cfg0.N) (y : S1024x512.Idx) :
    k0_pay1 (iblk m c 0 t) (iblk m c 1 t) y = part (V m c main_v0) (V m c main_arg1) 1024 512 2048 48 6 8 t.val (y 0).val (y 1).val := by
  rw [pay1_apply]
  refine Finset.sum_congr rfl fun k _ => ?_
  rw [x0_apply, x1_apply]
  rfl

theorem pay3_apply (x0 : Vec Ideal S1024x2048 .bf16) (x1 : Vec Ideal S2048x512 .bf16) (acc : Vec Ideal S1024x512 .f32)
    (y : S1024x512.Idx) : k0_pay3 x0 x1 acc y = acc y + k0_pay1 x0 x1 y := by
  pointwise [k0_pay3]

theorem pay4_apply (x0 : Vec Ideal S1024x2048 .bf16) (x1 : Vec Ideal S2048x512 .bf16) (acc : Vec Ideal S1024x512 .f32)
    (y : S1024x512.Idx) : k0_pay4 x0 x1 acc y = acc y + k0_pay1 x0 x1 y := by
  pointwise [k0_pay4]

/-- The block's sum so far: in the result's buffer after the last of the block's points, in the scratch before. -/
def acc (c : Dev nD) (n : ℕ) (hn : n < cfg0.N) (y : S1024x512.Idx) : EReal :=
  if n % 8 = 7 then (outsAt0 m c n hn).1 y else (outsAt0 m c n hn).2 y

theorem acc_reset (c : Dev nD) (t : Fin cfg0.N) (h0 : t.val % 8 = 0) (y : S1024x512.Idx) :
    acc m c t.val t.isLt y = 0 + part (V m c main_v0) (V m c main_arg1) 1024 512 2048 48 6 8 t.val (y 0).val (y 1).val := by
  unfold acc
  rw [if_neg (by omega), outsAt0_A m c t h0 (by omega) (by omega), zero_add]
  frame_out
  simp only [k0_pay2, shapeCast_self, pay1_part]

theorem acc_step (c : Dev nD) (t : Fin cfg0.N) (h0 : ¬t.val % 8 = 0) (y : S1024x512.Idx) :
    acc m c t.val t.isLt y = acc m c (t.val - 1) (Nat.lt_of_le_of_lt (Nat.sub_le _ _) t.isLt) y
      + part (V m c main_v0) (V m c main_arg1) 1024 512 2048 48 6 8 t.val (y 0).val (y 1).val := by
  unfold acc
  rw [if_neg (show ¬(t.val - 1) % 8 = 7 by omega)]
  by_cases h1 : t.val % 8 = 7
  · rw [if_pos h1]
    rw [outsAt0_C m c t h0 (by omega) h1]
    frame_out
    simp only [read_unread_whole, pay4_apply, pay1_part]
  · rw [if_neg h1, outsAt0_B m c t h0 (by omega) h1]
    frame_out
    simp only [read_unread_whole, pay3_apply, pay1_part]

/-- The result array, entry by entry. -/
def G (c : Dev nD) : Buf (Elt Ideal) ((c : Thread nD τ).loc main_v1) := fun i : S1024x3072.Idx =>
  prod (V m c main_v0) (V m c main_arg1) 16384 (i 0).val (i 1).val

theorem final_eq (c : Dev nD) : (dats m 0 c).arrAt 2 cfg0.N = G m c := by
  refine (dats m 0 c).arrAt_eq_of_covers 2 _ (by decide +kernel) fun t hf y => ?_
  have hN : t.val < 48 := lt_of_lt_of_eq t.isLt (show cfg0.N = 48 from N_0)
  have h1 : t.val % 8 = 7 := (flush0_2 t).mp hf
  blk_simp
  rw [after0_2]
  have hr : (((((View.whole main_v1).slice (win0_2.rect t)).emb y) : S1024x3072.Idx) 0).val = 1024 * (t.val / 48) + (y 0).val := by
    have := congrFun (idxs t).2.2 0
    show win0_2.index t (0 : Fin 2) * 1024 + 1 * (y 0).val = _
    rw [this]; simp; omega
  have hc : (((((View.whole main_v1).slice (win0_2.rect t)).emb y) : S1024x3072.Idx) 1).val = 512 * (t.val / 8 % 6) + (y 1).val := by
    have := congrFun (idxs t).2.2 1
    show win0_2.index t (1 : Fin 2) * 512 + 1 * (y 1).val = _
    rw [this]; simp; omega
  unfold G
  rw [hr, hc, ← sum_part (V m c main_v0) (V m c main_arg1) 1024 512 2048 48 6 8 t.val _ _ rfl (by decide)]
  refine Eq.trans (α := EReal) (show acc m c t.val t.isLt y = _ from if_pos h1).symm ?_
  exact (Pipeline.eq_sum_of_reset_step_apply_of_mod (acc m c) 8 (fun _ => 0) (fun n y => part (V m c main_v0) (V m c main_arg1) 1024 512 2048 48 6 8 n (y 0).val (y 1).val)
    (acc_reset m c) (acc_step m c) t h1 y).trans (zero_add _)

open Cert.AInDwRefIdeal in
/-- The claim: the kernel and the reference end with equal results. -/
theorem algebraic : Cert.algebraic_AInDwIdeal_AInDwRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.AInDwRefIdeal.Value.run m' g')⟩
  rw [(hm c).1, (hm c).2]
  funext i
  idx_vars i
  rw [show G m c (ix2 i0 i1) = prod (V m c main_v0) (V m c main_arg1) 16384 i0.val i1.val from rfl, prod_of _ _ i0.isLt i1.isLt]
  entry_read
  pointwise
  exact Finset.sum_congr rfl fun k _ => mul_comm (G := EReal) _ _

end Cert.AInDwIdeal.Value
end
-- ==== Proof.AInDxValue.lean ====
/- The gradient of the attention's input: the array that the run leaves is the product that the reference computes, entry by entry. -/
module

public import proofs.«01_k».proof.Proof.Gen.AInDxIdeal.Value
public import proofs.«01_k».proof.Proof.Gen.AInDxRefIdeal.Run
public import proofs.«01_k».proof.Proof.Products
public import proofs.«01_k».proof.Defs
public import Idealize.ShloMosaic.Lib.Pipeline.ReadBack

@[expose] public section

set_option maxRecDepth 16384

noncomputable section

namespace Cert.AInDxIdeal.Value

open Cert.Products Cert.AInDxIdeal Cert.AInDxIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x3072 .bf16) (x1 : Vec Ideal S3072x512 .bf16) (y : S1024x512.Idx) :
    k0_pay1 x0 x1 y = ∑ k : Fin 3072, x0 (ix2 (y 0) k) * x1 (ix2 k (y 1)) := by
  pointwise [k0_pay1]

theorem idxs : ∀ t : Fin cfg0.N, win0_0.index t = ![t.val / 2, 0] ∧ win0_1.index t = ![0, t.val % 2]
    ∧ win0_2.index t = ![t.val / 2, t.val % 2] := (by decide +kernel : ∀ t : Fin grid0.N, _)

theorem x0_apply (c : Dev nD) (t : Fin cfg0.N) (y : S1024x3072.Idx) :
    iblk m c 0 t y = at2 (V m c main_arg0) (1024 * (t.val / 2) + (y 0).val) ((y 1).val) := by
  idx_vars y
  have hN : t.val < 32 := lt_of_lt_of_eq t.isLt (show cfg0.N = 32 from N_0)
  rw [← at2_of _ _ _ (by show _ < 16384; simp <;> omega) (by show _ < 3072; simp <;> omega)]
  blk_ext [iblk, idxs t]

theorem x1_apply (c : Dev nD) (t : Fin cfg0.N) (y : S3072x512.Idx) :
    iblk m c 1 t y = at2 (V m c main_v1) ((y 0).val) (512 * (t.val % 2) + (y 1).val) := by
  idx_vars y
  have hN : t.val < 32 := lt_of_lt_of_eq t.isLt (show cfg0.N = 32 from N_0)
  rw [← at2_of _ _ _ (by show _ < 3072; simp <;> omega) (by show _ < 1024; simp <;> omega)]
  blk_ext [iblk, idxs t]

/-- The result array, entry by entry. -/
def G (c : Dev nD) : Buf (Elt Ideal) ((c : Thread nD τ).loc main_v2) := fun i : S16384x1024.Idx =>
  prod (V m c main_arg0) (V m c main_v1) 3072 (i 0).val (i 1).val

theorem pay1_block (c : Dev nD) (t : Fin cfg0.N) (y : S1024x512.Idx) : k0_pay1 (iblk m c 0 t) (iblk m c 1 t) y
    = prod (V m c main_arg0) (V m c main_v1) 3072 (1024 * (t.val / 2) + (y 0).val) (512 * (t.val % 2) + (y 1).val) := by
  rw [pay1_apply]
  refine Finset.sum_congr rfl fun k _ => ?_
  rw [x0_apply, x1_apply]
  rfl

theorem final_eq (c : Dev nD) : (dats m 0 c).arrAt 2 cfg0.N = G m c := by
  refine (dats m 0 c).arrAt_eq_of_covers 2 _ (by decide +kernel) fun t hf y => ?_
  have hN : t.val < 32 := lt_of_lt_of_eq t.isLt (show cfg0.N = 32 from N_0)
  blk_simp
  rw [after0_2]
  frame_out
  have hr : (((((View.whole main_v2).slice (win0_2.rect t)).emb y) : S16384x1024.Idx) 0).val = 1024 * (t.val / 2) + (y 0).val := by
    have := congrFun (idxs t).2.2 0
    show win0_2.index t (0 : Fin 2) * 1024 + 1 * (y 0).val = _
    rw [this]; simp; omega
  have hc : (((((View.whole main_v2).slice (win0_2.rect t)).emb y) : S16384x1024.Idx) 1).val = 512 * (t.val % 2) + (y 1).val := by
    have := congrFun (idxs t).2.2 1
    show win0_2.index t (1 : Fin 2) * 512 + 1 * (y 1).val = _
    rw [this]; simp; omega
  unfold G
  rw [hr, hc]
  exact pay1_block m c t y

/-- The kernel's right operand: the transposed weight. -/
theorem V_v1 (c : Dev nD) : V m c main_v1 = transpose S3072x1024 [1, 0]
    (truncf (F := Ideal) (s := S1024x3072) .bf16 (m ((c : Thread nD τ).loc main_arg1)) bitsLt_bf16_f32)
    transposes_S1024x3072_S3072x1024_1_0 := by
  entry_read
  rfl

open Cert.AInDxRefIdeal in
/-- The claim: the kernel and the reference end with equal results. -/
theorem algebraic : Cert.algebraic_AInDxIdeal_AInDxRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.AInDxRefIdeal.Value.run m' g')⟩
  rw [(hm c).1, (hm c).2]
  funext i
  idx_vars i
  rw [show G m c (ix2 i0 i1) = prod (V m c main_arg0) (V m c main_v1) 3072 i0.val i1.val from rfl, prod_of _ _ i0.isLt i1.isLt]
  rw [V_v1]
  entry_read
  pointwise

end Cert.AInDxIdeal.Value
end
-- ==== Proof.BInDwValue.lean ====
/- The gradient of the gated linear attention's input weight: the array that the run leaves is the product that the reference computes, entry by entry. -/
module

public import proofs.«01_k».proof.Proof.Gen.BInDwIdeal.Value
public import proofs.«01_k».proof.Proof.Gen.BInDwRefIdeal.Run
public import proofs.«01_k».proof.Proof.Products
public import proofs.«01_k».proof.Defs
public import Idealize.ShloMosaic.Lib.Pipeline.ReadBack

@[expose] public section

set_option maxRecDepth 16384

noncomputable section

namespace Cert.BInDwIdeal.Value

open Cert.Products Cert.BInDwIdeal Cert.BInDwIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x2048 .bf16) (x1 : Vec Ideal S2048x640 .bf16) (y : S1024x640.Idx) :
    k0_pay1 x0 x1 y = ∑ k : Fin 2048, x0 (ix2 (y 0) k) * x1 (ix2 k (y 1)) := by
  pointwise [k0_pay1]

theorem idxs : ∀ t : Fin cfg0.N, win0_0.index t = ![t.val / 40, t.val % 8] ∧ win0_1.index t = ![t.val % 8, t.val / 8 % 5]
    ∧ win0_2.index t = ![t.val / 40, t.val / 8 % 5] := (by decide +kernel : ∀ t : Fin grid0.N, _)

theorem x0_apply (c : Dev nD) (t : Fin cfg0.N) (y : S1024x2048.Idx) :
    iblk m c 0 t y = at2 (V m c main_arg0) (1024 * (t.val / 40) + (y 0).val) (2048 * (t.val % 8) + (y 1).val) := by
  idx_vars y
  have hN : t.val < 40 := lt_of_lt_of_eq t.isLt (show cfg0.N = 40 from N_0)
  rw [← at2_of _ _ _ (by show _ < 1024; simp <;> omega) (by show _ < 16384; simp <;> omega)]
  blk_ext [iblk, idxs t]

theorem x1_apply (c : Dev nD) (t : Fin cfg0.N) (y : S2048x640.Idx) :
    iblk m c 1 t y = at2 (V m c main_arg1) (2048 * (t.val % 8) + (y 0).val) (640 * (t.val / 8 % 5) + (y 1).val) := by
  idx_vars y
  have hN : t.val < 40 := lt_of_lt_of_eq t.isLt (show cfg0.N = 40 from N_0)
  rw [← at2_of _ _ _ (by show _ < 16384; simp <;> omega) (by show _ < 3200; simp <;> omega)]
  blk_ext [iblk, idxs t]

theorem pay1_part (c : Dev nD) (t : Fin cfg0.N) (y : S1024x640.Idx) :
    k0_pay1 (iblk m c 0 t) (iblk m c 1 t) y = part (V m c main_arg0) (V m c main_arg1) 1024 640 2048 40 5 8 t.val (y 0).val (y 1).val := by
  rw [pay1_apply]
  refine Finset.sum_congr rfl fun k _ => ?_
  rw [x0_apply, x1_apply]
  rfl

theorem pay3_apply (x0 : Vec Ideal S1024x2048 .bf16) (x1 : Vec Ideal S2048x640 .bf16) (acc : Vec Ideal S1024x640 .f32)
    (y : S1024x640.Idx) : k0_pay3 x0 x1 acc y = acc y + k0_pay1 x0 x1 y := by
  pointwise [k0_pay3]

theorem pay4_apply (x0 : Vec Ideal S1024x2048 .bf16) (x1 : Vec Ideal S2048x640 .bf16) (acc : Vec Ideal S1024x640 .f32)
    (y : S1024x640.Idx) : k0_pay4 x0 x1 acc y = acc y + k0_pay1 x0 x1 y := by
  pointwise [k0_pay4]

/-- The block's sum so far: in the result's buffer after the last of the block's points, in the scratch before. -/
def acc (c : Dev nD) (n : ℕ) (hn : n < cfg0.N) (y : S1024x640.Idx) : EReal :=
  if n % 8 = 7 then (outsAt0 m c n hn).1 y else (outsAt0 m c n hn).2 y

theorem acc_reset (c : Dev nD) (t : Fin cfg0.N) (h0 : t.val % 8 = 0) (y : S1024x640.Idx) :
    acc m c t.val t.isLt y = 0 + part (V m c main_arg0) (V m c main_arg1) 1024 640 2048 40 5 8 t.val (y 0).val (y 1).val := by
  unfold acc
  rw [if_neg (by omega), outsAt0_A m c t h0 (by omega) (by omega), zero_add]
  frame_out
  simp only [k0_pay2, shapeCast_self, pay1_part]

theorem acc_step (c : Dev nD) (t : Fin cfg0.N) (h0 : ¬t.val % 8 = 0) (y : S1024x640.Idx) :
    acc m c t.val t.isLt y = acc m c (t.val - 1) (Nat.lt_of_le_of_lt (Nat.sub_le _ _) t.isLt) y
      + part (V m c main_arg0) (V m c main_arg1) 1024 640 2048 40 5 8 t.val (y 0).val (y 1).val := by
  unfold acc
  rw [if_neg (show ¬(t.val - 1) % 8 = 7 by omega)]
  by_cases h1 : t.val % 8 = 7
  · rw [if_pos h1]
    rw [outsAt0_C m c t h0 (by omega) h1]
    frame_out
    simp only [read_unread_whole, pay4_apply, pay1_part]
  · rw [if_neg h1, outsAt0_B m c t h0 (by omega) h1]
    frame_out
    simp only [read_unread_whole, pay3_apply, pay1_part]

/-- The result array, entry by entry. -/
def G (c : Dev nD) : Buf (Elt Ideal) ((c : Thread nD τ).loc main_v0) := fun i : S1024x3200.Idx =>
  prod (V m c main_arg0) (V m c main_arg1) 16384 (i 0).val (i 1).val

theorem final_eq (c : Dev nD) : (dats m 0 c).arrAt 2 cfg0.N = G m c := by
  refine (dats m 0 c).arrAt_eq_of_covers 2 _ (by decide +kernel) fun t hf y => ?_
  have hN : t.val < 40 := lt_of_lt_of_eq t.isLt (show cfg0.N = 40 from N_0)
  have h1 : t.val % 8 = 7 := (flush0_2 t).mp hf
  blk_simp
  rw [after0_2]
  have hr : (((((View.whole main_v0).slice (win0_2.rect t)).emb y) : S1024x3200.Idx) 0).val = 1024 * (t.val / 40) + (y 0).val := by
    have := congrFun (idxs t).2.2 0
    show win0_2.index t (0 : Fin 2) * 1024 + 1 * (y 0).val = _
    rw [this]; simp; omega
  have hc : (((((View.whole main_v0).slice (win0_2.rect t)).emb y) : S1024x3200.Idx) 1).val = 640 * (t.val / 8 % 5) + (y 1).val := by
    have := congrFun (idxs t).2.2 1
    show win0_2.index t (1 : Fin 2) * 640 + 1 * (y 1).val = _
    rw [this]; simp; omega
  unfold G
  rw [hr, hc, ← sum_part (V m c main_arg0) (V m c main_arg1) 1024 640 2048 40 5 8 t.val _ _ rfl (by decide)]
  refine Eq.trans (α := EReal) (show acc m c t.val t.isLt y = _ from if_pos h1).symm ?_
  exact (Pipeline.eq_sum_of_reset_step_apply_of_mod (acc m c) 8 (fun _ => 0) (fun n y => part (V m c main_arg0) (V m c main_arg1) 1024 640 2048 40 5 8 n (y 0).val (y 1).val)
    (acc_reset m c) (acc_step m c) t h1 y).trans (zero_add _)

open Cert.BInDwRefIdeal in
/-- The claim: the kernel and the reference end with equal results. -/
theorem algebraic : Cert.algebraic_BInDwIdeal_BInDwRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.BInDwRefIdeal.Value.run m' g')⟩
  rw [(hm c).1, (hm c).2]
  funext i
  idx_vars i
  rw [show G m c (ix2 i0 i1) = prod (V m c main_arg0) (V m c main_arg1) 16384 i0.val i1.val from rfl, prod_of _ _ i0.isLt i1.isLt]
  entry_read
  pointwise
  exact Finset.sum_congr rfl fun k _ => mul_comm (G := EReal) _ _

end Cert.BInDwIdeal.Value
end
-- ==== Proof.BInDxValue.lean ====
/- The gradient of the gated linear attention's input: the array that the run leaves is the product that the reference computes, entry by entry. -/
module

public import proofs.«01_k».proof.Proof.Gen.BInDxIdeal.Value
public import proofs.«01_k».proof.Proof.Gen.BInDxRefIdeal.Run
public import proofs.«01_k».proof.Proof.Products
public import proofs.«01_k».proof.Defs
public import Idealize.ShloMosaic.Lib.Pipeline.ReadBack

@[expose] public section

set_option maxRecDepth 16384

noncomputable section

namespace Cert.BInDxIdeal.Value

open Cert.Products Cert.BInDxIdeal Cert.BInDxIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x3200 .bf16) (x1 : Vec Ideal S3200x512 .bf16) (y : S1024x512.Idx) :
    k0_pay1 x0 x1 y = ∑ k : Fin 3200, x0 (ix2 (y 0) k) * x1 (ix2 k (y 1)) := by
  pointwise [k0_pay1]

theorem idxs : ∀ t : Fin cfg0.N, win0_0.index t = ![t.val / 2, 0] ∧ win0_1.index t = ![0, t.val % 2]
    ∧ win0_2.index t = ![t.val / 2, t.val % 2] := (by decide +kernel : ∀ t : Fin grid0.N, _)

theorem x0_apply (c : Dev nD) (t : Fin cfg0.N) (y : S1024x3200.Idx) :
    iblk m c 0 t y = at2 (V m c main_arg0) (1024 * (t.val / 2) + (y 0).val) ((y 1).val) := by
  idx_vars y
  have hN : t.val < 32 := lt_of_lt_of_eq t.isLt (show cfg0.N = 32 from N_0)
  rw [← at2_of _ _ _ (by show _ < 16384; simp <;> omega) (by show _ < 3200; simp <;> omega)]
  blk_ext [iblk, idxs t]

theorem x1_apply (c : Dev nD) (t : Fin cfg0.N) (y : S3200x512.Idx) :
    iblk m c 1 t y = at2 (V m c main_v2) ((y 0).val) (512 * (t.val % 2) + (y 1).val) := by
  idx_vars y
  have hN : t.val < 32 := lt_of_lt_of_eq t.isLt (show cfg0.N = 32 from N_0)
  rw [← at2_of _ _ _ (by show _ < 3200; simp <;> omega) (by show _ < 1024; simp <;> omega)]
  blk_ext [iblk, idxs t]

/-- The result array, entry by entry. -/
def G (c : Dev nD) : Buf (Elt Ideal) ((c : Thread nD τ).loc main_v3) := fun i : S16384x1024.Idx =>
  prod (V m c main_arg0) (V m c main_v2) 3200 (i 0).val (i 1).val

theorem pay1_block (c : Dev nD) (t : Fin cfg0.N) (y : S1024x512.Idx) : k0_pay1 (iblk m c 0 t) (iblk m c 1 t) y
    = prod (V m c main_arg0) (V m c main_v2) 3200 (1024 * (t.val / 2) + (y 0).val) (512 * (t.val % 2) + (y 1).val) := by
  rw [pay1_apply]
  refine Finset.sum_congr rfl fun k _ => ?_
  rw [x0_apply, x1_apply]
  rfl

theorem final_eq (c : Dev nD) : (dats m 0 c).arrAt 2 cfg0.N = G m c := by
  refine (dats m 0 c).arrAt_eq_of_covers 2 _ (by decide +kernel) fun t hf y => ?_
  have hN : t.val < 32 := lt_of_lt_of_eq t.isLt (show cfg0.N = 32 from N_0)
  blk_simp
  rw [after0_2]
  frame_out
  have hr : (((((View.whole main_v3).slice (win0_2.rect t)).emb y) : S16384x1024.Idx) 0).val = 1024 * (t.val / 2) + (y 0).val := by
    have := congrFun (idxs t).2.2 0
    show win0_2.index t (0 : Fin 2) * 1024 + 1 * (y 0).val = _
    rw [this]; simp; omega
  have hc : (((((View.whole main_v3).slice (win0_2.rect t)).emb y) : S16384x1024.Idx) 1).val = 512 * (t.val % 2) + (y 1).val := by
    have := congrFun (idxs t).2.2 1
    show win0_2.index t (1 : Fin 2) * 512 + 1 * (y 1).val = _
    rw [this]; simp; omega
  unfold G
  rw [hr, hc]
  exact pay1_block m c t y

theorem transpose_cols (x : Vec Ideal S1024x3200 .bf16) (k : Fin 3200) (j : Fin 1024) :
    transpose S3200x1024 [1, 0] x transposes_S1024x3200_S3200x1024_1_0 (ix2 k j) = x (ix2 j k) := by
  pointwise

/-- The weight, a matrix of extended reals. -/
abbrev weight (c : Dev nD) : S1024x3104.Idx → EReal := m ((c : Thread nD τ).loc main_arg1)

/-- The kernel's right operand: the transposed weight, with 96 rows of zeros after its own. -/
theorem V_v2 (c : Dev nD) : V m c main_v2 = transpose S3200x1024 [1, 0] (pad S1024x3200 ![0, 0] ![0, 96] ![0, 0]
    (truncf (F := Ideal) (s := S1024x3104) .bf16 (m ((c : Thread nD τ).loc main_arg1)) bitsLt_bf16_f32)
    (sitofp (F := Ideal) .bf16 (constantI S_ 32 0#32)) pads_S1024x3104_S1024x3200_000_0960 h_S_)
    transposes_S1024x3200_S3200x1024_1_0 := by
  entry_read
  rfl

theorem V_v2_apply (c : Dev nD) (k : Fin 3200) (j : Fin 1024) : (V m c main_v2 : S3200x1024.Idx → EReal) (ix2 k j)
    = if hk : k.val < 3104 then weight m c (ix2 j ⟨k.val, hk⟩) else 0 := by
  rw [V_v2]
  refine Eq.trans ?_ (pad_cols (truncf (F := Ideal) (s := S1024x3104) .bf16 (m ((c : Thread nD τ).loc main_arg1)) bitsLt_bf16_f32)
    (sitofp (F := Ideal) .bf16 (constantI S_ 32 0#32)) pads_S1024x3104_S1024x3200_000_0960 h_S_ (sitofp_zero _ _) j k)
  exact transpose_cols _ k j

open Cert.BInDxRefIdeal in
/-- The claim: the kernel and the reference end with equal results. -/
theorem algebraic : Cert.algebraic_BInDxIdeal_BInDxRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.BInDxRefIdeal.Value.run m' g')⟩
  rw [(hm c).1, (hm c).2]
  funext i
  idx_vars i
  rw [show G m c (ix2 i0 i1) = prod (V m c main_arg0) (V m c main_v2) 3200 i0.val i1.val from rfl, prod_of _ _ i0.isLt i1.isLt]
  refine Eq.trans ?_ (prod_zero_rows (n := 3104) (q := 96) (V m c main_arg0) (V m c main_v2) (weight m c) (V_v2_apply m c) i0 i1).symm
  entry_read
  pointwise
  rfl

end Cert.BInDxIdeal.Value
end
-- ==== Proof.AInValue.lean ====
/- The attention's input projection: the array that the run leaves is the product that the reference computes, entry by entry. -/
module

public import proofs.«01_k».proof.Proof.Gen.AInIdeal.Value
public import proofs.«01_k».proof.Proof.Gen.AInRefIdeal.Run
public import proofs.«01_k».proof.Proof.Products
public import proofs.«01_k».proof.Defs
public import Idealize.ShloMosaic.Lib.Pipeline.ReadBack

@[expose] public section

set_option maxRecDepth 16384

noncomputable section

namespace Cert.AInIdeal.Value

open Cert.Products Cert.AInIdeal Cert.AInIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x1024 .bf16) (x1 : Vec Ideal S1024x1536 .bf16) (y : S1024x1536.Idx) :
    k0_pay1 x0 x1 y = ∑ k : Fin 1024, x0 (ix2 (y 0) k) * x1 (ix2 k (y 1)) := by
  pointwise [k0_pay1]

theorem idxs : ∀ t : Fin cfg0.N, win0_0.index t = ![t.val / 2, 0] ∧ win0_1.index t = ![0, t.val % 2]
    ∧ win0_2.index t = ![t.val / 2, t.val % 2] := (by decide +kernel : ∀ t : Fin grid0.N, _)

theorem x0_apply (c : Dev nD) (t : Fin cfg0.N) (y : S1024x1024.Idx) :
    iblk m c 0 t y = at2 (V m c main_arg0) (1024 * (t.val / 2) + (y 0).val) ((y 1).val) := by
  idx_vars y
  have hN : t.val < 32 := lt_of_lt_of_eq t.isLt (show cfg0.N = 32 from N_0)
  rw [← at2_of _ _ _ (by show _ < 16384; simp <;> omega) (by show _ < 1024; simp <;> omega)]
  blk_ext [iblk, idxs t]

theorem x1_apply (c : Dev nD) (t : Fin cfg0.N) (y : S1024x1536.Idx) :
    iblk m c 1 t y = at2 (V m c main_v0) ((y 0).val) (1536 * (t.val % 2) + (y 1).val) := by
  idx_vars y
  have hN : t.val < 32 := lt_of_lt_of_eq t.isLt (show cfg0.N = 32 from N_0)
  rw [← at2_of _ _ _ (by show _ < 1024; simp <;> omega) (by show _ < 3072; simp <;> omega)]
  blk_ext [iblk, idxs t]

/-- The result array, entry by entry. -/
def G (c : Dev nD) : Buf (Elt Ideal) ((c : Thread nD τ).loc main_v1) := fun i : S16384x3072.Idx =>
  prod (V m c main_arg0) (V m c main_v0) 1024 (i 0).val (i 1).val

theorem pay1_block (c : Dev nD) (t : Fin cfg0.N) (y : S1024x1536.Idx) : k0_pay1 (iblk m c 0 t) (iblk m c 1 t) y
    = prod (V m c main_arg0) (V m c main_v0) 1024 (1024 * (t.val / 2) + (y 0).val) (1536 * (t.val % 2) + (y 1).val) := by
  rw [pay1_apply]
  refine Finset.sum_congr rfl fun k _ => ?_
  rw [x0_apply, x1_apply]
  rfl

theorem final_eq (c : Dev nD) : (dats m 0 c).arrAt 2 cfg0.N = G m c := by
  refine (dats m 0 c).arrAt_eq_of_covers 2 _ (by decide +kernel) fun t hf y => ?_
  have hN : t.val < 32 := lt_of_lt_of_eq t.isLt (show cfg0.N = 32 from N_0)
  blk_simp
  rw [after0_2]
  frame_out
  have hr : (((((View.whole main_v1).slice (win0_2.rect t)).emb y) : S16384x3072.Idx) 0).val = 1024 * (t.val / 2) + (y 0).val := by
    have := congrFun (idxs t).2.2 0
    show win0_2.index t (0 : Fin 2) * 1024 + 1 * (y 0).val = _
    rw [this]; simp; omega
  have hc : (((((View.whole main_v1).slice (win0_2.rect t)).emb y) : S16384x3072.Idx) 1).val = 1536 * (t.val % 2) + (y 1).val := by
    have := congrFun (idxs t).2.2 1
    show win0_2.index t (1 : Fin 2) * 1536 + 1 * (y 1).val = _
    rw [this]; simp; omega
  unfold G
  rw [hr, hc]
  exact pay1_block m c t y

open Cert.AInRefIdeal in
/-- The claim: the kernel and the reference end with equal results. -/
theorem algebraic : Cert.algebraic_AInIdeal_AInRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.AInRefIdeal.Value.run m' g')⟩
  rw [(hm c).1, (hm c).2]
  funext i
  idx_vars i
  rw [show G m c (ix2 i0 i1) = prod (V m c main_arg0) (V m c main_v0) 1024 i0.val i1.val from rfl, prod_of _ _ i0.isLt i1.isLt]
  entry_read
  pointwise
  rfl

end Cert.AInIdeal.Value
end
-- ==== Proof.OutValue.lean ====
/- A mixer's output projection, added to the residual: the array that the run leaves is the product that the reference computes, entry by entry. -/
module

public import proofs.«01_k».proof.Proof.Gen.OutIdeal.Value
public import proofs.«01_k».proof.Proof.Gen.OutRefIdeal.Run
public import proofs.«01_k».proof.Proof.Products
public import proofs.«01_k».proof.Defs
public import Idealize.ShloMosaic.Lib.Pipeline.ReadBack

@[expose] public section

set_option maxRecDepth 16384

noncomputable section

namespace Cert.OutIdeal.Value

open Cert.Products Cert.OutIdeal Cert.OutIdeal.Gen Idealize.ShloMosaic Idealize.ShloMosaic.TcCoe Idealize.SL.Sem

variable (m : (ℓ : Loc nD τ sig) → Buf (Elt Ideal) ℓ) (ρ : Dev nD → PrngReg)

/-- What one grid point stores: the product of its blocks, added to the residual's block. -/
theorem pay1_apply (x0 : Vec Ideal S1024x1024 .bf16) (x1 : Vec Ideal S1024x512 .bf16) (x2 : Vec Ideal S1024x512 .f32)
    (y : S1024x512.Idx) : k0_pay1 x0 x1 x2 y = ∑ k : Fin 1024, x0 (ix2 (y 0) k) * x1 (ix2 k (y 1)) + x2 y := by
  pointwise [k0_pay1]

theorem idxs : ∀ t : Fin cfg0.N, win0_0.index t = ![t.val / 2, 0] ∧ win0_1.index t = ![0, t.val % 2]
    ∧ win0_2.index t = ![t.val / 2, t.val % 2]
    ∧ win0_3.index t = ![t.val / 2, t.val % 2] := (by decide +kernel : ∀ t : Fin grid0.N, _)

theorem x0_apply (c : Dev nD) (t : Fin cfg0.N) (y : S1024x1024.Idx) :
    iblk m c 0 t y = at2 (V m c main_arg0) (1024 * (t.val / 2) + (y 0).val) ((y 1).val) := by
  idx_vars y
  have hN : t.val < 32 := lt_of_lt_of_eq t.isLt (show cfg0.N = 32 from N_0)
  rw [← at2_of _ _ _ (by show _ < 16384; simp <;> omega) (by show _ < 1024; simp <;> omega)]
  blk_ext [iblk, idxs t]

theorem x1_apply (c : Dev nD) (t : Fin cfg0.N) (y : S1024x512.Idx) :
    iblk m c 1 t y = at2 (V m c main_v0) ((y 0).val) (512 * (t.val % 2) + (y 1).val) := by
  idx_vars y
  have hN : t.val < 32 := lt_of_lt_of_eq t.isLt (show cfg0.N = 32 from N_0)
  rw [← at2_of _ _ _ (by show _ < 1024; simp <;> omega) (by show _ < 1024; simp <;> omega)]
  blk_ext [iblk, idxs t]

theorem x2_apply (c : Dev nD) (t : Fin cfg0.N) (y : S1024x512.Idx) :
    iblk m c 2 t y = at2 (V m c main_arg2) (1024 * (t.val / 2) + (y 0).val) (512 * (t.val % 2) + (y 1).val) := by
  idx_vars y
  have hN : t.val < 32 := lt_of_lt_of_eq t.isLt (show cfg0.N = 32 from N_0)
  rw [← at2_of _ _ _ (by show _ < 16384; simp <;> omega) (by show _ < 1024; simp <;> omega)]
  blk_ext [iblk, idxs t]

/-- The result array, entry by entry. -/
def G (c : Dev nD) : Buf (Elt Ideal) ((c : Thread nD τ).loc main_v1) := fun i : S16384x1024.Idx =>
  prod (V m c main_arg0) (V m c main_v0) 1024 (i 0).val (i 1).val + at2 (V m c main_arg2) (i 0).val (i 1).val

theorem pay1_block (c : Dev nD) (t : Fin cfg0.N) (y : S1024x512.Idx) : k0_pay1 (iblk m c 0 t) (iblk m c 1 t) (iblk m c 2 t) y
    = prod (V m c main_arg0) (V m c main_v0) 1024 (1024 * (t.val / 2) + (y 0).val) (512 * (t.val % 2) + (y 1).val)
      + at2 (V m c main_arg2) (1024 * (t.val / 2) + (y 0).val) (512 * (t.val % 2) + (y 1).val) := by
  rw [pay1_apply, x2_apply]
  refine congrArg (· + _) (Finset.sum_congr rfl fun k _ => ?_)
  rw [x0_apply, x1_apply]
  rfl

theorem final_eq (c : Dev nD) : (dats m 0 c).arrAt 3 cfg0.N = G m c := by
  refine (dats m 0 c).arrAt_eq_of_covers 3 _ (by decide +kernel) fun t hf y => ?_
  have hN : t.val < 32 := lt_of_lt_of_eq t.isLt (show cfg0.N = 32 from N_0)
  blk_simp
  rw [after0_3]
  frame_out
  have hr : (((((View.whole main_v1).slice (win0_3.rect t)).emb y) : S16384x1024.Idx) 0).val = 1024 * (t.val / 2) + (y 0).val := by
    have := congrFun (idxs t).2.2.2 0
    show win0_3.index t (0 : Fin 2) * 1024 + 1 * (y 0).val = _
    rw [this]; simp; omega
  have hc : (((((View.whole main_v1).slice (win0_3.rect t)).emb y) : S16384x1024.Idx) 1).val = 512 * (t.val % 2) + (y 1).val := by
    have := congrFun (idxs t).2.2.2 1
    show win0_3.index t (1 : Fin 2) * 512 + 1 * (y 1).val = _
    rw [this]; simp; omega
  unfold G
  rw [hr, hc]
  exact pay1_block m c t y

open Cert.OutRefIdeal in
/-- The claim: the kernel and the reference end with equal results. -/
theorem algebraic : Cert.algebraic_OutIdeal_OutRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.OutRefIdeal.Value.run m' g')⟩
  rw [(hm c).1, (hm c).2.1, (hm c).2.2]
  funext i
  idx_vars i
  rw [show G m c (ix2 i0 i1) = prod (V m c main_arg0) (V m c main_v0) 1024 i0.val i1.val + at2 (V m c main_arg2) i0.val i1.val from rfl, prod_of _ _ i0.isLt i1.isLt,
    ← at2_of _ _ _ i0.isLt i1.isLt]
  entry_read
  pointwise
  exact add_comm (G := EReal) _ _

end Cert.OutIdeal.Value
end
-- ==== Proof.BInValue.lean ====
/- The gated linear attention's input projection: the array that the run leaves is the product that the reference computes, entry by entry. -/
module

public import proofs.«01_k».proof.Proof.Gen.BInIdeal.Value
public import proofs.«01_k».proof.Proof.Gen.BInRefIdeal.Run
public import proofs.«01_k».proof.Proof.Products
public import proofs.«01_k».proof.Defs
public import Idealize.ShloMosaic.Lib.Pipeline.ReadBack

@[expose] public section

set_option maxRecDepth 16384

noncomputable section

namespace Cert.BInIdeal.Value

open Cert.Products Cert.BInIdeal Cert.BInIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x1024 .bf16) (x1 : Vec Ideal S1024x640 .bf16) (y : S1024x640.Idx) :
    k0_pay1 x0 x1 y = ∑ k : Fin 1024, x0 (ix2 (y 0) k) * x1 (ix2 k (y 1)) := by
  pointwise [k0_pay1]

theorem idxs : ∀ t : Fin cfg0.N, win0_0.index t = ![t.val / 5, 0] ∧ win0_1.index t = ![0, t.val % 5]
    ∧ win0_2.index t = ![t.val / 5, t.val % 5] := (by decide +kernel : ∀ t : Fin grid0.N, _)

theorem x0_apply (c : Dev nD) (t : Fin cfg0.N) (y : S1024x1024.Idx) :
    iblk m c 0 t y = at2 (V m c main_arg0) (1024 * (t.val / 5) + (y 0).val) ((y 1).val) := by
  idx_vars y
  have hN : t.val < 80 := lt_of_lt_of_eq t.isLt (show cfg0.N = 80 from N_0)
  rw [← at2_of _ _ _ (by show _ < 16384; simp <;> omega) (by show _ < 1024; simp <;> omega)]
  blk_ext [iblk, idxs t]

theorem x1_apply (c : Dev nD) (t : Fin cfg0.N) (y : S1024x640.Idx) :
    iblk m c 1 t y = at2 (V m c main_v1) ((y 0).val) (640 * (t.val % 5) + (y 1).val) := by
  idx_vars y
  have hN : t.val < 80 := lt_of_lt_of_eq t.isLt (show cfg0.N = 80 from N_0)
  rw [← at2_of _ _ _ (by show _ < 1024; simp <;> omega) (by show _ < 3200; simp <;> omega)]
  blk_ext [iblk, idxs t]

/-- The result array, entry by entry. -/
def G (c : Dev nD) : Buf (Elt Ideal) ((c : Thread nD τ).loc main_v2) := fun i : S16384x3200.Idx =>
  prod (V m c main_arg0) (V m c main_v1) 1024 (i 0).val (i 1).val

theorem pay1_block (c : Dev nD) (t : Fin cfg0.N) (y : S1024x640.Idx) : k0_pay1 (iblk m c 0 t) (iblk m c 1 t) y
    = prod (V m c main_arg0) (V m c main_v1) 1024 (1024 * (t.val / 5) + (y 0).val) (640 * (t.val % 5) + (y 1).val) := by
  rw [pay1_apply]
  refine Finset.sum_congr rfl fun k _ => ?_
  rw [x0_apply, x1_apply]
  rfl

theorem final_eq (c : Dev nD) : (dats m 0 c).arrAt 2 cfg0.N = G m c := by
  refine (dats m 0 c).arrAt_eq_of_covers 2 _ (by decide +kernel) fun t hf y => ?_
  have hN : t.val < 80 := lt_of_lt_of_eq t.isLt (show cfg0.N = 80 from N_0)
  blk_simp
  rw [after0_2]
  frame_out
  have hr : (((((View.whole main_v2).slice (win0_2.rect t)).emb y) : S16384x3200.Idx) 0).val = 1024 * (t.val / 5) + (y 0).val := by
    have := congrFun (idxs t).2.2 0
    show win0_2.index t (0 : Fin 2) * 1024 + 1 * (y 0).val = _
    rw [this]; simp; omega
  have hc : (((((View.whole main_v2).slice (win0_2.rect t)).emb y) : S16384x3200.Idx) 1).val = 640 * (t.val % 5) + (y 1).val := by
    have := congrFun (idxs t).2.2 1
    show win0_2.index t (1 : Fin 2) * 640 + 1 * (y 1).val = _
    rw [this]; simp; omega
  unfold G
  rw [hr, hc]
  exact pay1_block m c t y

/-- The weight, a matrix of extended reals. -/
abbrev weight (c : Dev nD) : S1024x3104.Idx → EReal := m ((c : Thread nD τ).loc main_arg1)

/-- The kernel's right operand: the weight with 96 columns of zeros after its own. -/
theorem V_v1 (c : Dev nD) : V m c main_v1 = pad S1024x3200 ![0, 0] ![0, 96] ![0, 0]
    (truncf (F := Ideal) (s := S1024x3104) .bf16 (m ((c : Thread nD τ).loc main_arg1)) bitsLt_bf16_f32)
    (sitofp (F := Ideal) .bf16 (constantI S_ 32 0#32)) pads_S1024x3104_S1024x3200_000_0960 h_S_ := by
  entry_read
  rfl

theorem V_v1_apply (c : Dev nD) (k : Fin 1024) (j : Fin 3200) : (V m c main_v1 : S1024x3200.Idx → EReal) (ix2 k j)
    = if hj : j.val < 3104 then weight m c (ix2 k ⟨j.val, hj⟩) else 0 := by
  rw [V_v1]
  exact pad_cols _ _ pads_S1024x3104_S1024x3200_000_0960 h_S_ (sitofp_zero _ _) k j

open Cert.BInRefIdeal in
/-- The claim: the kernel and the reference end with equal results. -/
theorem algebraic : Cert.algebraic_BInIdeal_BInRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.BInRefIdeal.Value.run m' g')⟩
  rw [(hm c).1, (hm c).2]
  funext i
  idx_vars i
  rw [show G m c (ix2 i0 i1) = prod (V m c main_arg0) (V m c main_v1) 1024 i0.val i1.val from rfl, prod_of _ _ i0.isLt i1.isLt]
  refine (pad_cols _ _ Cert.BInRefIdeal.Gen.pads_S16384x3104_S16384x3200_000_0960 Cert.BInRefIdeal.Gen.h_S_ (sitofp_zero _ _) i0 i1).trans ?_
  refine Eq.trans ?_ (prod_zero_cols (V m c main_arg0) (V m c main_v1) (weight m c) (V_v1_apply m c) i0 i1).symm
  entry_read
  by_cases hj : i1.val < 3104
  · rw [dif_pos hj, dif_pos hj]
    pointwise
    rfl
  · rw [dif_neg hj, dif_neg hj]

end Cert.BInIdeal.Value
end
-- ==== Proof.UpValue.lean ====
/- The up projection: the array that the run leaves is the product that the reference computes, entry by entry. -/
module

public import proofs.«01_k».proof.Proof.Gen.UpIdeal.Value
public import proofs.«01_k».proof.Proof.Gen.UpRefIdeal.Run
public import proofs.«01_k».proof.Proof.Products
public import proofs.«01_k».proof.Defs
public import Idealize.ShloMosaic.Lib.Pipeline.ReadBack

@[expose] public section

set_option maxRecDepth 16384

noncomputable section

namespace Cert.UpIdeal.Value

open Cert.Products Cert.UpIdeal Cert.UpIdeal.Gen Idealize.ShloMosaic Idealize.ShloMosaic.TcCoe Idealize.SL.Sem

variable (m : (ℓ : Loc nD τ sig) → Buf (Elt Ideal) ℓ) (ρ : Dev nD → PrngReg)

/-- The product of a grid point's blocks, entry by entry. -/
theorem pay1_apply (x0 : Vec Ideal S1024x1024 .bf16) (x1 : Vec Ideal S1024x1408 .bf16) (y : S1024x1408.Idx) :
    k0_pay1 x0 x1 y = ∑ k : Fin 1024, x0 (ix2 (y 0) k) * x1 (ix2 k (y 1)) := by
  pointwise [k0_pay1]

theorem idxs : ∀ t : Fin cfg0.N, win0_0.index t = ![t.val / 4, 0] ∧ win0_1.index t = ![0, t.val % 4]
    ∧ win0_2.index t = ![t.val / 4, t.val % 4] := (by decide +kernel : ∀ t : Fin grid0.N, _)

theorem x0_apply (c : Dev nD) (t : Fin cfg0.N) (y : S1024x1024.Idx) :
    iblk m c 0 t y = at2 (V m c main_arg0) (1024 * (t.val / 4) + (y 0).val) ((y 1).val) := by
  idx_vars y
  have hN : t.val < 64 := lt_of_lt_of_eq t.isLt (show cfg0.N = 64 from N_0)
  rw [← at2_of _ _ _ (by show _ < 16384; simp <;> omega) (by show _ < 1024; simp <;> omega)]
  blk_ext [iblk, idxs t]

theorem x1_apply (c : Dev nD) (t : Fin cfg0.N) (y : S1024x1408.Idx) :
    iblk m c 1 t y = at2 (V m c main_v0) ((y 0).val) (1408 * (t.val % 4) + (y 1).val) := by
  idx_vars y
  have hN : t.val < 64 := lt_of_lt_of_eq t.isLt (show cfg0.N = 64 from N_0)
  rw [← at2_of _ _ _ (by show _ < 1024; simp <;> omega) (by show _ < 5632; simp <;> omega)]
  blk_ext [iblk, idxs t]

/-- The result array, entry by entry. -/
def G (c : Dev nD) : Buf (Elt Ideal) ((c : Thread nD τ).loc main_v1) := fun i : S16384x5632.Idx =>
  prod (V m c main_arg0) (V m c main_v0) 1024 (i 0).val (i 1).val

theorem pay1_block (c : Dev nD) (t : Fin cfg0.N) (y : S1024x1408.Idx) : k0_pay1 (iblk m c 0 t) (iblk m c 1 t) y
    = prod (V m c main_arg0) (V m c main_v0) 1024 (1024 * (t.val / 4) + (y 0).val) (1408 * (t.val % 4) + (y 1).val) := by
  rw [pay1_apply]
  refine Finset.sum_congr rfl fun k _ => ?_
  rw [x0_apply, x1_apply]
  rfl

theorem final_eq (c : Dev nD) : (dats m 0 c).arrAt 2 cfg0.N = G m c := by
  refine (dats m 0 c).arrAt_eq_of_covers 2 _ (by decide +kernel) fun t hf y => ?_
  have hN : t.val < 64 := lt_of_lt_of_eq t.isLt (show cfg0.N = 64 from N_0)
  blk_simp
  rw [after0_2]
  frame_out
  have hr : (((((View.whole main_v1).slice (win0_2.rect t)).emb y) : S16384x5632.Idx) 0).val = 1024 * (t.val / 4) + (y 0).val := by
    have := congrFun (idxs t).2.2 0
    show win0_2.index t (0 : Fin 2) * 1024 + 1 * (y 0).val = _
    rw [this]; simp; omega
  have hc : (((((View.whole main_v1).slice (win0_2.rect t)).emb y) : S16384x5632.Idx) 1).val = 1408 * (t.val % 4) + (y 1).val := by
    have := congrFun (idxs t).2.2 1
    show win0_2.index t (1 : Fin 2) * 1408 + 1 * (y 1).val = _
    rw [this]; simp; omega
  unfold G
  rw [hr, hc]
  exact pay1_block m c t y

open Cert.UpRefIdeal in
/-- The claim: the kernel and the reference end with equal results. -/
theorem algebraic : Cert.algebraic_UpIdeal_UpRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.UpRefIdeal.Value.run m' g')⟩
  rw [(hm c).1, (hm c).2]
  funext i
  idx_vars i
  rw [show G m c (ix2 i0 i1) = prod (V m c main_arg0) (V m c main_v0) 1024 i0.val i1.val from rfl, prod_of _ _ i0.isLt i1.isLt]
  entry_read
  pointwise
  rfl

end Cert.UpIdeal.Value
end
-- ==== Proof.DownValue.lean ====
/- The down projection, added to the residual: the array that the run leaves is the product that the reference computes, entry by entry. -/
module

public import proofs.«01_k».proof.Proof.Gen.DownIdeal.Value
public import proofs.«01_k».proof.Proof.Gen.DownRefIdeal.Run
public import proofs.«01_k».proof.Proof.Products
public import proofs.«01_k».proof.Defs
public import Idealize.ShloMosaic.Lib.Pipeline.ReadBack

@[expose] public section

set_option maxRecDepth 16384

noncomputable section

namespace Cert.DownIdeal.Value

open Cert.Products Cert.DownIdeal Cert.DownIdeal.Gen Idealize.ShloMosaic Idealize.ShloMosaic.TcCoe Idealize.SL.Sem

variable (m : (ℓ : Loc nD τ sig) → Buf (Elt Ideal) ℓ) (ρ : Dev nD → PrngReg)

/-- What one grid point stores: the product of its blocks, added to the residual's block. -/
theorem pay1_apply (x0 : Vec Ideal S1024x2816 .bf16) (x1 : Vec Ideal S2816x512 .bf16) (x2 : Vec Ideal S1024x512 .f32)
    (y : S1024x512.Idx) : k0_pay1 x0 x1 x2 y = ∑ k : Fin 2816, x0 (ix2 (y 0) k) * x1 (ix2 k (y 1)) + x2 y := by
  pointwise [k0_pay1]

theorem idxs : ∀ t : Fin cfg0.N, win0_0.index t = ![t.val / 2, 0] ∧ win0_1.index t = ![0, t.val % 2]
    ∧ win0_2.index t = ![t.val / 2, t.val % 2]
    ∧ win0_3.index t = ![t.val / 2, t.val % 2] := (by decide +kernel : ∀ t : Fin grid0.N, _)

theorem x0_apply (c : Dev nD) (t : Fin cfg0.N) (y : S1024x2816.Idx) :
    iblk m c 0 t y = at2 (V m c main_arg0) (1024 * (t.val / 2) + (y 0).val) ((y 1).val) := by
  idx_vars y
  have hN : t.val < 32 := lt_of_lt_of_eq t.isLt (show cfg0.N = 32 from N_0)
  rw [← at2_of _ _ _ (by show _ < 16384; simp <;> omega) (by show _ < 2816; simp <;> omega)]
  blk_ext [iblk, idxs t]

theorem x1_apply (c : Dev nD) (t : Fin cfg0.N) (y : S2816x512.Idx) :
    iblk m c 1 t y = at2 (V m c main_v0) ((y 0).val) (512 * (t.val % 2) + (y 1).val) := by
  idx_vars y
  have hN : t.val < 32 := lt_of_lt_of_eq t.isLt (show cfg0.N = 32 from N_0)
  rw [← at2_of _ _ _ (by show _ < 2816; simp <;> omega) (by show _ < 1024; simp <;> omega)]
  blk_ext [iblk, idxs t]

theorem x2_apply (c : Dev nD) (t : Fin cfg0.N) (y : S1024x512.Idx) :
    iblk m c 2 t y = at2 (V m c main_arg2) (1024 * (t.val / 2) + (y 0).val) (512 * (t.val % 2) + (y 1).val) := by
  idx_vars y
  have hN : t.val < 32 := lt_of_lt_of_eq t.isLt (show cfg0.N = 32 from N_0)
  rw [← at2_of _ _ _ (by show _ < 16384; simp <;> omega) (by show _ < 1024; simp <;> omega)]
  blk_ext [iblk, idxs t]

/-- The result array, entry by entry. -/
def G (c : Dev nD) : Buf (Elt Ideal) ((c : Thread nD τ).loc main_v1) := fun i : S16384x1024.Idx =>
  prod (V m c main_arg0) (V m c main_v0) 2816 (i 0).val (i 1).val + at2 (V m c main_arg2) (i 0).val (i 1).val

theorem pay1_block (c : Dev nD) (t : Fin cfg0.N) (y : S1024x512.Idx) : k0_pay1 (iblk m c 0 t) (iblk m c 1 t) (iblk m c 2 t) y
    = prod (V m c main_arg0) (V m c main_v0) 2816 (1024 * (t.val / 2) + (y 0).val) (512 * (t.val % 2) + (y 1).val)
      + at2 (V m c main_arg2) (1024 * (t.val / 2) + (y 0).val) (512 * (t.val % 2) + (y 1).val) := by
  rw [pay1_apply, x2_apply]
  refine congrArg (· + _) (Finset.sum_congr rfl fun k _ => ?_)
  rw [x0_apply, x1_apply]
  rfl

theorem final_eq (c : Dev nD) : (dats m 0 c).arrAt 3 cfg0.N = G m c := by
  refine (dats m 0 c).arrAt_eq_of_covers 3 _ (by decide +kernel) fun t hf y => ?_
  have hN : t.val < 32 := lt_of_lt_of_eq t.isLt (show cfg0.N = 32 from N_0)
  blk_simp
  rw [after0_3]
  frame_out
  have hr : (((((View.whole main_v1).slice (win0_3.rect t)).emb y) : S16384x1024.Idx) 0).val = 1024 * (t.val / 2) + (y 0).val := by
    have := congrFun (idxs t).2.2.2 0
    show win0_3.index t (0 : Fin 2) * 1024 + 1 * (y 0).val = _
    rw [this]; simp; omega
  have hc : (((((View.whole main_v1).slice (win0_3.rect t)).emb y) : S16384x1024.Idx) 1).val = 512 * (t.val % 2) + (y 1).val := by
    have := congrFun (idxs t).2.2.2 1
    show win0_3.index t (1 : Fin 2) * 512 + 1 * (y 1).val = _
    rw [this]; simp; omega
  unfold G
  rw [hr, hc]
  exact pay1_block m c t y

open Cert.DownRefIdeal in
/-- The claim: the kernel and the reference end with equal results. -/
theorem algebraic : Cert.algebraic_DownIdeal_DownRefIdeal := by
  intro m g m' g' _ hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.DownRefIdeal.Value.run m' g')⟩
  rw [(hm c).1, (hm c).2.1, (hm c).2.2]
  funext i
  idx_vars i
  rw [show G m c (ix2 i0 i1) = prod (V m c main_arg0) (V m c main_v0) 2816 i0.val i1.val + at2 (V m c main_arg2) i0.val i1.val from rfl, prod_of _ _ i0.isLt i1.isLt,
    ← at2_of _ _ _ i0.isLt i1.isLt]
  entry_read
  pointwise
  exact add_comm (G := EReal) _ _

end Cert.DownIdeal.Value
end
-- ==== Proof.Silu.lean ====
/- SwiGLU's entry and the entries of its gradient, over the extended reals. -/
module

public import proofs.«01_k».proof.Proof.Products

@[expose] public section

noncomputable section

namespace Cert.Silu

open Cert.Products Idealize.ShloMosaic

/-- The gated entry: `silu g * u`. -/
def act (g u : EReal) : EReal := g * Ideal.logistic g * u

/-- The gradient of `act` in its gate, as the kernel writes it. -/
def dGate (g u d : EReal) : EReal := d * u * (Ideal.logistic g * (1 + g * (1 - Ideal.logistic g)))

/-- The gradient of `act` in its other factor. -/
def dUp (g d : EReal) : EReal := d * (g * Ideal.logistic g)

/-- A kernel's expansion of the logistic function. -/
theorem logistic_expand (g : EReal) :
    Ideal.div (Ideal.ofBits .f32 0x3F800000#32) (Ideal.ofBits .f32 0x3F800000#32 + Ideal.exp (Ideal.ofBits .f32 0x00000000#32 - g))
      = Ideal.logistic g := by
  rw [Ideal.ofBits_one_f32, Ideal.ofBits_zero_f32, zero_sub, Ideal.logistic]

/-- The gate's gradient as jax writes it, of finite entries. -/
theorem dGate_eq {g u d : EReal} (hg : max g (-g) < ⊤) (hu : max u (-u) < ⊤) (hd : max d (-d) < ⊤) :
    dGate g u d = d * u * Ideal.logistic g + g * (d * u) * (Ideal.logistic g * (1 - Ideal.logistic g)) := by
  have real : ∀ x : EReal, max x (-x) < ⊤ → ∃ r : ℝ, x = r := by
    intro x hx
    induction x with
    | bot => simp at hx
    | top => simp at hx
    | coe r => exact ⟨r, rfl⟩
  obtain ⟨g, rfl⟩ := real g hg
  obtain ⟨u, rfl⟩ := real u hu
  obtain ⟨d, rfl⟩ := real d hd
  unfold dGate
  rw [Ideal.logistic_coe]
  norm_cast
  ring

/-- An entry whose magnitude compares less than infinity. -/
theorem lt_top_of_cmp {x : EReal} (h : Ideal.cmp .olt (max x (-x)) (Ideal.ofBits .f32 0x7F800000#32) = 1#1) : max x (-x) < ⊤ := by
  rw [show Ideal.ofBits .f32 0x7F800000#32 = ⊤ by simp [Ideal.ofBits, Ideal.ieee]] at h
  by_contra hn
  simp [Ideal.cmp, hn] at h

/-- The gradient's entry at row `a` and column `b` of the array that has the gate's gradient in its left half. -/
def grad {n : ℕ} (A : (⟨2, ![n, 5632]⟩ : Shape).Idx → EReal) (D : (⟨2, ![n, 2816]⟩ : Shape).Idx → EReal) (a b : ℕ) : EReal :=
  if b < 2816 then dGate (at2 A a b) (at2 A a (2816 + b)) (at2 D a b) else dUp (at2 A a (b - 2816)) (at2 D a (b - 2816))

end Cert.Silu

end
-- ==== Proof.ActValue.lean ====
/- SwiGLU's pointwise part: the two arrays that the run leaves are the gated entries and their transpose. -/
module

public import proofs.«01_k».proof.Proof.Gen.ActIdeal.Value
public import proofs.«01_k».proof.Proof.Gen.ActRefIdeal.Run
public import proofs.«01_k».proof.Proof.Products
public import proofs.«01_k».proof.Proof.Silu
public import proofs.«01_k».proof.Defs
public import Idealize.ShloMosaic.Lib.Pipeline.ReadBack

@[expose] public section

set_option maxRecDepth 16384

noncomputable section

namespace Cert.ActIdeal.Value

open Cert.Products Cert.Silu Cert.ActIdeal Cert.ActIdeal.Gen Idealize.ShloMosaic Idealize.ShloMosaic.TcCoe Idealize.SL.Sem

variable (m : (ℓ : Loc nD τ sig) → Buf (Elt Ideal) ℓ) (ρ : Dev nD → PrngReg)

theorem pay1_apply (x0 x1 : Vec Ideal S512x2816 .bf16) (y : S512x2816.Idx) : k0_pay1 x0 x1 y = act (x0 y) (x1 y) := by
  unfold act
  rw [← logistic_expand]
  rfl

theorem pay2_apply (x0 x1 : Vec Ideal S512x2816 .bf16) (y : S512x2816.Idx) : k0_pay2 x0 x1 y = act (x0 y) (x1 y) :=
  pay1_apply x0 x1 y

theorem pay3_apply (x0 x1 : Vec Ideal S512x2816 .bf16) (y : S2816x512.Idx) :
    k0_pay3 x0 x1 y = act (x0 (ix2 (y 1) (y 0))) (x1 (ix2 (y 1) (y 0))) := by
  rw [← pay1_apply]
  idx_vars y
  pointwise [k0_pay3]

theorem idxs : ∀ t : Fin cfg0.N, win0_0.index t = ![t.val, 0] ∧ win0_1.index t = ![t.val, 1]
    ∧ win0_2.index t = ![t.val, 0] ∧ win0_3.index t = ![0, t.val] := (by decide +kernel : ∀ t : Fin grid0.N, _)

theorem x0_apply (c : Dev nD) (t : Fin cfg0.N) (y : S512x2816.Idx) :
    iblk m c 0 t y = at2 (V m c main_arg0) (512 * t.val + (y 0).val) ((y 1).val) := by
  idx_vars y
  have hN : t.val < 32 := lt_of_lt_of_eq t.isLt (show cfg0.N = 32 from N_0)
  rw [← at2_of _ _ _ (by show _ < 16384; simp <;> omega) (by show _ < 5632; simp <;> omega)]
  blk_ext [iblk, idxs t]

theorem x1_apply (c : Dev nD) (t : Fin cfg0.N) (y : S512x2816.Idx) :
    iblk m c 1 t y = at2 (V m c main_arg0) (512 * t.val + (y 0).val) (2816 + (y 1).val) := by
  idx_vars y
  have hN : t.val < 32 := lt_of_lt_of_eq t.isLt (show cfg0.N = 32 from N_0)
  rw [← at2_of _ _ _ (by show _ < 16384; simp <;> omega) (by show _ < 5632; simp <;> omega)]
  blk_ext [iblk, idxs t]

/-- The gated entry at row `a` and column `b`. -/
def gated (c : Dev nD) (a b : ℕ) : EReal := act (at2 (V m c main_arg0) a b) (at2 (V m c main_arg0) a (2816 + b))

/-- The first result, entry by entry. -/
def G (c : Dev nD) : Buf (Elt Ideal) ((c : Thread nD τ).loc main_v0_0) := fun i : S16384x2816.Idx => gated m c (i 0).val (i 1).val

/-- The second result, entry by entry. -/
def GT (c : Dev nD) : Buf (Elt Ideal) ((c : Thread nD τ).loc main_v0_1) := fun i : S2816x16384.Idx => gated m c (i 1).val (i 0).val

theorem pay2_block (c : Dev nD) (t : Fin cfg0.N) (y : S512x2816.Idx) :
    k0_pay2 (iblk m c 0 t) (iblk m c 1 t) y = gated m c (512 * t.val + (y 0).val) (y 1).val := by
  rw [pay2_apply, x0_apply, x1_apply]
  rfl

theorem pay3_block (c : Dev nD) (t : Fin cfg0.N) (y : S2816x512.Idx) :
    k0_pay3 (iblk m c 0 t) (iblk m c 1 t) y = gated m c (512 * t.val + (y 1).val) (y 0).val := by
  rw [pay3_apply, x0_apply, x1_apply]
  rfl

theorem final_eq (c : Dev nD) : (dats m 0 c).arrAt 2 cfg0.N = G m c := by
  refine (dats m 0 c).arrAt_eq_of_covers 2 _ (by decide +kernel) fun t hf y => ?_
  have hN : t.val < 32 := lt_of_lt_of_eq t.isLt (show cfg0.N = 32 from N_0)
  blk_simp
  rw [after0_2]
  frame_out
  have hr : (((((View.whole main_v0_0).slice (win0_2.rect t)).emb y) : S16384x2816.Idx) 0).val = 512 * t.val + (y 0).val := by
    have := congrFun (idxs t).2.2.1 0
    show win0_2.index t (0 : Fin 2) * 512 + 1 * (y 0).val = _
    rw [this]; simp; omega
  have hc : (((((View.whole main_v0_0).slice (win0_2.rect t)).emb y) : S16384x2816.Idx) 1).val = (y 1).val := by
    have := congrFun (idxs t).2.2.1 1
    show win0_2.index t (1 : Fin 2) * 2816 + 1 * (y 1).val = _
    rw [this]; simp
  unfold G
  rw [hr, hc]
  exact pay2_block m c t y

theorem final_transposed (c : Dev nD) : (dats m 0 c).arrAt 3 cfg0.N = GT m c := by
  refine (dats m 0 c).arrAt_eq_of_covers 3 _ (by decide +kernel) fun t hf y => ?_
  have hN : t.val < 32 := lt_of_lt_of_eq t.isLt (show cfg0.N = 32 from N_0)
  blk_simp
  rw [after0_3]
  frame_out
  have hr : (((((View.whole main_v0_1).slice (win0_3.rect t)).emb y) : S2816x16384.Idx) 0).val = (y 0).val := by
    have := congrFun (idxs t).2.2.2 0
    show win0_3.index t (0 : Fin 2) * 2816 + 1 * (y 0).val = _
    rw [this]; simp
  have hc : (((((View.whole main_v0_1).slice (win0_3.rect t)).emb y) : S2816x16384.Idx) 1).val = 512 * t.val + (y 1).val := by
    have := congrFun (idxs t).2.2.2 1
    show win0_3.index t (1 : Fin 2) * 512 + 1 * (y 1).val = _
    rw [this]; simp; omega
  unfold GT
  rw [hr, hc]
  exact pay3_block m c t y

open Cert.ActRefIdeal in
/-- The claim: the kernel and the reference end with equal results. -/
theorem algebraic : Cert.algebraic_ActIdeal_ActRefIdeal := by
  intro m g m' g' _ hm
  refine ⟨fun c => G m c, fun c => GT m c,
    (θ_run defs _ _).mono (fun r h c => ⟨(h c).1.trans (final_eq m c), (h c).2.1.trans (final_transposed m c), (h c).2.2⟩) (run_blocks m g),
    (θ_run _ _ _).mono (fun r h c => ⟨(h c).1.trans ?_, (h c).2.1.trans ?_, (h c).2.2⟩) (Cert.ActRefIdeal.Value.run m' g')⟩
  · rw [hm c]
    funext i
    idx_vars i
    rw [show G m c (ix2 i0 i1) = act (at2 (V m c main_arg0) i0.val i1.val) (at2 (V m c main_arg0) i0.val (2816 + i1.val)) from rfl,
      ← at2_of _ _ _ (by omega) (by omega), ← at2_of _ _ _ (by omega) (by omega)]
    entry_read
    pointwise
    rfl
  · rw [hm c]
    funext i
    idx_vars i
    rw [show GT m c (ix2 i0 i1) = act (at2 (V m c main_arg0) i1.val i0.val) (at2 (V m c main_arg0) i1.val (2816 + i0.val)) from rfl,
      ← at2_of _ _ _ (by omega) (by omega), ← at2_of _ _ _ (by omega) (by omega)]
    entry_read
    pointwise
    rfl

end Cert.ActIdeal.Value
end
-- ==== Proof.Rms.lean ====
/- The norm's entry and the entries of its gradient, over the extended reals. -/
module

public import proofs.«01_k».proof.Proof.Products

@[expose] public section

noncomputable section

namespace Cert.Rms

open Cert.Products Idealize.ShloMosaic

/-- A matrix of rows of 1024 entries. -/
abbrev Rows (n : ℕ) : Type := (⟨2, ![n, 1024]⟩ : Shape).Idx → EReal

/-- The mean of a row's squares, with the norm's epsilon. -/
def mean {n : ℕ} (X : Rows n) (a : ℕ) : EReal :=
  Ideal.div (∑ k : Fin 1024, at2 X a k * at2 X a k) (Ideal.ofBits .f32 0x44800000#32) + Ideal.ofBits .f32 0x358637BD#32

/-- What a row is scaled by. -/
def scale {n : ℕ} (X : Rows n) (a : ℕ) : EReal := Ideal.rsqrt (mean X a)

/-- The scaled entry. -/
def hat {n : ℕ} (X : Rows n) (a b : ℕ) : EReal := at2 X a b * scale X a

/-- The normed entry. -/
def normed {n : ℕ} (X : Rows n) (g : Rows 1) (a b : ℕ) : EReal := hat X a b * at2 g 0 b

/-- The gradient of the normed entries in the row's entry `b`, as the kernel writes it, added to the residual's gradient. -/
def dx {n : ℕ} (X : Rows n) (g : Rows 1) (D R : Rows n) (a b : ℕ) : EReal :=
  at2 R a b + scale X a * (at2 D a b * at2 g 0 b
    - hat X a b * Ideal.div (∑ k : Fin 1024, at2 D a k * at2 g 0 k * hat X a k) (Ideal.ofBits .f32 0x44800000#32))

/-- What row `a` adds to the gain's gradient. -/
def dg {n : ℕ} (X D : Rows n) (a b : ℕ) : EReal := at2 D a b * hat X a b

theorem at2_fin {n : ℕ} (X : Rows n) (a : Fin n) (k : Fin 1024) : at2 X a.val k.val = X (ix2 a k) := (at2_of X _ _ a.isLt k.isLt).symm

theorem at2_gain (g : Rows 1) (k : Fin 1024) : at2 g 0 k.val = g (ix2 0 k) := (at2_of g _ _ Nat.one_pos k.isLt).symm

/-- The normed entry, written with the arrays' own entries. -/
theorem normed_of {n : ℕ} (X : Rows n) (g : Rows 1) (a : Fin n) (b : Fin 1024) :
    normed X g a.val b.val = X (ix2 a b) * Ideal.rsqrt (Ideal.div (∑ k : Fin 1024, X (ix2 a k) * X (ix2 a k))
      (Ideal.ofBits .f32 0x44800000#32) + Ideal.ofBits .f32 0x358637BD#32) * g (ix2 0 b) := by
  unfold normed hat scale mean
  simp only [at2_fin, at2_gain]

/-- The gradient's entry, written with the arrays' own entries. -/
theorem dx_of {n : ℕ} (X : Rows n) (g : Rows 1) (D R : Rows n) (a : Fin n) (b : Fin 1024) :
    dx X g D R a.val b.val =
      let r := Ideal.rsqrt (Ideal.div (∑ k : Fin 1024, X (ix2 a k) * X (ix2 a k)) (Ideal.ofBits .f32 0x44800000#32) + Ideal.ofBits .f32 0x358637BD#32)
      R (ix2 a b) + r * (D (ix2 a b) * g (ix2 0 b)
        - X (ix2 a b) * r * Ideal.div (∑ k : Fin 1024, D (ix2 a k) * g (ix2 0 k) * (X (ix2 a k) * r)) (Ideal.ofBits .f32 0x44800000#32)) := by
  unfold dx hat scale mean
  simp only [at2_fin, at2_gain]

/-- The summand of the gain's gradient, written with the arrays' own entries. -/
theorem dg_of {n : ℕ} (X D : Rows n) (a : Fin n) (b : Fin 1024) :
    dg X D a.val b.val = D (ix2 a b) * (X (ix2 a b) * Ideal.rsqrt (Ideal.div (∑ k : Fin 1024, X (ix2 a k) * X (ix2 a k))
      (Ideal.ofBits .f32 0x44800000#32) + Ideal.ofBits .f32 0x358637BD#32)) := by
  unfold dg hat scale mean
  simp only [at2_fin, at2_gain]

section
variable {n n' : ℕ} {X D R : Rows n} {X' D' R' : Rows n'} {g g' : Rows 1} {a a' b : ℕ}

theorem scale_congr (h : ∀ k < 1024, at2 X a k = at2 X' a' k) : scale X a = scale X' a' := by
  unfold scale mean
  rw [Finset.sum_congr rfl fun (k : Fin 1024) _ => by rw [h k k.isLt]]

theorem hat_congr (h : ∀ k < 1024, at2 X a k = at2 X' a' k) (hb : b < 1024) : hat X a b = hat X' a' b := by
  unfold hat
  rw [h b hb, scale_congr h]

theorem normed_congr (h : ∀ k < 1024, at2 X a k = at2 X' a' k) (hg : ∀ k < 1024, at2 g 0 k = at2 g' 0 k) (hb : b < 1024) :
    normed X g a b = normed X' g' a' b := by
  unfold normed
  rw [hat_congr h hb, hg b hb]

theorem dx_congr (h : ∀ k < 1024, at2 X a k = at2 X' a' k) (hg : ∀ k < 1024, at2 g 0 k = at2 g' 0 k)
    (hD : ∀ k < 1024, at2 D a k = at2 D' a' k) (hR : ∀ k < 1024, at2 R a k = at2 R' a' k) (hb : b < 1024) :
    dx X g D R a b = dx X' g' D' R' a' b := by
  unfold dx
  rw [hR b hb, scale_congr h, hD b hb, hg b hb, hat_congr h hb,
    Finset.sum_congr rfl fun (k : Fin 1024) _ => by rw [hD k k.isLt, hg k k.isLt, hat_congr h k.isLt]]

theorem dg_congr (h : ∀ k < 1024, at2 X a k = at2 X' a' k) (hD : ∀ k < 1024, at2 D a k = at2 D' a' k) (hb : b < 1024) :
    dg X D a b = dg X' D' a' b := by
  unfold dg
  rw [hD b hb, hat_congr h hb]

end

theorem square_nonneg (z : EReal) : 0 ≤ z * z := by
  induction z with
  | bot => simp
  | top => simp
  | coe r => rw [← EReal.coe_mul]; exact_mod_cast mul_self_nonneg r

theorem add_self (z : EReal) : z + z = (2 : ℝ) * z := by
  have h := EReal.right_distrib_of_nonneg (a := 1) (b := 1) (c := z) zero_le_one zero_le_one
  rw [one_mul] at h
  rw [← h, show (2 : ℝ) = 1 + 1 by norm_num, EReal.coe_add, EReal.coe_one]

/-- A factor that is real and not negative comes out of a sum, of infinite terms too. -/
theorem mul_sum {r : ℝ} (hr : 0 ≤ r) (f : Fin 1024 → EReal) : ∑ k, (r : EReal) * f k = r * ∑ k, f k := by
  induction (Finset.univ : Finset (Fin 1024)) using Finset.induction_on with
  | empty => simp
  | insert a s ha ih =>
    rw [Finset.sum_insert ha, Finset.sum_insert ha, ih,
      EReal.left_distrib_of_nonneg_of_ne_top (EReal.coe_nonneg.mpr hr) (EReal.coe_ne_top r)]

/-- The gradient as jax writes it, through the mean of the squares, is the kernel's, of infinite entries too. -/
theorem dx_eq (x g d : Fin 1024 → EReal) (R : EReal) (b : Fin 1024) :
    let m := Ideal.div (∑ k, x k * x k) (Ideal.ofBits .f32 0x44800000#32) + Ideal.ofBits .f32 0x358637BD#32
    let q := Ideal.div ((∑ k, x k * (d k * g k)) * (Ideal.ofBits .f32 0xBF000000#32 * Ideal.div (Ideal.rsqrt m) m)) (Ideal.ofBits .f32 0x44800000#32)
    R + Ideal.rsqrt m * (d b * g b - x b * Ideal.rsqrt m * Ideal.div (∑ k, d k * g k * (x k * Ideal.rsqrt m)) (Ideal.ofBits .f32 0x44800000#32))
      = R + d b * g b * Ideal.rsqrt m + x b * q + q * x b := by
  have hN : Ideal.ofBits .f32 0x44800000#32 = ((1024 : ℝ) : EReal) := by
    simp [Ideal.ofBits, Ideal.ieee]
    rw [← EReal.coe_mul]
    norm_num
  have hH : Ideal.ofBits .f32 0xBF000000#32 = ((-(1 / 2) : ℝ) : EReal) := by
    simp [Ideal.ofBits, Ideal.ieee]
    rw [← EReal.coe_mul]
    norm_num
  obtain ⟨e, he, hE⟩ : ∃ e : ℝ, 0 < e ∧ Ideal.ofBits .f32 0x358637BD#32 = (e : EReal) := by
    refine ⟨8796093 * (2 ^ 43)⁻¹, by norm_num, ?_⟩
    simp [Ideal.ofBits, Ideal.ieee]
  have div_N (z : EReal) : Ideal.div z (Ideal.ofBits .f32 0x44800000#32) = z * ((1 / 1024 : ℝ) : EReal) := by
    rw [hN, Ideal.div_coe (by norm_num)]
  have sum : ∀ f : Fin 1024 → ℝ, ∑ k, (f k : EReal) = ((∑ k, f k : ℝ) : EReal) := fun f =>
    (map_sum (⟨⟨Real.toEReal, rfl⟩, EReal.coe_add⟩ : ℝ →+ EReal) f Finset.univ).symm
  intro m q
  by_cases hx : ∀ k, ∃ r : ℝ, x k = r
  · choose X hX using hx
    have hm : m = (((∑ k, X k * X k) / 1024 + e : ℝ) : EReal) := by
      simp only [m, div_N, hX, hE, ← EReal.coe_mul, sum]
      norm_cast
      ring_nf
    generalize hM : (∑ k, X k * X k) / 1024 + e = M at hm
    have hpos : 0 < M := by
      rw [← hM]
      have : 0 ≤ ∑ k, X k * X k := Finset.sum_nonneg fun k _ => mul_self_nonneg (X k)
      positivity
    have hr : Ideal.rsqrt m = (((Real.sqrt M)⁻¹ : ℝ) : EReal) := by
      rw [hm, Ideal.rsqrt_coe, if_neg hpos.not_gt, if_neg hpos.ne']
    have hsq : (Real.sqrt M)⁻¹ * (Real.sqrt M)⁻¹ = 1 / M := by
      rw [← mul_inv, Real.mul_self_sqrt hpos.le, one_div]
    have hr0 : 0 ≤ (Real.sqrt M)⁻¹ := inv_nonneg.mpr (Real.sqrt_nonneg M)
    simp only [q, hr, div_N, hX, hH]
    rw [hm, Ideal.div_coe hpos.ne']
    generalize (Real.sqrt M)⁻¹ = r at hsq hr0
    rw [show ∑ k, d k * g k * ((X k : EReal) * r) = r * ∑ k, (X k : EReal) * (d k * g k) by
      rw [← mul_sum hr0]
      exact Finset.sum_congr rfl fun k _ => by ac_rfl]
    generalize ∑ k, (X k : EReal) * (d k * g k) = S
    generalize d b * g b = u
    have hl : (r : EReal) * -((X b : EReal) * r * (r * S * ((1 / 1024 : ℝ) : EReal))) = ((-(r * X b * r * r * (1 / 1024)) : ℝ) : EReal) * S := by
      simp only [EReal.coe_mul, EReal.coe_neg, mul_neg, neg_mul]
      congr 1
      ac_rfl
    have hq : S * (((-(1 / 2) : ℝ) : EReal) * ((r : EReal) * ((1 / M : ℝ) : EReal))) * ((1 / 1024 : ℝ) : EReal)
        = ((-(1 / 2) * r * (1 / M) * (1 / 1024) : ℝ) : EReal) * S := by
      simp only [EReal.coe_mul]
      ac_rfl
    rw [hq, mul_comm _ (X b : EReal), add_assoc (R + u * r), add_self, sub_eq_add_neg,
      EReal.left_distrib_of_nonneg_of_ne_top (EReal.coe_nonneg.mpr hr0) (EReal.coe_ne_top r), hl, ← add_assoc, mul_comm u,
      ← mul_assoc, ← mul_assoc, ← EReal.coe_mul, ← EReal.coe_mul]
    congr 3
    linear_combination (-(X b * r / 1024)) * hsq
  · obtain ⟨k, hk⟩ := not_forall.mp hx
    have hkk : x k * x k = ⊤ := by
      induction hz : x k with
      | bot => simp
      | top => simp
      | coe r => exact absurd ⟨r, hz⟩ hk
    have hs : ∑ k, x k * x k = ⊤ :=
      top_le_iff.mp (hkk.symm.le.trans (Finset.single_le_sum (f := fun k => x k * x k) (fun i _ => square_nonneg (x i)) (Finset.mem_univ k)))
    have hm : m = ⊤ := by
      simp only [m, div_N, hs, hE]
      rw [EReal.top_mul_coe_of_pos (by norm_num), EReal.top_add_coe]
    have hd : Ideal.div 0 ⊤ = 0 := by
      simp [Ideal.div]
    simp only [q, hm, Ideal.rsqrt_top, hd, div_N, mul_zero, zero_mul, add_zero]

end Cert.Rms

end
-- ==== Proof.NormValue.lean ====
/- The norm: the two arrays that the run leaves are the normed rows and their transpose. -/
module

public import proofs.«01_k».proof.Proof.Gen.NormIdeal.Value
public import proofs.«01_k».proof.Proof.Gen.NormRefIdeal.Run
public import proofs.«01_k».proof.Proof.Products
public import proofs.«01_k».proof.Proof.Rms
public import proofs.«01_k».proof.Defs
public import Idealize.ShloMosaic.Lib.Pipeline.ReadBack

@[expose] public section

set_option maxRecDepth 16384

noncomputable section

namespace Cert.NormIdeal.Value

open Cert.Products Cert.Rms Cert.NormIdeal Cert.NormIdeal.Gen Idealize.ShloMosaic Idealize.ShloMosaic.TcCoe Idealize.SL.Sem

variable (m : (ℓ : Loc nD τ sig) → Buf (Elt Ideal) ℓ) (ρ : Dev nD → PrngReg)

theorem pay1_apply (x0 : Vec Ideal S512x1024 .f32) (x1 : Vec Ideal S1x1024 .f32) (y : S512x1024.Idx) :
    k0_pay1 x0 x1 y = normed (n := 512) x0 x1 (y 0).val (y 1).val := by
  idx_vars y
  refine Eq.trans ?_ (normed_of (n := 512) x0 x1 y0 y1).symm
  pointwise [k0_pay1]

theorem pay2_apply (x0 : Vec Ideal S512x1024 .f32) (x1 : Vec Ideal S1x1024 .f32) (y : S512x1024.Idx) :
    k0_pay2 x0 x1 y = normed (n := 512) x0 x1 (y 0).val (y 1).val :=
  pay1_apply x0 x1 y

theorem pay3_apply (x0 : Vec Ideal S512x1024 .f32) (x1 : Vec Ideal S1x1024 .f32) (y : S1024x512.Idx) :
    k0_pay3 x0 x1 y = normed (n := 512) x0 x1 (y 1).val (y 0).val := by
  rw [← show _ = normed (n := 512) x0 x1 (y 1).val (y 0).val from pay1_apply x0 x1 (ix2 (y 1) (y 0))]
  idx_vars y
  pointwise [k0_pay3]

theorem idxs : ∀ t : Fin cfg0.N, win0_0.index t = ![t.val, 0] ∧ win0_1.index t = ![0, 0]
    ∧ win0_2.index t = ![t.val, 0] ∧ win0_3.index t = ![0, t.val] := (by decide +kernel : ∀ t : Fin grid0.N, _)

theorem x0_apply (c : Dev nD) (t : Fin cfg0.N) {a b : ℕ} (ha : a < 512) (hb : b < 1024) :
    at2 (n0 := 512) (n1 := 1024) (iblk m c 0 t) a b = at2 (V m c main_arg0) (512 * t.val + a) b := by
  have hN : t.val < 32 := lt_of_lt_of_eq t.isLt (show cfg0.N = 32 from N_0)
  rw [← at2_of _ _ _ ha hb, ← at2_of _ _ _ (by show _ < 16384; omega) hb]
  blk_ext [iblk, idxs t]

theorem x1_apply (c : Dev nD) (t : Fin cfg0.N) {b : ℕ} (hb : b < 1024) :
    at2 (n0 := 1) (n1 := 1024) (iblk m c 1 t) 0 b = at2 (V m c main_arg1) 0 b := by
  rw [← at2_of _ _ _ Nat.one_pos hb, ← at2_of _ _ _ Nat.one_pos hb]
  blk_ext [iblk, idxs t]

theorem pay2_block (c : Dev nD) (t : Fin cfg0.N) (y : S512x1024.Idx) : k0_pay2 (iblk m c 0 t) (iblk m c 1 t) y
    = normed (n := 16384) (V m c main_arg0) (V m c main_arg1) (512 * t.val + (y 0).val) (y 1).val := by
  have h0 : (y 0).val < 512 := (y 0).isLt
  have h1 : (y 1).val < 1024 := (y 1).isLt
  rw [pay2_apply]
  exact normed_congr (fun _ hk => x0_apply m c t h0 hk) (fun _ hk => x1_apply m c t hk) h1

theorem pay3_block (c : Dev nD) (t : Fin cfg0.N) (y : S1024x512.Idx) : k0_pay3 (iblk m c 0 t) (iblk m c 1 t) y
    = normed (n := 16384) (V m c main_arg0) (V m c main_arg1) (512 * t.val + (y 1).val) (y 0).val := by
  have h0 : (y 1).val < 512 := (y 1).isLt
  have h1 : (y 0).val < 1024 := (y 0).isLt
  rw [pay3_apply]
  exact normed_congr (fun _ hk => x0_apply m c t h0 hk) (fun _ hk => x1_apply m c t hk) h1

/-- The first result, entry by entry. -/
def G (c : Dev nD) : Buf (Elt Ideal) ((c : Thread nD τ).loc main_v0_0) := fun i : S16384x1024.Idx =>
  normed (n := 16384) (V m c main_arg0) (V m c main_arg1) (i 0).val (i 1).val

/-- The second result, entry by entry. -/
def GT (c : Dev nD) : Buf (Elt Ideal) ((c : Thread nD τ).loc main_v0_1) := fun i : S1024x16384.Idx =>
  normed (n := 16384) (V m c main_arg0) (V m c main_arg1) (i 1).val (i 0).val

theorem final_eq (c : Dev nD) : (dats m 0 c).arrAt 2 cfg0.N = G m c := by
  refine (dats m 0 c).arrAt_eq_of_covers 2 _ (by decide +kernel) fun t hf y => ?_
  have hN : t.val < 32 := lt_of_lt_of_eq t.isLt (show cfg0.N = 32 from N_0)
  blk_simp
  rw [after0_2]
  unfold outsAt0
  frame_out
  have hr : (((((View.whole main_v0_0).slice (win0_2.rect t)).emb y) : S16384x1024.Idx) 0).val = 512 * t.val + (y 0).val := by
    have := congrFun (idxs t).2.2.1 0
    show win0_2.index t (0 : Fin 2) * 512 + 1 * (y 0).val = _
    rw [this]; simp; omega
  have hc : (((((View.whole main_v0_0).slice (win0_2.rect t)).emb y) : S16384x1024.Idx) 1).val = (y 1).val := by
    have := congrFun (idxs t).2.2.1 1
    show win0_2.index t (1 : Fin 2) * 1024 + 1 * (y 1).val = _
    rw [this]; simp
  unfold G
  rw [hr, hc]
  exact pay2_block m c t y

theorem final_transposed (c : Dev nD) : (dats m 0 c).arrAt 3 cfg0.N = GT m c := by
  refine (dats m 0 c).arrAt_eq_of_covers 3 _ (by decide +kernel) fun t hf y => ?_
  have hN : t.val < 32 := lt_of_lt_of_eq t.isLt (show cfg0.N = 32 from N_0)
  blk_simp
  rw [after0_3]
  unfold outsAt0
  frame_out
  have hr : (((((View.whole main_v0_1).slice (win0_3.rect t)).emb y) : S1024x16384.Idx) 0).val = (y 0).val := by
    have := congrFun (idxs t).2.2.2 0
    show win0_3.index t (0 : Fin 2) * 1024 + 1 * (y 0).val = _
    rw [this]; simp
  have hc : (((((View.whole main_v0_1).slice (win0_3.rect t)).emb y) : S1024x16384.Idx) 1).val = 512 * t.val + (y 1).val := by
    have := congrFun (idxs t).2.2.2 1
    show win0_3.index t (1 : Fin 2) * 512 + 1 * (y 1).val = _
    rw [this]; simp; omega
  unfold GT
  rw [hr, hc]
  exact pay3_block m c t y

open Cert.NormRefIdeal in
/-- The claim: the kernel and the reference end with equal results. -/
theorem algebraic : Cert.algebraic_NormIdeal_NormRefIdeal := by
  intro m g m' g' _ hm
  refine ⟨fun c => G m c, fun c => GT m c,
    (θ_run defs _ _).mono (fun r h c => ⟨(h c).1.trans (final_eq m c), (h c).2.1.trans (final_transposed m c), (h c).2.2⟩) (run_blocks m g),
    (θ_run _ _ _).mono (fun r h c => ⟨(h c).1.trans ?_, (h c).2.1.trans ?_, (h c).2.2⟩) (Cert.NormRefIdeal.Value.run m' g')⟩
  · rw [(hm c).1, (hm c).2]
    funext i
    idx_vars i
    refine Eq.trans ?_ (normed_of _ _ i0 i1).symm
    entry_read
    pointwise
  · rw [(hm c).1, (hm c).2]
    funext i
    idx_vars i
    refine Eq.trans ?_ (normed_of _ _ i1 i0).symm
    entry_read
    pointwise

end Cert.NormIdeal.Value
end
-- ==== Proof.NormBValue.lean ====
/- The norm's gradient: the arrays that the run leaves are the gradients that the reference takes. -/
module

public import proofs.«01_k».proof.Proof.Gen.NormBIdeal.Value
public import proofs.«01_k».proof.Proof.Gen.NormBRefIdeal.Run
public import proofs.«01_k».proof.Proof.Products
public import proofs.«01_k».proof.Proof.Rms
public import proofs.«01_k».proof.Defs
public import Idealize.ShloMosaic.Lib.Pipeline.ReadBack

@[expose] public section

set_option maxRecDepth 16384

noncomputable section

namespace Cert.NormBIdeal.Value

open Cert.Products Cert.Rms Cert.NormBIdeal Cert.NormBIdeal.Gen Idealize.ShloMosaic Idealize.ShloMosaic.TcCoe Idealize.SL.Sem

variable (m : (ℓ : Loc nD τ sig) → Buf (Elt Ideal) ℓ) (ρ : Dev nD → PrngReg)

theorem pay4_apply (x2 x0 : Vec Ideal S256x1024 .f32) (x1 : Vec Ideal S1x1024 .f32) (x3 : Vec Ideal S256x1024 .f32) (y : S256x1024.Idx) :
    k0_pay4 x2 x0 x1 x3 y = dx (n := 256) x0 x1 x2 x3 (y 0).val (y 1).val := by
  idx_vars y
  refine Eq.trans ?_ (dx_of (n := 256) x0 x1 x2 x3 y0 y1).symm
  pointwise [k0_pay4, k0_pay3, k0_pay2]

theorem pay5_apply (x2 x0 : Vec Ideal S256x1024 .f32) (s : Vec Ideal S1x1024 .f32) (b : Fin 1024) :
    k0_pay5 x2 x0 s (ix2 0 b) = s (ix2 0 b) + ∑ k : Fin 256, dg (n := 256) x0 x2 k b := by
  rw [Finset.sum_congr rfl fun k _ => dg_of (n := 256) x0 x2 k b]
  pointwise [k0_pay5, k0_pay3, k0_pay2]

theorem idxs : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := (by decide +kernel : ∀ t : Fin grid0.N, _)

theorem x0_apply (c : Dev nD) (t : Fin cfg0.N) {a b : ℕ} (ha : a < 256) (hb : b < 1024) :
    at2 (n0 := 256) (n1 := 1024) (iblk m c 0 t) a b = at2 (V m c main_arg0) (256 * t.val + a) b := by
  have hN : t.val < 64 := lt_of_lt_of_eq t.isLt (show cfg0.N = 64 from N_0)
  rw [← at2_of _ _ _ ha hb, ← at2_of _ _ _ (by show _ < 16384; omega) hb]
  blk_ext [iblk, idxs t]

theorem x1_apply (c : Dev nD) (t : Fin cfg0.N) {b : ℕ} (hb : b < 1024) :
    at2 (n0 := 1) (n1 := 1024) (iblk m c 1 t) 0 b = at2 (V m c main_arg1) 0 b := by
  rw [← at2_of _ _ _ Nat.one_pos hb, ← at2_of _ _ _ Nat.one_pos hb]
  blk_ext [iblk, idxs t]

theorem x2_apply (c : Dev nD) (t : Fin cfg0.N) {a b : ℕ} (ha : a < 256) (hb : b < 1024) :
    at2 (n0 := 256) (n1 := 1024) (iblk m c 2 t) a b = at2 (V m c main_arg2) (256 * t.val + a) b := by
  have hN : t.val < 64 := lt_of_lt_of_eq t.isLt (show cfg0.N = 64 from N_0)
  rw [← at2_of _ _ _ ha hb, ← at2_of _ _ _ (by show _ < 16384; omega) hb]
  blk_ext [iblk, idxs t]

theorem x3_apply (c : Dev nD) (t : Fin cfg0.N) {a b : ℕ} (ha : a < 256) (hb : b < 1024) :
    at2 (n0 := 256) (n1 := 1024) (iblk m c 3 t) a b = at2 (V m c main_arg3) (256 * t.val + a) b := by
  have hN : t.val < 64 := lt_of_lt_of_eq t.isLt (show cfg0.N = 64 from N_0)
  rw [← at2_of _ _ _ ha hb, ← at2_of _ _ _ (by show _ < 16384; omega) hb]
  blk_ext [iblk, idxs t]

theorem pay4_block (c : Dev nD) (t : Fin cfg0.N) (y : S256x1024.Idx) : k0_pay4 (iblk m c 2 t) (iblk m c 0 t) (iblk m c 1 t) (iblk m c 3 t) y
    = dx (n := 16384) (V m c main_arg0) (V m c main_arg1) (V m c main_arg2) (V m c main_arg3) (256 * t.val + (y 0).val) (y 1).val := by
  have h0 : (y 0).val < 256 := (y 0).isLt
  have h1 : (y 1).val < 1024 := (y 1).isLt
  rw [pay4_apply]
  exact dx_congr (fun _ hk => x0_apply m c t h0 hk) (fun _ hk => x1_apply m c t hk) (fun _ hk => x2_apply m c t h0 hk)
    (fun _ hk => x3_apply m c t h0 hk) h1

/-- What the grid point `n` adds to the gain's gradient. -/
def part (c : Dev nD) (n : ℕ) (b : ℕ) : EReal :=
  ∑ k : Fin 256, dg (n := 16384) (V m c main_arg0) (V m c main_arg2) (256 * n + k) b

theorem pay5_block (c : Dev nD) (t : Fin cfg0.N) (s : Vec Ideal S1x1024 .f32) (b : Fin 1024) :
    k0_pay5 (iblk m c 2 t) (iblk m c 0 t) s (ix2 0 b) = s (ix2 0 b) + part m c t.val b.val := by
  rw [pay5_apply]
  refine congrArg (s (ix2 0 b) + ·) (Finset.sum_congr rfl fun k _ => ?_)
  exact dg_congr (fun _ hk => x0_apply m c t k.isLt hk) (fun _ hk => x2_apply m c t k.isLt hk) b.isLt

/-- The first row of the gain's block. -/
abbrev row0 : Rect S8x1024 := Rect.unit ![0, 0] ![1, 1024] inb_S8x1024_S1x1024_0_0

/-- The whole of the gain's block. -/
abbrev rows : Rect S8x1024 := Rect.unit ![0, 0] ![8, 1024] inb_S8x1024_S8x1024_0_0

theorem row0_emb (b : Fin 1024) : row0.emb (ix2 0 b : S1x1024.Idx) = (ix2 0 b : S8x1024.Idx) := by
  funext a
  refine Fin.ext ?_
  fin_cases a
  · rfl
  · show 0 + 1 * b.val = b.val
    omega

theorem not_mem_row0 {a : Fin 8} (ha : ¬a.val = 0) (b : Fin 1024) : (ix2 a b : S8x1024.Idx) ∉ row0.set := by
  rw [Rect.mem_set_unit]
  intro h
  have : a.val < 0 + 1 := (h 0).2
  omega

theorem mem_rows (y : S8x1024.Idx) : y ∈ rows.set := by
  rw [Rect.mem_set_unit]
  intro a
  fin_cases a
  · exact ⟨Nat.zero_le _, lt_of_lt_of_eq (y 0).isLt (Nat.zero_add _).symm⟩
  · exact ⟨Nat.zero_le _, lt_of_lt_of_eq (y 1).isLt (Nat.zero_add _).symm⟩

theorem pay1_zero (y : S8x1024.Idx) : k0_pay1 (F := Ideal) y = (0 : EReal) := by
  pointwise [k0_pay1]

section
variable {F : FTy → Type} [FloatOps F]

theorem canon_rows (x : Vec F S8x1024 .f32) : View.canon [(⟨rows, x⟩ : View.Piece (Elt F) S8x1024 .f32)] = x :=
  View.canon_cons_unit_lit' _ _ _ (by decide)

theorem canon_row0 (w : Vec F S1x1024 .f32) (L : List (View.Piece (Elt F) S8x1024 .f32)) (b : Fin 1024) :
    View.canon ((⟨row0, w⟩ : View.Piece (Elt F) S8x1024 .f32) :: L) (ix2 0 b) = w (ix2 0 b) := by
  have h := View.canon_cons_emb row0 w L (ix2 0 b : S1x1024.Idx)
  rw [row0_emb] at h
  exact h

theorem readCov_rows (v : View sig .tc .vmem S8x1024 .f32) (x : Vec F S8x1024 .f32) (b : Fin 1024) :
    v.readCov [(⟨rows, x⟩ : View.Piece (Elt F) S8x1024 .f32)] row0.toLoadRect (ix2 0 b : S1x1024.Idx) = x (ix2 0 b) := by
  have hL : ∀ y : S8x1024.Idx, ∃ p ∈ [(⟨rows, x⟩ : View.Piece (Elt F) S8x1024 .f32)], y ∈ p.1.set :=
    fun y => ⟨⟨rows, x⟩, List.mem_cons_self, mem_rows y⟩
  rw [View.readCov_eq_canon_ld v _ row0 hL, canon_rows]
  exact congrArg x (row0_emb b)

end

theorem first_row (c : Dev nD) (t : Fin cfg0.N) (v : View sig .tc .vmem S8x1024 .f32) (b : Fin 1024) :
    k0_pay5 (iblk m c 2 t) (iblk m c 0 t) (v.readCov [(⟨rows, k0_pay1 (F := Ideal)⟩ : View.Piece (Elt Ideal) S8x1024 .f32)] row0.toLoadRect)
      (ix2 0 b) = 0 + part m c t.val b.val := by
  rw [pay5_block]
  rw [readCov_rows (F := Ideal) v (k0_pay1 (F := Ideal)) b]
  exact congrArg (· + part m c t.val b.val) (pay1_zero _)

/-- The gain's gradient so far. -/
def acc (c : Dev nD) (n : ℕ) (hn : n < cfg0.N) (y : S8x1024.Idx) : EReal := (outsAt0 m c n hn).2 y

/-- What the grid point `n` adds to the block of eight rows. -/
def row (c : Dev nD) (n : ℕ) (y : S8x1024.Idx) : EReal := if (y 0).val = 0 then part m c n (y 1).val else 0

theorem acc_reset (c : Dev nD) (t : Fin cfg0.N) (h0 : t.val % 64 = 0) (y : S8x1024.Idx) :
    acc m c t.val t.isLt y = 0 + row m c t.val y := by
  unfold acc row
  rw [outsAt0_A m c t h0]
  frame_out
  obtain ⟨a, b, rfl⟩ : ∃ (a : Fin 8) (b : Fin 1024), y = ix2 a b := ⟨y 0, y 1, (ix2_eta y).symm⟩
  by_cases ha : a.val = 0
  · obtain rfl : a = 0 := Fin.ext ha
    rw [if_pos (by exact ha)]
    exact (canon_row0 _ _ b).trans (first_row m c t _ b)
  · rw [if_neg (by exact ha)]
    refine (View.canon_cons_of_not_mem _ _ (not_mem_row0 ha b)).trans ((congrFun (canon_rows _) _).trans ((pay1_zero _).trans ?_))
    exact (zero_add _).symm

theorem acc_step (c : Dev nD) (t : Fin cfg0.N) (h0 : ¬t.val % 64 = 0) (y : S8x1024.Idx) :
    acc m c t.val t.isLt y = acc m c (t.val - 1) (Nat.lt_of_le_of_lt (Nat.sub_le _ _) t.isLt) y + row m c t.val y := by
  unfold acc row
  rw [outsAt0_B m c t h0]
  frame_out
  obtain ⟨a, b, rfl⟩ : ∃ (a : Fin 8) (b : Fin 1024), y = ix2 a b := ⟨y 0, y 1, (ix2_eta y).symm⟩
  by_cases ha : a.val = 0
  · obtain rfl : a = 0 := Fin.ext ha
    rw [if_pos (by exact ha)]
    refine (congrArg _ (row0_emb b).symm).trans ((View.read_writes_cons_emb _ _ row0 _ _ (ix2 0 b)).trans ?_)
    rw [pay5_block]
    exact congrArg (fun z => (outsAt0 m c (t.val - 1) _).2 z + part m c t.val b.val) (row0_emb b)
  · rw [if_neg (by exact ha)]
    refine (View.read_writes_apply_of_forall_not_mem _ _ _ _ fun p hp => ?_).trans ?_
    · rw [List.mem_singleton.mp hp]
      exact not_mem_row0 ha b
    · rw [Memref.IsWhole.read_unread]
      exact (add_zero _).symm

/-- The first result, entry by entry. -/
def G (c : Dev nD) : Buf (Elt Ideal) ((c : Thread nD τ).loc main_v0_0) := fun i : S16384x1024.Idx =>
  dx (n := 16384) (V m c main_arg0) (V m c main_arg1) (V m c main_arg2) (V m c main_arg3) (i 0).val (i 1).val

/-- The second result, entry by entry: the gain's gradient in the first row, zeros in the others. -/
def GG (c : Dev nD) : Buf (Elt Ideal) ((c : Thread nD τ).loc main_v0_1) := fun i : S8x1024.Idx =>
  if (i 0).val = 0 then (∑ k : Fin 16384, dg (n := 16384) (V m c main_arg0) (V m c main_arg2) k (i 1).val : EReal) else (0 : EReal)

theorem final_eq (c : Dev nD) : (dats m 0 c).arrAt 4 cfg0.N = G m c := by
  refine (dats m 0 c).arrAt_eq_of_covers 4 _ (by decide +kernel) fun t hf y => ?_
  have hN : t.val < 64 := lt_of_lt_of_eq t.isLt (show cfg0.N = 64 from N_0)
  blk_simp
  rw [after0_4]
  have hr : (((((View.whole main_v0_0).slice (win0_4.rect t)).emb y) : S16384x1024.Idx) 0).val = 256 * t.val + (y 0).val := by
    have := congrFun (idxs t).2.2.2.2.1 0
    show win0_4.index t (0 : Fin 2) * 256 + 1 * (y 0).val = _
    rw [this]; simp; omega
  have hc : (((((View.whole main_v0_0).slice (win0_4.rect t)).emb y) : S16384x1024.Idx) 1).val = (y 1).val := by
    have := congrFun (idxs t).2.2.2.2.1 1
    show win0_4.index t (1 : Fin 2) * 1024 + 1 * (y 1).val = _
    rw [this]; simp
  unfold G
  rw [hr, hc]
  by_cases h0 : t.val % 64 = 0
  · rw [outsAt0_A m c t h0]
    frame_out
    exact pay4_block m c t y
  · rw [outsAt0_B m c t h0]
    frame_out
    exact pay4_block m c t y

theorem final_gain (c : Dev nD) : (dats m 0 c).arrAt 5 cfg0.N = GG m c := by
  refine (dats m 0 c).arrAt_eq_of_covers 5 _ (by decide +kernel) fun t hf y => ?_
  have hN : t.val < 64 := lt_of_lt_of_eq t.isLt (show cfg0.N = 64 from N_0)
  have h1 : t.val % 64 = 63 := (flush0_5 t).mp hf
  blk_simp
  rw [after0_5]
  have hr : (((((View.whole main_v0_1).slice (win0_5.rect t)).emb y) : S8x1024.Idx) 0).val = (y 0).val := by
    have := congrFun (idxs t).2.2.2.2.2 0
    show win0_5.index t (0 : Fin 2) * 8 + 1 * (y 0).val = _
    rw [this]; simp
  have hc : (((((View.whole main_v0_1).slice (win0_5.rect t)).emb y) : S8x1024.Idx) 1).val = (y 1).val := by
    have := congrFun (idxs t).2.2.2.2.2 1
    show win0_5.index t (1 : Fin 2) * 1024 + 1 * (y 1).val = _
    rw [this]; simp
  unfold GG
  rw [hr, hc]
  refine (Pipeline.eq_sum_of_reset_step_apply_of_mod (acc m c) 64 (fun _ => 0) (row m c) (acc_reset m c) (acc_step m c) t h1 y).trans
    ((zero_add _).trans ?_)
  rw [show t.val / 64 = 0 by omega]
  unfold row
  split_ifs with hy
  · simp only [Nat.mul_zero, Nat.zero_add]
    exact sum_blocks 64 256 fun k => dg (n := 16384) (V m c main_arg0) (V m c main_arg2) k (y 1).val
  · exact Finset.sum_eq_zero fun k _ => rfl

/-- A row with `q` rows of zeros put after it. -/
theorem pad_rows {n q p : ℕ} (x : (⟨2, ![1, n]⟩ : Shape).Idx → EReal) {u : Shape} (v : u.Idx → EReal)
    (h : (⟨2, ![1, n]⟩ : Shape).Pads (![0, 0] : Fin 2 → ℕ) ![q, 0] ![0, 0] ⟨2, ![p, n]⟩) (hu : 0 < u.numel)
    (hv : v (Shape.Idx.first hu) = 0) (i : Fin p) (j : Fin n) :
    pad ⟨2, ![p, n]⟩ ![0, 0] ![q, 0] ![0, 0] x v h hu (ix2 i j) = if i.val = 0 then x (ix2 0 j) else 0 := by
  by_cases hi : i.val = 0
  · rw [if_pos hi]
    refine pad_apply_of_inside _ _ _ _ _ h hu _ _ fun a => ?_
    fin_cases a
    · show i.val = 0 + 0 * (0 + 1); omega
    · show j.val = 0 + j.val * (0 + 1); omega
  · rw [if_neg hi, ← hv]
    refine pad_apply_of_not_inside _ _ _ _ _ h hu _ 0 fun ha => hi ?_
    have := ha.2.2
    change (i.val - 0) / (0 + 1) < 1 at this
    omega

open Cert.NormBRefIdeal in
/-- The claim: the kernel and the reference end with equal results. -/
theorem algebraic : Cert.algebraic_NormBIdeal_NormBRefIdeal := by
  intro m g m' g' _ hm
  refine ⟨fun c => G m c, fun c => GG m c,
    (θ_run defs _ _).mono (fun r h c => ⟨(h c).1.trans (final_eq m c), (h c).2.1.trans (final_gain m c), (h c).2.2⟩) (run_blocks m g),
    (θ_run _ _ _).mono (fun r h c => ⟨(h c).1.trans ?_, (h c).2.1.trans ?_, (h c).2.2⟩) (Cert.NormBRefIdeal.Value.run m' g')⟩
  · clear h
    unfold Cert.NormBRefIdeal.Value.res_main_v37
    rw [(hm c).1, (hm c).2.1, (hm c).2.2.1, (hm c).2.2.2]
    funext i
    idx_vars i
    refine Eq.trans ?_ (dx_of _ _ _ _ i0 i1).symm
    refine Eq.trans ?_ (dx_eq (fun k => V m c main_arg0 (ix2 i0 k)) (fun k => V m c main_arg1 (ix2 0 k)) (fun k => V m c main_arg2 (ix2 i0 k)) _ i1).symm
    pointwise
    simp only [Finset.univ_unique, Finset.sum_singleton]
  · clear h
    rw [(hm c).1, (hm c).2.2.1]
    funext i
    idx_vars i
    refine (pad_rows _ _ _ _ (sitofp_zero _ _) i0 i1).trans ?_
    refine Eq.trans ?_ (show _ = GG m c (ix2 i0 i1) from rfl)
    unfold GG
    refine if_congr Iff.rfl ?_ rfl
    refine Eq.trans ?_ (Finset.sum_congr rfl fun k _ => dg_of (n := 16384) (V m c main_arg0) (V m c main_arg2) k i1).symm
    pointwise
    simp only [Finset.univ_unique, Finset.sum_singleton]
    exact Finset.sum_congr rfl fun k _ => mul_comm (G := EReal) _ _

end Cert.NormBIdeal.Value
end
-- ==== Proof.ActBValue.lean ====
/- The gradient of SwiGLU's pointwise part: the array that the run leaves is the gradient that the reference takes. -/
module

public import proofs.«01_k».proof.Proof.Gen.ActBIdeal.Value
public import proofs.«01_k».proof.Proof.Gen.ActBRefIdeal.Run
public import proofs.«01_k».proof.Proof.Gen.Pre_finite
public import proofs.«01_k».proof.Proof.Products
public import proofs.«01_k».proof.Proof.Silu
public import proofs.«01_k».proof.Defs
public import Idealize.ShloMosaic.Lib.Pipeline.ReadBack

@[expose] public section

set_option maxRecDepth 16384

noncomputable section

namespace Cert.ActBIdeal.Value

open Cert.Products Cert.Silu Cert.ActBIdeal Cert.ActBIdeal.Gen Idealize.ShloMosaic Idealize.ShloMosaic.TcCoe Idealize.SL.Sem

variable (m : (ℓ : Loc nD τ sig) → Buf (Elt Ideal) ℓ) (ρ : Dev nD → PrngReg)

theorem pay4_apply (x0 x1 x2 : Vec Ideal S256x2816 .bf16) (y : S256x2816.Idx) : k0_pay4 x0 x1 x2 y = dGate (x0 y) (x1 y) (x2 y) := by
  unfold dGate
  rw [← logistic_expand, ← Ideal.ofBits_one_f32]
  rfl

theorem pay5_apply (x0 x2 : Vec Ideal S256x2816 .bf16) (y : S256x2816.Idx) : k0_pay5 x0 x2 y = dUp (x0 y) (x2 y) := by
  unfold dUp
  rw [← logistic_expand]
  rfl

theorem left_entry (x0 : Vec Ideal S256x5632 .bf16) (x1 : Vec Ideal S256x2816 .bf16) (x : S256x2816.Idx) :
    k0_pay4 (View.ld x0 r0_0) (View.ld x0 r0_1) (View.ld x1 r0_2) x = grad (n := 256) x0 x1 (x 0).val (x 1).val := by
  have h0 : (x 0).val < 256 := (x 0).isLt
  have h1 : (x 1).val < 2816 := (x 1).isLt
  rw [pay4_apply]
  unfold grad
  rw [if_pos h1, ← at2_of _ _ _ h0 (by omega), ← at2_of _ _ _ h0 (by omega), ← at2_of _ _ _ h0 h1]
  congr 1
  · exact View.ld_unit_apply_of x0 _ _ _ _ _ (Fin.forall_fin_two.mpr ⟨(Nat.zero_add _).symm, (Nat.zero_add _).symm⟩)
  · exact View.ld_unit_apply_of x0 _ _ _ _ _ (Fin.forall_fin_two.mpr ⟨(Nat.zero_add _).symm, rfl⟩)
  · exact View.ld_unit_apply_of x1 _ _ _ _ _ (Fin.forall_fin_two.mpr ⟨(Nat.zero_add _).symm, (Nat.zero_add _).symm⟩)

theorem right_entry (x0 : Vec Ideal S256x5632 .bf16) (x1 : Vec Ideal S256x2816 .bf16) (x : S256x2816.Idx) :
    k0_pay5 (View.ld x0 r0_0) (View.ld x1 r0_2) x = grad (n := 256) x0 x1 (x 0).val (2816 + (x 1).val) := by
  have h0 : (x 0).val < 256 := (x 0).isLt
  have h1 : (x 1).val < 2816 := (x 1).isLt
  rw [pay5_apply]
  unfold grad
  rw [if_neg (by omega), Nat.add_sub_cancel_left, ← at2_of _ _ _ h0 (by omega), ← at2_of _ _ _ h0 h1]
  congr 1
  · exact View.ld_unit_apply_of x0 _ _ _ _ _ (Fin.forall_fin_two.mpr ⟨(Nat.zero_add _).symm, (Nat.zero_add _).symm⟩)
  · exact View.ld_unit_apply_of x1 _ _ _ _ _ (Fin.forall_fin_two.mpr ⟨(Nat.zero_add _).symm, (Nat.zero_add _).symm⟩)

/-- What a grid point leaves in its block, from the blocks it loads. -/
theorem out_apply (x0 : Vec Ideal S256x5632 .bf16) (x1 : Vec Ideal S256x2816 .bf16) (y : S256x5632.Idx) :
    out0_2 x0 x1 y = grad (n := 256) x0 x1 (y 0).val (y 1).val := by
  unfold out0_2
  refine View.canon_apply_of_pieces (Val := Elt Ideal) (e := .bf16) (fun y : S256x5632.Idx => grad (n := 256) x0 x1 (y 0).val (y 1).val) _
    (fun p hp x => ?_) y (cover0_2 _ _ y)
  rcases List.mem_cons.mp hp with rfl | hp
  · refine (right_entry x0 x1 x).trans ?_
    show _ = grad (n := 256) x0 x1 (0 + 1 * (x 0).val) (2816 + 1 * (x 1).val)
    rw [Nat.zero_add, Nat.one_mul, Nat.one_mul]
  · obtain rfl := List.mem_singleton.mp hp
    refine (left_entry x0 x1 x).trans ?_
    show _ = grad (n := 256) x0 x1 (0 + 1 * (x 0).val) (0 + 1 * (x 1).val)
    rw [Nat.zero_add, Nat.zero_add, Nat.one_mul, Nat.one_mul]

theorem idxs : ∀ t : Fin cfg0.N, win0_0.index t = ![t.val, 0] ∧ win0_1.index t = ![t.val, 0] ∧ win0_2.index t = ![t.val, 0] :=
  (by decide +kernel : ∀ t : Fin grid0.N, _)

theorem x0_apply (c : Dev nD) (t : Fin cfg0.N) {a b : ℕ} (ha : a < 256) (hb : b < 5632) :
    at2 (n0 := 256) (n1 := 5632) (iblk m c 0 t) a b = at2 (V m c main_arg0) (256 * t.val + a) b := by
  have hN : t.val < 64 := lt_of_lt_of_eq t.isLt (show cfg0.N = 64 from N_0)
  rw [← at2_of _ _ _ ha hb, ← at2_of _ _ _ (by show _ < 16384; omega) hb]
  blk_ext [iblk, idxs t]

theorem x1_apply (c : Dev nD) (t : Fin cfg0.N) {a b : ℕ} (ha : a < 256) (hb : b < 2816) :
    at2 (n0 := 256) (n1 := 2816) (iblk m c 1 t) a b = at2 (V m c main_arg1) (256 * t.val + a) b := by
  have hN : t.val < 64 := lt_of_lt_of_eq t.isLt (show cfg0.N = 64 from N_0)
  rw [← at2_of _ _ _ ha hb, ← at2_of _ _ _ (by show _ < 16384; omega) hb]
  blk_ext [iblk, idxs t]

/-- The result, entry by entry. -/
def G (c : Dev nD) : Buf (Elt Ideal) ((c : Thread nD τ).loc main_v0) := fun i : S16384x5632.Idx =>
  grad (n := 16384) (V m c main_arg0) (V m c main_arg1) (i 0).val (i 1).val

theorem out_block (c : Dev nD) (t : Fin cfg0.N) (y : S256x5632.Idx) : out0_2 (iblk m c 0 t) (iblk m c 1 t) y
    = grad (n := 16384) (V m c main_arg0) (V m c main_arg1) (256 * t.val + (y 0).val) (y 1).val := by
  have h0 : (y 0).val < 256 := (y 0).isLt
  have h1 : (y 1).val < 5632 := (y 1).isLt
  rw [out_apply]
  unfold grad
  split_ifs with h
  · rw [x0_apply m c t h0 h1, x0_apply m c t h0 (by omega), x1_apply m c t h0 h]
  · rw [x0_apply m c t h0 (by omega), x1_apply m c t h0 (by omega)]

theorem final_eq (c : Dev nD) : (dats m 0 c).arrAt 2 cfg0.N = G m c := by
  refine (dats m 0 c).arrAt_eq_of_covers 2 _ (by decide +kernel) fun t hf y => ?_
  have hN : t.val < 64 := lt_of_lt_of_eq t.isLt (show cfg0.N = 64 from N_0)
  blk_simp
  rw [after0_2]
  have hr : (((((View.whole main_v0).slice (win0_2.rect t)).emb y) : S16384x5632.Idx) 0).val = 256 * t.val + (y 0).val := by
    have := congrFun (idxs t).2.2 0
    show win0_2.index t (0 : Fin 2) * 256 + 1 * (y 0).val = _
    rw [this]; simp; omega
  have hc : (((((View.whole main_v0).slice (win0_2.rect t)).emb y) : S16384x5632.Idx) 1).val = (y 1).val := by
    have := congrFun (idxs t).2.2 1
    show win0_2.index t (1 : Fin 2) * 5632 + 1 * (y 1).val = _
    rw [this]; simp
  unfold G
  rw [hr, hc]
  exact out_block m c t y

/-- The arguments, matrices of extended reals. -/
abbrev gu (c : Dev nD) : S16384x5632.Idx → EReal := m ((c : Thread nD τ).loc main_arg0)

abbrev dact (c : Dev nD) : S16384x2816.Idx → EReal := m ((c : Thread nD τ).loc main_arg1)

/-- The precondition, entry by entry. -/
theorem finite_entries (h : Cert.Pre_ActBIdeal_finite m) (c : Dev nD) :
    (∀ i, max (gu m c i) (-gu m c i) < ⊤) ∧ ∀ i, max (dact m c i) (-dact m c i) < ⊤ :=
  ⟨fun i => lt_top_of_cmp (congrFun (h c).1 i), fun i => lt_top_of_cmp (congrFun (h c).2 i)⟩

open Cert.ActBRefIdeal in
/-- The claim: of finite arguments the kernel and the reference end with equal results. -/
theorem algebraic : Cert.algebraic_ActBIdeal_ActBRefIdeal_pre_finite := by
  intro m g m' g' hp hm
  refine ⟨fun c => G m c, (θ_run defs _ _).mono (fun r h c => ⟨(h c).1.trans (final_eq m c), (h c).2⟩) (run_blocks m g),
    (θ_run _ _ _).mono (fun r h c => ⟨(h c).1.trans ?_, (h c).2⟩) (Cert.ActBRefIdeal.Value.run m' g')⟩
  clear h
  rw [(hm c).1, (hm c).2]
  obtain ⟨f0, f1⟩ := finite_entries m hp c
  funext i
  idx_vars i
  rw [show G m c (ix2 i0 i1) = grad (n := 16384) (V m c main_arg0) (V m c main_arg1) i0.val i1.val from rfl]
  unfold grad
  by_cases hi : i1.val < 2816
  · rw [if_pos hi, ← at2_of _ _ _ (by omega) (by omega), ← at2_of _ _ _ (by omega) (by omega), ← at2_of _ _ _ (by omega) (by omega)]
    entry_read
    rw [dGate_eq (f0 _) (f0 _) (f1 _)]
    pointwise
    rw [dif_pos hi]
    rfl
  · rw [if_neg hi, ← at2_of _ _ _ (by omega) (by omega), ← at2_of _ _ _ (by omega) (by omega)]
    entry_read
    pointwise
    rw [dif_neg hi]
    exact mul_comm (_ : EReal) _

end Cert.ActBIdeal.Value
end
-- ==== Proof.lean ====
/- The claims, put together: the frames of the kernels and of the references, and that over the extended reals each kernel
   computes what its reference computes. -/
module

public import proofs.«01_k».proof.Defs
public import proofs.«01_k».proof.Proof.Gen.GlaF.Frame
public import proofs.«01_k».proof.Proof.GlaFValue
public import proofs.«01_k».proof.Proof.Gen.GlaB.Frame
public import proofs.«01_k».proof.Proof.GlaBValue
public import proofs.«01_k».proof.Proof.Gen.DownDw.Frame
public import proofs.«01_k».proof.Proof.DownDwValue
public import proofs.«01_k».proof.Proof.Gen.DownDx.Frame
public import proofs.«01_k».proof.Proof.DownDxValue
public import proofs.«01_k».proof.Proof.Gen.UpDw.Frame
public import proofs.«01_k».proof.Proof.UpDwValue
public import proofs.«01_k».proof.Proof.Gen.UpDx.Frame
public import proofs.«01_k».proof.Proof.UpDxValue
public import proofs.«01_k».proof.Proof.Gen.OutDw.Frame
public import proofs.«01_k».proof.Proof.OutDwValue
public import proofs.«01_k».proof.Proof.Gen.AOutDx.Frame
public import proofs.«01_k».proof.Proof.AOutDxValue
public import proofs.«01_k».proof.Proof.Gen.BOutDx.Frame
public import proofs.«01_k».proof.Proof.BOutDxValue
public import proofs.«01_k».proof.Proof.Gen.AInDw.Frame
public import proofs.«01_k».proof.Proof.AInDwValue
public import proofs.«01_k».proof.Proof.Gen.AInDx.Frame
public import proofs.«01_k».proof.Proof.AInDxValue
public import proofs.«01_k».proof.Proof.Gen.BInDw.Frame
public import proofs.«01_k».proof.Proof.BInDwValue
public import proofs.«01_k».proof.Proof.Gen.BInDx.Frame
public import proofs.«01_k».proof.Proof.BInDxValue
public import proofs.«01_k».proof.Proof.Gen.AIn.Frame
public import proofs.«01_k».proof.Proof.AInValue
public import proofs.«01_k».proof.Proof.Gen.Out.Frame
public import proofs.«01_k».proof.Proof.OutValue
public import proofs.«01_k».proof.Proof.Gen.BIn.Frame
public import proofs.«01_k».proof.Proof.BInValue
public import proofs.«01_k».proof.Proof.Gen.Up.Frame
public import proofs.«01_k».proof.Proof.UpValue
public import proofs.«01_k».proof.Proof.Gen.Down.Frame
public import proofs.«01_k».proof.Proof.DownValue
public import proofs.«01_k».proof.Proof.Gen.Act.Frame
public import proofs.«01_k».proof.Proof.ActValue
public import proofs.«01_k».proof.Proof.Gen.Norm.Frame
public import proofs.«01_k».proof.Proof.NormValue
public import proofs.«01_k».proof.Proof.Gen.NormB.Frame
public import proofs.«01_k».proof.Proof.NormBValue
public import proofs.«01_k».proof.Proof.Gen.ActB.Frame
public import proofs.«01_k».proof.Proof.ActBValue

@[expose] public section

noncomputable section

namespace Cert.Proof

open Idealize.ShloMosaic Idealize.SL.Sem

/-- The frame of the reference of `GlaF`: its arguments end unchanged, and it has no semaphore. -/
theorem frame_GlaFRef : Cert.quiescent_GlaFRefIdeal := fun m g _ => (θ_run _ _ _).mono
  (fun r h => ⟨fun c => (h c).2.2, sem_eq_zero_of_no_sems (by decide) r.2⟩) (Cert.GlaFRefIdeal.Value.run m g)

/-- The frame of the reference of `GlaB`: its arguments end unchanged, and it has no semaphore. -/
theorem frame_GlaBRef : Cert.quiescent_GlaBRefIdeal := fun m g _ => (θ_run _ _ _).mono
  (fun r h => ⟨fun c => (h c).2.2.2.2, sem_eq_zero_of_no_sems (by decide) r.2⟩) (Cert.GlaBRefIdeal.Value.run m g)

/-- The frame of the reference of `Act`: its arguments end unchanged, and it has no semaphore. -/
theorem frame_ActRef : Cert.quiescent_ActRefIdeal := fun m g _ => (θ_run _ _ _).mono
  (fun r h => ⟨fun c => (h c).2.2, sem_eq_zero_of_no_sems (by decide) r.2⟩) (Cert.ActRefIdeal.Value.run m g)

/-- The frame of the reference of `Norm`: its arguments end unchanged, and it has no semaphore. -/
theorem frame_NormRef : Cert.quiescent_NormRefIdeal := fun m g _ => (θ_run _ _ _).mono
  (fun r h => ⟨fun c => (h c).2.2, sem_eq_zero_of_no_sems (by decide) r.2⟩) (Cert.NormRefIdeal.Value.run m g)

/-- The frame of the reference of `NormB`: its arguments end unchanged, and it has no semaphore. -/
theorem frame_NormBRef : Cert.quiescent_NormBRefIdeal := fun m g _ => (θ_run _ _ _).mono
  (fun r h => ⟨fun c => (h c).2.2, sem_eq_zero_of_no_sems (by decide) r.2⟩) (Cert.NormBRefIdeal.Value.run m g)

/-- The frame of the reference of `DownDw`: its arguments end unchanged, and it has no semaphore. -/
theorem frame_DownDwRef : Cert.quiescent_DownDwRefIdeal := fun m g _ => (θ_run _ _ _).mono
  (fun r h => ⟨fun c => (h c).2, sem_eq_zero_of_no_sems (by decide) r.2⟩) (Cert.DownDwRefIdeal.Value.run m g)

/-- The frame of the reference of `DownDx`: its arguments end unchanged, and it has no semaphore. -/
theorem frame_DownDxRef : Cert.quiescent_DownDxRefIdeal := fun m g _ => (θ_run _ _ _).mono
  (fun r h => ⟨fun c => (h c).2, sem_eq_zero_of_no_sems (by decide) r.2⟩) (Cert.DownDxRefIdeal.Value.run m g)

/-- The frame of the reference of `UpDw`: its arguments end unchanged, and it has no semaphore. -/
theorem frame_UpDwRef : Cert.quiescent_UpDwRefIdeal := fun m g _ => (θ_run _ _ _).mono
  (fun r h => ⟨fun c => (h c).2, sem_eq_zero_of_no_sems (by decide) r.2⟩) (Cert.UpDwRefIdeal.Value.run m g)

/-- The frame of the reference of `UpDx`: its arguments end unchanged, and it has no semaphore. -/
theorem frame_UpDxRef : Cert.quiescent_UpDxRefIdeal := fun m g _ => (θ_run _ _ _).mono
  (fun r h => ⟨fun c => (h c).2, sem_eq_zero_of_no_sems (by decide) r.2⟩) (Cert.UpDxRefIdeal.Value.run m g)

/-- The frame of the reference of `OutDw`: its arguments end unchanged, and it has no semaphore. -/
theorem frame_OutDwRef : Cert.quiescent_OutDwRefIdeal := fun m g _ => (θ_run _ _ _).mono
  (fun r h => ⟨fun c => (h c).2, sem_eq_zero_of_no_sems (by decide) r.2⟩) (Cert.OutDwRefIdeal.Value.run m g)

/-- The frame of the reference of `AOutDx`: its arguments end unchanged, and it has no semaphore. -/
theorem frame_AOutDxRef : Cert.quiescent_AOutDxRefIdeal := fun m g _ => (θ_run _ _ _).mono
  (fun r h => ⟨fun c => (h c).2, sem_eq_zero_of_no_sems (by decide) r.2⟩) (Cert.AOutDxRefIdeal.Value.run m g)

/-- The frame of the reference of `BOutDx`: its arguments end unchanged, and it has no semaphore. -/
theorem frame_BOutDxRef : Cert.quiescent_BOutDxRefIdeal := fun m g _ => (θ_run _ _ _).mono
  (fun r h => ⟨fun c => (h c).2, sem_eq_zero_of_no_sems (by decide) r.2⟩) (Cert.BOutDxRefIdeal.Value.run m g)

/-- The frame of the reference of `AInDw`: its arguments end unchanged, and it has no semaphore. -/
theorem frame_AInDwRef : Cert.quiescent_AInDwRefIdeal := fun m g _ => (θ_run _ _ _).mono
  (fun r h => ⟨fun c => (h c).2, sem_eq_zero_of_no_sems (by decide) r.2⟩) (Cert.AInDwRefIdeal.Value.run m g)

/-- The frame of the reference of `AInDx`: its arguments end unchanged, and it has no semaphore. -/
theorem frame_AInDxRef : Cert.quiescent_AInDxRefIdeal := fun m g _ => (θ_run _ _ _).mono
  (fun r h => ⟨fun c => (h c).2, sem_eq_zero_of_no_sems (by decide) r.2⟩) (Cert.AInDxRefIdeal.Value.run m g)

/-- The frame of the reference of `BInDw`: its arguments end unchanged, and it has no semaphore. -/
theorem frame_BInDwRef : Cert.quiescent_BInDwRefIdeal := fun m g _ => (θ_run _ _ _).mono
  (fun r h => ⟨fun c => (h c).2, sem_eq_zero_of_no_sems (by decide) r.2⟩) (Cert.BInDwRefIdeal.Value.run m g)

/-- The frame of the reference of `BInDx`: its arguments end unchanged, and it has no semaphore. -/
theorem frame_BInDxRef : Cert.quiescent_BInDxRefIdeal := fun m g _ => (θ_run _ _ _).mono
  (fun r h => ⟨fun c => (h c).2, sem_eq_zero_of_no_sems (by decide) r.2⟩) (Cert.BInDxRefIdeal.Value.run m g)

/-- The frame of the reference of `AIn`: its arguments end unchanged, and it has no semaphore. -/
theorem frame_AInRef : Cert.quiescent_AInRefIdeal := fun m g _ => (θ_run _ _ _).mono
  (fun r h => ⟨fun c => (h c).2, sem_eq_zero_of_no_sems (by decide) r.2⟩) (Cert.AInRefIdeal.Value.run m g)

/-- The frame of the reference of `Out`: its arguments end unchanged, and it has no semaphore. -/
theorem frame_OutRef : Cert.quiescent_OutRefIdeal := fun m g _ => (θ_run _ _ _).mono
  (fun r h => ⟨fun c => (h c).2, sem_eq_zero_of_no_sems (by decide) r.2⟩) (Cert.OutRefIdeal.Value.run m g)

/-- The frame of the reference of `BIn`: its arguments end unchanged, and it has no semaphore. -/
theorem frame_BInRef : Cert.quiescent_BInRefIdeal := fun m g _ => (θ_run _ _ _).mono
  (fun r h => ⟨fun c => (h c).2, sem_eq_zero_of_no_sems (by decide) r.2⟩) (Cert.BInRefIdeal.Value.run m g)

/-- The frame of the reference of `Up`: its arguments end unchanged, and it has no semaphore. -/
theorem frame_UpRef : Cert.quiescent_UpRefIdeal := fun m g _ => (θ_run _ _ _).mono
  (fun r h => ⟨fun c => (h c).2, sem_eq_zero_of_no_sems (by decide) r.2⟩) (Cert.UpRefIdeal.Value.run m g)

/-- The frame of the reference of `Down`: its arguments end unchanged, and it has no semaphore. -/
theorem frame_DownRef : Cert.quiescent_DownRefIdeal := fun m g _ => (θ_run _ _ _).mono
  (fun r h => ⟨fun c => (h c).2, sem_eq_zero_of_no_sems (by decide) r.2⟩) (Cert.DownRefIdeal.Value.run m g)

/-- The frame of the reference of `ActB`: its arguments end unchanged, and it has no semaphore. -/
theorem frame_ActBRef : Cert.quiescent_ActBRefIdeal := fun m g _ => (θ_run _ _ _).mono
  (fun r h => ⟨fun c => (h c).2, sem_eq_zero_of_no_sems (by decide) r.2⟩) (Cert.ActBRefIdeal.Value.run m g)

theorem claim : Cert.Claim :=
  ⟨Cert.GlaF.Gen.facts,
    Cert.GlaFIdeal.Gen.facts,
    Cert.GlaFRefIdeal.Gen.facts,
    Cert.GlaB.Gen.facts,
    Cert.GlaBIdeal.Gen.facts,
    Cert.GlaBRefIdeal.Gen.facts,
    Cert.DownDw.Gen.facts,
    Cert.DownDwIdeal.Gen.facts,
    Cert.DownDwRefIdeal.Gen.facts,
    Cert.DownDx.Gen.facts,
    Cert.DownDxIdeal.Gen.facts,
    Cert.DownDxRefIdeal.Gen.facts,
    Cert.UpDw.Gen.facts,
    Cert.UpDwIdeal.Gen.facts,
    Cert.UpDwRefIdeal.Gen.facts,
    Cert.UpDx.Gen.facts,
    Cert.UpDxIdeal.Gen.facts,
    Cert.UpDxRefIdeal.Gen.facts,
    Cert.OutDw.Gen.facts,
    Cert.OutDwIdeal.Gen.facts,
    Cert.OutDwRefIdeal.Gen.facts,
    Cert.AOutDx.Gen.facts,
    Cert.AOutDxIdeal.Gen.facts,
    Cert.AOutDxRefIdeal.Gen.facts,
    Cert.BOutDx.Gen.facts,
    Cert.BOutDxIdeal.Gen.facts,
    Cert.BOutDxRefIdeal.Gen.facts,
    Cert.AInDw.Gen.facts,
    Cert.AInDwIdeal.Gen.facts,
    Cert.AInDwRefIdeal.Gen.facts,
    Cert.AInDx.Gen.facts,
    Cert.AInDxIdeal.Gen.facts,
    Cert.AInDxRefIdeal.Gen.facts,
    Cert.BInDw.Gen.facts,
    Cert.BInDwIdeal.Gen.facts,
    Cert.BInDwRefIdeal.Gen.facts,
    Cert.BInDx.Gen.facts,
    Cert.BInDxIdeal.Gen.facts,
    Cert.BInDxRefIdeal.Gen.facts,
    Cert.AIn.Gen.facts,
    Cert.AInIdeal.Gen.facts,
    Cert.AInRefIdeal.Gen.facts,
    Cert.Out.Gen.facts,
    Cert.OutIdeal.Gen.facts,
    Cert.OutRefIdeal.Gen.facts,
    Cert.BIn.Gen.facts,
    Cert.BInIdeal.Gen.facts,
    Cert.BInRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Act.Gen.facts,
    Cert.ActIdeal.Gen.facts,
    Cert.ActRefIdeal.Gen.facts,
    Cert.Norm.Gen.facts,
    Cert.NormIdeal.Gen.facts,
    Cert.NormRefIdeal.Gen.facts,
    Cert.NormB.Gen.facts,
    Cert.NormBIdeal.Gen.facts,
    Cert.NormBRefIdeal.Gen.facts,
    Cert.ActB.Gen.facts,
    Cert.ActBIdeal.Gen.facts,
    Cert.ActBRefIdeal.Gen.facts,
    Cert.Pre_finite.Gen.facts,
    fun m g _ => Cert.GlaF.Gen.frame m g,
    fun m g _ => Cert.GlaFIdeal.Gen.frame m g,
    frame_GlaFRef,
    fun m g _ => Cert.GlaB.Gen.frame m g,
    fun m g _ => Cert.GlaBIdeal.Gen.frame m g,
    frame_GlaBRef,
    fun m g _ => Cert.DownDw.Gen.frame m g,
    fun m g _ => Cert.DownDwIdeal.Gen.frame m g,
    frame_DownDwRef,
    fun m g _ => Cert.DownDx.Gen.frame m g,
    fun m g _ => Cert.DownDxIdeal.Gen.frame m g,
    frame_DownDxRef,
    fun m g _ => Cert.UpDw.Gen.frame m g,
    fun m g _ => Cert.UpDwIdeal.Gen.frame m g,
    frame_UpDwRef,
    fun m g _ => Cert.UpDx.Gen.frame m g,
    fun m g _ => Cert.UpDxIdeal.Gen.frame m g,
    frame_UpDxRef,
    fun m g _ => Cert.OutDw.Gen.frame m g,
    fun m g _ => Cert.OutDwIdeal.Gen.frame m g,
    frame_OutDwRef,
    fun m g _ => Cert.AOutDx.Gen.frame m g,
    fun m g _ => Cert.AOutDxIdeal.Gen.frame m g,
    frame_AOutDxRef,
    fun m g _ => Cert.BOutDx.Gen.frame m g,
    fun m g _ => Cert.BOutDxIdeal.Gen.frame m g,
    frame_BOutDxRef,
    fun m g _ => Cert.AInDw.Gen.frame m g,
    fun m g _ => Cert.AInDwIdeal.Gen.frame m g,
    frame_AInDwRef,
    fun m g _ => Cert.AInDx.Gen.frame m g,
    fun m g _ => Cert.AInDxIdeal.Gen.frame m g,
    frame_AInDxRef,
    fun m g _ => Cert.BInDw.Gen.frame m g,
    fun m g _ => Cert.BInDwIdeal.Gen.frame m g,
    frame_BInDwRef,
    fun m g _ => Cert.BInDx.Gen.frame m g,
    fun m g _ => Cert.BInDxIdeal.Gen.frame m g,
    frame_BInDxRef,
    fun m g _ => Cert.AIn.Gen.frame m g,
    fun m g _ => Cert.AInIdeal.Gen.frame m g,
    frame_AInRef,
    fun m g _ => Cert.Out.Gen.frame m g,
    fun m g _ => Cert.OutIdeal.Gen.frame m g,
    frame_OutRef,
    fun m g _ => Cert.BIn.Gen.frame m g,
    fun m g _ => Cert.BInIdeal.Gen.frame m g,
    frame_BInRef,
    fun m g _ => Cert.Up.Gen.frame m g,
    fun m g _ => Cert.UpIdeal.Gen.frame m g,
    frame_UpRef,
    fun m g _ => Cert.Down.Gen.frame m g,
    fun m g _ => Cert.DownIdeal.Gen.frame m g,
    frame_DownRef,
    fun m g _ => Cert.Act.Gen.frame m g,
    fun m g _ => Cert.ActIdeal.Gen.frame m g,
    frame_ActRef,
    fun m g _ => Cert.Norm.Gen.frame m g,
    fun m g _ => Cert.NormIdeal.Gen.frame m g,
    frame_NormRef,
    fun m g _ => Cert.NormB.Gen.frame m g,
    fun m g _ => Cert.NormBIdeal.Gen.frame m g,
    frame_NormBRef,
    fun m g _ => Cert.ActB.Gen.frame m g,
    fun m g _ => Cert.ActBIdeal.Gen.frame m g,
    fun m g _ => Cert.ActBIdeal.Gen.frame m g,
    frame_ActBRef,
    fun m g _ => frame_ActBRef m g trivial,
    trivial,
    Cert.GlaFIdeal.Value.algebraic,
    trivial,
    Cert.GlaBIdeal.Value.algebraic,
    trivial,
    Cert.DownDwIdeal.Value.algebraic,
    trivial,
    Cert.DownDxIdeal.Value.algebraic,
    trivial,
    Cert.UpDwIdeal.Value.algebraic,
    trivial,
    Cert.UpDxIdeal.Value.algebraic,
    trivial,
    Cert.OutDwIdeal.Value.algebraic,
    trivial,
    Cert.AOutDxIdeal.Value.algebraic,
    trivial,
    Cert.BOutDxIdeal.Value.algebraic,
    trivial,
    Cert.AInDwIdeal.Value.algebraic,
    trivial,
    Cert.AInDxIdeal.Value.algebraic,
    trivial,
    Cert.BInDwIdeal.Value.algebraic,
    trivial,
    Cert.BInDxIdeal.Value.algebraic,
    trivial,
    Cert.AInIdeal.Value.algebraic,
    trivial,
    Cert.OutIdeal.Value.algebraic,
    trivial,
    Cert.BInIdeal.Value.algebraic,
    trivial,
    Cert.UpIdeal.Value.algebraic,
    trivial,
    Cert.DownIdeal.Value.algebraic,
    trivial,
    Cert.ActIdeal.Value.algebraic,
    trivial,
    Cert.NormIdeal.Value.algebraic,
    trivial,
    Cert.NormBIdeal.Value.algebraic,
    trivial,
    Cert.ActBIdeal.Value.algebraic⟩

end Cert.Proof

end
